-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def preserves_Kernel_KernelIdeal : Prop :=
  IdealRules.named_const.Statement Cert.KernelIdeal.κ "log_gamma_32" .f32 0xBD020AEC#32 ((Real.log (31 / 32) : ℝ) : EReal)
  ∧ IdealRules.named_const.Statement Cert.KernelIdeal.κ "log_gamma_64" .f32 0xBC8102B3#32 ((Real.log (63 / 64) : ℝ) : EReal)
  ∧ IdealRules.named_const.Statement Cert.KernelIdeal.κ "log_gamma_128" .f32 0xBC0080AC#32 ((Real.log (127 / 128) : ℝ) : EReal)
  ∧ IdealRules.named_const.Statement Cert.KernelIdeal.κ "log_gamma_256" .f32 0xBB80402B#32 ((Real.log (255 / 256) : ℝ) : EReal)
  ∧ IdealRules.named_const.Statement Cert.KernelIdeal.κ "chunk_decay_32" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "chunk_decay_64" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.KernelIdeal.κ "chunk_decay_128" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.KernelIdeal.κ "chunk_decay_256" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v119_0)) (v1 : (c : Dev Cert.KernelIdeal.nD) → Buf (Elt Ideal) ((c.tc : Thread Cert.KernelIdeal.nD Cert.KernelIdeal.τ).loc Cert.KernelIdeal.main_v119_1)) (v2 : (c : Dev Cert.KernelIdeal.nD) → Buf (Elt Ideal) ((c.tc : Thread Cert.KernelIdeal.nD Cert.KernelIdeal.τ).loc Cert.KernelIdeal.main_v119_2)) (v3 : (c : Dev Cert.KernelIdeal.nD) → Buf (Elt Ideal) ((c.tc : Thread Cert.KernelIdeal.nD Cert.KernelIdeal.τ).loc Cert.KernelIdeal.main_v119_3)) (v4 : (c : Dev Cert.KernelIdeal.nD) → Buf (Elt Ideal) ((c.tc : Thread Cert.KernelIdeal.nD Cert.KernelIdeal.τ).loc Cert.KernelIdeal.main_v119_4)) (v5 : (c : Dev Cert.KernelIdeal.nD) → Buf (Elt Ideal) ((c.tc : Thread Cert.KernelIdeal.nD Cert.KernelIdeal.τ).loc Cert.KernelIdeal.main_v119_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119_0) = v0 c
          ∧ r.2.mem ((c.tc : Thread Cert.KernelIdeal.nD Cert.KernelIdeal.τ).loc Cert.KernelIdeal.main_v119_1) = v1 c
          ∧ r.2.mem ((c.tc : Thread Cert.KernelIdeal.nD Cert.KernelIdeal.τ).loc Cert.KernelIdeal.main_v119_2) = v2 c
          ∧ r.2.mem ((c.tc : Thread Cert.KernelIdeal.nD Cert.KernelIdeal.τ).loc Cert.KernelIdeal.main_v119_3) = v3 c
          ∧ r.2.mem ((c.tc : Thread Cert.KernelIdeal.nD Cert.KernelIdeal.τ).loc Cert.KernelIdeal.main_v119_4) = v4 c
          ∧ r.2.mem ((c.tc : Thread Cert.KernelIdeal.nD Cert.KernelIdeal.τ).loc Cert.KernelIdeal.main_v119_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v327) = v3 c
          ∧ r.2.mem ((c.tc : Thread Cert.ReferenceIdeal.nD Cert.ReferenceIdeal.τ).loc Cert.ReferenceIdeal.main_v303) = v4 c
          ∧ r.2.mem ((c.tc : Thread Cert.ReferenceIdeal.nD Cert.ReferenceIdeal.τ).loc Cert.ReferenceIdeal.main_v277) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v7) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v7) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v0)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v0) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v7) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)) →
    ∃ (v0 : (c : Dev Cert.OddOutIdeal.nD) → Buf (Elt Ideal) ((c.tc : Thread Cert.OddOutIdeal.nD Cert.OddOutIdeal.τ).loc Cert.OddOutIdeal.main_v0)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v0) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v7) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v0)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v0) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v7) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)) →
    ∃ (v0 : (c : Dev Cert.EvenOutIdeal.nD) → Buf (Elt Ideal) ((c.tc : Thread Cert.EvenOutIdeal.nD Cert.EvenOutIdeal.τ).loc Cert.EvenOutIdeal.main_v0)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v0) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v7) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v1_0)) (v1 : (c : Dev Cert.FfnIdeal.nD) → Buf (Elt Ideal) ((c.tc : Thread Cert.FfnIdeal.nD Cert.FfnIdeal.τ).loc Cert.FfnIdeal.main_v1_1)) (v2 : (c : Dev Cert.FfnIdeal.nD) → Buf (Elt Ideal) ((c.tc : Thread Cert.FfnIdeal.nD Cert.FfnIdeal.τ).loc Cert.FfnIdeal.main_v1_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1_0) = v0 c
          ∧ r.2.mem ((c.tc : Thread Cert.FfnIdeal.nD Cert.FfnIdeal.τ).loc Cert.FfnIdeal.main_v1_1) = v1 c
          ∧ r.2.mem ((c.tc : Thread Cert.FfnIdeal.nD Cert.FfnIdeal.τ).loc Cert.FfnIdeal.main_v1_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v36) = v0 c
          ∧ r.2.mem ((c.tc : Thread Cert.FfnRefIdeal.nD Cert.FfnRefIdeal.τ).loc Cert.FfnRefIdeal.main_v37) = v1 c
          ∧ r.2.mem ((c.tc : Thread Cert.FfnRefIdeal.nD Cert.FfnRefIdeal.τ).loc Cert.FfnRefIdeal.main_v38) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)) →
    ∃ (v0 : (c : Dev Cert.MixerIdeal.nD) → Buf (Elt Ideal) ((c.tc : Thread Cert.MixerIdeal.nD Cert.MixerIdeal.τ).loc Cert.MixerIdeal.main_v1_0)) (v1 : (c : Dev Cert.MixerIdeal.nD) → Buf (Elt Ideal) ((c.tc : Thread Cert.MixerIdeal.nD Cert.MixerIdeal.τ).loc Cert.MixerIdeal.main_v1_1)) (v2 : (c : Dev Cert.MixerIdeal.nD) → Buf (Elt Ideal) ((c.tc : Thread Cert.MixerIdeal.nD Cert.MixerIdeal.τ).loc Cert.MixerIdeal.main_v1_2)) (v3 : (c : Dev Cert.MixerIdeal.nD) → Buf (Elt Ideal) ((c.tc : Thread Cert.MixerIdeal.nD Cert.MixerIdeal.τ).loc Cert.MixerIdeal.main_v1_3)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v1_0) = v0 c
          ∧ r.2.mem ((c.tc : Thread Cert.MixerIdeal.nD Cert.MixerIdeal.τ).loc Cert.MixerIdeal.main_v1_1) = v1 c
          ∧ r.2.mem ((c.tc : Thread Cert.MixerIdeal.nD Cert.MixerIdeal.τ).loc Cert.MixerIdeal.main_v1_2) = v2 c
          ∧ r.2.mem ((c.tc : Thread Cert.MixerIdeal.nD Cert.MixerIdeal.τ).loc Cert.MixerIdeal.main_v1_3) = v3 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v29) = v0 c
          ∧ r.2.mem ((c.tc : Thread Cert.MixerRefIdeal.nD Cert.MixerRefIdeal.τ).loc Cert.MixerRefIdeal.main_v30) = v1 c
          ∧ r.2.mem ((c.tc : Thread Cert.MixerRefIdeal.nD Cert.MixerRefIdeal.τ).loc Cert.MixerRefIdeal.main_v31) = v2 c
          ∧ r.2.mem ((c.tc : Thread Cert.MixerRefIdeal.nD Cert.MixerRefIdeal.τ).loc Cert.MixerRefIdeal.main_v32) = v3 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v55) = v0 c
          ∧ r.2.mem ((c.tc : Thread Cert.LossRefIdeal.nD Cert.LossRefIdeal.τ).loc Cert.LossRefIdeal.main_v37) = v1 c
          ∧ r.2.mem ((c.tc : Thread Cert.LossRefIdeal.nD Cert.LossRefIdeal.τ).loc Cert.LossRefIdeal.main_v38) = v2 c
          ∧ r.2.mem ((c.tc : Thread Cert.LossRefIdeal.nD Cert.LossRefIdeal.τ).loc Cert.LossRefIdeal.main_v56) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)) (v2 : (c : Dev Cert.PostIdeal.nD) → Buf (Elt Ideal) ((c.tc : Thread Cert.PostIdeal.nD Cert.PostIdeal.τ).loc Cert.PostIdeal.main_v0_2)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_v0_2) = v2 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v29) = v0 c
          ∧ r.2.mem ((c.tc : Thread Cert.PostRefIdeal.nD Cert.PostRefIdeal.τ).loc Cert.PostRefIdeal.main_v30) = v1 c
          ∧ r.2.mem ((c.tc : Thread Cert.PostRefIdeal.nD Cert.PostRefIdeal.τ).loc Cert.PostRefIdeal.main_v31) = v2 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v33) = v0 c
          ∧ r.2.mem ((c.tc : Thread Cert.MergeRefIdeal.nD Cert.MergeRefIdeal.τ).loc Cert.MergeRefIdeal.main_v34) = v1 c
          ∧ r.2.mem ((c.tc : Thread Cert.MergeRefIdeal.nD Cert.MergeRefIdeal.τ).loc Cert.MergeRefIdeal.main_v35) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def Claim : Prop :=
  ∃ (hKernel : Cert.Kernel.Facts) (hKernelIdeal : Cert.KernelIdeal.Facts) (hReferenceIdeal : Cert.ReferenceIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hOddIn : Cert.OddIn.Facts) (hOddInIdeal : Cert.OddInIdeal.Facts) (hOddInRefIdeal : Cert.OddInRefIdeal.Facts) (hOddOut : Cert.OddOut.Facts) (hOddOutIdeal : Cert.OddOutIdeal.Facts) (hOddOutRefIdeal : Cert.OddOutRefIdeal.Facts) (hEvenIn : Cert.EvenIn.Facts) (hEvenInIdeal : Cert.EvenInIdeal.Facts) (hEvenInRefIdeal : Cert.EvenInRefIdeal.Facts) (hEvenOut : Cert.EvenOut.Facts) (hEvenOutIdeal : Cert.EvenOutIdeal.Facts) (hEvenOutRefIdeal : Cert.EvenOutRefIdeal.Facts) (hFfn : Cert.Ffn.Facts) (hFfnIdeal : Cert.FfnIdeal.Facts) (hFfnRefIdeal : Cert.FfnRefIdeal.Facts) (hMixer : Cert.Mixer.Facts) (hMixerIdeal : Cert.MixerIdeal.Facts) (hMixerRefIdeal : Cert.MixerRefIdeal.Facts) (hLoss : Cert.Loss.Facts) (hLossIdeal : Cert.LossIdeal.Facts) (hLossRefIdeal : Cert.LossRefIdeal.Facts) (hPost : Cert.Post.Facts) (hPostIdeal : Cert.PostIdeal.Facts) (hPostRefIdeal : Cert.PostRefIdeal.Facts) (hMerge : Cert.Merge.Facts) (hMergeIdeal : Cert.MergeIdeal.Facts) (hMergeRefIdeal : Cert.MergeRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Mixer (hMixer := hMixer)
    ∧ quiescent_MixerIdeal (hMixerIdeal := hMixerIdeal)
    ∧ quiescent_MixerRefIdeal (hMixerRefIdeal := hMixerRefIdeal)
    ∧ quiescent_Loss (hLoss := hLoss)
    ∧ quiescent_LossIdeal (hLossIdeal := hLossIdeal)
    ∧ quiescent_LossRefIdeal (hLossRefIdeal := hLossRefIdeal)
    ∧ quiescent_Post (hPost := hPost)
    ∧ quiescent_PostIdeal (hPostIdeal := hPostIdeal)
    ∧ quiescent_PostRefIdeal (hPostRefIdeal := hPostRefIdeal)
    ∧ quiescent_Merge (hMerge := hMerge)
    ∧ quiescent_MergeIdeal (hMergeIdeal := hMergeIdeal)
    ∧ quiescent_MergeRefIdeal (hMergeRefIdeal := hMergeRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_OddIn_OddInIdeal
    ∧ algebraic_OddInIdeal_OddInRefIdeal (hOddInIdeal := hOddInIdeal) (hOddInRefIdeal := hOddInRefIdeal)
    ∧ preserves_OddOut_OddOutIdeal
    ∧ algebraic_OddOutIdeal_OddOutRefIdeal (hOddOutIdeal := hOddOutIdeal) (hOddOutRefIdeal := hOddOutRefIdeal)
    ∧ preserves_EvenIn_EvenInIdeal
    ∧ algebraic_EvenInIdeal_EvenInRefIdeal (hEvenInIdeal := hEvenInIdeal) (hEvenInRefIdeal := hEvenInRefIdeal)
    ∧ preserves_EvenOut_EvenOutIdeal
    ∧ algebraic_EvenOutIdeal_EvenOutRefIdeal (hEvenOutIdeal := hEvenOutIdeal) (hEvenOutRefIdeal := hEvenOutRefIdeal)
    ∧ preserves_Ffn_FfnIdeal
    ∧ algebraic_FfnIdeal_FfnRefIdeal (hFfnIdeal := hFfnIdeal) (hFfnRefIdeal := hFfnRefIdeal)
    ∧ preserves_Mixer_MixerIdeal
    ∧ algebraic_MixerIdeal_MixerRefIdeal (hMixerIdeal := hMixerIdeal) (hMixerRefIdeal := hMixerRefIdeal)
    ∧ preserves_Loss_LossIdeal
    ∧ algebraic_LossIdeal_LossRefIdeal (hLossIdeal := hLossIdeal) (hLossRefIdeal := hLossRefIdeal)
    ∧ preserves_Post_PostIdeal
    ∧ algebraic_PostIdeal_PostRefIdeal (hPostIdeal := hPostIdeal) (hPostRefIdeal := hPostRefIdeal)
    ∧ preserves_Merge_MergeIdeal
    ∧ algebraic_MergeIdeal_MergeRefIdeal (hMergeIdeal := hMergeIdeal) (hMergeRefIdeal := hMergeRefIdeal)
-- ==== Pre_finite.lean ====
abbrev S8448x1024 : Shape := ⟨2, ![8448, 1024]⟩
abbrev S8448x2048 : Shape := ⟨2, ![8448, 2048]⟩
abbrev S8192x128 : Shape := ⟨2, ![8192, 128]⟩
abbrev S_ : Shape := ⟨0, ![]⟩

class Facts : Prop where
  bitsLt_bf16_f32 : FTy.bits .bf16 < FTy.bits .f32
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S8448x2048 : S_.BroadcastsInDim S8448x2048 (![] : Fin 0 → Fin S8448x2048.rank)
  reducesTo_S8448x2048_S_d0_1 : S8448x2048.ReducesTo [0, 1] S_
  bcast_S_S8192x128 : S_.BroadcastsInDim S8192x128 (![] : Fin 0 → Fin S8192x128.rank)
  reducesTo_S8192x128_S_d0_1 : S8192x128.ReducesTo [0, 1] S_

variable [Facts]

def fn_part1 {F : FTy → Type} [FloatOps F] (main_arg4 : FVec F S8192x128 .f32) (main_arg5 : FVec F S8448x2048 .bf16) (main_v16 : IVec S_ 1) (main_v17 : FVec F S8192x128 .f32) : IVec S_ 1 :=
  let main_cst_4 : FVec F S_ .f32 := constant S_ .f32 0x7F800000#32
  let main_v18 : FVec F S8192x128 .f32 := broadcastInDim S8192x128 ![] bcast_S_S8192x128 main_cst_4
  let main_v19 : IVec S8192x128 1 := cmpf .olt main_v17 main_v18
  let main_c_5 : IVec S_ 1 := constantI S_ 1 1#1
  let main_v20 : IVec S_ 1 := (fun x v => Host.reduce IntOp.andi x v reducesTo_S8192x128_S_d0_1 h_S_) main_v19 main_c_5
  let main_v21 : IVec S_ 1 := andi main_v16 main_v20
  let main_v22 : FVec F S8192x128 .f32 := Host.absf main_arg4
  let main_cst_6 : FVec F S_ .f32 := constant S_ .f32 0x7F800000#32
  let main_v23 : FVec F S8192x128 .f32 := broadcastInDim S8192x128 ![] bcast_S_S8192x128 main_cst_6
  let main_v24 : IVec S8192x128 1 := cmpf .olt main_v22 main_v23
  let main_c_7 : IVec S_ 1 := constantI S_ 1 1#1
  let main_v25 : IVec S_ 1 := (fun x v => Host.reduce IntOp.andi x v reducesTo_S8192x128_S_d0_1 h_S_) main_v24 main_c_7
  let main_v26 : IVec S_ 1 := andi main_v21 main_v25
  let main_v27 : FVec F S8448x2048 .f32 := (extf .f32 · bitsLt_bf16_f32) main_arg5
  let main_v28 : FVec F S8448x2048 .f32 := Host.absf main_v27
  let main_cst_8 : FVec F S_ .f32 := constant S_ .f32 0x7F800000#32
  let main_v29 : FVec F S8448x2048 .f32 := broadcastInDim S8448x2048 ![] bcast_S_S8448x2048 main_cst_8
  let main_v30 : IVec S8448x2048 1 := cmpf .olt main_v28 main_v29
  let main_c_9 : IVec S_ 1 := constantI S_ 1 1#1
  let main_v31 : IVec S_ 1 := (fun x v => Host.reduce IntOp.andi x v reducesTo_S8448x2048_S_d0_1 h_S_) main_v30 main_c_9
  let main_v32 : IVec S_ 1 := andi main_v26 main_v31
  main_v32

def fn {F : FTy → Type} [FloatOps F] (main_arg0 : FVec F S8448x1024 .bf16) (main_arg1 : FVec F S8448x1024 .bf16) (main_arg2 : FVec F S8448x2048 .bf16) (main_arg3 : FVec F S8192x128 .f32) (main_arg4 : FVec F S8192x128 .f32) (main_arg5 : FVec F S8448x2048 .bf16) : IVec S_ 1 :=
  let main_v0 : FVec F S8448x1024 .f32 := (extf .f32 · bitsLt_bf16_f32) main_arg0
  let main_v1 : FVec F S8448x1024 .f32 := Host.absf main_v0
  let main_cst : FVec F S_ .f32 := constant S_ .f32 0x7F800000#32
  let main_v2 : FVec F S8448x1024 .f32 := broadcastInDim S8448x1024 ![] bcast_S_S8448x1024 main_cst
  let main_v3 : IVec S8448x1024 1 := cmpf .olt main_v1 main_v2
  let main_c : IVec S_ 1 := constantI S_ 1 1#1
  let main_v4 : IVec S_ 1 := (fun x v => Host.reduce IntOp.andi x v reducesTo_S8448x1024_S_d0_1 h_S_) main_v3 main_c
  let main_v5 : FVec F S8448x1024 .f32 := (extf .f32 · bitsLt_bf16_f32) main_arg1
  let main_v6 : FVec F S8448x1024 .f32 := Host.absf main_v5
  let main_cst_0 : FVec F S_ .f32 := constant S_ .f32 0x7F800000#32
  let main_v7 : FVec F S8448x1024 .f32 := broadcastInDim S8448x1024 ![] bcast_S_S8448x1024 main_cst_0
  let main_v8 : IVec S8448x1024 1 := cmpf .olt main_v6 main_v7
  let main_c_1 : IVec S_ 1 := constantI S_ 1 1#1
  let main_v9 : IVec S_ 1 := (fun x v => Host.reduce IntOp.andi x v reducesTo_S8448x1024_S_d0_1 h_S_) main_v8 main_c_1
  let main_v10 : IVec S_ 1 := andi main_v4 main_v9
  let main_v11 : FVec F S8448x2048 .f32 := (extf .f32 · bitsLt_bf16_f32) main_arg2
  let main_v12 : FVec F S8448x2048 .f32 := Host.absf main_v11
  let main_cst_2 : FVec F S_ .f32 := constant S_ .f32 0x7F800000#32
  let main_v13 : FVec F S8448x2048 .f32 := broadcastInDim S8448x2048 ![] bcast_S_S8448x2048 main_cst_2
  let main_v14 : IVec S8448x2048 1 := cmpf .olt main_v12 main_v13
  let main_c_3 : IVec S_ 1 := constantI S_ 1 1#1
  let main_v15 : IVec S_ 1 := (fun x v => Host.reduce IntOp.andi x v reducesTo_S8448x2048_S_d0_1 h_S_) main_v14 main_c_3
  let main_v16 : IVec S_ 1 := andi main_v10 main_v15
  let main_v17 : FVec F S8192x128 .f32 := Host.absf main_arg3
  fn_part1 (F := F) main_arg4 main_arg5 main_v16 main_v17
-- ==== Kernel.lean ====
abbrev S8448x1024 : Shape := ⟨2, ![8448, 1024]⟩
abbrev S8448x2048 : Shape := ⟨2, ![8448, 2048]⟩
abbrev S8192x128 : Shape := ⟨2, ![8192, 128]⟩
abbrev S8448x4x256 : Shape := ⟨3, ![8448, 4, 256]⟩
abbrev S4x8448x256 : Shape := ⟨3, ![4, 8448, 256]⟩
abbrev S4x256x256 : Shape := ⟨3, ![4, 256, 256]⟩
abbrev S4x8192x256 : Shape := ⟨3, ![4, 8192, 256]⟩
abbrev S4x8192x128 : Shape := ⟨3, ![4, 8192, 128]⟩
abbrev S1x8192x128 : Shape := ⟨3, ![1, 8192, 128]⟩
abbrev S_ : Shape := ⟨0, ![]⟩
abbrev S8448x4x512 : Shape := ⟨3, ![8448, 4, 512]⟩
abbrev S4x8448x512 : Shape := ⟨3, ![4, 8448, 512]⟩
abbrev S4 : Shape := ⟨1, ![4]⟩
abbrev S33 : Shape := ⟨1, ![33]⟩
abbrev S33x1 : Shape := ⟨2, ![33, 1]⟩
abbrev S8448 : Shape := ⟨1, ![8448]⟩
abbrev S1x8448 : Shape := ⟨2, ![1, 8448]⟩
abbrev S33x8448 : Shape := ⟨2, ![33, 8448]⟩
abbrev S33x1x8448 : Shape := ⟨3, ![33, 1, 8448]⟩
abbrev S4x1 : Shape := ⟨2, ![4, 1]⟩
abbrev S1x4x1 : Shape := ⟨3, ![1, 4, 1]⟩
abbrev S33x4x8448 : Shape := ⟨3, ![33, 4, 8448]⟩
abbrev S33x4x8448x1 : Shape := ⟨4, ![33, 4, 8448, 1]⟩
abbrev S1x4x8448x256 : Shape := ⟨4, ![1, 4, 8448, 256]⟩
abbrev S33x4x8448x256 : Shape := ⟨4, ![33, 4, 8448, 256]⟩
abbrev S4x512x33x256 : Shape := ⟨4, ![4, 512, 33, 256]⟩
abbrev S33x4x512x256 : Shape := ⟨4, ![33, 4, 512, 256]⟩
abbrev S4x256x512 : Shape := ⟨3, ![4, 256, 512]⟩
abbrev S4x8192x512 : Shape := ⟨3, ![4, 8192, 512]⟩
abbrev S1x4x512x256 : Shape := ⟨4, ![1, 4, 512, 256]⟩
abbrev S32x4x512x256 : Shape := ⟨4, ![32, 4, 512, 256]⟩
abbrev S256x128 : Shape := ⟨2, ![256, 128]⟩
abbrev S8448x128 : Shape := ⟨2, ![8448, 128]⟩
abbrev S256x1024 : Shape := ⟨2, ![256, 1024]⟩
abbrev S256x2048 : Shape := ⟨2, ![256, 2048]⟩
abbrev S2x4x512x256 : Shape := ⟨4, ![2, 4, 512, 256]⟩
abbrev S256x256 : Shape := ⟨2, ![256, 256]⟩
abbrev S256x1 : Shape := ⟨2, ![256, 1]⟩
abbrev S256x512 : Shape := ⟨2, ![256, 512]⟩
abbrev S1x1x512x256 : Shape := ⟨4, ![1, 1, 512, 256]⟩
abbrev S512x256 : Shape := ⟨2, ![512, 256]⟩

abbrev nBuf : Space → Nat
  | .hbm => 153
  | .vmem => 41
  | .smem => 0
  | _ => 0

abbrev hbmTy0_0 (i : Nat) : BufTy := match i % 128 with
  | 0 => ⟨S8448x1024, .bf16⟩
  | 1 => ⟨S8448x1024, .bf16⟩
  | 2 => ⟨S8448x2048, .bf16⟩
  | 3 => ⟨S8192x128, .f32⟩
  | 4 => ⟨S8192x128, .f32⟩
  | 5 => ⟨S8448x2048, .bf16⟩
  | 6 => ⟨S8448x1024, .f32⟩
  | 7 => ⟨S8448x4x256, .f32⟩
  | 8 => ⟨S4x8448x256, .f32⟩
  | 9 => ⟨S4x256x256, .f32⟩
  | 10 => ⟨S4x8192x256, .f32⟩
  | 11 => ⟨S4x8192x128, .f32⟩
  | 12 => ⟨S4x8192x128, .f32⟩
  | 13 => ⟨S1x8192x128, .f32⟩
  | 14 => ⟨S4x8192x128, .f32⟩
  | 15 => ⟨S4x8192x128, .f32⟩
  | 16 => ⟨S1x8192x128, .f32⟩
  | 17 => ⟨S4x8192x128, .f32⟩
  | 18 => ⟨S4x8192x128, .f32⟩
  | 19 => ⟨S4x8192x128, .f32⟩
  | 20 => ⟨S1x8192x128, .f32⟩
  | 21 => ⟨S4x8192x128, .f32⟩
  | 22 => ⟨S4x8192x128, .f32⟩
  | 23 => ⟨S1x8192x128, .f32⟩
  | 24 => ⟨S4x8192x128, .f32⟩
  | 25 => ⟨S4x8192x128, .f32⟩
  | 26 => ⟨S4x8192x128, .f32⟩
  | 27 => ⟨S4x8192x256, .f32⟩
  | 28 => ⟨S4x8448x256, .f32⟩
  | 29 => ⟨S_, .f32⟩
  | 30 => ⟨S4x8448x256, .f32⟩
  | 31 => ⟨S4x8448x256, .f32⟩
  | 32 => ⟨S8448x2048, .f32⟩
  | 33 => ⟨S8448x4x512, .f32⟩
  | 34 => ⟨S4x8448x512, .f32⟩
  | 35 => ⟨S4, .f32⟩
  | 36 => ⟨S_, .f32⟩
  | 37 => ⟨S4, .f32⟩
  | 38 => ⟨S4, .f32⟩
  | 39 => ⟨S_, .f32⟩
  | 40 => ⟨S4, .f32⟩
  | 41 => ⟨S4, .f32⟩
  | 42 => ⟨S_, .f32⟩
  | 43 => ⟨S4, .f32⟩
  | 44 => ⟨S4, .f32⟩
  | 45 => ⟨S4, .f32⟩
  | 46 => ⟨S33, .f32⟩
  | 47 => ⟨S33x1, .f32⟩
  | 48 => ⟨S_, .f32⟩
  | 49 => ⟨S33x1, .f32⟩
  | 50 => ⟨S33x1, .f32⟩
  | 51 => ⟨S_, .f32⟩
  | 52 => ⟨S33x1, .f32⟩
  | 53 => ⟨S33x1, .f32⟩
  | 54 => ⟨S8448, .f32⟩
  | 55 => ⟨S1x8448, .f32⟩
  | 56 => ⟨S33x8448, .f32⟩
  | 57 => ⟨S33x8448, .f32⟩
  | 58 => ⟨S33x8448, .f32⟩
  | 59 => ⟨S33x1x8448, .f32⟩
  | 60 => ⟨S_, .f32⟩
  | 61 => ⟨S33x1x8448, .f32⟩
  | 62 => ⟨S33x1x8448, .i1⟩
  | 63 => ⟨S4x1, .f32⟩
  | 64 => ⟨S_, .f32⟩
  | 65 => ⟨S33x8448, .f32⟩
  | 66 => ⟨S33x8448, .f32⟩
  | 67 => ⟨S33x1x8448, .f32⟩
  | 68 => ⟨S1x4x1, .f32⟩
  | 69 => ⟨S33x4x8448, .f32⟩
  | 70 => ⟨S33x4x8448, .f32⟩
  | 71 => ⟨S33x4x8448, .f32⟩
  | 72 => ⟨S33x4x8448, .f32⟩
  | 73 => ⟨S_, .f32⟩
  | 74 => ⟨S_, .f32⟩
  | 75 => ⟨S33x4x8448, .i1⟩
  | 76 => ⟨S33x4x8448, .f32⟩
  | 77 => ⟨S33x4x8448, .f32⟩
  | 78 => ⟨S33x4x8448x1, .f32⟩
  | 79 => ⟨S1x4x8448x256, .f32⟩
  | 80 => ⟨S33x4x8448x256, .f32⟩
  | 81 => ⟨S33x4x8448x256, .f32⟩
  | 82 => ⟨S33x4x8448x256, .f32⟩
  | 83 => ⟨S4x512x33x256, .f32⟩
  | 84 => ⟨S33x4x512x256, .f32⟩
  | 85 => ⟨S33x4x512x256, .bf16⟩
  | 86 => ⟨S4x256x256, .f32⟩
  | 87 => ⟨S4x256x256, .f32⟩
  | 88 => ⟨S4x8192x256, .f32⟩
  | 89 => ⟨S4x8192x256, .f32⟩
  | 90 => ⟨S4x8448x256, .f32⟩
  | 91 => ⟨S4x256x512, .f32⟩
  | 92 => ⟨S4x256x512, .f32⟩
  | 93 => ⟨S4x8192x512, .f32⟩
  | 94 => ⟨S4x8192x512, .f32⟩
  | 95 => ⟨S4x8448x512, .f32⟩
  | 96 => ⟨S4, .f32⟩
  | 97 => ⟨S33, .f32⟩
  | 98 => ⟨S33x1, .f32⟩
  | 99 => ⟨S_, .f32⟩
  | 100 => ⟨S33x1, .f32⟩
  | 101 => ⟨S33x1, .f32⟩
  | 102 => ⟨S_, .f32⟩
  | 103 => ⟨S33x1, .f32⟩
  | 104 => ⟨S33x1, .f32⟩
  | 105 => ⟨S8448, .f32⟩
  | 106 => ⟨S1x8448, .f32⟩
  | 107 => ⟨S33x8448, .f32⟩
  | 108 => ⟨S33x8448, .f32⟩
  | 109 => ⟨S33x8448, .f32⟩
  | 110 => ⟨S33x1x8448, .f32⟩
  | 111 => ⟨S_, .f32⟩
  | 112 => ⟨S33x1x8448, .f32⟩
  | 113 => ⟨S33x1x8448, .i1⟩
  | 114 => ⟨S4x1, .f32⟩
  | 115 => ⟨S_, .f32⟩
  | 116 => ⟨S33x8448, .f32⟩
  | 117 => ⟨S33x8448, .f32⟩
  | 118 => ⟨S33x1x8448, .f32⟩
  | 119 => ⟨S1x4x1, .f32⟩
  | 120 => ⟨S33x4x8448, .f32⟩
  | 121 => ⟨S33x4x8448, .f32⟩
  | 122 => ⟨S33x4x8448, .f32⟩
  | 123 => ⟨S33x4x8448, .f32⟩
  | 124 => ⟨S_, .f32⟩
  | 125 => ⟨S_, .f32⟩
  | 126 => ⟨S33x4x8448, .i1⟩
  | 127 => ⟨S33x4x8448, .f32⟩
  | _ => ⟨S8448x1024, .bf16⟩

abbrev hbmTy0_1 (i : Nat) : BufTy := match i % 128 with
  | 0 => ⟨S33x4x8448, .f32⟩
  | 1 => ⟨S33x4x8448x1, .f32⟩
  | 2 => ⟨S1x4x8448x256, .f32⟩
  | 3 => ⟨S33x4x8448x256, .f32⟩
  | 4 => ⟨S33x4x8448x256, .f32⟩
  | 5 => ⟨S33x4x8448x256, .f32⟩
  | 6 => ⟨S4x512x33x256, .f32⟩
  | 7 => ⟨S33x4x512x256, .f32⟩
  | 8 => ⟨S1x4x512x256, .f32⟩
  | 9 => ⟨S32x4x512x256, .f32⟩
  | 10 => ⟨S32x4x512x256, .f32⟩
  | 11 => ⟨S33x4x512x256, .f32⟩
  | 12 => ⟨S33x4x512x256, .bf16⟩
  | 13 => ⟨S_, .f32⟩
  | 14 => ⟨S256x128, .f32⟩
  | 15 => ⟨S8448x128, .f32⟩
  | 16 => ⟨S_, .f32⟩
  | 17 => ⟨S256x128, .f32⟩
  | 18 => ⟨S8448x128, .f32⟩
  | 19 => ⟨S8448x1024, .bf16⟩
  | 20 => ⟨S8448x1024, .bf16⟩
  | 21 => ⟨S8448x2048, .bf16⟩
  | 22 => ⟨S8448x1024, .bf16⟩
  | 23 => ⟨S8448x1024, .bf16⟩
  | 24 => ⟨S8448x2048, .bf16⟩
  | _ => ⟨S8448x1024, .bf16⟩

abbrev hbmTy (i : Nat) : BufTy := match i / 128 with
  | 0 => hbmTy0_0 i
  | 1 => hbmTy0_1 i
  | _ => ⟨S8448x1024, .bf16⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x4x512x256, .bf16⟩
  | .local _ .vmem, ⟨11, _⟩ => ⟨S1x4x512x256, .bf16⟩
  | .local _ .vmem, ⟨12, _⟩ => ⟨S256x2048, .bf16⟩
  | .local _ .vmem, ⟨13, _⟩ => ⟨S256x2048, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x2048, .bf16⟩
  | .local _ .vmem, ⟨19, _⟩ => ⟨S256x2048, .bf16⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S1x4x512x256, .bf16⟩
  | .local _ .vmem, ⟨25, _⟩ => ⟨S1x4x512x256, .bf16⟩
  | .local _ .vmem, ⟨26, _⟩ => ⟨S256x2048, .bf16⟩
  | .local _ .vmem, ⟨27, _⟩ => ⟨S256x2048, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x2048, .bf16⟩
  | .local _ .vmem, ⟨33, _⟩ => ⟨S256x2048, .bf16⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S256x2048, .bf16⟩
  | .local _ .vmem, ⟨39, _⟩ => ⟨S256x2048, .bf16⟩
  | .local _ .vmem, ⟨40, _⟩ => ⟨S2x4x512x256, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_0 : Ref sig .tc := ⟨.hbm, 36, rfl⟩
abbrev main_v29 : Ref sig .tc := ⟨.hbm, 37, rfl⟩
abbrev main_v30 : Ref sig .tc := ⟨.hbm, 38, rfl⟩
abbrev main_cst_1 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_8 : Ref sig .tc := ⟨.hbm, 99, rfl⟩
abbrev main_v81 : Ref sig .tc := ⟨.hbm, 100, rfl⟩
abbrev main_v82 : Ref sig .tc := ⟨.hbm, 101, rfl⟩
abbrev main_cst_9 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_cst_10 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_11 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_cst_12 : Ref sig .tc := ⟨.hbm, 124, rfl⟩
abbrev main_call5_v0 : Ref sig .tc := ⟨.hbm, 125, rfl⟩
abbrev main_call5_v1 : Ref sig .tc := ⟨.hbm, 126, rfl⟩
abbrev main_call5_v2 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_cst_13 : Ref sig .tc := ⟨.hbm, 141, rfl⟩
abbrev main_v115 : Ref sig .tc := ⟨.hbm, 142, rfl⟩
abbrev main_v116 : Ref sig .tc := ⟨.hbm, 143, rfl⟩
abbrev main_cst_14 : Ref sig .tc := ⟨.hbm, 144, rfl⟩
abbrev main_v117 : Ref sig .tc := ⟨.hbm, 145, rfl⟩
abbrev main_v118 : Ref sig .tc := ⟨.hbm, 146, rfl⟩
abbrev main_v119_0 : Ref sig .tc := ⟨.hbm, 147, rfl⟩
abbrev main_v119_1 : Ref sig .tc := ⟨.hbm, 148, rfl⟩
abbrev main_v119_2 : Ref sig .tc := ⟨.hbm, 149, rfl⟩
abbrev main_v119_3 : Ref sig .tc := ⟨.hbm, 150, rfl⟩
abbrev main_v119_4 : Ref sig .tc := ⟨.hbm, 151, rfl⟩
abbrev main_v119_5 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

def cc0_transform_8 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

def cc0_transform_9 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

def cc0_transform_10 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

def cc0_transform_11 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

def cc0_transform_12 (i : grid0.Coords) : Fin 4 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  let c0_i32_4 : BitVec 32 := 0#32
  let c0_i32_5 : BitVec 32 := 0#32
  ![v5.toNat, c0_i32_2.toNat, c0_i32_3.toNat, c0_i32_4.toNat]

def cc0_transform_13 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

def cc0_transform_14 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

def cc0_transform_18 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

def cc0_transform_19 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== KernelIdeal.lean ====
abbrev S8448x1024 : Shape := ⟨2, ![8448, 1024]⟩
abbrev S8448x2048 : Shape := ⟨2, ![8448, 2048]⟩
abbrev S8192x128 : Shape := ⟨2, ![8192, 128]⟩
abbrev S8448x4x256 : Shape := ⟨3, ![8448, 4, 256]⟩
abbrev S4x8448x256 : Shape := ⟨3, ![4, 8448, 256]⟩
abbrev S4x256x256 : Shape := ⟨3, ![4, 256, 256]⟩
abbrev S4x8192x256 : Shape := ⟨3, ![4, 8192, 256]⟩
abbrev S4x8192x128 : Shape := ⟨3, ![4, 8192, 128]⟩
abbrev S1x8192x128 : Shape := ⟨3, ![1, 8192, 128]⟩
abbrev S_ : Shape := ⟨0, ![]⟩
abbrev S8448x4x512 : Shape := ⟨3, ![8448, 4, 512]⟩
abbrev S4x8448x512 : Shape := ⟨3, ![4, 8448, 512]⟩
abbrev S4 : Shape := ⟨1, ![4]⟩
abbrev S33 : Shape := ⟨1, ![33]⟩
abbrev S33x1 : Shape := ⟨2, ![33, 1]⟩
abbrev S8448 : Shape := ⟨1, ![8448]⟩
abbrev S1x8448 : Shape := ⟨2, ![1, 8448]⟩
abbrev S33x8448 : Shape := ⟨2, ![33, 8448]⟩
abbrev S33x1x8448 : Shape := ⟨3, ![33, 1, 8448]⟩
abbrev S4x1 : Shape := ⟨2, ![4, 1]⟩
abbrev S1x4x1 : Shape := ⟨3, ![1, 4, 1]⟩
abbrev S33x4x8448 : Shape := ⟨3, ![33, 4, 8448]⟩
abbrev S33x4x8448x1 : Shape := ⟨4, ![33, 4, 8448, 1]⟩
abbrev S1x4x8448x256 : Shape := ⟨4, ![1, 4, 8448, 256]⟩
abbrev S33x4x8448x256 : Shape := ⟨4, ![33, 4, 8448, 256]⟩
abbrev S4x512x33x256 : Shape := ⟨4, ![4, 512, 33, 256]⟩
abbrev S33x4x512x256 : Shape := ⟨4, ![33, 4, 512, 256]⟩
abbrev S4x256x512 : Shape := ⟨3, ![4, 256, 512]⟩
abbrev S4x8192x512 : Shape := ⟨3, ![4, 8192, 512]⟩
abbrev S1x4x512x256 : Shape := ⟨4, ![1, 4, 512, 256]⟩
abbrev S32x4x512x256 : Shape := ⟨4, ![32, 4, 512, 256]⟩
abbrev S256x128 : Shape := ⟨2, ![256, 128]⟩
abbrev S8448x128 : Shape := ⟨2, ![8448, 128]⟩
abbrev S256x1024 : Shape := ⟨2, ![256, 1024]⟩
abbrev S256x2048 : Shape := ⟨2, ![256, 2048]⟩
abbrev S2x4x512x256 : Shape := ⟨4, ![2, 4, 512, 256]⟩
abbrev S256x256 : Shape := ⟨2, ![256, 256]⟩
abbrev S256x1 : Shape := ⟨2, ![256, 1]⟩
abbrev S256x512 : Shape := ⟨2, ![256, 512]⟩
abbrev S1x1x512x256 : Shape := ⟨4, ![1, 1, 512, 256]⟩
abbrev S512x256 : Shape := ⟨2, ![512, 256]⟩

abbrev nBuf : Space → Nat
  | .hbm => 153
  | .vmem => 41
  | .smem => 0
  | _ => 0

abbrev hbmTy0_0 (i : Nat) : BufTy := match i % 128 with
  | 0 => ⟨S8448x1024, .bf16⟩
  | 1 => ⟨S8448x1024, .bf16⟩
  | 2 => ⟨S8448x2048, .bf16⟩
  | 3 => ⟨S8192x128, .f32⟩
  | 4 => ⟨S8192x128, .f32⟩
  | 5 => ⟨S8448x2048, .bf16⟩
  | 6 => ⟨S8448x1024, .f32⟩
  | 7 => ⟨S8448x4x256, .f32⟩
  | 8 => ⟨S4x8448x256, .f32⟩
  | 9 => ⟨S4x256x256, .f32⟩
  | 10 => ⟨S4x8192x256, .f32⟩
  | 11 => ⟨S4x8192x128, .f32⟩
  | 12 => ⟨S4x8192x128, .f32⟩
  | 13 => ⟨S1x8192x128, .f32⟩
  | 14 => ⟨S4x8192x128, .f32⟩
  | 15 => ⟨S4x8192x128, .f32⟩
  | 16 => ⟨S1x8192x128, .f32⟩
  | 17 => ⟨S4x8192x128, .f32⟩
  | 18 => ⟨S4x8192x128, .f32⟩
  | 19 => ⟨S4x8192x128, .f32⟩
  | 20 => ⟨S1x8192x128, .f32⟩
  | 21 => ⟨S4x8192x128, .f32⟩
  | 22 => ⟨S4x8192x128, .f32⟩
  | 23 => ⟨S1x8192x128, .f32⟩
  | 24 => ⟨S4x8192x128, .f32⟩
  | 25 => ⟨S4x8192x128, .f32⟩
  | 26 => ⟨S4x8192x128, .f32⟩
  | 27 => ⟨S4x8192x256, .f32⟩
  | 28 => ⟨S4x8448x256, .f32⟩
  | 29 => ⟨S_, .f32⟩
  | 30 => ⟨S4x8448x256, .f32⟩
  | 31 => ⟨S4x8448x256, .f32⟩
  | 32 => ⟨S8448x2048, .f32⟩
  | 33 => ⟨S8448x4x512, .f32⟩
  | 34 => ⟨S4x8448x512, .f32⟩
  | 35 => ⟨S4, .f32⟩
  | 36 => ⟨S_, .f32⟩
  | 37 => ⟨S4, .f32⟩
  | 38 => ⟨S4, .f32⟩
  | 39 => ⟨S_, .f32⟩
  | 40 => ⟨S4, .f32⟩
  | 41 => ⟨S4, .f32⟩
  | 42 => ⟨S_, .f32⟩
  | 43 => ⟨S4, .f32⟩
  | 44 => ⟨S4, .f32⟩
  | 45 => ⟨S4, .f32⟩
  | 46 => ⟨S33, .f32⟩
  | 47 => ⟨S33x1, .f32⟩
  | 48 => ⟨S_, .f32⟩
  | 49 => ⟨S33x1, .f32⟩
  | 50 => ⟨S33x1, .f32⟩
  | 51 => ⟨S_, .f32⟩
  | 52 => ⟨S33x1, .f32⟩
  | 53 => ⟨S33x1, .f32⟩
  | 54 => ⟨S8448, .f32⟩
  | 55 => ⟨S1x8448, .f32⟩
  | 56 => ⟨S33x8448, .f32⟩
  | 57 => ⟨S33x8448, .f32⟩
  | 58 => ⟨S33x8448, .f32⟩
  | 59 => ⟨S33x1x8448, .f32⟩
  | 60 => ⟨S_, .f32⟩
  | 61 => ⟨S33x1x8448, .f32⟩
  | 62 => ⟨S33x1x8448, .i1⟩
  | 63 => ⟨S4x1, .f32⟩
  | 64 => ⟨S_, .f32⟩
  | 65 => ⟨S33x8448, .f32⟩
  | 66 => ⟨S33x8448, .f32⟩
  | 67 => ⟨S33x1x8448, .f32⟩
  | 68 => ⟨S1x4x1, .f32⟩
  | 69 => ⟨S33x4x8448, .f32⟩
  | 70 => ⟨S33x4x8448, .f32⟩
  | 71 => ⟨S33x4x8448, .f32⟩
  | 72 => ⟨S33x4x8448, .f32⟩
  | 73 => ⟨S_, .f32⟩
  | 74 => ⟨S_, .f32⟩
  | 75 => ⟨S33x4x8448, .i1⟩
  | 76 => ⟨S33x4x8448, .f32⟩
  | 77 => ⟨S33x4x8448, .f32⟩
  | 78 => ⟨S33x4x8448x1, .f32⟩
  | 79 => ⟨S1x4x8448x256, .f32⟩
  | 80 => ⟨S33x4x8448x256, .f32⟩
  | 81 => ⟨S33x4x8448x256, .f32⟩
  | 82 => ⟨S33x4x8448x256, .f32⟩
  | 83 => ⟨S4x512x33x256, .f32⟩
  | 84 => ⟨S33x4x512x256, .f32⟩
  | 85 => ⟨S33x4x512x256, .bf16⟩
  | 86 => ⟨S4x256x256, .f32⟩
  | 87 => ⟨S4x256x256, .f32⟩
  | 88 => ⟨S4x8192x256, .f32⟩
  | 89 => ⟨S4x8192x256, .f32⟩
  | 90 => ⟨S4x8448x256, .f32⟩
  | 91 => ⟨S4x256x512, .f32⟩
  | 92 => ⟨S4x256x512, .f32⟩
  | 93 => ⟨S4x8192x512, .f32⟩
  | 94 => ⟨S4x8192x512, .f32⟩
  | 95 => ⟨S4x8448x512, .f32⟩
  | 96 => ⟨S4, .f32⟩
  | 97 => ⟨S33, .f32⟩
  | 98 => ⟨S33x1, .f32⟩
  | 99 => ⟨S_, .f32⟩
  | 100 => ⟨S33x1, .f32⟩
  | 101 => ⟨S33x1, .f32⟩
  | 102 => ⟨S_, .f32⟩
  | 103 => ⟨S33x1, .f32⟩
  | 104 => ⟨S33x1, .f32⟩
  | 105 => ⟨S8448, .f32⟩
  | 106 => ⟨S1x8448, .f32⟩
  | 107 => ⟨S33x8448, .f32⟩
  | 108 => ⟨S33x8448, .f32⟩
  | 109 => ⟨S33x8448, .f32⟩
  | 110 => ⟨S33x1x8448, .f32⟩
  | 111 => ⟨S_, .f32⟩
  | 112 => ⟨S33x1x8448, .f32⟩
  | 113 => ⟨S33x1x8448, .i1⟩
  | 114 => ⟨S4x1, .f32⟩
  | 115 => ⟨S_, .f32⟩
  | 116 => ⟨S33x8448, .f32⟩
  | 117 => ⟨S33x8448, .f32⟩
  | 118 => ⟨S33x1x8448, .f32⟩
  | 119 => ⟨S1x4x1, .f32⟩
  | 120 => ⟨S33x4x8448, .f32⟩
  | 121 => ⟨S33x4x8448, .f32⟩
  | 122 => ⟨S33x4x8448, .f32⟩
  | 123 => ⟨S33x4x8448, .f32⟩
  | 124 => ⟨S_, .f32⟩
  | 125 => ⟨S_, .f32⟩
  | 126 => ⟨S33x4x8448, .i1⟩
  | 127 => ⟨S33x4x8448, .f32⟩
  | _ => ⟨S8448x1024, .bf16⟩

abbrev hbmTy0_1 (i : Nat) : BufTy := match i % 128 with
  | 0 => ⟨S33x4x8448, .f32⟩
  | 1 => ⟨S33x4x8448x1, .f32⟩
  | 2 => ⟨S1x4x8448x256, .f32⟩
  | 3 => ⟨S33x4x8448x256, .f32⟩
  | 4 => ⟨S33x4x8448x256, .f32⟩
  | 5 => ⟨S33x4x8448x256, .f32⟩
  | 6 => ⟨S4x512x33x256, .f32⟩
  | 7 => ⟨S33x4x512x256, .f32⟩
  | 8 => ⟨S1x4x512x256, .f32⟩
  | 9 => ⟨S32x4x512x256, .f32⟩
  | 10 => ⟨S32x4x512x256, .f32⟩
  | 11 => ⟨S33x4x512x256, .f32⟩
  | 12 => ⟨S33x4x512x256, .bf16⟩
  | 13 => ⟨S_, .f32⟩
  | 14 => ⟨S256x128, .f32⟩
  | 15 => ⟨S8448x128, .f32⟩
  | 16 => ⟨S_, .f32⟩
  | 17 => ⟨S256x128, .f32⟩
  | 18 => ⟨S8448x128, .f32⟩
  | 19 => ⟨S8448x1024, .bf16⟩
  | 20 => ⟨S8448x1024, .bf16⟩
  | 21 => ⟨S8448x2048, .bf16⟩
  | 22 => ⟨S8448x1024, .bf16⟩
  | 23 => ⟨S8448x1024, .bf16⟩
  | 24 => ⟨S8448x2048, .bf16⟩
  | _ => ⟨S8448x1024, .bf16⟩

abbrev hbmTy (i : Nat) : BufTy := match i / 128 with
  | 0 => hbmTy0_0 i
  | 1 => hbmTy0_1 i
  | _ => ⟨S8448x1024, .bf16⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x4x512x256, .bf16⟩
  | .local _ .vmem, ⟨11, _⟩ => ⟨S1x4x512x256, .bf16⟩
  | .local _ .vmem, ⟨12, _⟩ => ⟨S256x2048, .bf16⟩
  | .local _ .vmem, ⟨13, _⟩ => ⟨S256x2048, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x2048, .bf16⟩
  | .local _ .vmem, ⟨19, _⟩ => ⟨S256x2048, .bf16⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S1x4x512x256, .bf16⟩
  | .local _ .vmem, ⟨25, _⟩ => ⟨S1x4x512x256, .bf16⟩
  | .local _ .vmem, ⟨26, _⟩ => ⟨S256x2048, .bf16⟩
  | .local _ .vmem, ⟨27, _⟩ => ⟨S256x2048, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x2048, .bf16⟩
  | .local _ .vmem, ⟨33, _⟩ => ⟨S256x2048, .bf16⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S256x2048, .bf16⟩
  | .local _ .vmem, ⟨39, _⟩ => ⟨S256x2048, .bf16⟩
  | .local _ .vmem, ⟨40, _⟩ => ⟨S2x4x512x256, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_0 : Ref sig .tc := ⟨.hbm, 36, rfl⟩
abbrev main_v29 : Ref sig .tc := ⟨.hbm, 37, rfl⟩
abbrev main_v30 : Ref sig .tc := ⟨.hbm, 38, rfl⟩
abbrev main_cst_1 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_8 : Ref sig .tc := ⟨.hbm, 99, rfl⟩
abbrev main_v81 : Ref sig .tc := ⟨.hbm, 100, rfl⟩
abbrev main_v82 : Ref sig .tc := ⟨.hbm, 101, rfl⟩
abbrev main_cst_9 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_cst_10 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_11 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_cst_12 : Ref sig .tc := ⟨.hbm, 124, rfl⟩
abbrev main_call5_v0 : Ref sig .tc := ⟨.hbm, 125, rfl⟩
abbrev main_call5_v1 : Ref sig .tc := ⟨.hbm, 126, rfl⟩
abbrev main_call5_v2 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_cst_13 : Ref sig .tc := ⟨.hbm, 141, rfl⟩
abbrev main_v115 : Ref sig .tc := ⟨.hbm, 142, rfl⟩
abbrev main_v116 : Ref sig .tc := ⟨.hbm, 143, rfl⟩
abbrev main_cst_14 : Ref sig .tc := ⟨.hbm, 144, rfl⟩
abbrev main_v117 : Ref sig .tc := ⟨.hbm, 145, rfl⟩
abbrev main_v118 : Ref sig .tc := ⟨.hbm, 146, rfl⟩
abbrev main_v119_0 : Ref sig .tc := ⟨.hbm, 147, rfl⟩
abbrev main_v119_1 : Ref sig .tc := ⟨.hbm, 148, rfl⟩
abbrev main_v119_2 : Ref sig .tc := ⟨.hbm, 149, rfl⟩
abbrev main_v119_3 : Ref sig .tc := ⟨.hbm, 150, rfl⟩
abbrev main_v119_4 : Ref sig .tc := ⟨.hbm, 151, rfl⟩
abbrev main_v119_5 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F] [Named F]

def κ : String → Option EReal := fun
  | "chunk_decay_128" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "chunk_decay_256" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | "chunk_decay_32" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "chunk_decay_64" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "log_gamma_128" => some ((Real.log (127 / 128) : ℝ) : EReal)
  | "log_gamma_256" => some ((Real.log (255 / 256) : ℝ) : EReal)
  | "log_gamma_32" => some ((Real.log (31 / 32) : ℝ) : EReal)
  | "log_gamma_64" => some ((Real.log (63 / 64) : ℝ) : EReal)
  | _ => none

abbrev grid0 : Pipeline.Grid := ⟨1, ![33], ![false]⟩

def cc0_transform_0 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

def cc0_transform_8 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

def cc0_transform_9 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

def cc0_transform_10 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

def cc0_transform_11 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

def cc0_transform_12 (i : grid0.Coords) : Fin 4 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  let c0_i32_4 : BitVec 32 := 0#32
  let c0_i32_5 : BitVec 32 := 0#32
  ![v5.toNat, c0_i32_2.toNat, c0_i32_3.toNat, c0_i32_4.toNat]

def cc0_transform_13 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

def cc0_transform_14 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

def cc0_transform_18 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

def cc0_transform_19 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S8448x1024 : Shape := ⟨2, ![8448, 1024]⟩
abbrev S8448x2048 : Shape := ⟨2, ![8448, 2048]⟩
abbrev S8192x128 : Shape := ⟨2, ![8192, 128]⟩
abbrev S8448x4x512 : Shape := ⟨3, ![8448, 4, 512]⟩
abbrev S4x8448x512 : Shape := ⟨3, ![4, 8448, 512]⟩
abbrev S8448x4x256 : Shape := ⟨3, ![8448, 4, 256]⟩
abbrev S4x8448x256 : Shape := ⟨3, ![4, 8448, 256]⟩
abbrev S4x256x256 : Shape := ⟨3, ![4, 256, 256]⟩
abbrev S4x8192x256 : Shape := ⟨3, ![4, 8192, 256]⟩
abbrev S4x8192x128 : Shape := ⟨3, ![4, 8192, 128]⟩
abbrev S1x8192x128 : Shape := ⟨3, ![1, 8192, 128]⟩
abbrev S_ : Shape := ⟨0, ![]⟩
abbrev S4 : Shape := ⟨1, ![4]⟩
abbrev S8448 : Shape := ⟨1, ![8448]⟩
abbrev S8448x1 : Shape := ⟨2, ![8448, 1]⟩
abbrev S1x8448 : Shape := ⟨2, ![1, 8448]⟩
abbrev S8448x8448 : Shape := ⟨2, ![8448, 8448]⟩
abbrev S4x1x1 : Shape := ⟨3, ![4, 1, 1]⟩
abbrev S1x8448x8448 : Shape := ⟨3, ![1, 8448, 8448]⟩
abbrev S4x8448x8448 : Shape := ⟨3, ![4, 8448, 8448]⟩
abbrev S4x512x8448 : Shape := ⟨3, ![4, 512, 8448]⟩
abbrev S4x256x512 : Shape := ⟨3, ![4, 256, 512]⟩
abbrev S4x8192x512 : Shape := ⟨3, ![4, 8192, 512]⟩

abbrev nBuf : Space → Nat
  | .hbm => 380
  | .vmem => 0
  | .smem => 0
  | _ => 0

abbrev hbmTy0_0 (i : Nat) : BufTy := match i % 128 with
  | 0 => ⟨S8448x1024, .bf16⟩
  | 1 => ⟨S8448x1024, .bf16⟩
  | 2 => ⟨S8448x2048, .bf16⟩
  | 3 => ⟨S8192x128, .f32⟩
  | 4 => ⟨S8192x128, .f32⟩
  | 5 => ⟨S8448x2048, .bf16⟩
  | 6 => ⟨S8448x2048, .f32⟩
  | 7 => ⟨S8448x4x512, .f32⟩
  | 8 => ⟨S4x8448x512, .f32⟩
  | 9 => ⟨S8448x1024, .f32⟩
  | 10 => ⟨S8448x4x256, .f32⟩
  | 11 => ⟨S4x8448x256, .f32⟩
  | 12 => ⟨S4x256x256, .f32⟩
  | 13 => ⟨S4x8192x256, .f32⟩
  | 14 => ⟨S4x8192x128, .f32⟩
  | 15 => ⟨S4x8192x128, .f32⟩
  | 16 => ⟨S1x8192x128, .f32⟩
  | 17 => ⟨S4x8192x128, .f32⟩
  | 18 => ⟨S4x8192x128, .f32⟩
  | 19 => ⟨S1x8192x128, .f32⟩
  | 20 => ⟨S4x8192x128, .f32⟩
  | 21 => ⟨S4x8192x128, .f32⟩
  | 22 => ⟨S4x8192x128, .f32⟩
  | 23 => ⟨S1x8192x128, .f32⟩
  | 24 => ⟨S4x8192x128, .f32⟩
  | 25 => ⟨S4x8192x128, .f32⟩
  | 26 => ⟨S1x8192x128, .f32⟩
  | 27 => ⟨S4x8192x128, .f32⟩
  | 28 => ⟨S4x8192x128, .f32⟩
  | 29 => ⟨S4x8192x128, .f32⟩
  | 30 => ⟨S4x8192x256, .f32⟩
  | 31 => ⟨S4x8448x256, .f32⟩
  | 32 => ⟨S8448x1024, .f32⟩
  | 33 => ⟨S8448x4x256, .f32⟩
  | 34 => ⟨S4x8448x256, .f32⟩
  | 35 => ⟨S4x256x256, .f32⟩
  | 36 => ⟨S4x8192x256, .f32⟩
  | 37 => ⟨S4x8192x128, .f32⟩
  | 38 => ⟨S4x8192x128, .f32⟩
  | 39 => ⟨S1x8192x128, .f32⟩
  | 40 => ⟨S4x8192x128, .f32⟩
  | 41 => ⟨S4x8192x128, .f32⟩
  | 42 => ⟨S1x8192x128, .f32⟩
  | 43 => ⟨S4x8192x128, .f32⟩
  | 44 => ⟨S4x8192x128, .f32⟩
  | 45 => ⟨S4x8192x128, .f32⟩
  | 46 => ⟨S1x8192x128, .f32⟩
  | 47 => ⟨S4x8192x128, .f32⟩
  | 48 => ⟨S4x8192x128, .f32⟩
  | 49 => ⟨S1x8192x128, .f32⟩
  | 50 => ⟨S4x8192x128, .f32⟩
  | 51 => ⟨S4x8192x128, .f32⟩
  | 52 => ⟨S4x8192x128, .f32⟩
  | 53 => ⟨S4x8192x256, .f32⟩
  | 54 => ⟨S4x8448x256, .f32⟩
  | 55 => ⟨S_, .f32⟩
  | 56 => ⟨S4x8448x256, .f32⟩
  | 57 => ⟨S4x8448x256, .f32⟩
  | 58 => ⟨S8448x2048, .f32⟩
  | 59 => ⟨S8448x4x512, .f32⟩
  | 60 => ⟨S4x8448x512, .f32⟩
  | 61 => ⟨S4, .f32⟩
  | 62 => ⟨S_, .f32⟩
  | 63 => ⟨S4, .f32⟩
  | 64 => ⟨S4, .f32⟩
  | 65 => ⟨S_, .f32⟩
  | 66 => ⟨S4, .f32⟩
  | 67 => ⟨S4, .f32⟩
  | 68 => ⟨S_, .f32⟩
  | 69 => ⟨S4, .f32⟩
  | 70 => ⟨S4, .f32⟩
  | 71 => ⟨S4, .f32⟩
  | 72 => ⟨S8448, .f32⟩
  | 73 => ⟨S8448x1, .f32⟩
  | 74 => ⟨S1x8448, .f32⟩
  | 75 => ⟨S8448x8448, .f32⟩
  | 76 => ⟨S8448x8448, .f32⟩
  | 77 => ⟨S8448x8448, .f32⟩
  | 78 => ⟨S_, .f32⟩
  | 79 => ⟨S8448x8448, .f32⟩
  | 80 => ⟨S8448x8448, .i1⟩
  | 81 => ⟨S4x1x1, .f32⟩
  | 82 => ⟨S_, .f32⟩
  | 83 => ⟨S8448x8448, .f32⟩
  | 84 => ⟨S8448x8448, .f32⟩
  | 85 => ⟨S1x8448x8448, .f32⟩
  | 86 => ⟨S4x8448x8448, .f32⟩
  | 87 => ⟨S4x8448x8448, .f32⟩
  | 88 => ⟨S4x8448x8448, .f32⟩
  | 89 => ⟨S4x8448x8448, .f32⟩
  | 90 => ⟨S_, .f32⟩
  | 91 => ⟨S_, .f32⟩
  | 92 => ⟨S4x8448x8448, .i1⟩
  | 93 => ⟨S4x8448x8448, .f32⟩
  | 94 => ⟨S4x8448x8448, .f32⟩
  | 95 => ⟨S4x8448x8448, .f32⟩
  | 96 => ⟨S4x8448x8448, .f32⟩
  | 97 => ⟨S4x8448x512, .f32⟩
  | 98 => ⟨S4x512x8448, .f32⟩
  | 99 => ⟨S4x8448x512, .f32⟩
  | 100 => ⟨S4x8448x8448, .f32⟩
  | 101 => ⟨S4x8448x8448, .f32⟩
  | 102 => ⟨S4x8448x256, .f32⟩
  | 103 => ⟨S4x8448x256, .f32⟩
  | 104 => ⟨S8448x4x512, .f32⟩
  | 105 => ⟨S8448x2048, .f32⟩
  | 106 => ⟨S8448x2048, .bf16⟩
  | 107 => ⟨S_, .f32⟩
  | 108 => ⟨S4x8448x256, .f32⟩
  | 109 => ⟨S4x8448x256, .f32⟩
  | 110 => ⟨S4x256x256, .f32⟩
  | 111 => ⟨S4x8192x256, .f32⟩
  | 112 => ⟨S4x8192x128, .f32⟩
  | 113 => ⟨S4x8192x128, .f32⟩
  | 114 => ⟨S4x8192x128, .f32⟩
  | 115 => ⟨S4x8192x128, .f32⟩
  | 116 => ⟨S4x8192x128, .f32⟩
  | 117 => ⟨S4x8192x128, .f32⟩
  | 118 => ⟨S4x8192x128, .f32⟩
  | 119 => ⟨S4x8192x128, .f32⟩
  | 120 => ⟨S4x8192x128, .f32⟩
  | 121 => ⟨S4x8192x128, .f32⟩
  | 122 => ⟨S4x8192x128, .f32⟩
  | 123 => ⟨S4x8192x128, .f32⟩
  | 124 => ⟨S4x8192x128, .f32⟩
  | 125 => ⟨S_, .f32⟩
  | 126 => ⟨S4x8192x256, .f32⟩
  | 127 => ⟨S_, .f32⟩
  | _ => ⟨S8448x1024, .bf16⟩

abbrev hbmTy0_1 (i : Nat) : BufTy := match i % 128 with
  | 0 => ⟨S4x8192x256, .f32⟩
  | 1 => ⟨S4x8192x256, .f32⟩
  | 2 => ⟨S_, .f32⟩
  | 3 => ⟨S4x8448x256, .f32⟩
  | 4 => ⟨S_, .f32⟩
  | 5 => ⟨S4x8448x256, .f32⟩
  | 6 => ⟨S4x8448x256, .f32⟩
  | 7 => ⟨S8448x4x256, .f32⟩
  | 8 => ⟨S8448x1024, .f32⟩
  | 9 => ⟨S8448x1024, .bf16⟩
  | 10 => ⟨S4x256x256, .f32⟩
  | 11 => ⟨S4x8192x256, .f32⟩
  | 12 => ⟨S4x8192x128, .f32⟩
  | 13 => ⟨S4x8192x128, .f32⟩
  | 14 => ⟨S4x8192x128, .f32⟩
  | 15 => ⟨S4x8192x128, .f32⟩
  | 16 => ⟨S4x8192x128, .f32⟩
  | 17 => ⟨S4x8192x128, .f32⟩
  | 18 => ⟨S4x8192x128, .f32⟩
  | 19 => ⟨S4x8192x128, .f32⟩
  | 20 => ⟨S4x8192x128, .f32⟩
  | 21 => ⟨S4x8192x128, .f32⟩
  | 22 => ⟨S4x8192x128, .f32⟩
  | 23 => ⟨S4x8192x128, .f32⟩
  | 24 => ⟨S4x8192x128, .f32⟩
  | 25 => ⟨S_, .f32⟩
  | 26 => ⟨S4x8192x256, .f32⟩
  | 27 => ⟨S_, .f32⟩
  | 28 => ⟨S4x8192x256, .f32⟩
  | 29 => ⟨S4x8192x256, .f32⟩
  | 30 => ⟨S_, .f32⟩
  | 31 => ⟨S4x8448x256, .f32⟩
  | 32 => ⟨S_, .f32⟩
  | 33 => ⟨S4x8448x256, .f32⟩
  | 34 => ⟨S4x8448x256, .f32⟩
  | 35 => ⟨S8448x4x256, .f32⟩
  | 36 => ⟨S8448x1024, .f32⟩
  | 37 => ⟨S8448x1024, .bf16⟩
  | 38 => ⟨S8448x1024, .f32⟩
  | 39 => ⟨S8448x4x256, .f32⟩
  | 40 => ⟨S4x8448x256, .f32⟩
  | 41 => ⟨S4x256x256, .f32⟩
  | 42 => ⟨S4x8192x256, .f32⟩
  | 43 => ⟨S4x8192x128, .f32⟩
  | 44 => ⟨S4x8192x128, .f32⟩
  | 45 => ⟨S1x8192x128, .f32⟩
  | 46 => ⟨S4x8192x128, .f32⟩
  | 47 => ⟨S4x8192x128, .f32⟩
  | 48 => ⟨S1x8192x128, .f32⟩
  | 49 => ⟨S4x8192x128, .f32⟩
  | 50 => ⟨S4x8192x128, .f32⟩
  | 51 => ⟨S4x8192x128, .f32⟩
  | 52 => ⟨S1x8192x128, .f32⟩
  | 53 => ⟨S4x8192x128, .f32⟩
  | 54 => ⟨S4x8192x128, .f32⟩
  | 55 => ⟨S1x8192x128, .f32⟩
  | 56 => ⟨S4x8192x128, .f32⟩
  | 57 => ⟨S4x8192x128, .f32⟩
  | 58 => ⟨S4x8192x128, .f32⟩
  | 59 => ⟨S4x8192x256, .f32⟩
  | 60 => ⟨S4x8448x256, .f32⟩
  | 61 => ⟨S8448x1024, .f32⟩
  | 62 => ⟨S8448x4x256, .f32⟩
  | 63 => ⟨S4x8448x256, .f32⟩
  | 64 => ⟨S4x256x256, .f32⟩
  | 65 => ⟨S4x8192x256, .f32⟩
  | 66 => ⟨S4x8192x128, .f32⟩
  | 67 => ⟨S4x8192x128, .f32⟩
  | 68 => ⟨S1x8192x128, .f32⟩
  | 69 => ⟨S4x8192x128, .f32⟩
  | 70 => ⟨S4x8192x128, .f32⟩
  | 71 => ⟨S1x8192x128, .f32⟩
  | 72 => ⟨S4x8192x128, .f32⟩
  | 73 => ⟨S4x8192x128, .f32⟩
  | 74 => ⟨S4x8192x128, .f32⟩
  | 75 => ⟨S1x8192x128, .f32⟩
  | 76 => ⟨S4x8192x128, .f32⟩
  | 77 => ⟨S4x8192x128, .f32⟩
  | 78 => ⟨S1x8192x128, .f32⟩
  | 79 => ⟨S4x8192x128, .f32⟩
  | 80 => ⟨S4x8192x128, .f32⟩
  | 81 => ⟨S4x8192x128, .f32⟩
  | 82 => ⟨S4x8192x256, .f32⟩
  | 83 => ⟨S4x8448x256, .f32⟩
  | 84 => ⟨S_, .f32⟩
  | 85 => ⟨S4x8448x256, .f32⟩
  | 86 => ⟨S4x8448x256, .f32⟩
  | 87 => ⟨S8448x2048, .f32⟩
  | 88 => ⟨S8448x4x512, .f32⟩
  | 89 => ⟨S4x8448x512, .f32⟩
  | 90 => ⟨S4x256x256, .f32⟩
  | 91 => ⟨S4x256x256, .f32⟩
  | 92 => ⟨S4x8192x256, .f32⟩
  | 93 => ⟨S4x8192x256, .f32⟩
  | 94 => ⟨S4x8448x256, .f32⟩
  | 95 => ⟨S4x256x256, .f32⟩
  | 96 => ⟨S4x256x256, .f32⟩
  | 97 => ⟨S4x8192x256, .f32⟩
  | 98 => ⟨S4x8192x256, .f32⟩
  | 99 => ⟨S4x8448x256, .f32⟩
  | 100 => ⟨S4x256x512, .f32⟩
  | 101 => ⟨S4x256x512, .f32⟩
  | 102 => ⟨S4x8192x512, .f32⟩
  | 103 => ⟨S4x8192x512, .f32⟩
  | 104 => ⟨S4x8448x512, .f32⟩
  | 105 => ⟨S4, .f32⟩
  | 106 => ⟨S_, .f32⟩
  | 107 => ⟨S4, .f32⟩
  | 108 => ⟨S4, .f32⟩
  | 109 => ⟨S_, .f32⟩
  | 110 => ⟨S4, .f32⟩
  | 111 => ⟨S4, .f32⟩
  | 112 => ⟨S_, .f32⟩
  | 113 => ⟨S4, .f32⟩
  | 114 => ⟨S4, .f32⟩
  | 115 => ⟨S4, .f32⟩
  | 116 => ⟨S4, .f32⟩
  | 117 => ⟨S8448, .f32⟩
  | 118 => ⟨S8448x1, .f32⟩
  | 119 => ⟨S1x8448, .f32⟩
  | 120 => ⟨S8448x8448, .f32⟩
  | 121 => ⟨S8448x8448, .f32⟩
  | 122 => ⟨S8448x8448, .f32⟩
  | 123 => ⟨S_, .f32⟩
  | 124 => ⟨S8448x8448, .f32⟩
  | 125 => ⟨S8448x8448, .i1⟩
  | 126 => ⟨S4x1x1, .f32⟩
  | 127 => ⟨S_, .f32⟩
  | _ => ⟨S8448x1024, .bf16⟩

abbrev hbmTy0_2 (i : Nat) : BufTy := match i % 128 with
  | 0 => ⟨S8448x8448, .f32⟩
  | 1 => ⟨S8448x8448, .f32⟩
  | 2 => ⟨S1x8448x8448, .f32⟩
  | 3 => ⟨S4x8448x8448, .f32⟩
  | 4 => ⟨S4x8448x8448, .f32⟩
  | 5 => ⟨S4x8448x8448, .f32⟩
  | 6 => ⟨S4x8448x8448, .f32⟩
  | 7 => ⟨S_, .f32⟩
  | 8 => ⟨S_, .f32⟩
  | 9 => ⟨S4x8448x8448, .i1⟩
  | 10 => ⟨S4x8448x8448, .f32⟩
  | 11 => ⟨S4x8448x8448, .f32⟩
  | 12 => ⟨S4x8448x8448, .f32⟩
  | 13 => ⟨S4x8448x8448, .f32⟩
  | 14 => ⟨S4x8448x512, .f32⟩
  | 15 => ⟨S4x256x512, .f32⟩
  | 16 => ⟨S4x256x512, .f32⟩
  | 17 => ⟨S4x8192x512, .f32⟩
  | 18 => ⟨S4x8192x512, .f32⟩
  | 19 => ⟨S4x8448x512, .f32⟩
  | 20 => ⟨S4x256x512, .f32⟩
  | 21 => ⟨S4x8192x512, .f32⟩
  | 22 => ⟨S4x8192x512, .f32⟩
  | 23 => ⟨S_, .f32⟩
  | 24 => ⟨S4x8448x512, .f32⟩
  | 25 => ⟨S4x256x512, .f32⟩
  | 26 => ⟨S_, .f32⟩
  | 27 => ⟨S4x8448x512, .f32⟩
  | 28 => ⟨S4x8448x512, .f32⟩
  | 29 => ⟨S4x512x8448, .f32⟩
  | 30 => ⟨S4x8448x512, .f32⟩
  | 31 => ⟨S4x8448x8448, .f32⟩
  | 32 => ⟨S4x8448x8448, .f32⟩
  | 33 => ⟨S4x8448x256, .f32⟩
  | 34 => ⟨S4x8448x256, .f32⟩
  | 35 => ⟨S4x256x512, .f32⟩
  | 36 => ⟨S4x8192x512, .f32⟩
  | 37 => ⟨S4x8192x512, .f32⟩
  | 38 => ⟨S_, .f32⟩
  | 39 => ⟨S4x8448x512, .f32⟩
  | 40 => ⟨S4x256x512, .f32⟩
  | 41 => ⟨S_, .f32⟩
  | 42 => ⟨S4x8448x512, .f32⟩
  | 43 => ⟨S4x8448x512, .f32⟩
  | 44 => ⟨S4x256x256, .f32⟩
  | 45 => ⟨S4x8192x256, .f32⟩
  | 46 => ⟨S4x8192x256, .f32⟩
  | 47 => ⟨S_, .f32⟩
  | 48 => ⟨S4x8448x256, .f32⟩
  | 49 => ⟨S4x256x256, .f32⟩
  | 50 => ⟨S_, .f32⟩
  | 51 => ⟨S4x8448x256, .f32⟩
  | 52 => ⟨S4x8448x256, .f32⟩
  | 53 => ⟨S4x256x256, .f32⟩
  | 54 => ⟨S4x8192x256, .f32⟩
  | 55 => ⟨S4x8192x256, .f32⟩
  | 56 => ⟨S_, .f32⟩
  | 57 => ⟨S4x8448x256, .f32⟩
  | 58 => ⟨S4x256x256, .f32⟩
  | 59 => ⟨S_, .f32⟩
  | 60 => ⟨S4x8448x256, .f32⟩
  | 61 => ⟨S4x8448x256, .f32⟩
  | 62 => ⟨S8448x4x512, .f32⟩
  | 63 => ⟨S8448x2048, .f32⟩
  | 64 => ⟨S8448x2048, .bf16⟩
  | 65 => ⟨S_, .f32⟩
  | 66 => ⟨S4x8448x256, .f32⟩
  | 67 => ⟨S4x8448x256, .f32⟩
  | 68 => ⟨S4x256x256, .f32⟩
  | 69 => ⟨S4x8192x256, .f32⟩
  | 70 => ⟨S4x8192x128, .f32⟩
  | 71 => ⟨S4x8192x128, .f32⟩
  | 72 => ⟨S4x8192x128, .f32⟩
  | 73 => ⟨S4x8192x128, .f32⟩
  | 74 => ⟨S4x8192x128, .f32⟩
  | 75 => ⟨S4x8192x128, .f32⟩
  | 76 => ⟨S4x8192x128, .f32⟩
  | 77 => ⟨S4x8192x128, .f32⟩
  | 78 => ⟨S4x8192x128, .f32⟩
  | 79 => ⟨S4x8192x128, .f32⟩
  | 80 => ⟨S4x8192x128, .f32⟩
  | 81 => ⟨S4x8192x128, .f32⟩
  | 82 => ⟨S4x8192x128, .f32⟩
  | 83 => ⟨S_, .f32⟩
  | 84 => ⟨S4x8192x256, .f32⟩
  | 85 => ⟨S_, .f32⟩
  | 86 => ⟨S4x8192x256, .f32⟩
  | 87 => ⟨S4x8192x256, .f32⟩
  | 88 => ⟨S_, .f32⟩
  | 89 => ⟨S4x8448x256, .f32⟩
  | 90 => ⟨S_, .f32⟩
  | 91 => ⟨S4x8448x256, .f32⟩
  | 92 => ⟨S4x8448x256, .f32⟩
  | 93 => ⟨S8448x4x256, .f32⟩
  | 94 => ⟨S8448x1024, .f32⟩
  | 95 => ⟨S8448x1024, .bf16⟩
  | 96 => ⟨S4x256x256, .f32⟩
  | 97 => ⟨S4x8192x256, .f32⟩
  | 98 => ⟨S4x8192x128, .f32⟩
  | 99 => ⟨S4x8192x128, .f32⟩
  | 100 => ⟨S4x8192x128, .f32⟩
  | 101 => ⟨S4x8192x128, .f32⟩
  | 102 => ⟨S4x8192x128, .f32⟩
  | 103 => ⟨S4x8192x128, .f32⟩
  | 104 => ⟨S4x8192x128, .f32⟩
  | 105 => ⟨S4x8192x128, .f32⟩
  | 106 => ⟨S4x8192x128, .f32⟩
  | 107 => ⟨S4x8192x128, .f32⟩
  | 108 => ⟨S4x8192x128, .f32⟩
  | 109 => ⟨S4x8192x128, .f32⟩
  | 110 => ⟨S4x8192x128, .f32⟩
  | 111 => ⟨S_, .f32⟩
  | 112 => ⟨S4x8192x256, .f32⟩
  | 113 => ⟨S_, .f32⟩
  | 114 => ⟨S4x8192x256, .f32⟩
  | 115 => ⟨S4x8192x256, .f32⟩
  | 116 => ⟨S_, .f32⟩
  | 117 => ⟨S4x8448x256, .f32⟩
  | 118 => ⟨S_, .f32⟩
  | 119 => ⟨S4x8448x256, .f32⟩
  | 120 => ⟨S4x8448x256, .f32⟩
  | 121 => ⟨S8448x4x256, .f32⟩
  | 122 => ⟨S8448x1024, .f32⟩
  | 123 => ⟨S8448x1024, .bf16⟩
  | _ => ⟨S8448x1024, .bf16⟩

abbrev hbmTy (i : Nat) : BufTy := match i / 128 with
  | 0 => hbmTy0_0 i
  | 1 => hbmTy0_1 i
  | 2 => hbmTy0_2 i
  | _ => ⟨S8448x1024, .bf16⟩

abbrev bufTy : (tb : Table) → Fin (tcTables nBuf tb) → BufTy
  | .hbm, ⟨i, _⟩ => hbmTy i
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_cst : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_0 : Ref sig .tc := ⟨.hbm, 62, rfl⟩
abbrev main_v55 : Ref sig .tc := ⟨.hbm, 63, rfl⟩
abbrev main_v56 : Ref sig .tc := ⟨.hbm, 64, rfl⟩
abbrev main_cst_1 : Ref sig .tc := ⟨.hbm, 65, rfl⟩
abbrev main_v57 : Ref sig .tc := ⟨.hbm, 66, rfl⟩
abbrev main_v58 : Ref sig .tc := ⟨.hbm, 67, rfl⟩
abbrev main_cst_2 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_cst_3 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_cst_4 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_5 : Ref sig .tc := ⟨.hbm, 90, rfl⟩
abbrev main_call0_v0 : Ref sig .tc := ⟨.hbm, 91, rfl⟩
abbrev main_call0_v1 : Ref sig .tc := ⟨.hbm, 92, rfl⟩
abbrev main_call0_v2 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_cst_6 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_cst_7 : Ref sig .tc := ⟨.hbm, 125, rfl⟩
abbrev main_v108 : Ref sig .tc := ⟨.hbm, 126, rfl⟩
abbrev main_cst_8 : Ref sig .tc := ⟨.hbm, 127, rfl⟩
abbrev main_v109 : Ref sig .tc := ⟨.hbm, 128, rfl⟩
abbrev main_v110 : Ref sig .tc := ⟨.hbm, 129, rfl⟩
abbrev main_cst_9 : Ref sig .tc := ⟨.hbm, 130, rfl⟩
abbrev main_v111 : Ref sig .tc := ⟨.hbm, 131, rfl⟩
abbrev main_cst_10 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_cst_11 : Ref sig .tc := ⟨.hbm, 153, rfl⟩
abbrev main_v132 : Ref sig .tc := ⟨.hbm, 154, rfl⟩
abbrev main_cst_12 : Ref sig .tc := ⟨.hbm, 155, rfl⟩
abbrev main_v133 : Ref sig .tc := ⟨.hbm, 156, rfl⟩
abbrev main_v134 : Ref sig .tc := ⟨.hbm, 157, rfl⟩
abbrev main_cst_13 : Ref sig .tc := ⟨.hbm, 158, rfl⟩
abbrev main_v135 : Ref sig .tc := ⟨.hbm, 159, rfl⟩
abbrev main_cst_14 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_cst_15 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_cst_16 : Ref sig .tc := ⟨.hbm, 234, rfl⟩
abbrev main_v208 : Ref sig .tc := ⟨.hbm, 235, rfl⟩
abbrev main_v209 : Ref sig .tc := ⟨.hbm, 236, rfl⟩
abbrev main_cst_17 : Ref sig .tc := ⟨.hbm, 237, rfl⟩
abbrev main_v210 : Ref sig .tc := ⟨.hbm, 238, rfl⟩
abbrev main_v211 : Ref sig .tc := ⟨.hbm, 239, rfl⟩
abbrev main_cst_18 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_cst_19 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_cst_20 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_v230 : Ref sig .tc := ⟨.hbm, 261, rfl⟩
abbrev main_v231 : Ref sig .tc := ⟨.hbm, 262, rfl⟩
abbrev main_cst_21 : Ref sig .tc := ⟨.hbm, 263, rfl⟩
abbrev main_call7_v0 : Ref sig .tc := ⟨.hbm, 264, rfl⟩
abbrev main_call7_v1 : Ref sig .tc := ⟨.hbm, 265, rfl⟩
abbrev main_call7_v2 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_v243 : Ref sig .tc := ⟨.hbm, 278, rfl⟩
abbrev main_cst_22 : Ref sig .tc := ⟨.hbm, 279, rfl⟩
abbrev main_v244 : Ref sig .tc := ⟨.hbm, 280, rfl⟩
abbrev main_v245 : Ref sig .tc := ⟨.hbm, 281, rfl⟩
abbrev main_cst_23 : Ref sig .tc := ⟨.hbm, 282, rfl⟩
abbrev main_v246 : Ref sig .tc := ⟨.hbm, 283, rfl⟩
abbrev main_v247 : Ref sig .tc := ⟨.hbm, 284, rfl⟩
abbrev main_v248 : Ref sig .tc := ⟨.hbm, 285, rfl⟩
abbrev main_v249 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_cst_24 : Ref sig .tc := ⟨.hbm, 294, rfl⟩
abbrev main_v257 : Ref sig .tc := ⟨.hbm, 295, rfl⟩
abbrev main_v258 : Ref sig .tc := ⟨.hbm, 296, rfl⟩
abbrev main_cst_25 : Ref sig .tc := ⟨.hbm, 297, rfl⟩
abbrev main_v259 : Ref sig .tc := ⟨.hbm, 298, rfl⟩
abbrev main_v260 : Ref sig .tc := ⟨.hbm, 299, rfl⟩
abbrev main_v261 : Ref sig .tc := ⟨.hbm, 300, rfl⟩
abbrev main_v262 : Ref sig .tc := ⟨.hbm, 301, rfl⟩
abbrev main_v263 : Ref sig .tc := ⟨.hbm, 302, rfl⟩
abbrev main_cst_26 : Ref sig .tc := ⟨.hbm, 303, rfl⟩
abbrev main_v264 : Ref sig .tc := ⟨.hbm, 304, rfl⟩
abbrev main_v265 : Ref sig .tc := ⟨.hbm, 305, rfl⟩
abbrev main_cst_27 : Ref sig .tc := ⟨.hbm, 306, rfl⟩
abbrev main_v266 : Ref sig .tc := ⟨.hbm, 307, rfl⟩
abbrev main_v267 : Ref sig .tc := ⟨.hbm, 308, rfl⟩
abbrev main_v268 : Ref sig .tc := ⟨.hbm, 309, rfl⟩
abbrev main_v269 : Ref sig .tc := ⟨.hbm, 310, rfl⟩
abbrev main_v270 : Ref sig .tc := ⟨.hbm, 311, rfl⟩
abbrev main_cst_28 : Ref sig .tc := ⟨.hbm, 312, rfl⟩
abbrev main_v271 : Ref sig .tc := ⟨.hbm, 313, rfl⟩
abbrev main_v272 : Ref sig .tc := ⟨.hbm, 314, rfl⟩
abbrev main_cst_29 : Ref sig .tc := ⟨.hbm, 315, rfl⟩
abbrev main_v273 : Ref sig .tc := ⟨.hbm, 316, rfl⟩
abbrev main_v274 : Ref sig .tc := ⟨.hbm, 317, rfl⟩
abbrev main_v275 : Ref sig .tc := ⟨.hbm, 318, rfl⟩
abbrev main_v276 : Ref sig .tc := ⟨.hbm, 319, rfl⟩
abbrev main_v277 : Ref sig .tc := ⟨.hbm, 320, rfl⟩
abbrev main_cst_30 : Ref sig .tc := ⟨.hbm, 321, rfl⟩
abbrev main_v278 : Ref sig .tc := ⟨.hbm, 322, rfl⟩
abbrev main_v279 : Ref sig .tc := ⟨.hbm, 323, rfl⟩
abbrev main_v280 : Ref sig .tc := ⟨.hbm, 324, rfl⟩
abbrev main_v281 : Ref sig .tc := ⟨.hbm, 325, rfl⟩
abbrev main_v282 : Ref sig .tc := ⟨.hbm, 326, rfl⟩
abbrev main_v283 : Ref sig .tc := ⟨.hbm, 327, rfl⟩
abbrev main_v284 : Ref sig .tc := ⟨.hbm, 328, rfl⟩
abbrev main_v285 : Ref sig .tc := ⟨.hbm, 329, rfl⟩
abbrev main_v286 : Ref sig .tc := ⟨.hbm, 330, rfl⟩
abbrev main_v287 : Ref sig .tc := ⟨.hbm, 331, rfl⟩
abbrev main_v288 : Ref sig .tc := ⟨.hbm, 332, rfl⟩
abbrev main_v289 : Ref sig .tc := ⟨.hbm, 333, rfl⟩
abbrev main_v290 : Ref sig .tc := ⟨.hbm, 334, rfl⟩
abbrev main_v291 : Ref sig .tc := ⟨.hbm, 335, rfl⟩
abbrev main_v292 : Ref sig .tc := ⟨.hbm, 336, rfl⟩
abbrev main_v293 : Ref sig .tc := ⟨.hbm, 337, rfl⟩
abbrev main_v294 : Ref sig .tc := ⟨.hbm, 338, rfl⟩
abbrev main_cst_31 : Ref sig .tc := ⟨.hbm, 339, rfl⟩
abbrev main_v295 : Ref sig .tc := ⟨.hbm, 340, rfl⟩
abbrev main_cst_32 : Ref sig .tc := ⟨.hbm, 341, rfl⟩
abbrev main_v296 : Ref sig .tc := ⟨.hbm, 342, rfl⟩
abbrev main_v297 : Ref sig .tc := ⟨.hbm, 343, rfl⟩
abbrev main_cst_33 : Ref sig .tc := ⟨.hbm, 344, rfl⟩
abbrev main_v298 : Ref sig .tc := ⟨.hbm, 345, rfl⟩
abbrev main_cst_34 : Ref sig .tc := ⟨.hbm, 346, rfl⟩
abbrev main_v299 : Ref sig .tc := ⟨.hbm, 347, rfl⟩
abbrev main_v300 : Ref sig .tc := ⟨.hbm, 348, rfl⟩
abbrev main_v301 : Ref sig .tc := ⟨.hbm, 349, rfl⟩
abbrev main_v302 : Ref sig .tc := ⟨.hbm, 350, rfl⟩
abbrev main_v303 : Ref sig .tc := ⟨.hbm, 351, rfl⟩
abbrev main_v304 : Ref sig .tc := ⟨.hbm, 352, rfl⟩
abbrev main_v305 : Ref sig .tc := ⟨.hbm, 353, rfl⟩
abbrev main_v306 : Ref sig .tc := ⟨.hbm, 354, rfl⟩
abbrev main_v307 : Ref sig .tc := ⟨.hbm, 355, rfl⟩
abbrev main_v308 : Ref sig .tc := ⟨.hbm, 356, rfl⟩
abbrev main_v309 : Ref sig .tc := ⟨.hbm, 357, rfl⟩
abbrev main_v310 : Ref sig .tc := ⟨.hbm, 358, rfl⟩
abbrev main_v311 : Ref sig .tc := ⟨.hbm, 359, rfl⟩
abbrev main_v312 : Ref sig .tc := ⟨.hbm, 360, rfl⟩
abbrev main_v313 : Ref sig .tc := ⟨.hbm, 361, rfl⟩
abbrev main_v314 : Ref sig .tc := ⟨.hbm, 362, rfl⟩
abbrev main_v315 : Ref sig .tc := ⟨.hbm, 363, rfl⟩
abbrev main_v316 : Ref sig .tc := ⟨.hbm, 364, rfl⟩
abbrev main_v317 : Ref sig .tc := ⟨.hbm, 365, rfl⟩
abbrev main_v318 : Ref sig .tc := ⟨.hbm, 366, rfl⟩
abbrev main_cst_35 : Ref sig .tc := ⟨.hbm, 367, rfl⟩
abbrev main_v319 : Ref sig .tc := ⟨.hbm, 368, rfl⟩
abbrev main_cst_36 : Ref sig .tc := ⟨.hbm, 369, rfl⟩
abbrev main_v320 : Ref sig .tc := ⟨.hbm, 370, rfl⟩
abbrev main_v321 : Ref sig .tc := ⟨.hbm, 371, rfl⟩
abbrev main_cst_37 : Ref sig .tc := ⟨.hbm, 372, rfl⟩
abbrev main_v322 : Ref sig .tc := ⟨.hbm, 373, rfl⟩
abbrev main_cst_38 : Ref sig .tc := ⟨.hbm, 374, rfl⟩
abbrev main_v323 : Ref sig .tc := ⟨.hbm, 375, rfl⟩
abbrev main_v324 : Ref sig .tc := ⟨.hbm, 376, rfl⟩
abbrev main_v325 : Ref sig .tc := ⟨.hbm, 377, rfl⟩
abbrev main_v326 : Ref sig .tc := ⟨.hbm, 378, rfl⟩
abbrev main_v327 : Ref sig .tc := ⟨.hbm, 379, rfl⟩

abbrev nD : Nat := 1
abbrev τ : Topo := Topo.v7x

variable {F : FTy → Type} [FloatOps F]
-- ==== FfnIn.lean ====
abbrev S1024x8448 : Shape := ⟨2, ![1024, 8448]⟩
abbrev S8448x5632 : Shape := ⟨2, ![8448, 5632]⟩
abbrev S1024x5632 : Shape := ⟨2, ![1024, 5632]⟩
abbrev S1024x2816 : Shape := ⟨2, ![1024, 2816]⟩
abbrev S2816x1408 : Shape := ⟨2, ![2816, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S1024x8448, .bf16⟩
  | .hbm, ⟨1, _⟩ => ⟨S8448x5632, .bf16⟩
  | .hbm, ⟨2, _⟩ => ⟨S1024x5632, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1408, .bf16⟩
  | .local _ .vmem, ⟨3, _⟩ => ⟨S2816x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S1024x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInIdeal.lean ====
abbrev S1024x8448 : Shape := ⟨2, ![1024, 8448]⟩
abbrev S8448x5632 : Shape := ⟨2, ![8448, 5632]⟩
abbrev S1024x5632 : Shape := ⟨2, ![1024, 5632]⟩
abbrev S1024x2816 : Shape := ⟨2, ![1024, 2816]⟩
abbrev S2816x1408 : Shape := ⟨2, ![2816, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S1024x8448, .bf16⟩
  | .hbm, ⟨1, _⟩ => ⟨S8448x5632, .bf16⟩
  | .hbm, ⟨2, _⟩ => ⟨S1024x5632, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1408, .bf16⟩
  | .local _ .vmem, ⟨3, _⟩ => ⟨S2816x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S1024x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInRefIdeal.lean ====
abbrev S1024x8448 : Shape := ⟨2, ![1024, 8448]⟩
abbrev S8448x5632 : Shape := ⟨2, ![8448, 5632]⟩
abbrev S_ : Shape := ⟨0, ![]⟩
abbrev S1024x5632 : Shape := ⟨2, ![1024, 5632]⟩
abbrev S8448x1024 : Shape := ⟨2, ![8448, 1024]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x8448, .bf16⟩
  | .hbm, ⟨1, _⟩ => ⟨S8448x5632, .bf16⟩
  | .hbm, ⟨2, _⟩ => ⟨S_, .f32⟩
  | .hbm, ⟨3, _⟩ => ⟨S1024x5632, .f32⟩
  | .hbm, ⟨4, _⟩ => ⟨S8448x1024, .bf16⟩
  | .hbm, ⟨5, _⟩ => ⟨S8448x1024, .f32⟩
  | .hbm, ⟨6, _⟩ => ⟨S8448x5632, .f32⟩
  | .hbm, ⟨7, _⟩ => ⟨S8448x5632, .f32⟩
  | .hbm, ⟨8, _⟩ => ⟨S5632x1024, .f32⟩
  | .hbm, ⟨9, _⟩ => ⟨S1024x5632, .f32⟩
  | .hbm, ⟨10, _⟩ => ⟨S1024x5632, .bf16⟩
  | _, _ => ⟨S1024x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnOut.lean ====
abbrev S2816x8448 : Shape := ⟨2, ![2816, 8448]⟩
abbrev S8448x1024 : Shape := ⟨2, ![8448, 1024]⟩
abbrev S2816x1024 : Shape := ⟨2, ![2816, 1024]⟩
abbrev S1408x2816 : Shape := ⟨2, ![1408, 2816]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2816x8448, .bf16⟩
  | .hbm, ⟨1, _⟩ => ⟨S8448x1024, .bf16⟩
  | .hbm, ⟨2, _⟩ => ⟨S2816x1024, .bf16⟩
  | .local _ .vmem, ⟨0, _⟩ => ⟨S1408x2816, .bf16⟩
  | .local _ .vmem, ⟨1, _⟩ => ⟨S1408x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2816x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutIdeal.lean ====
abbrev S2816x8448 : Shape := ⟨2, ![2816, 8448]⟩
abbrev S8448x1024 : Shape := ⟨2, ![8448, 1024]⟩
abbrev S2816x1024 : Shape := ⟨2, ![2816, 1024]⟩
abbrev S1408x2816 : Shape := ⟨2, ![1408, 2816]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2816x8448, .bf16⟩
  | .hbm, ⟨1, _⟩ => ⟨S8448x1024, .bf16⟩
  | .hbm, ⟨2, _⟩ => ⟨S2816x1024, .bf16⟩
  | .local _ .vmem, ⟨0, _⟩ => ⟨S1408x2816, .bf16⟩
  | .local _ .vmem, ⟨1, _⟩ => ⟨S1408x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2816x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutRefIdeal.lean ====
abbrev S2816x8448 : Shape := ⟨2, ![2816, 8448]⟩
abbrev S8448x1024 : Shape := ⟨2, ![8448, 1024]⟩
abbrev S_ : Shape := ⟨0, ![]⟩
abbrev S2816x1024 : Shape := ⟨2, ![2816, 1024]⟩
abbrev S8448x2816 : Shape := ⟨2, ![8448, 2816]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S2816x8448, .bf16⟩
  | .hbm, ⟨1, _⟩ => ⟨S8448x1024, .bf16⟩
  | .hbm, ⟨2, _⟩ => ⟨S_, .f32⟩
  | .hbm, ⟨3, _⟩ => ⟨S2816x1024, .f32⟩
  | .hbm, ⟨4, _⟩ => ⟨S8448x2816, .bf16⟩
  | .hbm, ⟨5, _⟩ => ⟨S8448x2816, .f32⟩
  | .hbm, ⟨6, _⟩ => ⟨S8448x1024, .f32⟩
  | .hbm, ⟨7, _⟩ => ⟨S8448x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S2816x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OddIn.lean ====
abbrev S1024x8448 : Shape := ⟨2, ![1024, 8448]⟩
abbrev S8448x6144 : Shape := ⟨2, ![8448, 6144]⟩
abbrev S1024x6144 : Shape := ⟨2, ![1024, 6144]⟩
abbrev S1024x2816 : Shape := ⟨2, ![1024, 2816]⟩
abbrev S2816x1536 : Shape := ⟨2, ![2816, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S1024x8448, .bf16⟩
  | .hbm, ⟨1, _⟩ => ⟨S8448x6144, .bf16⟩
  | .hbm, ⟨2, _⟩ => ⟨S1024x6144, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1536, .bf16⟩
  | .local _ .vmem, ⟨3, _⟩ => ⟨S2816x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S1024x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInIdeal.lean ====
abbrev S1024x8448 : Shape := ⟨2, ![1024, 8448]⟩
abbrev S8448x6144 : Shape := ⟨2, ![8448, 6144]⟩
abbrev S1024x6144 : Shape := ⟨2, ![1024, 6144]⟩
abbrev S1024x2816 : Shape := ⟨2, ![1024, 2816]⟩
abbrev S2816x1536 : Shape := ⟨2, ![2816, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S1024x8448, .bf16⟩
  | .hbm, ⟨1, _⟩ => ⟨S8448x6144, .bf16⟩
  | .hbm, ⟨2, _⟩ => ⟨S1024x6144, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1536, .bf16⟩
  | .local _ .vmem, ⟨3, _⟩ => ⟨S2816x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S1024x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInRefIdeal.lean ====
abbrev S1024x8448 : Shape := ⟨2, ![1024, 8448]⟩
abbrev S8448x6144 : Shape := ⟨2, ![8448, 6144]⟩
abbrev S_ : Shape := ⟨0, ![]⟩
abbrev S1024x6144 : Shape := ⟨2, ![1024, 6144]⟩
abbrev S8448x1024 : Shape := ⟨2, ![8448, 1024]⟩
abbrev S6144x1024 : Shape := ⟨2, ![6144, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x8448, .bf16⟩
  | .hbm, ⟨1, _⟩ => ⟨S8448x6144, .bf16⟩
  | .hbm, ⟨2, _⟩ => ⟨S_, .f32⟩
  | .hbm, ⟨3, _⟩ => ⟨S1024x6144, .f32⟩
  | .hbm, ⟨4, _⟩ => ⟨S8448x1024, .bf16⟩
  | .hbm, ⟨5, _⟩ => ⟨S8448x1024, .f32⟩
  | .hbm, ⟨6, _⟩ => ⟨S8448x6144, .f32⟩
  | .hbm, ⟨7, _⟩ => ⟨S8448x6144, .f32⟩
  | .hbm, ⟨8, _⟩ => ⟨S6144x1024, .f32⟩
  | .hbm, ⟨9, _⟩ => ⟨S1024x6144, .f32⟩
  | .hbm, ⟨10, _⟩ => ⟨S1024x6144, .bf16⟩
  | _, _ => ⟨S1024x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OddOut.lean ====
abbrev S2048x8448 : Shape := ⟨2, ![2048, 8448]⟩
abbrev S8448x1024 : Shape := ⟨2, ![8448, 1024]⟩
abbrev S2048x1024 : Shape := ⟨2, ![2048, 1024]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8448, .bf16⟩
  | .hbm, ⟨1, _⟩ => ⟨S8448x1024, .bf16⟩
  | .hbm, ⟨2, _⟩ => ⟨S2048x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddOutIdeal.lean ====
abbrev S2048x8448 : Shape := ⟨2, ![2048, 8448]⟩
abbrev S8448x1024 : Shape := ⟨2, ![8448, 1024]⟩
abbrev S2048x1024 : Shape := ⟨2, ![2048, 1024]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8448, .bf16⟩
  | .hbm, ⟨1, _⟩ => ⟨S8448x1024, .bf16⟩
  | .hbm, ⟨2, _⟩ => ⟨S2048x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddOutRefIdeal.lean ====
abbrev S2048x8448 : Shape := ⟨2, ![2048, 8448]⟩
abbrev S8448x1024 : Shape := ⟨2, ![8448, 1024]⟩
abbrev S_ : Shape := ⟨0, ![]⟩
abbrev S2048x1024 : Shape := ⟨2, ![2048, 1024]⟩
abbrev S8448x2048 : Shape := ⟨2, ![8448, 2048]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x8448, .bf16⟩
  | .hbm, ⟨1, _⟩ => ⟨S8448x1024, .bf16⟩
  | .hbm, ⟨2, _⟩ => ⟨S_, .f32⟩
  | .hbm, ⟨3, _⟩ => ⟨S2048x1024, .f32⟩
  | .hbm, ⟨4, _⟩ => ⟨S8448x2048, .bf16⟩
  | .hbm, ⟨5, _⟩ => ⟨S8448x2048, .f32⟩
  | .hbm, ⟨6, _⟩ => ⟨S8448x1024, .f32⟩
  | .hbm, ⟨7, _⟩ => ⟨S8448x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | _, _ => ⟨S2048x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== EvenIn.lean ====
abbrev S1024x8448 : Shape := ⟨2, ![1024, 8448]⟩
abbrev S8448x3328 : Shape := ⟨2, ![8448, 3328]⟩
abbrev S1024x3328 : Shape := ⟨2, ![1024, 3328]⟩
abbrev S1024x2816 : Shape := ⟨2, ![1024, 2816]⟩
abbrev S2816x1664 : Shape := ⟨2, ![2816, 1664]⟩
abbrev S1024x1664 : Shape := ⟨2, ![1024, 1664]⟩

abbrev nBuf : Space → Nat
  | .hbm => 3
  | .vmem => 7
  | .smem => 0
  | _ => 0

abbrev bufTy : (tb : Table) → Fin (tcTables nBuf tb) → BufTy
  | .hbm, ⟨0, _⟩ => ⟨S1024x8448, .bf16⟩
  | .hbm, ⟨1, _⟩ => ⟨S8448x3328, .bf16⟩
  | .hbm, ⟨2, _⟩ => ⟨S1024x3328, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1664, .bf16⟩
  | .local _ .vmem, ⟨3, _⟩ => ⟨S2816x1664, .bf16⟩
  | .local _ .vmem, ⟨4, _⟩ => ⟨S1024x1664, .bf16⟩
  | .local _ .vmem, ⟨5, _⟩ => ⟨S1024x1664, .bf16⟩
  | .local _ .vmem, ⟨6, _⟩ => ⟨S1024x1664, .f32⟩
  | _, _ => ⟨S1024x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInIdeal.lean ====
abbrev S1024x8448 : Shape := ⟨2, ![1024, 8448]⟩
abbrev S8448x3328 : Shape := ⟨2, ![8448, 3328]⟩
abbrev S1024x3328 : Shape := ⟨2, ![1024, 3328]⟩
abbrev S1024x2816 : Shape := ⟨2, ![1024, 2816]⟩
abbrev S2816x1664 : Shape := ⟨2, ![2816, 1664]⟩
abbrev S1024x1664 : Shape := ⟨2, ![1024, 1664]⟩

abbrev nBuf : Space → Nat
  | .hbm => 3
  | .vmem => 7
  | .smem => 0
  | _ => 0

abbrev bufTy : (tb : Table) → Fin (tcTables nBuf tb) → BufTy
  | .hbm, ⟨0, _⟩ => ⟨S1024x8448, .bf16⟩
  | .hbm, ⟨1, _⟩ => ⟨S8448x3328, .bf16⟩
  | .hbm, ⟨2, _⟩ => ⟨S1024x3328, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1664, .bf16⟩
  | .local _ .vmem, ⟨3, _⟩ => ⟨S2816x1664, .bf16⟩
  | .local _ .vmem, ⟨4, _⟩ => ⟨S1024x1664, .bf16⟩
  | .local _ .vmem, ⟨5, _⟩ => ⟨S1024x1664, .bf16⟩
  | .local _ .vmem, ⟨6, _⟩ => ⟨S1024x1664, .f32⟩
  | _, _ => ⟨S1024x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInRefIdeal.lean ====
abbrev S1024x8448 : Shape := ⟨2, ![1024, 8448]⟩
abbrev S8448x3328 : Shape := ⟨2, ![8448, 3328]⟩
abbrev S_ : Shape := ⟨0, ![]⟩
abbrev S1024x3328 : Shape := ⟨2, ![1024, 3328]⟩
abbrev S8448x1024 : Shape := ⟨2, ![8448, 1024]⟩
abbrev S3328x1024 : Shape := ⟨2, ![3328, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x8448, .bf16⟩
  | .hbm, ⟨1, _⟩ => ⟨S8448x3328, .bf16⟩
  | .hbm, ⟨2, _⟩ => ⟨S_, .f32⟩
  | .hbm, ⟨3, _⟩ => ⟨S1024x3328, .f32⟩
  | .hbm, ⟨4, _⟩ => ⟨S8448x1024, .bf16⟩
  | .hbm, ⟨5, _⟩ => ⟨S8448x1024, .f32⟩
  | .hbm, ⟨6, _⟩ => ⟨S8448x3328, .f32⟩
  | .hbm, ⟨7, _⟩ => ⟨S8448x3328, .f32⟩
  | .hbm, ⟨8, _⟩ => ⟨S3328x1024, .f32⟩
  | .hbm, ⟨9, _⟩ => ⟨S1024x3328, .f32⟩
  | .hbm, ⟨10, _⟩ => ⟨S1024x3328, .bf16⟩
  | _, _ => ⟨S1024x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== EvenOut.lean ====
abbrev S1024x8448 : Shape := ⟨2, ![1024, 8448]⟩
abbrev S8448x1024 : Shape := ⟨2, ![8448, 1024]⟩
abbrev S1024x1024 : Shape := ⟨2, ![1024, 1024]⟩
abbrev S1024x2816 : Shape := ⟨2, ![1024, 2816]⟩
abbrev S2816x1024 : Shape := ⟨2, ![2816, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x8448, .bf16⟩
  | .hbm, ⟨1, _⟩ => ⟨S8448x1024, .bf16⟩
  | .hbm, ⟨2, _⟩ => ⟨S1024x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .f32⟩
  | _, _ => ⟨S1024x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== EvenOutRefIdeal.lean ====
abbrev S1024x8448 : Shape := ⟨2, ![1024, 8448]⟩
abbrev S8448x1024 : Shape := ⟨2, ![8448, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x8448, .bf16⟩
  | .hbm, ⟨1, _⟩ => ⟨S8448x1024, .bf16⟩
  | .hbm, ⟨2, _⟩ => ⟨S_, .f32⟩
  | .hbm, ⟨3, _⟩ => ⟨S1024x1024, .f32⟩
  | .hbm, ⟨4, _⟩ => ⟨S8448x1024, .bf16⟩
  | .hbm, ⟨5, _⟩ => ⟨S8448x1024, .f32⟩
  | .hbm, ⟨6, _⟩ => ⟨S8448x1024, .f32⟩
  | .hbm, ⟨7, _⟩ => ⟨S8448x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S1024x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Ffn.lean ====
abbrev S8448x1024 : Shape := ⟨2, ![8448, 1024]⟩
abbrev S1024 : Shape := ⟨1, ![1024]⟩
abbrev S2x1x3072 : Shape := ⟨3, ![2, 1, 3072]⟩
abbrev S1024x5632 : Shape := ⟨2, ![1024, 5632]⟩
abbrev S2816x1024 : Shape := ⟨2, ![2816, 1024]⟩
abbrev S1x1024 : Shape := ⟨2, ![1, 1024]⟩
abbrev S8448x5632 : Shape := ⟨2, ![8448, 5632]⟩
abbrev S256x1024 : Shape := ⟨2, ![256, 1024]⟩
abbrev S1x1x3072 : Shape := ⟨3, ![1, 1, 3072]⟩
abbrev S256x5632 : Shape := ⟨2, ![256, 5632]⟩
abbrev S1x3072 : Shape := ⟨2, ![1, 3072]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩

abbrev nBuf : Space → Nat
  | .hbm => 9
  | .vmem => 13
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x1x3072, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S8448x1024, .f32⟩
  | .hbm, ⟨7, _⟩ => ⟨S8448x5632, .bf16⟩
  | .hbm, ⟨8, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x3072, .f32⟩
  | .local _ .vmem, ⟨4, _⟩ => ⟨S1x1x3072, .f32⟩
  | .local _ .vmem, ⟨5, _⟩ => ⟨S1024x5632, .bf16⟩
  | .local _ .vmem, ⟨6, _⟩ => ⟨S2816x1024, .bf16⟩
  | .local _ .vmem, ⟨7, _⟩ => ⟨S256x1024, .f32⟩
  | .local _ .vmem, ⟨8, _⟩ => ⟨S256x1024, .f32⟩
  | .local _ .vmem, ⟨9, _⟩ => ⟨S256x5632, .bf16⟩
  | .local _ .vmem, ⟨10, _⟩ => ⟨S256x5632, .bf16⟩
  | .local _ .vmem, ⟨11, _⟩ => ⟨S256x1024, .bf16⟩
  | .local _ .vmem, ⟨12, _⟩ => ⟨S256x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S8448x1024 : Shape := ⟨2, ![8448, 1024]⟩
abbrev S1024 : Shape := ⟨1, ![1024]⟩
abbrev S2x1x3072 : Shape := ⟨3, ![2, 1, 3072]⟩
abbrev S1024x5632 : Shape := ⟨2, ![1024, 5632]⟩
abbrev S2816x1024 : Shape := ⟨2, ![2816, 1024]⟩
abbrev S1x1x3072 : Shape := ⟨3, ![1, 1, 3072]⟩
abbrev S1x3072 : Shape := ⟨2, ![1, 3072]⟩
abbrev S256x3072 : Shape := ⟨2, ![256, 3072]⟩
abbrev S8192x3072 : Shape := ⟨2, ![8192, 3072]⟩
abbrev S8448x3072 : Shape := ⟨2, ![8448, 3072]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S8448x5632 : Shape := ⟨2, ![8448, 5632]⟩
abbrev S8448x2816 : Shape := ⟨2, ![8448, 2816]⟩

abbrev nBuf : Space → Nat
  | .hbm => 56
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x1x3072, .f32⟩
  | .hbm, ⟨3, _⟩ => ⟨S1024x5632, .bf16⟩
  | .hbm, ⟨4, _⟩ => ⟨S2816x1024, .bf16⟩
  | .hbm, ⟨5, _⟩ => ⟨S1x1x3072, .f32⟩
  | .hbm, ⟨6, _⟩ => ⟨S1x3072, .f32⟩
  | .hbm, ⟨7, _⟩ => ⟨S256x3072, .f32⟩
  | .hbm, ⟨8, _⟩ => ⟨S1x1x3072, .f32⟩
  | .hbm, ⟨9, _⟩ => ⟨S1x3072, .f32⟩
  | .hbm, ⟨10, _⟩ => ⟨S8192x3072, .f32⟩
  | .hbm, ⟨11, _⟩ => ⟨S8448x3072, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S8448x1024, .f32⟩
  | .hbm, ⟨16, _⟩ => ⟨S_, .f32⟩
  | .hbm, ⟨17, _⟩ => ⟨S8448, .f32⟩
  | .hbm, ⟨18, _⟩ => ⟨S8448x1, .f32⟩
  | .hbm, ⟨19, _⟩ => ⟨S_, .f32⟩
  | .hbm, ⟨20, _⟩ => ⟨S8448x1, .f32⟩
  | .hbm, ⟨21, _⟩ => ⟨S8448x1, .f32⟩
  | .hbm, ⟨22, _⟩ => ⟨S_, .f32⟩
  | .hbm, ⟨23, _⟩ => ⟨S8448x1, .f32⟩
  | .hbm, ⟨24, _⟩ => ⟨S8448x1, .f32⟩
  | .hbm, ⟨25, _⟩ => ⟨S8448x1, .f32⟩
  | .hbm, ⟨26, _⟩ => ⟨S8448x1024, .f32⟩
  | .hbm, ⟨27, _⟩ => ⟨S8448x1024, .f32⟩
  | .hbm, ⟨28, _⟩ => ⟨S1x1024, .f32⟩
  | .hbm, ⟨29, _⟩ => ⟨S8448x1024, .f32⟩
  | .hbm, ⟨30, _⟩ => ⟨S8448x1024, .f32⟩
  | .hbm, ⟨31, _⟩ => ⟨S_, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S1024x5632, .f32⟩
  | .hbm, ⟨37, _⟩ => ⟨S8448x5632, .f32⟩
  | .hbm, ⟨38, _⟩ => ⟨S8448x2816, .f32⟩
  | .hbm, ⟨39, _⟩ => ⟨S8448x2816, .f32⟩
  | .hbm, ⟨40, _⟩ => ⟨S8448x2816, .f32⟩
  | .hbm, ⟨41, _⟩ => ⟨S8448x2816, .f32⟩
  | .hbm, ⟨42, _⟩ => ⟨S_, .f32⟩
  | .hbm, ⟨43, _⟩ => ⟨S8448x2816, .f32⟩
  | .hbm, ⟨44, _⟩ => ⟨S8448x2816, .f32⟩
  | .hbm, ⟨45, _⟩ => ⟨S_, .f32⟩
  | .hbm, ⟨46, _⟩ => ⟨S8448x2816, .f32⟩
  | .hbm, ⟨47, _⟩ => ⟨S8448x2816, .f32⟩
  | .hbm, ⟨48, _⟩ => ⟨S8448x2816, .f32⟩
  | .hbm, ⟨49, _⟩ => ⟨S8448x2816, .f32⟩
  | .hbm, ⟨50, _⟩ => ⟨S2816x1024, .f32⟩
  | .hbm, ⟨51, _⟩ => ⟨S8448x1024, .f32⟩
  | .hbm, ⟨52, _⟩ => ⟨S8448x1024, .f32⟩
  | .hbm, ⟨53, _⟩ => ⟨S8448x1024, .f32⟩
  | .hbm, ⟨54, _⟩ => ⟨S8448x5632, .bf16⟩
  | .hbm, ⟨55, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Mixer.lean ====
abbrev S8448x1024 : Shape := ⟨2, ![8448, 1024]⟩
abbrev S1024 : Shape := ⟨1, ![1024]⟩
abbrev S2x1x2048 : Shape := ⟨3, ![2, 1, 2048]⟩
abbrev S1024x6144 : Shape := ⟨2, ![1024, 6144]⟩
abbrev S1x1024 : Shape := ⟨2, ![1, 1024]⟩
abbrev S8448x2048 : Shape := ⟨2, ![8448, 2048]⟩
abbrev S256x1024 : Shape := ⟨2, ![256, 1024]⟩
abbrev S1x1x2048 : Shape := ⟨3, ![1, 1, 2048]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S1024x1024 : Shape := ⟨2, ![1024, 1024]⟩
abbrev S1024x2048 : Shape := ⟨2, ![1024, 2048]⟩

abbrev nBuf : Space → Nat
  | .hbm => 9
  | .vmem => 14
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x1x2048, .f32⟩
  | .hbm, ⟨3, _⟩ => ⟨S1024x6144, .bf16⟩
  | .hbm, ⟨4, _⟩ => ⟨S1x1024, .f32⟩
  | .hbm, ⟨5, _⟩ => ⟨S8448x1024, .bf16⟩
  | .hbm, ⟨6, _⟩ => ⟨S8448x1024, .bf16⟩
  | .hbm, ⟨7, _⟩ => ⟨S8448x2048, .bf16⟩
  | .hbm, ⟨8, _⟩ => ⟨S8448x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x2048, .f32⟩
  | .local _ .vmem, ⟨4, _⟩ => ⟨S1x1x2048, .f32⟩
  | .local _ .vmem, ⟨5, _⟩ => ⟨S1024x6144, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixerRefIdeal.lean ====
abbrev S8448x1024 : Shape := ⟨2, ![8448, 1024]⟩
abbrev S1024 : Shape := ⟨1, ![1024]⟩
abbrev S2x1x2048 : Shape := ⟨3, ![2, 1, 2048]⟩
abbrev S1024x6144 : Shape := ⟨2, ![1024, 6144]⟩
abbrev S1x1x2048 : Shape := ⟨3, ![1, 1, 2048]⟩
abbrev S1x2048 : Shape := ⟨2, ![1, 2048]⟩
abbrev S256x2048 : Shape := ⟨2, ![256, 2048]⟩
abbrev S8192x2048 : Shape := ⟨2, ![8192, 2048]⟩
abbrev S8448x2048 : Shape := ⟨2, ![8448, 2048]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S8448x6144 : Shape := ⟨2, ![8448, 6144]⟩

abbrev nBuf : Space → Nat
  | .hbm => 41
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x1x2048, .f32⟩
  | .hbm, ⟨3, _⟩ => ⟨S1024x6144, .bf16⟩
  | .hbm, ⟨4, _⟩ => ⟨S1x1x2048, .f32⟩
  | .hbm, ⟨5, _⟩ => ⟨S1x2048, .f32⟩
  | .hbm, ⟨6, _⟩ => ⟨S256x2048, .f32⟩
  | .hbm, ⟨7, _⟩ => ⟨S1x1x2048, .f32⟩
  | .hbm, ⟨8, _⟩ => ⟨S1x2048, .f32⟩
  | .hbm, ⟨9, _⟩ => ⟨S8192x2048, .f32⟩
  | .hbm, ⟨10, _⟩ => ⟨S8448x2048, .f32⟩
  | .hbm, ⟨11, _⟩ => ⟨S8448x1024, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S_, .f32⟩
  | .hbm, ⟨21, _⟩ => ⟨S8448x1, .f32⟩
  | .hbm, ⟨22, _⟩ => ⟨S8448x1, .f32⟩
  | .hbm, ⟨23, _⟩ => ⟨S8448x1, .f32⟩
  | .hbm, ⟨24, _⟩ => ⟨S8448x1024, .f32⟩
  | .hbm, ⟨25, _⟩ => ⟨S8448x1024, .f32⟩
  | .hbm, ⟨26, _⟩ => ⟨S1x1024, .f32⟩
  | .hbm, ⟨27, _⟩ => ⟨S8448x1024, .f32⟩
  | .hbm, ⟨28, _⟩ => ⟨S8448x1024, .f32⟩
  | .hbm, ⟨29, _⟩ => ⟨S_, .f32⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S8448x1024, .f32⟩
  | .hbm, ⟨34, _⟩ => ⟨S1024x6144, .f32⟩
  | .hbm, ⟨35, _⟩ => ⟨S8448x6144, .f32⟩
  | .hbm, ⟨36, _⟩ => ⟨S8448x6144, .bf16⟩
  | .hbm, ⟨37, _⟩ => ⟨S8448x1024, .bf16⟩
  | .hbm, ⟨38, _⟩ => ⟨S8448x1024, .bf16⟩
  | .hbm, ⟨39, _⟩ => ⟨S8448x2048, .bf16⟩
  | .hbm, ⟨40, _⟩ => ⟨S8448x2048, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Loss.lean ====
abbrev S8448x1024 : Shape := ⟨2, ![8448, 1024]⟩
abbrev S1024 : Shape := ⟨1, ![1024]⟩
abbrev S2x1x3072 : Shape := ⟨3, ![2, 1, 3072]⟩
abbrev S1024x5632 : Shape := ⟨2, ![1024, 5632]⟩
abbrev S2816x1024 : Shape := ⟨2, ![2816, 1024]⟩
abbrev S8192x1024 : Shape := ⟨2, ![8192, 1024]⟩
abbrev S1x1024 : Shape := ⟨2, ![1, 1024]⟩
abbrev S8448x5632 : Shape := ⟨2, ![8448, 5632]⟩
abbrev S1x1 : Shape := ⟨2, ![1, 1]⟩
abbrev S256x1024 : Shape := ⟨2, ![256, 1024]⟩
abbrev S1x1x3072 : Shape := ⟨3, ![1, 1, 3072]⟩
abbrev S256x5632 : Shape := ⟨2, ![256, 5632]⟩
abbrev S1x3072 : Shape := ⟨2, ![1, 3072]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 11
  | .vmem => 16
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x1x3072, .f32⟩
  | .hbm, ⟨3, _⟩ => ⟨S1024x5632, .bf16⟩
  | .hbm, ⟨4, _⟩ => ⟨S2816x1024, .bf16⟩
  | .hbm, ⟨5, _⟩ => ⟨S8192x1024, .f32⟩
  | .hbm, ⟨6, _⟩ => ⟨S1x1024, .f32⟩
  | .hbm, ⟨7, _⟩ => ⟨S8448x1024, .f32⟩
  | .hbm, ⟨8, _⟩ => ⟨S8448x5632, .bf16⟩
  | .hbm, ⟨9, _⟩ => ⟨S8448x1024, .bf16⟩
  | .hbm, ⟨10, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x3072, .f32⟩
  | .local _ .vmem, ⟨4, _⟩ => ⟨S1x1x3072, .f32⟩
  | .local _ .vmem, ⟨5, _⟩ => ⟨S1024x5632, .bf16⟩
  | .local _ .vmem, ⟨6, _⟩ => ⟨S2816x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x5632, .bf16⟩
  | .local _ .vmem, ⟨12, _⟩ => ⟨S256x5632, .bf16⟩
  | .local _ .vmem, ⟨13, _⟩ => ⟨S256x1024, .bf16⟩
  | .local _ .vmem, ⟨14, _⟩ => ⟨S256x1024, .bf16⟩
  | .local _ .vmem, ⟨15, _⟩ => ⟨S1x1, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32_45 : BitVec 32 := 0#32
  let v79 : BitVec 1 := Scalar.cmpi .eq arg0 c0_i32_45
  let v80 : BitVec 32 := Scalar.extui v79
  let c0_i32_46 : BitVec 32 := 0#32
  let v81 : BitVec 1 := Scalar.cmpi .ne v80 c0_i32_46
  v81

def k0_cond2 (i : grid0.Coords) : BitVec 1 :=
  let arg0 : BitVec 32 := BitVec.ofNat 32 (i 0).val
  let c0_i32_47 : BitVec 32 := 0#32
  let v82 : BitVec 1 := Scalar.cmpi .sgt arg0 c0_i32_47
  let v83 : BitVec 32 := Scalar.extui v82
  let c0_i32_48 : BitVec 32 := 0#32
  let v84 : BitVec 1 := Scalar.cmpi .ne v83 c0_i32_48
  v84

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S8448x1024 : Shape := ⟨2, ![8448, 1024]⟩
abbrev S1024 : Shape := ⟨1, ![1024]⟩
abbrev S2x1x3072 : Shape := ⟨3, ![2, 1, 3072]⟩
abbrev S1024x5632 : Shape := ⟨2, ![1024, 5632]⟩
abbrev S2816x1024 : Shape := ⟨2, ![2816, 1024]⟩
abbrev S8192x1024 : Shape := ⟨2, ![8192, 1024]⟩
abbrev S1x1x3072 : Shape := ⟨3, ![1, 1, 3072]⟩
abbrev S1x3072 : Shape := ⟨2, ![1, 3072]⟩
abbrev S256x3072 : Shape := ⟨2, ![256, 3072]⟩
abbrev S8192x3072 : Shape := ⟨2, ![8192, 3072]⟩
abbrev S8448x3072 : Shape := ⟨2, ![8448, 3072]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S8448x5632 : Shape := ⟨2, ![8448, 5632]⟩
abbrev S8448x2816 : Shape := ⟨2, ![8448, 2816]⟩
abbrev S8192 : Shape := ⟨1, ![8192]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x1x3072, .f32⟩
  | .hbm, ⟨3, _⟩ => ⟨S1024x5632, .bf16⟩
  | .hbm, ⟨4, _⟩ => ⟨S2816x1024, .bf16⟩
  | .hbm, ⟨5, _⟩ => ⟨S8192x1024, .f32⟩
  | .hbm, ⟨6, _⟩ => ⟨S1x1x3072, .f32⟩
  | .hbm, ⟨7, _⟩ => ⟨S1x3072, .f32⟩
  | .hbm, ⟨8, _⟩ => ⟨S256x3072, .f32⟩
  | .hbm, ⟨9, _⟩ => ⟨S1x1x3072, .f32⟩
  | .hbm, ⟨10, _⟩ => ⟨S1x3072, .f32⟩
  | .hbm, ⟨11, _⟩ => ⟨S8192x3072, .f32⟩
  | .hbm, ⟨12, _⟩ => ⟨S8448x3072, .f32⟩
  | .hbm, ⟨13, _⟩ => ⟨S8448x1024, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S_, .f32⟩
  | .hbm, ⟨18, _⟩ => ⟨S8448, .f32⟩
  | .hbm, ⟨19, _⟩ => ⟨S8448x1, .f32⟩
  | .hbm, ⟨20, _⟩ => ⟨S_, .f32⟩
  | .hbm, ⟨21, _⟩ => ⟨S8448x1, .f32⟩
  | .hbm, ⟨22, _⟩ => ⟨S8448x1, .f32⟩
  | .hbm, ⟨23, _⟩ => ⟨S_, .f32⟩
  | .hbm, ⟨24, _⟩ => ⟨S8448x1, .f32⟩
  | .hbm, ⟨25, _⟩ => ⟨S8448x1, .f32⟩
  | .hbm, ⟨26, _⟩ => ⟨S8448x1, .f32⟩
  | .hbm, ⟨27, _⟩ => ⟨S8448x1024, .f32⟩
  | .hbm, ⟨28, _⟩ => ⟨S8448x1024, .f32⟩
  | .hbm, ⟨29, _⟩ => ⟨S1x1024, .f32⟩
  | .hbm, ⟨30, _⟩ => ⟨S8448x1024, .f32⟩
  | .hbm, ⟨31, _⟩ => ⟨S8448x1024, .f32⟩
  | .hbm, ⟨32, _⟩ => ⟨S_, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S1024x5632, .f32⟩
  | .hbm, ⟨38, _⟩ => ⟨S8448x5632, .f32⟩
  | .hbm, ⟨39, _⟩ => ⟨S8448x2816, .f32⟩
  | .hbm, ⟨40, _⟩ => ⟨S8448x2816, .f32⟩
  | .hbm, ⟨41, _⟩ => ⟨S8448x2816, .f32⟩
  | .hbm, ⟨42, _⟩ => ⟨S8448x2816, .f32⟩
  | .hbm, ⟨43, _⟩ => ⟨S_, .f32⟩
  | .hbm, ⟨44, _⟩ => ⟨S8448x2816, .f32⟩
  | .hbm, ⟨45, _⟩ => ⟨S8448x2816, .f32⟩
  | .hbm, ⟨46, _⟩ => ⟨S_, .f32⟩
  | .hbm, ⟨47, _⟩ => ⟨S8448x2816, .f32⟩
  | .hbm, ⟨48, _⟩ => ⟨S8448x2816, .f32⟩
  | .hbm, ⟨49, _⟩ => ⟨S8448x2816, .f32⟩
  | .hbm, ⟨50, _⟩ => ⟨S8448x2816, .f32⟩
  | .hbm, ⟨51, _⟩ => ⟨S2816x1024, .f32⟩
  | .hbm, ⟨52, _⟩ => ⟨S8448x1024, .f32⟩
  | .hbm, ⟨53, _⟩ => ⟨S8448x1024, .f32⟩
  | .hbm, ⟨54, _⟩ => ⟨S8448x1024, .f32⟩
  | .hbm, ⟨55, _⟩ => ⟨S8448x5632, .bf16⟩
  | .hbm, ⟨56, _⟩ => ⟨S8448x1024, .bf16⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S8448x1024, .f32⟩
  | .hbm, ⟨83, _⟩ => ⟨S1x1, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_cst_8 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]
-- ==== Post.lean ====
abbrev S8448x1024 : Shape := ⟨2, ![8448, 1024]⟩
abbrev S8448x2048 : Shape := ⟨2, ![8448, 2048]⟩
abbrev S2048x1024 : Shape := ⟨2, ![2048, 1024]⟩
abbrev S2x1x1024 : Shape := ⟨3, ![2, 1, 1024]⟩
abbrev S256x1024 : Shape := ⟨2, ![256, 1024]⟩
abbrev S256x2048 : Shape := ⟨2, ![256, 2048]⟩
abbrev S1x1x1024 : Shape := ⟨3, ![1, 1, 1024]⟩
abbrev S256x512 : Shape := ⟨2, ![256, 512]⟩
abbrev S256 : Shape := ⟨1, ![256]⟩
abbrev S256x1 : Shape := ⟨2, ![256, 1]⟩
abbrev S1x1024 : Shape := ⟨2, ![1, 1024]⟩

abbrev nBuf : Space → Nat
  | .hbm => 9
  | .vmem => 17
  | .smem => 0
  | _ => 0

abbrev bufTy : (tb : Table) → Fin (tcTables nBuf tb) → BufTy
  | .hbm, ⟨0, _⟩ => ⟨S8448x1024, .f32⟩
  | .hbm, ⟨1, _⟩ => ⟨S8448x2048, .bf16⟩
  | .hbm, ⟨2, _⟩ => ⟨S8448x2048, .bf16⟩
  | .hbm, ⟨3, _⟩ => ⟨S8448x2048, .bf16⟩
  | .hbm, ⟨4, _⟩ => ⟨S2048x1024, .bf16⟩
  | .hbm, ⟨5, _⟩ => ⟨S2x1x1024, .f32⟩
  | .hbm, ⟨6, _⟩ => ⟨S8448x1024, .f32⟩
  | .hbm, ⟨7, _⟩ => ⟨S8448x2048, .bf16⟩
  | .hbm, ⟨8, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S2048x1024, .bf16⟩
  | .local _ .vmem, ⟨9, _⟩ => ⟨S1x1x1024, .f32⟩
  | .local _ .vmem, ⟨10, _⟩ => ⟨S1x1x1024, .f32⟩
  | .local _ .vmem, ⟨11, _⟩ => ⟨S256x1024, .f32⟩
  | .local _ .vmem, ⟨12, _⟩ => ⟨S256x1024, .f32⟩
  | .local _ .vmem, ⟨13, _⟩ => ⟨S256x2048, .bf16⟩
  | .local _ .vmem, ⟨14, _⟩ => ⟨S256x2048, .bf16⟩
  | .local _ .vmem, ⟨15, _⟩ => ⟨S256x1024, .bf16⟩
  | .local _ .vmem, ⟨16, _⟩ => ⟨S256x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PostRefIdeal.lean ====
abbrev S8448x1024 : Shape := ⟨2, ![8448, 1024]⟩
abbrev S8448x2048 : Shape := ⟨2, ![8448, 2048]⟩
abbrev S2048x1024 : Shape := ⟨2, ![2048, 1024]⟩
abbrev S2x1x1024 : Shape := ⟨3, ![2, 1, 1024]⟩
abbrev S8448x4x512 : Shape := ⟨3, ![8448, 4, 512]⟩
abbrev S_ : Shape := ⟨0, ![]⟩
abbrev S8448x4 : Shape := ⟨2, ![8448, 4]⟩
abbrev S8448x4x1 : Shape := ⟨3, ![8448, 4, 1]⟩
abbrev S1x1x1024 : Shape := ⟨3, ![1, 1, 1024]⟩
abbrev S1x1024 : Shape := ⟨2, ![1, 1024]⟩
abbrev S256x1024 : Shape := ⟨2, ![256, 1024]⟩
abbrev S8192x1024 : Shape := ⟨2, ![8192, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x2048, .bf16⟩
  | .hbm, ⟨2, _⟩ => ⟨S8448x2048, .bf16⟩
  | .hbm, ⟨3, _⟩ => ⟨S8448x2048, .bf16⟩
  | .hbm, ⟨4, _⟩ => ⟨S2048x1024, .bf16⟩
  | .hbm, ⟨5, _⟩ => ⟨S2x1x1024, .f32⟩
  | .hbm, ⟨6, _⟩ => ⟨S8448x2048, .f32⟩
  | .hbm, ⟨7, _⟩ => ⟨S8448x2048, .f32⟩
  | .hbm, ⟨8, _⟩ => ⟨S8448x2048, .f32⟩
  | .hbm, ⟨9, _⟩ => ⟨S8448x4x512, .f32⟩
  | .hbm, ⟨10, _⟩ => ⟨S8448x4x512, .f32⟩
  | .hbm, ⟨11, _⟩ => ⟨S_, .f32⟩
  | .hbm, ⟨12, _⟩ => ⟨S8448x4, .f32⟩
  | .hbm, ⟨13, _⟩ => ⟨S8448x4x1, .f32⟩
  | .hbm, ⟨14, _⟩ => ⟨S_, .f32⟩
  | .hbm, ⟨15, _⟩ => ⟨S8448x4x1, .f32⟩
  | .hbm, ⟨16, _⟩ => ⟨S8448x4x1, .f32⟩
  | .hbm, ⟨17, _⟩ => ⟨S_, .f32⟩
  | .hbm, ⟨18, _⟩ => ⟨S8448x4x1, .f32⟩
  | .hbm, ⟨19, _⟩ => ⟨S8448x4x1, .f32⟩
  | .hbm, ⟨20, _⟩ => ⟨S8448x4x1, .f32⟩
  | .hbm, ⟨21, _⟩ => ⟨S8448x4x512, .f32⟩
  | .hbm, ⟨22, _⟩ => ⟨S8448x4x512, .f32⟩
  | .hbm, ⟨23, _⟩ => ⟨S8448x4x512, .bf16⟩
  | .hbm, ⟨24, _⟩ => ⟨S8448x4x512, .f32⟩
  | .hbm, ⟨25, _⟩ => ⟨S8448x4x512, .f32⟩
  | .hbm, ⟨26, _⟩ => ⟨S8448x4x512, .f32⟩
  | .hbm, ⟨27, _⟩ => ⟨S_, .f32⟩
  | .hbm, ⟨28, _⟩ => ⟨S8448x4x512, .f32⟩
  | .hbm, ⟨29, _⟩ => ⟨S8448x4x512, .f32⟩
  | .hbm, ⟨30, _⟩ => ⟨S_, .f32⟩
  | .hbm, ⟨31, _⟩ => ⟨S8448x4x512, .f32⟩
  | .hbm, ⟨32, _⟩ => ⟨S8448x4x512, .f32⟩
  | .hbm, ⟨33, _⟩ => ⟨S8448x4x512, .f32⟩
  | .hbm, ⟨34, _⟩ => ⟨S8448x4x512, .f32⟩
  | .hbm, ⟨35, _⟩ => ⟨S8448x2048, .f32⟩
  | .hbm, ⟨36, _⟩ => ⟨S2048x1024, .f32⟩
  | .hbm, ⟨37, _⟩ => ⟨S8448x1024, .f32⟩
  | .hbm, ⟨38, _⟩ => ⟨S1x1x1024, .f32⟩
  | .hbm, ⟨39, _⟩ => ⟨S1x1024, .f32⟩
  | .hbm, ⟨40, _⟩ => ⟨S256x1024, .f32⟩
  | .hbm, ⟨41, _⟩ => ⟨S1x1x1024, .f32⟩
  | .hbm, ⟨42, _⟩ => ⟨S1x1024, .f32⟩
  | .hbm, ⟨43, _⟩ => ⟨S8192x1024, .f32⟩
  | .hbm, ⟨44, _⟩ => ⟨S8448x1024, .f32⟩
  | .hbm, ⟨45, _⟩ => ⟨S8448x1024, .f32⟩
  | .hbm, ⟨46, _⟩ => ⟨S8448x1024, .f32⟩
  | .hbm, ⟨47, _⟩ => ⟨S8448x2048, .bf16⟩
  | .hbm, ⟨48, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Merge.lean ====
abbrev S256x1024 : Shape := ⟨2, ![256, 1024]⟩
abbrev S8192x1024 : Shape := ⟨2, ![8192, 1024]⟩
abbrev S8448x512 : Shape := ⟨2, ![8448, 512]⟩
abbrev S8448x2560 : Shape := ⟨2, ![8448, 2560]⟩
abbrev S1x128 : Shape := ⟨2, ![1, 128]⟩
abbrev S1024x1024 : Shape := ⟨2, ![1024, 1024]⟩
abbrev S2x1x1024 : Shape := ⟨3, ![2, 1, 1024]⟩
abbrev S8448x1024 : Shape := ⟨2, ![8448, 1024]⟩
abbrev S256x512 : Shape := ⟨2, ![256, 512]⟩
abbrev S1x1x1024 : Shape := ⟨3, ![1, 1, 1024]⟩
abbrev S256x128 : Shape := ⟨2, ![256, 128]⟩
abbrev S256 : Shape := ⟨1, ![256]⟩
abbrev S256x1 : Shape := ⟨2, ![256, 1]⟩
abbrev S1x1024 : Shape := ⟨2, ![1, 1024]⟩

abbrev nBuf : Space → Nat
  | .hbm => 12
  | .vmem => 21
  | .smem => 0
  | _ => 0

abbrev bufTy : (tb : Table) → Fin (tcTables nBuf tb) → BufTy
  | .hbm, ⟨0, _⟩ => ⟨S256x1024, .f32⟩
  | .hbm, ⟨1, _⟩ => ⟨S8192x1024, .f32⟩
  | .hbm, ⟨2, _⟩ => ⟨S8448x512, .f32⟩
  | .hbm, ⟨3, _⟩ => ⟨S8448x512, .f32⟩
  | .hbm, ⟨4, _⟩ => ⟨S8448x2560, .f32⟩
  | .hbm, ⟨5, _⟩ => ⟨S1x128, .f32⟩
  | .hbm, ⟨6, _⟩ => ⟨S8448x512, .f32⟩
  | .hbm, ⟨7, _⟩ => ⟨S1024x1024, .bf16⟩
  | .hbm, ⟨8, _⟩ => ⟨S2x1x1024, .f32⟩
  | .hbm, ⟨9, _⟩ => ⟨S8448x1024, .f32⟩
  | .hbm, ⟨10, _⟩ => ⟨S8448x1024, .bf16⟩
  | .hbm, ⟨11, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S1x128, .f32⟩
  | .local _ .vmem, ⟨10, _⟩ => ⟨S256x512, .f32⟩
  | .local _ .vmem, ⟨11, _⟩ => ⟨S256x512, .f32⟩
  | .local _ .vmem, ⟨12, _⟩ => ⟨S1024x1024, .bf16⟩
  | .local _ .vmem, ⟨13, _⟩ => ⟨S1x1x1024, .f32⟩
  | .local _ .vmem, ⟨14, _⟩ => ⟨S1x1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S256x1024 : Shape := ⟨2, ![256, 1024]⟩
abbrev S8192x1024 : Shape := ⟨2, ![8192, 1024]⟩
abbrev S8448x512 : Shape := ⟨2, ![8448, 512]⟩
abbrev S8448x2560 : Shape := ⟨2, ![8448, 2560]⟩
abbrev S1x128 : Shape := ⟨2, ![1, 128]⟩
abbrev S1024x1024 : Shape := ⟨2, ![1024, 1024]⟩
abbrev S2x1x1024 : Shape := ⟨3, ![2, 1, 1024]⟩
abbrev S8448x4x128 : Shape := ⟨3, ![8448, 4, 128]⟩
abbrev S128 : Shape := ⟨1, ![128]⟩
abbrev S_ : Shape := ⟨0, ![]⟩
abbrev S8448x4 : Shape := ⟨2, ![8448, 4]⟩
abbrev S8448x4x1 : Shape := ⟨3, ![8448, 4, 1]⟩
abbrev S1x1x128 : Shape := ⟨3, ![1, 1, 128]⟩
abbrev S8448x1024 : Shape := ⟨2, ![8448, 1024]⟩
abbrev S1x1x1024 : Shape := ⟨3, ![1, 1, 1024]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S8192x1024, .f32⟩
  | .hbm, ⟨2, _⟩ => ⟨S8448x512, .f32⟩
  | .hbm, ⟨3, _⟩ => ⟨S8448x512, .f32⟩
  | .hbm, ⟨4, _⟩ => ⟨S8448x2560, .f32⟩
  | .hbm, ⟨5, _⟩ => ⟨S1x128, .f32⟩
  | .hbm, ⟨6, _⟩ => ⟨S8448x512, .f32⟩
  | .hbm, ⟨7, _⟩ => ⟨S1024x1024, .bf16⟩
  | .hbm, ⟨8, _⟩ => ⟨S2x1x1024, .f32⟩
  | .hbm, ⟨9, _⟩ => ⟨S8448x512, .f32⟩
  | .hbm, ⟨10, _⟩ => ⟨S8448x4x128, .f32⟩
  | .hbm, ⟨11, _⟩ => ⟨S128, .f32⟩
  | .hbm, ⟨12, _⟩ => ⟨S8448x4x128, .f32⟩
  | .hbm, ⟨13, _⟩ => ⟨S_, .f32⟩
  | .hbm, ⟨14, _⟩ => ⟨S8448x4, .f32⟩
  | .hbm, ⟨15, _⟩ => ⟨S8448x4x1, .f32⟩
  | .hbm, ⟨16, _⟩ => ⟨S_, .f32⟩
  | .hbm, ⟨17, _⟩ => ⟨S8448x4x1, .f32⟩
  | .hbm, ⟨18, _⟩ => ⟨S8448x4x1, .f32⟩
  | .hbm, ⟨19, _⟩ => ⟨S_, .f32⟩
  | .hbm, ⟨20, _⟩ => ⟨S8448x4x1, .f32⟩
  | .hbm, ⟨21, _⟩ => ⟨S8448x4x1, .f32⟩
  | .hbm, ⟨22, _⟩ => ⟨S8448x4x1, .f32⟩
  | .hbm, ⟨23, _⟩ => ⟨S8448x4x128, .f32⟩
  | .hbm, ⟨24, _⟩ => ⟨S8448x4x128, .f32⟩
  | .hbm, ⟨25, _⟩ => ⟨S1x1x128, .f32⟩
  | .hbm, ⟨26, _⟩ => ⟨S8448x4x128, .f32⟩
  | .hbm, ⟨27, _⟩ => ⟨S8448x4x128, .f32⟩
  | .hbm, ⟨28, _⟩ => ⟨S8448x512, .f32⟩
  | .hbm, ⟨29, _⟩ => ⟨S8448x4x128, .f32⟩
  | .hbm, ⟨30, _⟩ => ⟨S8448x4x128, .f32⟩
  | .hbm, ⟨31, _⟩ => ⟨S8448x4x128, .f32⟩
  | .hbm, ⟨32, _⟩ => ⟨S_, .f32⟩
  | .hbm, ⟨33, _⟩ => ⟨S8448x4x128, .f32⟩
  | .hbm, ⟨34, _⟩ => ⟨S8448x4x128, .f32⟩
  | .hbm, ⟨35, _⟩ => ⟨S_, .f32⟩
  | .hbm, ⟨36, _⟩ => ⟨S8448x4x128, .f32⟩
  | .hbm, ⟨37, _⟩ => ⟨S8448x4x128, .f32⟩
  | .hbm, ⟨38, _⟩ => ⟨S8448x4x128, .f32⟩
  | .hbm, ⟨39, _⟩ => ⟨S8448x4x128, .f32⟩
  | .hbm, ⟨40, _⟩ => ⟨S8448x512, .f32⟩
  | .hbm, ⟨41, _⟩ => ⟨S8448x1024, .f32⟩
  | .hbm, ⟨42, _⟩ => ⟨S1024x1024, .f32⟩
  | .hbm, ⟨43, _⟩ => ⟨S8448x1024, .f32⟩
  | .hbm, ⟨44, _⟩ => ⟨S8448x1024, .f32⟩
  | .hbm, ⟨45, _⟩ => ⟨S1x1x1024, .f32⟩
  | .hbm, ⟨46, _⟩ => ⟨S1x1024, .f32⟩
  | .hbm, ⟨47, _⟩ => ⟨S256x1024, .f32⟩
  | .hbm, ⟨48, _⟩ => ⟨S1x1x1024, .f32⟩
  | .hbm, ⟨49, _⟩ => ⟨S1x1024, .f32⟩
  | .hbm, ⟨50, _⟩ => ⟨S8192x1024, .f32⟩
  | .hbm, ⟨51, _⟩ => ⟨S8448x1024, .f32⟩
  | .hbm, ⟨52, _⟩ => ⟨S8448x1024, .f32⟩
  | .hbm, ⟨53, _⟩ => ⟨S8448x1024, .f32⟩
  | .hbm, ⟨54, _⟩ => ⟨S8448x1024, .bf16⟩
  | .hbm, ⟨55, _⟩ => ⟨S8448x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Proof.KernelIdeal.Visit.lean ====
/- What one visit of the kernel leaves: the six gradients' blocks and the two carried states, read back from what the
   body's run stored; at the first visit and at a later one. -/
module

public import proofs.«01_k».proof.Proof.Gen.KernelIdeal.Frame.RunB

@[expose] public section

set_option maxRecDepth 16384

noncomputable section

namespace Cert.KernelIdeal.Ret

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

/-- What a visit leaves: the forward direction's gradients, the backward direction's, and the states' gradients. -/
structure Left (F : FTy → Type) [FloatOps F] where
  dqf : Vec F S256x1024 .bf16
  dkf : Vec F S256x1024 .bf16
  dvf : Vec F S256x2048 .bf16
  dqb : Vec F S256x1024 .bf16
  dkb : Vec F S256x1024 .bf16
  dvb : Vec F S256x2048 .bf16
  carry : Vec F S2x4x512x256 .f32

/-- The stored pieces read back, whatever the buffers held before. -/
def Left.of (L14 : List (View.Piece (Elt F) S256x1024 .bf16)) (L15 : List (View.Piece (Elt F) S256x1024 .bf16)) (L16 : List (View.Piece (Elt F) S256x2048 .bf16))
    (L17 : List (View.Piece (Elt F) S256x1024 .bf16)) (L18 : List (View.Piece (Elt F) S256x1024 .bf16)) (L19 : List (View.Piece (Elt F) S256x2048
    .bf16)) (LS : List (View.Piece (Elt F) S2x4x512x256 .f32)) : Left F where
  dqf := VO0_14.read (Elt F) (VO0_14.writes (Elt F) VO0_14.junk L14)
  dkf := VO0_15.read (Elt F) (VO0_15.writes (Elt F) VO0_15.junk L15)
  dvf := VO0_16.read (Elt F) (VO0_16.writes (Elt F) VO0_16.junk L16)
  dqb := VO0_17.read (Elt F) (VO0_17.writes (Elt F) VO0_17.junk L17)
  dkb := VO0_18.read (Elt F) (VO0_18.writes (Elt F) VO0_18.junk L18)
  dvb := VO0_19.read (Elt F) (VO0_19.writes (Elt F) VO0_19.junk L19)
  carry := VS0_0.read (Elt F) (VS0_0.writes (Elt F) VS0_0.junk LS)

/-- Every element of the buffer is stored by one of the pieces. -/
def Full {S : Shape} {e : EltTy} (L : List (View.Piece (Elt F) S e)) : Prop :=
  ∀ y : S.Idx, ∃ pc ∈ L, y ∈ pc.1.set

section visit

variable (c : Dev nD) (i : grid0.Coords)
  (arg1 : Memref sig .tc .vmem S256x1024 .bf16) (harg1 : arg1.IsWhole) (arg2 : Memref sig .tc .vmem S256x1024 .bf16) (harg2 : arg2.IsWhole) (arg3 :
  Memref sig .tc .vmem S256x2048 .bf16) (harg3 : arg3.IsWhole) (arg4 : Memref sig .tc .vmem S256x128 .f32) (harg4 : arg4.IsWhole) (arg5 : Memref sig
  .tc .vmem S256x128 .f32) (harg5 : arg5.IsWhole) (arg6 : Memref sig .tc .vmem S1x4x512x256 .bf16) (harg6 : arg6.IsWhole) (arg7 : Memref sig .tc .vmem
  S256x2048 .bf16) (harg7 : arg7.IsWhole) (arg8 : Memref sig .tc .vmem S256x1024 .bf16) (harg8 : arg8.IsWhole) (arg9 : Memref sig .tc .vmem S256x1024
  .bf16) (harg9 : arg9.IsWhole) (arg10 : Memref sig .tc .vmem S256x2048 .bf16) (harg10 : arg10.IsWhole) (arg11 : Memref sig .tc .vmem S256x128 .f32)
  (harg11 : arg11.IsWhole) (arg12 : Memref sig .tc .vmem S256x128 .f32) (harg12 : arg12.IsWhole) (arg13 : Memref sig .tc .vmem S1x4x512x256 .bf16)
  (harg13 : arg13.IsWhole) (arg14 : Memref sig .tc .vmem S256x2048 .bf16) (harg14 : arg14.IsWhole) (arg15 : Memref sig .tc .vmem S256x1024 .bf16)
  (harg15 : arg15.IsWhole) (arg16 : Memref sig .tc .vmem S256x1024 .bf16) (harg16 : arg16.IsWhole) (arg17 : Memref sig .tc .vmem S256x2048 .bf16)
  (harg17 : arg17.IsWhole) (arg18 : Memref sig .tc .vmem S256x1024 .bf16) (harg18 : arg18.IsWhole) (arg19 : Memref sig .tc .vmem S256x1024 .bf16)
  (harg19 : arg19.IsWhole) (arg20 : Memref sig .tc .vmem S256x2048 .bf16) (harg20 : arg20.IsWhole) (arg21 : Memref sig .tc .vmem S2x4x512x256 .f32)
  (harg21 : arg21.IsWhole)
  (x0 : Vec F S256x1024 .bf16) (x1 : Vec F S256x1024 .bf16) (x2 : Vec F S256x2048 .bf16) (x3 : Vec F S256x128 .f32) (x4 : Vec F S256x128 .f32) (x5 : Vec
  F S1x4x512x256 .bf16) (x6 : Vec F S256x2048 .bf16) (x7 : Vec F S256x1024 .bf16) (x8 : Vec F S256x1024 .bf16) (x9 : Vec F S256x2048 .bf16) (x10 : Vec
  F S256x128 .f32) (x11 : Vec F S256x128 .f32) (x12 : Vec F S1x4x512x256 .bf16) (x13 : Vec F S256x2048 .bf16)

/-- What the first visit leaves. -/
def leftA (hc0 : cond0_0 i) : Left F :=
  let R := kernelRun0_A c i arg1 harg1 arg2 harg2 arg3 harg3 arg4 harg4 arg5 harg5 arg6 harg6 arg7 harg7 arg8 harg8 arg9 harg9 arg10 harg10 arg11 harg11
    arg12 harg12 arg13 harg13 arg14 harg14 arg15 harg15 arg16 harg16 arg17 harg17 arg18 harg18 arg19 harg19 arg20 harg20 arg21 harg21 hc0 x0 x1 x2 x3
    x4 x5 x6 x7 x8 x9 x10 x11 x12 x13
  Left.of R.1 R.2.1 R.2.2.1 R.2.2.2.1 R.2.2.2.2.1 R.2.2.2.2.2.1 R.2.2.2.2.2.2.1

/-- The first visit stores every element of the six blocks and of the carried states. -/
theorem fullA (hc0 : cond0_0 i) :
    let R := kernelRun0_A c i arg1 harg1 arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20 harg20 arg21 harg21 hc0 x0 x1 x2 x3
      x4 x5 x6 x7 x8 x9 x10 x11 x12 x13;
    Full R.1 ∧ Full R.2.1 ∧ Full R.2.2.1 ∧ Full R.2.2.2.1 ∧ Full R.2.2.2.2.1 ∧ Full R.2.2.2.2.2.1 ∧ Full R.2.2.2.2.2.2.1 := by
  intro R
  refine ⟨fun y => ?_, fun y => ?_, fun y => ?_, fun y => ?_, fun y => ?_, fun y => ?_, fun y => ?_⟩
  · exact View.cover_of_tiledL R.1 S256x256.size (by sl_kernel_rfl) y
  · exact View.cover_of_tiledL R.2.1 S256x256.size (by sl_kernel_rfl) y
  · exact View.cover_of_tiledL R.2.2.1 S256x512.size (by sl_kernel_rfl) y
  · exact View.cover_of_tiledL R.2.2.2.1 S256x256.size (by sl_kernel_rfl) y
  · exact View.cover_of_tiledL R.2.2.2.2.1 S256x256.size (by sl_kernel_rfl) y
  · exact View.cover_of_tiledL R.2.2.2.2.2.1 S256x512.size (by sl_kernel_rfl) y
  · exact View.cover_of_wholeMem R.2.2.2.2.2.2.1 (by sl_whole_mem) y

/-- What a later visit leaves. -/
def leftB (hc0 : ¬cond0_0 i) (xs0 : Vec F S2x4x512x256 .f32) : Left F :=
  let R := kernelRun0_B c i arg1 harg1 arg2 harg2 arg3 harg3 arg4 harg4 arg5 harg5 arg6 harg6 arg7 harg7 arg8 harg8 arg9 harg9 arg10 harg10 arg11 harg11
    arg12 harg12 arg13 harg13 arg14 harg14 arg15 harg15 arg16 harg16 arg17 harg17 arg18 harg18 arg19 harg19 arg20 harg20 arg21 harg21 hc0 x0 x1 x2 x3
    x4 x5 x6 x7 x8 x9 x10 x11 x12 x13 xs0
  Left.of R.1 R.2.1 R.2.2.1 R.2.2.2.1 R.2.2.2.2.1 R.2.2.2.2.2.1 R.2.2.2.2.2.2.1

/-- A later visit stores every element of the six blocks and of the carried states. -/
theorem fullB (hc0 : ¬cond0_0 i) (xs0 : Vec F S2x4x512x256 .f32) :
    let R := kernelRun0_B c i arg1 harg1 arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20 harg20 arg21 harg21 hc0 x0 x1 x2 x3
      x4 x5 x6 x7 x8 x9 x10 x11 x12 x13 xs0;
    Full R.1 ∧ Full R.2.1 ∧ Full R.2.2.1 ∧ Full R.2.2.2.1 ∧ Full R.2.2.2.2.1 ∧ Full R.2.2.2.2.2.1 ∧ Full R.2.2.2.2.2.2.1 := by
  intro R
  refine ⟨fun y => ?_, fun y => ?_, fun y => ?_, fun y => ?_, fun y => ?_, fun y => ?_, fun y => ?_⟩
  · exact View.cover_of_tiledL R.1 S256x256.size (by sl_kernel_rfl) y
  · exact View.cover_of_tiledL R.2.1 S256x256.size (by sl_kernel_rfl) y
  · exact View.cover_of_tiledL R.2.2.1 S256x512.size (by sl_kernel_rfl) y
  · exact View.cover_of_tiledL R.2.2.2.1 S256x256.size (by sl_kernel_rfl) y
  · exact View.cover_of_tiledL R.2.2.2.2.1 S256x256.size (by sl_kernel_rfl) y
  · exact View.cover_of_tiledL R.2.2.2.2.2.1 S256x512.size (by sl_kernel_rfl) y
  · exact View.cover_of_tiledL R.2.2.2.2.2.2.1 S1x1x512x256.size (by sl_kernel_rfl) y

end visit

variable (m : (ℓ : Loc nD τ sig) → Buf (Elt F) ℓ)

/-- The first visit at its blocks. -/
def firstAt (c : Dev nD) (t : Fin cfg0.N) (h : t.val = 0) : Left F :=
  leftA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6
    t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13
    t) (hs0_13 t) (ms0_14 t) (hs0_14 t) (ms0_15 t) (hs0_15 t) (ms0_16 t) (hs0_16 t) (ms0_17 t) (hs0_17 t) (ms0_18 t) (hs0_18 t) (ms0_19 t) (hs0_19 t)
    scM0_0 (Memref.isWhole_whole _) (iblk m c 0 t) (iblk m c 1 t) (iblk m c 2 t) (iblk m c 3 t) (iblk m c 4 t) (iblk m c 5 t) (iblk m c 6 t) (iblk m c
    7 t) (iblk m c 8 t) (iblk m c 9 t) (iblk m c 10 t) (iblk m c 11 t) (iblk m c 12 t) (iblk m c 13 t) ((hcond0_0 t).mpr (by rw [h]))

theorem later (t : Fin cfg0.N) (h : t.val ≠ 0) : ¬cond0_0 (grid0.coords t) := fun e => h (by
  have h1 := (hcond0_0 t).mp e
  have h2 : t.val < 33 := lt_of_lt_of_eq t.isLt (show cfg0.N = 33 from N_0)
  omega)

/-- A later visit at its blocks, over the carried states that it finds. -/
def nextAt (c : Dev nD) (t : Fin cfg0.N) (h : t.val ≠ 0) (xs0 : Vec F S2x4x512x256 .f32) : Left F :=
  leftB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6
    t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13
    t) (hs0_13 t) (ms0_14 t) (hs0_14 t) (ms0_15 t) (hs0_15 t) (ms0_16 t) (hs0_16 t) (ms0_17 t) (hs0_17 t) (ms0_18 t) (hs0_18 t) (ms0_19 t) (hs0_19 t)
    scM0_0 (Memref.isWhole_whole _) (iblk m c 0 t) (iblk m c 1 t) (iblk m c 2 t) (iblk m c 3 t) (iblk m c 4 t) (iblk m c 5 t) (iblk m c 6 t) (iblk m c
    7 t) (iblk m c 8 t) (iblk m c 9 t) (iblk m c 10 t) (iblk m c 11 t) (iblk m c 12 t) (iblk m c 13 t) (later t h) xs0

/-- What visit `n` leaves. -/
def leaves (c : Dev nD) : (n : ℕ) → n < cfg0.N → Left F
  | 0, hn => firstAt m c ⟨0, hn⟩ rfl
  | n + 1, hn => nextAt m c ⟨n + 1, hn⟩ (Nat.succ_ne_zero n) (leaves c n (Nat.lt_of_succ_lt hn)).carry

theorem leaves_first (c : Dev nD) (t : Fin cfg0.N) (h : t.val = 0) : leaves m c t.val t.isLt = firstAt m c t h := by
  obtain ⟨n, hn⟩ := t
  dsimp only at h
  subst h
  rfl

theorem leaves_next (c : Dev nD) (t : Fin cfg0.N) (h : t.val ≠ 0) :
    leaves m c t.val t.isLt
      = nextAt m c t h (leaves m c (t.val - 1) (Nat.lt_of_le_of_lt (Nat.sub_le _ _) t.isLt)).carry := by
  obtain ⟨n, hn⟩ := t
  cases n with
  | zero => exact absurd rfl h
  | succ n => rfl

end Cert.KernelIdeal.Ret

end
-- ==== Proof.KernelIdeal.Launch.lean ====
/- The launch: the pipeline's data at every visit, the body's obligation, the run and the frame. -/
module

public import proofs.«01_k».proof.Proof.KernelIdeal.Visit
public import Idealize.ShloMosaic.Lib.Claim

@[expose] public section

set_option maxRecDepth 16384

noncomputable section

namespace Cert.KernelIdeal.Ret

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What stands between the visits: before the first anything in the carried buffer, later what the visit before left. -/
def between (c : Dev nD) : (n : ℕ) → n ≤ cfg0.N → sProp 𝕄
  | 0, _ => Pipeline.ΦA spec0 c
  | n + 1, hn => iprop(iprop(owns (c : Thread nD τ) scM0_0 fullShare (leaves m c n hn).carry) ∗ (∃ r, prngReg c r))

theorem between_zero (c : Dev nD) (n : ℕ) (h : n ≤ cfg0.N) (hz : n = 0) : between m c n h = Pipeline.ΦA spec0 c := by
  subst hz; rfl

theorem between_succ (c : Dev nD) (n : ℕ) (hn : n < cfg0.N) :
    between m c (n + 1) hn
      = iprop(iprop(owns (c : Thread nD τ) scM0_0 fullShare (leaves m c n hn).carry) ∗ (∃ r, prngReg c r)) := rfl

theorem between_pos (c : Dev nD) (n : ℕ) (h : n ≤ cfg0.N) (hz : n ≠ 0) :
    between m c n h
      = iprop(iprop(owns (c : Thread nD τ) scM0_0 fullShare (leaves m c (n - 1) (by omega)).carry) ∗ (∃ r, prngReg c r)) := by
  cases n with
  | zero => exact absurd rfl hz
  | succ n => rfl

/-- The pipeline's data: inputs at their blocks, outputs at what the visit leaves. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (leaves m c t.val t.isLt).dqf
    | ⟨15, _⟩ => (leaves m c t.val t.isLt).dkf
    | ⟨16, _⟩ => (leaves m c t.val t.isLt).dvf
    | ⟨17, _⟩ => (leaves m c t.val t.isLt).dqb
    | ⟨18, _⟩ => (leaves m c t.val t.isLt).dkb
    | ⟨19, _⟩ => (leaves m c t.val t.isLt).dvb
    | ⟨_ + 20, h⟩ => absurd h (Nat.not_lt.2 (Nat.le_add_left _ _))
  Φ t := between m c t.val (Nat.le_of_lt_succ t.isLt)
  q w := Pipeline.shareOf spec0 w
  owed _ := 0

theorem data_A (c : Dev nD) (w : Fin cfg0.W) : (data m 0 c).A w = V m c (Pipeline.arrRef spec0 w) := by
  dsimp only [data]

theorem data_before (c : Dev nD) (t : Fin cfg0.N) :
    (data m 0 c).Φ t.castSucc = between m c t.val (Nat.le_of_lt t.isLt) := by
  dsimp only [data]; exact Pipeline.Dat.Φ_castSucc (between m c) t

theorem in0 (c : Dev nD) (t : Fin cfg0.N) : (data m 0 c).after 0 t = iblk m c 0 t := by dsimp only [data]
theorem in1 (c : Dev nD) (t : Fin cfg0.N) : (data m 0 c).after 1 t = iblk m c 1 t := by dsimp only [data]
theorem in2 (c : Dev nD) (t : Fin cfg0.N) : (data m 0 c).after 2 t = iblk m c 2 t := by dsimp only [data]
theorem in3 (c : Dev nD) (t : Fin cfg0.N) : (data m 0 c).after 3 t = iblk m c 3 t := by dsimp only [data]
theorem in4 (c : Dev nD) (t : Fin cfg0.N) : (data m 0 c).after 4 t = iblk m c 4 t := by dsimp only [data]
theorem in5 (c : Dev nD) (t : Fin cfg0.N) : (data m 0 c).after 5 t = iblk m c 5 t := by dsimp only [data]
theorem in6 (c : Dev nD) (t : Fin cfg0.N) : (data m 0 c).after 6 t = iblk m c 6 t := by dsimp only [data]
theorem in7 (c : Dev nD) (t : Fin cfg0.N) : (data m 0 c).after 7 t = iblk m c 7 t := by dsimp only [data]
theorem in8 (c : Dev nD) (t : Fin cfg0.N) : (data m 0 c).after 8 t = iblk m c 8 t := by dsimp only [data]
theorem in9 (c : Dev nD) (t : Fin cfg0.N) : (data m 0 c).after 9 t = iblk m c 9 t := by dsimp only [data]
theorem in10 (c : Dev nD) (t : Fin cfg0.N) : (data m 0 c).after 10 t = iblk m c 10 t := by dsimp only [data]
theorem in11 (c : Dev nD) (t : Fin cfg0.N) : (data m 0 c).after 11 t = iblk m c 11 t := by dsimp only [data]
theorem in12 (c : Dev nD) (t : Fin cfg0.N) : (data m 0 c).after 12 t = iblk m c 12 t := by dsimp only [data]
theorem in13 (c : Dev nD) (t : Fin cfg0.N) : (data m 0 c).after 13 t = iblk m c 13 t := by dsimp only [data]
theorem out14 (c : Dev nD) (t : Fin cfg0.N) : (data m 0 c).after 14 t = (leaves m c t.val t.isLt).dqf := by dsimp only [data]
theorem out15 (c : Dev nD) (t : Fin cfg0.N) : (data m 0 c).after 15 t = (leaves m c t.val t.isLt).dkf := by dsimp only [data]
theorem out16 (c : Dev nD) (t : Fin cfg0.N) : (data m 0 c).after 16 t = (leaves m c t.val t.isLt).dvf := by dsimp only [data]
theorem out17 (c : Dev nD) (t : Fin cfg0.N) : (data m 0 c).after 17 t = (leaves m c t.val t.isLt).dqb := by dsimp only [data]
theorem out18 (c : Dev nD) (t : Fin cfg0.N) : (data m 0 c).after 18 t = (leaves m c t.val t.isLt).dkb := by dsimp only [data]
theorem out19 (c : Dev nD) (t : Fin cfg0.N) : (data m 0 c).after 19 t = (leaves m c t.val t.isLt).dvb := by dsimp only [data]

/-! Every input's buffer holds its block when the body starts. -/

theorem find0 (c : Dev nD) (t : Fin cfg0.N) (d) : (data m 0 c).before 0 t d = iblk m c 0 t :=
  before0_0_of m (data m 0 c) (data_A m c 0) (in0 m c) t d
theorem find1 (c : Dev nD) (t : Fin cfg0.N) (d) : (data m 0 c).before 1 t d = iblk m c 1 t :=
  before0_1_of m (data m 0 c) (data_A m c 1) (in1 m c) t d
theorem find2 (c : Dev nD) (t : Fin cfg0.N) (d) : (data m 0 c).before 2 t d = iblk m c 2 t :=
  before0_2_of m (data m 0 c) (data_A m c 2) (in2 m c) t d
theorem find3 (c : Dev nD) (t : Fin cfg0.N) (d) : (data m 0 c).before 3 t d = iblk m c 3 t :=
  before0_3_of m (data m 0 c) (data_A m c 3) (in3 m c) t d
theorem find4 (c : Dev nD) (t : Fin cfg0.N) (d) : (data m 0 c).before 4 t d = iblk m c 4 t :=
  before0_4_of m (data m 0 c) (data_A m c 4) (in4 m c) t d
theorem find5 (c : Dev nD) (t : Fin cfg0.N) (d) : (data m 0 c).before 5 t d = iblk m c 5 t :=
  before0_5_of m (data m 0 c) (data_A m c 5) (in5 m c) t d
theorem find6 (c : Dev nD) (t : Fin cfg0.N) (d) : (data m 0 c).before 6 t d = iblk m c 6 t :=
  before0_6_of m (data m 0 c) (data_A m c 6) (in6 m c) t d
theorem find7 (c : Dev nD) (t : Fin cfg0.N) (d) : (data m 0 c).before 7 t d = iblk m c 7 t :=
  before0_7_of m (data m 0 c) (data_A m c 7) (in7 m c) t d
theorem find8 (c : Dev nD) (t : Fin cfg0.N) (d) : (data m 0 c).before 8 t d = iblk m c 8 t :=
  before0_8_of m (data m 0 c) (data_A m c 8) (in8 m c) t d
theorem find9 (c : Dev nD) (t : Fin cfg0.N) (d) : (data m 0 c).before 9 t d = iblk m c 9 t :=
  before0_9_of m (data m 0 c) (data_A m c 9) (in9 m c) t d
theorem find10 (c : Dev nD) (t : Fin cfg0.N) (d) : (data m 0 c).before 10 t d = iblk m c 10 t :=
  before0_10_of m (data m 0 c) (data_A m c 10) (in10 m c) t d
theorem find11 (c : Dev nD) (t : Fin cfg0.N) (d) : (data m 0 c).before 11 t d = iblk m c 11 t :=
  before0_11_of m (data m 0 c) (data_A m c 11) (in11 m c) t d
theorem find12 (c : Dev nD) (t : Fin cfg0.N) (d) : (data m 0 c).before 12 t d = iblk m c 12 t :=
  before0_12_of m (data m 0 c) (data_A m c 12) (in12 m c) t d
theorem find13 (c : Dev nD) (t : Fin cfg0.N) (d) : (data m 0 c).before 13 t d = iblk m c 13 t :=
  before0_13_of m (data m 0 c) (data_A m c 13) (in13 m c) t d

/-- What the body is given at a visit. -/
def given (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d))
    ∗ (∃ d, owns (c : Thread nD τ) (ms0_5 t) fullShare ((data m 0 c).before 5 t d))
    ∗ (∃ d, owns (c : Thread nD τ) (ms0_6 t) fullShare ((data m 0 c).before 6 t d))
    ∗ (∃ d, owns (c : Thread nD τ) (ms0_7 t) fullShare ((data m 0 c).before 7 t d))
    ∗ (∃ d, owns (c : Thread nD τ) (ms0_8 t) fullShare ((data m 0 c).before 8 t d))
    ∗ (∃ d, owns (c : Thread nD τ) (ms0_9 t) fullShare ((data m 0 c).before 9 t d))
    ∗ (∃ d, owns (c : Thread nD τ) (ms0_10 t) fullShare ((data m 0 c).before 10 t d))
    ∗ (∃ d, owns (c : Thread nD τ) (ms0_11 t) fullShare ((data m 0 c).before 11 t d))
    ∗ (∃ d, owns (c : Thread nD τ) (ms0_12 t) fullShare ((data m 0 c).before 12 t d))
    ∗ (∃ d, owns (c : Thread nD τ) (ms0_13 t) fullShare ((data m 0 c).before 13 t d))
    ∗ (∃ d, owns (c : Thread nD τ) (ms0_14 t) fullShare ((data m 0 c).before 14 t d))
    ∗ (∃ d, owns (c : Thread nD τ) (ms0_15 t) fullShare ((data m 0 c).before 15 t d))
    ∗ (∃ d, owns (c : Thread nD τ) (ms0_16 t) fullShare ((data m 0 c).before 16 t d))
    ∗ (∃ d, owns (c : Thread nD τ) (ms0_17 t) fullShare ((data m 0 c).before 17 t d))
    ∗ (∃ d, owns (c : Thread nD τ) (ms0_18 t) fullShare ((data m 0 c).before 18 t d))
    ∗ (∃ d, owns (c : Thread nD τ) (ms0_19 t) fullShare ((data m 0 c).before 19 t d)))

/-- What the body returns at a visit. -/
def returned (c : Dev nD) (t : Fin cfg0.N) : sProp 𝕄 :=
  iprop((data m 0 c).Φ t.succ ∗ (data m 0 c).owesAt () t.succ
    ∗ owns (c : Thread nD τ) (ms0_0 t) fullShare ((data m 0 c).after 0 t)
    ∗ owns (c : Thread nD τ) (ms0_1 t) fullShare ((data m 0 c).after 1 t)
    ∗ owns (c : Thread nD τ) (ms0_2 t) fullShare ((data m 0 c).after 2 t)
    ∗ owns (c : Thread nD τ) (ms0_3 t) fullShare ((data m 0 c).after 3 t)
    ∗ owns (c : Thread nD τ) (ms0_4 t) fullShare ((data m 0 c).after 4 t)
    ∗ owns (c : Thread nD τ) (ms0_5 t) fullShare ((data m 0 c).after 5 t)
    ∗ owns (c : Thread nD τ) (ms0_6 t) fullShare ((data m 0 c).after 6 t)
    ∗ owns (c : Thread nD τ) (ms0_7 t) fullShare ((data m 0 c).after 7 t)
    ∗ owns (c : Thread nD τ) (ms0_8 t) fullShare ((data m 0 c).after 8 t)
    ∗ owns (c : Thread nD τ) (ms0_9 t) fullShare ((data m 0 c).after 9 t)
    ∗ owns (c : Thread nD τ) (ms0_10 t) fullShare ((data m 0 c).after 10 t)
    ∗ owns (c : Thread nD τ) (ms0_11 t) fullShare ((data m 0 c).after 11 t)
    ∗ owns (c : Thread nD τ) (ms0_12 t) fullShare ((data m 0 c).after 12 t)
    ∗ owns (c : Thread nD τ) (ms0_13 t) fullShare ((data m 0 c).after 13 t)
    ∗ owns (c : Thread nD τ) (ms0_14 t) fullShare ((data m 0 c).after 14 t)
    ∗ owns (c : Thread nD τ) (ms0_15 t) fullShare ((data m 0 c).after 15 t)
    ∗ owns (c : Thread nD τ) (ms0_16 t) fullShare ((data m 0 c).after 16 t)
    ∗ owns (c : Thread nD τ) (ms0_17 t) fullShare ((data m 0 c).after 17 t)
    ∗ owns (c : Thread nD τ) (ms0_18 t) fullShare ((data m 0 c).after 18 t)
    ∗ owns (c : Thread nD τ) (ms0_19 t) fullShare ((data m 0 c).after 19 t))

set_option maxHeartbeats 16000000 in
/-- The body at a visit: the inputs hold their blocks, so the run of the visit's case applies. -/
theorem body (c : Dev nD) (t : Fin cfg0.N) :
    given m c t ⊢ wp frame (wpE (defs₀ (F := F)) Variants.none c none) Set.univ (bodyAt0 t) (fun _ => returned m c t) := by
  unfold given returned bodyAt0
  simp only [find0, find1, find2, find3, find4, find5, find6, find7, find8, find9, find10, find11, find12, find13]
  rw [show (data m 0 c).owesAt () t.succ = (data m 0 c).owesAt () t.castSucc from rfl,
    in0, in1, in2, in3, in4, in5, in6, in7, in8, in9, in10, in11, in12, in13, out14, out15, out16, out17, out18, out19]
  rw [show (data m 0 c).Φ t.succ = between m c (t.val + 1) t.isLt from rfl, between_succ]
  have hN : t.val < 33 := lt_of_lt_of_eq t.isLt (show cfg0.N = 33 from N_0)
  by_cases h : t.val = 0
  · rw [data_before m c t, between_zero m c _ _ h, PhiA0_eq]
    rw [leaves_first m c t h]
    unfold firstAt leftA Left.of; dsimp only
    have hc : cond0_0 (grid0.coords t) := (hcond0_0 t).mpr (by rw [h])
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    have hf := fullA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) hc
    dsimp only at hf
    iapply ((kernelRun0_A c (grid0.coords t) _ _ _ _ _ _ _ _ _ _ _ _ _ _ _ _ _ _ _ _ _ _ _ _ _ _ _ _ _ _ _ _ _ _ _ _ _ _ _ _ _ _ hc
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]; · iexact HS0
    iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%es0, HS0⟩⟩
    isplitl [HS0 Hg]
    · isplitl [HS0]
      · unfold owns; iexists _; isplitr
        swap; · iexact HS0
        ipureintro; exact View.read_writes_of_cover _ _ _ _ _ hf.2.2.2.2.2.2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; exact View.read_writes_of_cover _ _ _ _ _ hf.1
    isplitl [H15]
    · unfold owns; iexists _; isplitr
      swap; · iexact H15
      ipureintro; exact View.read_writes_of_cover _ _ _ _ _ hf.2.1
    isplitl [H16]
    · unfold owns; iexists _; isplitr
      swap; · iexact H16
      ipureintro; exact View.read_writes_of_cover _ _ _ _ _ hf.2.2.1
    isplitl [H17]
    · unfold owns; iexists _; isplitr
      swap; · iexact H17
      ipureintro; exact View.read_writes_of_cover _ _ _ _ _ hf.2.2.2.1
    isplitl [H18]
    · unfold owns; iexists _; isplitr
      swap; · iexact H18
      ipureintro; exact View.read_writes_of_cover _ _ _ _ _ hf.2.2.2.2.1
    unfold owns; iexists _; isplitr
    swap; · iexact H19
    ipureintro; exact View.read_writes_of_cover _ _ _ _ _ hf.2.2.2.2.2.1
  · rw [data_before m c t, between_pos m c _ _ h]
    rw [leaves_next m c t h]
    unfold nextAt leftB Left.of; dsimp only
    have hc : ¬cond0_0 (grid0.coords t) := later t h
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    have hf := fullB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) hc (leaves m c (t.val - 1) (Nat.lt_of_le_of_lt (Nat.sub_le _ _) t.isLt)).carry
    dsimp only at hf
    iapply ((kernelRun0_B c (grid0.coords t) _ _ _ _ _ _ _ _ _ _ _ _ _ _ _ _ _ _ _ _ _ _ _ _ _ _ _ _ _ _ _ _ _ _ _ _ _ _ _ _ _ _ hc
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]; · iexact HS0
    iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%es0, HS0⟩⟩
    isplitl [HS0 Hg]
    · isplitl [HS0]
      · unfold owns; iexists _; isplitr
        swap; · iexact HS0
        ipureintro; exact View.read_writes_of_cover _ _ _ _ _ hf.2.2.2.2.2.2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; exact View.read_writes_of_cover _ _ _ _ _ hf.1
    isplitl [H15]
    · unfold owns; iexists _; isplitr
      swap; · iexact H15
      ipureintro; exact View.read_writes_of_cover _ _ _ _ _ hf.2.1
    isplitl [H16]
    · unfold owns; iexists _; isplitr
      swap; · iexact H16
      ipureintro; exact View.read_writes_of_cover _ _ _ _ _ hf.2.2.1
    isplitl [H17]
    · unfold owns; iexists _; isplitr
      swap; · iexact H17
      ipureintro; exact View.read_writes_of_cover _ _ _ _ _ hf.2.2.2.1
    isplitl [H18]
    · unfold owns; iexists _; isplitr
      swap; · iexact H18
      ipureintro; exact View.read_writes_of_cover _ _ _ _ _ hf.2.2.2.2.1
    unfold owns; iexists _; isplitr
    swap; · iexact H19
    ipureintro; exact View.read_writes_of_cover _ _ _ _ _ hf.2.2.2.2.2.1

theorem defs_row (t : Fin cfg0.N) :
    defs₀ (F := F) .tc cfg0.body (cfg0.bodyArgs t (cfg0.slots t)) = bodyAt0 t := by
  unfold defs₀; rw [Defs.onTc_tc]

/-- The body's obligation at every visit. -/
theorem obligation (c : Dev nD) :
    BodyObligation (data (F := F) m 0 c) (defs₀ (F := F)) Variants.none () Set.univ := fun t => by
  rw [bigSep_W0, bigSep_W0, defs_row]
  exact triple_restated (body m c t) rfl .rfl fun _ => .rfl

theorem enters (c : Dev nD) : Pipeline.ΦA spec0 c ⊢ (data m 0 c).Φ 0 := by
  rw [show (data m 0 c).Φ 0 = between m c 0 (Nat.zero_le _) from rfl, between_zero m c 0 _ rfl]
  try exact Idealize.SL.BI.Entails.refl _

/-- After the last visit the carried buffer's contents are forgotten. -/
theorem ends (c : Dev nD) : (data m 0 c).Φ (Fin.last cfg0.N) ⊢ Pipeline.ΦA spec0 c := by
  have hN : cfg0.N = 33 := N_0
  rw [show (data m 0 c).Φ (Fin.last cfg0.N) = between m c (Fin.last cfg0.N).val (Nat.le_of_lt_succ (Fin.last cfg0.N).isLt) from rfl,
    between_pos m c _ _ (by rw [Fin.val_last]; omega), PhiA0_eq]
  iintro ⟨HS0, Hg⟩
  isplitl [HS0]
  · iexists _; iexact HS0
  iexact Hg

set_option backward.isDefEq.respectTransparency.types false in
/-- The launch: every array ends at what the pipeline's data say, and every counter at zero. -/
theorem runs : θ_run defs (onTc (τ := τ) (main (F := F))) (s₀ m ρ)
    (fun r => (Pipeline.FramePost cfgs (data m) 0 (V m)) r ∧ r.2.sem = fun _ => 0) :=
  Pipeline.θ_run_frame_track_shared (Q' := _) cfgs (data m) (0 : Fin 1) launch₀0 defs₀ Variants.none m ρ main
    (hbody := fun c => (obligation m c).loose) (hq := fun _ _ _ => rfl)
    (howed := fun _ _ => rfl) (V := V m) (hmain := hmain m Variants.none) (hA := data_A m) (hin := enters m) (hout := ends m)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (data m) (data_A m) ((θ_run defs _ _).mono (fun _ h => h.1) (runs m ρ)))
    ((θ_run defs _ _).mono (fun _ h => h.2) (runs m ρ))

end Cert.KernelIdeal.Ret

end
-- ==== Proof.Consts.lean ====
/- The named constants: what each stands for. The heads' log-decays are the logarithms they were rounded from, and a
   chunk's decay is the 256th power, which is the exponential of 256 log-decays. -/
module

public import proofs.«01_k».proof.Defs

@[expose] public section

set_option exponentiation.threshold 1000

noncomputable section

namespace Cert.KernelIdeal.Ret

open Cert.KernelIdeal Idealize.ShloMosaic

theorem log_32 : Named.named (F := Ideal) (φ := .f32) κ "log_gamma_32" 0xBD020AEC#32 = ((Real.log (31 / 32) : ℝ) : EReal) :=
  IdealRules.named_const.ideal_named_scalar (φ := .f32) κ _ _ _ rfl
theorem log_64 : Named.named (F := Ideal) (φ := .f32) κ "log_gamma_64" 0xBC8102B3#32 = ((Real.log (63 / 64) : ℝ) : EReal) :=
  IdealRules.named_const.ideal_named_scalar (φ := .f32) κ _ _ _ rfl
theorem log_128 : Named.named (F := Ideal) (φ := .f32) κ "log_gamma_128" 0xBC0080AC#32 = ((Real.log (127 / 128) : ℝ) : EReal) :=
  IdealRules.named_const.ideal_named_scalar (φ := .f32) κ _ _ _ rfl
theorem log_256 : Named.named (F := Ideal) (φ := .f32) κ "log_gamma_256" 0xBB80402B#32 = ((Real.log (255 / 256) : ℝ) : EReal) :=
  IdealRules.named_const.ideal_named_scalar (φ := .f32) κ _ _ _ rfl

theorem exp_log_256 {r : ℝ} (h : 0 < r) : Real.exp (Real.log r * 256) = r ^ 256 := by
  rw [mul_comm, show (256 : ℝ) = ((256 : ℕ) : ℝ) by norm_num, Real.exp_nat_mul, Real.exp_log h]

theorem chunk_32 : Named.named (F := Ideal) (φ := .f32) κ "chunk_decay_32" 0x399ACCA1#32 = ((Real.exp (Real.log (31 / 32) * 256) : ℝ) : EReal) :=
  (IdealRules.named_const.ideal_named_scalar (φ := .f32) κ _ _ _ rfl).trans
    (by rw [exp_log_256 (by norm_num)]; congr 1; norm_num)
theorem chunk_64 : Named.named (F := Ideal) (φ := .f32) κ "chunk_decay_64" 0x3C9160A5#32 = ((Real.exp (Real.log (63 / 64) * 256) : ℝ) : EReal) :=
  (IdealRules.named_const.ideal_named_scalar (φ := .f32) κ _ _ _ rfl).trans
    (by rw [exp_log_256 (by norm_num)]; congr 1; norm_num)
theorem chunk_128 : Named.named (F := Ideal) (φ := .f32) κ "chunk_decay_128" 0x3E097FCE#32 = ((Real.exp (Real.log (127 / 128) * 256) : ℝ) : EReal) :=
  (IdealRules.named_const.ideal_named_scalar (φ := .f32) κ _ _ _ rfl).trans
    (by rw [exp_log_256 (by norm_num)]; congr 1; norm_num)
theorem chunk_256 : Named.named (F := Ideal) (φ := .f32) κ "chunk_decay_256" 0x3EBBFC5D#32 = ((Real.exp (Real.log (255 / 256) * 256) : ℝ) : EReal) :=
  (IdealRules.named_const.ideal_named_scalar (φ := .f32) κ _ _ _ rfl).trans
    (by rw [exp_log_256 (by norm_num)]; congr 1; norm_num)

/-- Each named constant's entry in the table. -/
theorem preserves : Cert.preserves_Kernel_KernelIdeal := by
  refine ⟨?_, ?_, ?_, ?_, ?_, ?_, ?_, ?_⟩ <;> exact IdealRules.named_const.statement _ _ _ _ _ rfl

end Cert.KernelIdeal.Ret

end
-- ==== Proof.Host.lean ====
/- What the host prepares for the kernel, in the words of the problem: the rotated keys and the values by heads, the
   heads' log-decays, the states before every chunk in both directions, and the two tables of the rotation with the
   context's tokens unturned. -/
module

public import proofs.«01_k».proof.Proof.Gen.KernelIdeal.Frame.Runs
public import Idealize.ShloMosaic.Lib.Pipeline.ValueKit
public import Idealize.ShloMosaic.Lib.Claim
public import Idealize.ShloMosaic.Lib.StableHlo.RunRead

@[expose] public section

set_option maxRecDepth 16384

noncomputable section

namespace Cert.KernelIdeal.Ret

open Cert.KernelIdeal Cert.KernelIdeal.Gen Idealize.ShloMosaic Idealize.ShloMosaic.StableHlo Idealize.ShloMosaic.TcCoe Idealize.SL.Sem

variable {F : FTy → Type} [FloatOps F]

/-- Queries or keys by heads. -/
def headsK (x : FVec F S8448x1024 .bf16) : FVec F S4x8448x256 .f32 :=
  transpose S4x8448x256 [1, 0, 2] (shapeCast S8448x4x256 (extf .f32 x bitsLt_bf16_f32) shapeCasts_S8448x1024_S8448x4x256)
    transposes_S8448x4x256_S4x8448x256_1_0_2

/-- The values by heads. -/
def headsV (x : FVec F S8448x2048 .bf16) : FVec F S4x8448x512 .f32 :=
  transpose S4x8448x512 [1, 0, 2] (shapeCast S8448x4x512 (extf .f32 x bitsLt_bf16_f32) shapeCasts_S8448x2048_S8448x4x512)
    transposes_S8448x4x512_S4x8448x512_1_0_2

/-- A table of the rotation for every head. -/
def allHeads (c : FVec F S8192x128 .f32) : FVec F S4x8192x128 .f32 :=
  broadcastInDim S4x8192x128 ![0, 1, 2] bcast_S1x8192x128_S4x8192x128_0_1_2
    (broadcastInDim S1x8192x128 ![1, 2] bcast_S8192x128_S1x8192x128_1_2 c)

/-- The latent tokens' features, turned. -/
def turn (x : FVec F S4x8192x256 .f32) (cos sin : FVec F S8192x128 .f32) : FVec F S4x8192x256 .f32 :=
  concatenate S4x8192x256 2
    [⟨S4x8192x128, subf
        (mulf (extractStridedSlice S4x8192x128 ![0, 0, 0] x slices_S4x8192x256_S4x8192x128_0_0_0) (allHeads cos))
        (mulf (extractStridedSlice S4x8192x128 ![0, 0, 128] x slices_S4x8192x256_S4x8192x128_0_0_128) (allHeads sin))⟩,
      ⟨S4x8192x128, addf
        (mulf (extractStridedSlice S4x8192x128 ![0, 0, 128] x slices_S4x8192x256_S4x8192x128_0_0_128) (allHeads cos))
        (mulf (extractStridedSlice S4x8192x128 ![0, 0, 0] x slices_S4x8192x256_S4x8192x128_0_0_0) (allHeads sin))⟩]
    concatenates_S4x8192x128_S4x8192x128_S4x8192x256_d2

/-- The rotated queries or keys. -/
def rotated (k : FVec F S8448x1024 .bf16) (cos sin : FVec F S8192x128 .f32) : FVec F S4x8448x256 .f32 :=
  concatenate S4x8448x256 1
    [⟨S4x256x256, extractStridedSlice S4x256x256 ![0, 0, 0] (headsK k) slices_S4x8448x256_S4x256x256_0_0_0⟩,
      ⟨S4x8192x256, turn (extractStridedSlice S4x8192x256 ![0, 256, 0] (headsK k) slices_S4x8448x256_S4x8192x256_0_256_0) cos sin⟩]
    concatenates_S4x256x256_S4x8192x256_S4x8448x256_d1

/-- The rotated and scaled keys. -/
def keys (k : FVec F S8448x1024 .bf16) (cos sin : FVec F S8192x128 .f32) : FVec F S4x8448x256 .f32 :=
  mulf (rotated k cos sin) (broadcastInDim S4x8448x256 ![] bcast_S_S4x8448x256 (constant S_ .f32 0x3D800000#32))

/-- The heads' log-decays. -/
def logDecays : FVec F S4 .f32 :=
  Host.log (subf (broadcastInDim S4 ![] bcast_S_S4 (constant S_ .f32 0x3F800000#32))
    (Host.powf (broadcastInDim S4 ![] bcast_S_S4 (constant S_ .f32 0x40000000#32))
      (subf (broadcastInDim S4 ![] bcast_S_S4 (constant S_ .f32 0xC0A00000#32)) (sitofp .f32 (iotaInDim S4 32 0)))))

/-- How many tokens lie between a token and the last one before a chunk. -/
def gap : FVec F S33x8448 .f32 :=
  subf
    (broadcastInDim S33x8448 ![0, 1] bcast_S33x1_S33x8448_0_1
      (subf (mulf (broadcastInDim S33x1 ![] bcast_S_S33x1 (constant S_ .f32 0x43800000#32))
          (broadcastInDim S33x1 ![0] bcast_S33_S33x1_0 (sitofp .f32 (iotaInDim S33 32 0))))
        (broadcastInDim S33x1 ![] bcast_S_S33x1 (constant S_ .f32 0x3F800000#32))))
    (broadcastInDim S33x8448 ![0, 1] bcast_S1x8448_S33x8448_0_1
      (broadcastInDim S1x8448 ![1] bcast_S8448_S1x8448_1 (sitofp .f32 (iotaInDim S8448 32 0))))

/-- A token's weight in the state before a chunk. -/
def weights (lg : FVec F S4 .f32) : FVec F S33x4x8448 .f32 :=
  select
    (broadcastInDim S33x4x8448 ![0, 1, 2] bcast_S33x1x8448_S33x4x8448_0_1_2
      (cmpf .oge (broadcastInDim S33x1x8448 ![0, 2] bcast_S33x8448_S33x1x8448_0_2 (gap (F := F)))
        (broadcastInDim S33x1x8448 ![] bcast_S_S33x1x8448 (constant S_ .f32 0x00000000#32))))
    (Host.exp (mulf
      (broadcastInDim S33x4x8448 ![0, 1, 2] bcast_S1x4x1_S33x4x8448_0_1_2
        (broadcastInDim S1x4x1 ![1, 2] bcast_S4x1_S1x4x1_1_2 (broadcastInDim S4x1 ![0] bcast_S4_S4x1_0 lg)))
      (broadcastInDim S33x4x8448 ![0, 1, 2] bcast_S33x1x8448_S33x4x8448_0_1_2
        (broadcastInDim S33x1x8448 ![0, 2] bcast_S33x8448_S33x1x8448_0_2
          (maximumf gap (broadcastInDim S33x8448 ![] bcast_S_S33x8448 (constant S_ .f32 0x00000000#32)))))))
    (broadcastInDim S33x4x8448 ![] bcast_S_S33x4x8448 (constant S_ .f32 0x00000000#32))

/-- Products of values and keys, summed under the tokens' weights. -/
def weighed (k : FVec F S4x8448x256 .f32) (v : FVec F S4x8448x512 .f32) (w : FVec F S33x4x8448 .f32) : FVec F S33x4x512x256 .f32 :=
  transpose S33x4x512x256 [2, 0, 1, 3]
    (Host.dotGeneral dot_S4x8448x512_S33x4x8448x256_S4x512x33x256_1_2_2_03_0_1 none v
      (mulf
        (broadcastInDim S33x4x8448x256 ![0, 1, 2, 3] bcast_S1x4x8448x256_S33x4x8448x256_0_1_2_3
          (broadcastInDim S1x4x8448x256 ![1, 2, 3] bcast_S4x8448x256_S1x4x8448x256_1_2_3 k))
        (broadcastInDim S33x4x8448x256 ![0, 1, 2, 3] bcast_S33x4x8448x1_S33x4x8448x256_0_1_2_3
          (broadcastInDim S33x4x8448x1 ![0, 1, 2] bcast_S33x4x8448_S33x4x8448x1_0_1_2 w))))
    transposes_S4x512x33x256_S33x4x512x256_2_0_1_3

/-- The states before every chunk. -/
def states (k : FVec F S4x8448x256 .f32) (v : FVec F S4x8448x512 .f32) (lg : FVec F S4 .f32) : FVec F S33x4x512x256 .f32 :=
  weighed k v (weights lg)

/-- The keys in the order of the backward direction. -/
def mirrorK (x : FVec F S4x8448x256 .f32) : FVec F S4x8448x256 .f32 :=
  concatenate S4x8448x256 1
    [⟨S4x256x256, Host.reverse [1] (extractStridedSlice S4x256x256 ![0, 0, 0] x slices_S4x8448x256_S4x256x256_0_0_0)⟩,
      ⟨S4x8192x256, Host.reverse [1] (extractStridedSlice S4x8192x256 ![0, 256, 0] x slices_S4x8448x256_S4x8192x256_0_256_0)⟩]
    concatenates_S4x256x256_S4x8192x256_S4x8448x256_d1

/-- The values in the order of the backward direction. -/
def mirrorV (x : FVec F S4x8448x512 .f32) : FVec F S4x8448x512 .f32 :=
  concatenate S4x8448x512 1
    [⟨S4x256x512, Host.reverse [1] (extractStridedSlice S4x256x512 ![0, 0, 0] x slices_S4x8448x512_S4x256x512_0_0_0)⟩,
      ⟨S4x8192x512, Host.reverse [1] (extractStridedSlice S4x8192x512 ![0, 256, 0] x slices_S4x8448x512_S4x8192x512_0_256_0)⟩]
    concatenates_S4x256x512_S4x8192x512_S4x8448x512_d1

/-- States listed in the order of the backward direction, placed by chunk. -/
def byChunk (s : FVec F S33x4x512x256 .f32) : FVec F S33x4x512x256 .f32 :=
  concatenate S33x4x512x256 0
    [⟨S1x4x512x256, extractStridedSlice S1x4x512x256 ![0, 0, 0, 0] s slices_S33x4x512x256_S1x4x512x256_0_0_0_0⟩,
      ⟨S32x4x512x256, Host.reverse [0] (extractStridedSlice S32x4x512x256 ![1, 0, 0, 0] s slices_S33x4x512x256_S32x4x512x256_1_0_0_0)⟩]
    concatenates_S1x4x512x256_S32x4x512x256_S33x4x512x256_d0

/-- A table of the rotation under the rows of the context's tokens. -/
def withContext (w : BitVec 32) (c : FVec F S8192x128 .f32) : FVec F S8448x128 .f32 :=
  concatenate S8448x128 0
    [⟨S256x128, broadcastInDim S256x128 ![] bcast_S_S256x128 (constant S_ .f32 w)⟩, ⟨S8192x128, c⟩]
    concatenates_S256x128_S8192x128_S8448x128_d0

variable [Named F] (m : (ℓ : Loc nD τ sig) → Buf (Elt F) ℓ) (c : Dev nD)

set_option maxHeartbeats 4000000 in
theorem V_states_forward : V m c main_v67 = truncf .bf16
    (states (keys (m ((c : Thread nD τ).loc main_arg1)) (m ((c : Thread nD τ).loc main_arg3)) (m ((c : Thread nD τ).loc main_arg4)))
      (headsV (m ((c : Thread nD τ).loc main_arg2))) logDecays) bitsLt_bf16_f32 := by
  after_reads_simp
  rfl

/-! The backward direction's states: the host's operations in four stretches. -/

section stretches

variable (W : Valuation τ sig (Elt F))

/-- The operations up to the forward direction's weights. -/
abbrev firstOps : List (HloOp τ sig (Elt F)) := List.flatten [hostOps0, hostOps0_1]
/-- The operations up to the backward direction's keys and values. -/
abbrev mirrorOps : List (HloOp τ sig (Elt F)) := List.flatten [hostOps0_2, hostOps0_3, hostOps0_4, hostOps0_5, hostOps0_6, hostOps0_7, hostOps0_8, hostOps0_9]
/-- The operations up to the backward direction's weights. -/
abbrev weightOps : List (HloOp τ sig (Elt F)) := List.flatten [hostOps0_10, hostOps0_11]
/-- The remaining operations. -/
abbrev lastOps : List (HloOp τ sig (Elt F)) := List.flatten [hostOps0_12, hostOps0_13, hostOps0_14]

theorem first_keys : after firstOps W (Proc.devRef .tc main_v24)
    = keys (W (Proc.devRef .tc main_arg1)) (W (Proc.devRef .tc main_arg3)) (W (Proc.devRef .tc main_arg4)) := by
  after_reads_simp
  rfl

theorem first_values : after firstOps W (Proc.devRef .tc main_v27) = headsV (W (Proc.devRef .tc main_arg2)) := by
  after_reads_simp
  rfl

theorem first_decays : after firstOps W (Proc.devRef .tc main_v35) = logDecays := by
  after_reads_simp
  rfl

theorem mirror_keys : after mirrorOps W (Proc.devRef .tc main_v72) = mirrorK (W (Proc.devRef .tc main_v24)) := by
  after_reads_simp
  rfl

theorem mirror_values_context : after mirrorOps W (Proc.devRef .tc main_v74) = Host.reverse [1]
    (extractStridedSlice S4x256x512 ![0, 0, 0] (W (Proc.devRef .tc main_v27)) slices_S4x8448x512_S4x256x512_0_0_0) := by
  after_reads_simp
  rfl

theorem mirror_values_latent : after mirrorOps W (Proc.devRef .tc main_v76) = Host.reverse [1]
    (extractStridedSlice S4x8192x512 ![0, 256, 0] (W (Proc.devRef .tc main_v27)) slices_S4x8448x512_S4x8192x512_0_256_0) := by
  after_reads_simp
  rfl

theorem mirror_decays : after mirrorOps W (Proc.devRef .tc main_v35) = W (Proc.devRef .tc main_v35) := by
  after_reads_simp

theorem weight_keys : after weightOps W (Proc.devRef .tc main_v72) = W (Proc.devRef .tc main_v72) := by
  after_reads_simp

theorem weight_values : after weightOps W (Proc.devRef .tc main_v77) = concatenate S4x8448x512 1
    [⟨S4x256x512, (W (Proc.devRef .tc main_v74) : FVec F S4x256x512 .f32)⟩, ⟨S4x8192x512, (W (Proc.devRef .tc main_v76) : FVec F S4x8192x512 .f32)⟩]
    concatenates_S4x256x512_S4x8192x512_S4x8448x512_d1 := by
  after_reads_simp
  rfl

theorem weight_weights : after weightOps W (Proc.devRef .tc main_v102) = weights (Host.reverse [0] (W (Proc.devRef .tc main_v35))) := by
  after_reads_simp
  rfl

theorem last_states : after lastOps W (Proc.devRef .tc main_v114) = truncf .bf16
    (byChunk (weighed (W (Proc.devRef .tc main_v72)) (W (Proc.devRef .tc main_v77)) (W (Proc.devRef .tc main_v102)))) bitsLt_bf16_f32 := by
  after_reads_simp
  rfl

theorem stretches : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14] : List (HloOp τ sig (Elt F))) = firstOps ++ (mirrorOps ++ (weightOps ++ lastOps)) := by
  rw [← List.flatten_append, ← List.flatten_append, ← List.flatten_append]
  rfl

end stretches

theorem V_states_backward : V m c main_v114 = truncf .bf16
    (byChunk (states
      (mirrorK (keys (m ((c : Thread nD τ).loc main_arg1)) (m ((c : Thread nD τ).loc main_arg3)) (m ((c : Thread nD τ).loc main_arg4))))
      (mirrorV (headsV (m ((c : Thread nD τ).loc main_arg2)))) (Host.reverse [0] logDecays))) bitsLt_bf16_f32 := by
  show after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14] : List (HloOp τ sig (Elt F))) _ (Proc.devRef .tc main_v114) = _
  rw [stretches, after_append, after_append, after_append, last_states, weight_keys, weight_values, weight_weights,
    mirror_keys, mirror_values_context, mirror_values_latent, mirror_decays, first_keys, first_values, first_decays]
  rfl

theorem V_cos : V m c main_v116 = withContext 0x3F800000#32 (m ((c : Thread nD τ).loc main_arg3)) := by
  after_reads_simp
  rfl

theorem V_sin : V m c main_v118 = withContext 0x00000000#32 (m ((c : Thread nD τ).loc main_arg4)) := by
  after_reads_simp
  rfl

end Cert.KernelIdeal.Ret

end
-- ==== Proof.Tile.lean ====
/- The body of the kernel at one grid point, in its own words: what one head of one direction computes from the blocks
   it loads, as functions over whole tiles. Nothing here depends on the head or the direction except through the decay
   tables (`lower`/`upper`, `qdecF`, …), which take the head's log-decay as a number. -/
module

public import proofs.«01_k».proof.Proof.Gen.KernelIdeal.Skeleton

@[expose] public section

noncomputable section

namespace Cert.KernelIdeal.Ret

open Cert.KernelIdeal Cert.KernelIdeal.Gen Idealize.ShloMosaic Idealize.SL.Sem

variable {F : FTy → Type} [FloatOps F]

/-- The first half of a head's features. -/
def half0 (x : FVec F S256x256 .f32) : FVec F S256x128 .f32 :=
  extractStridedSlice S256x128 ![0, 0] x slices_S256x256_o0_0_S256x128

/-- The second half of a head's features. -/
def half1 (x : FVec F S256x256 .f32) : FVec F S256x128 .f32 :=
  extractStridedSlice S256x128 ![0, 128] x slices_S256x256_o0_128_S256x128

/-- The two halves side by side. -/
def join (a b : FVec F S256x128 .f32) : FVec F S256x256 .f32 :=
  concatenate S256x256 1 [⟨S256x128, a⟩, ⟨S256x128, b⟩] concatenates_S256x128_S256x128_S256x256_d1

/-- A table of the rotation as loaded. -/
def table (c : FVec F S256x128 .f32) : FVec F S256x128 .f32 := shapeCast S256x128 c shapeCasts_S256x128_S256x128

/-- The rotation of a tile by its tokens' angles. -/
def rope (cos sin : FVec F S256x128 .f32) (x : FVec F S256x256 .bf16) : FVec F S256x256 .f32 :=
  join
    (subf (mulf (half0 (extf .f32 x bitsLt_bf16_f32)) (table cos)) (mulf (half1 (extf .f32 x bitsLt_bf16_f32)) (table sin)))
    (addf (mulf (half1 (extf .f32 x bitsLt_bf16_f32)) (table cos)) (mulf (half0 (extf .f32 x bitsLt_bf16_f32)) (table sin)))

/-- The transpose of the rotation. -/
def unrope (cos sin : FVec F S256x128 .f32) (d : FVec F S256x256 .f32) : FVec F S256x256 .f32 :=
  join (addf (mulf (half0 d) (table cos)) (mulf (half1 d) (table sin)))
    (subf (mulf (half1 d) (table cos)) (mulf (half0 d) (table sin)))

/-- The keys' scale. -/
def scaled (x : FVec F S256x256 .f32) : FVec F S256x256 .f32 :=
  mulf x (broadcast S256x256 (Scalar.ofBits .f32 0x3D800000#32))

/-- The decay between two tokens of a chunk whose distance is given, zero where it is negative. -/
def decays (rel : IVec S256x256 32) (lg : F .f32) : FVec F S256x256 .f32 :=
  select (cmpi .sge rel (broadcast S256x256 0#32))
    (exp (mulf (broadcast S256x256 lg) (sitofp .f32 (maxsi rel (broadcast S256x256 0#32)))))
    (broadcast S256x256 (Scalar.ofBits .f32 0x00000000#32))

/-- Row minus column. -/
def relF : IVec S256x256 32 :=
  subi (iota .tc S256x256 32 [0] iota_S256x256_d0_w32) (iota .tc S256x256 32 [1] iota_S256x256_d1_w32)

/-- Column minus row. -/
def relB : IVec S256x256 32 :=
  subi (iota .tc S256x256 32 [1] iota_S256x256_d1_w32) (iota .tc S256x256 32 [0] iota_S256x256_d0_w32)

/-- The tokens' places in the chunk. -/
def pos : FVec F S256x1 .f32 := sitofp .f32 (iota .tc S256x1 32 [0] iota_S256x1_d0_w32)

/-- The decay `exp (lg · n)` of a column of exponents. -/
def decay1 (lg : F .f32) (n : FVec F S256x1 .f32) : FVec F S256x1 .f32 := exp (mulf (broadcast S256x1 lg) n)

/-- From the chunk's start to a token, forward direction. -/
def qdecF (lg : F .f32) : FVec F S256x1 .f32 :=
  decay1 lg (addf pos (broadcast S256x1 (Scalar.ofBits .f32 0x3F800000#32)))

/-- From a token to the chunk's end, forward direction. -/
def kdecF (lg : F .f32) : FVec F S256x1 .f32 :=
  decay1 lg (subf (broadcast S256x1 (Scalar.ofBits .f32 0x437F0000#32)) pos)

/-- From the chunk's start to a token, backward direction. -/
def qdecB (lg : F .f32) : FVec F S256x1 .f32 :=
  decay1 lg (subf (broadcast S256x1 (Scalar.ofBits .f32 0x43800000#32)) pos)

/-- From a token to the chunk's end, backward direction. -/
def kdecB (lg : F .f32) : FVec F S256x1 .f32 := decay1 lg pos

/-- Each row times its own factor. -/
def rows (x : FVec F S256x256 .f32) (d : FVec F S256x1 .f32) : FVec F S256x256 .f32 :=
  mulf x (broadcastTo S256x256 d broadcasts_S256x1_S256x256)

/-- To the activations' format. -/
def bf {s : Shape} (x : FVec F s .f32) : FVec F s .bf16 := truncf .bf16 x bitsLt_bf16_f32

/-- A carried state as a matrix. -/
def mat {φ : FTy} (x : FVec F S1x1x512x256 φ) : FVec F S512x256 φ := shapeCast S512x256 x shapeCasts_S1x1x512x256_S512x256

/-- The decayed scores of queries against keys. -/
def scores (dm : FVec F S256x256 .f32) (q k : FVec F S256x256 .bf16) : FVec F S256x256 .bf16 :=
  bf (mulf (matmul dot_S256x256_S256x256_S256x256_1_1_0_0_n_n none q k (constant S256x256 .f32 0x00000000#32)) dm)

/-- The scores' gradients. -/
def dscores (dm : FVec F S256x256 .f32) (o v : FVec F S256x512 .bf16) : FVec F S256x256 .bf16 :=
  bf (mulf (matmul dot_S256x512_S256x512_S256x256_1_1_0_0_n_n none o v (constant S256x256 .f32 0x00000000#32)) dm)

/-- A tile of values or of output gradients as loaded. -/
def tileV (v : FVec F S256x512 .bf16) : FVec F S256x512 .bf16 := v

/-- The gradient of a tile of values. -/
def dvTile (dm : FVec F S256x256 .f32) (kdec : FVec F S256x1 .f32) (cos sin : FVec F S256x128 .f32)
    (q k : FVec F S256x256 .bf16) (o : FVec F S256x512 .bf16) (st : FVec F S1x1x512x256 .f32) : FVec F S256x512 .bf16 :=
  bf (addf
    (matmul dot_S256x256_S256x512_S256x512_0_0_1_1_n_n none
      (scores dm (bf (rope cos sin q)) (bf (scaled (rope cos sin k)))) (tileV o) (constant S256x512 .f32 0x00000000#32))
    (matmul dot_S256x256_S512x256_S256x512_1_1_0_0_n_n none
      (bf (rows (scaled (rope cos sin k)) kdec)) (bf (mat st)) (constant S256x512 .f32 0x00000000#32)))

/-- The carried gradient after a chunk. -/
def dstTile (dec : F .f32) (qdec : FVec F S256x1 .f32) (cos sin : FVec F S256x128 .f32)
    (q : FVec F S256x256 .bf16) (o : FVec F S256x512 .bf16) (st : FVec F S1x1x512x256 .f32) : FVec F S1x1x512x256 .f32 :=
  shapeCast S1x1x512x256
    (addf
      (matmul dot_S256x512_S256x256_S512x256_0_0_1_1_n_n none
        (tileV o) (bf (rows (rope cos sin q) qdec)) (constant S512x256 .f32 0x00000000#32))
      (mulf (mat st) (broadcast S512x256 dec)))
    shapeCasts_S512x256_S1x1x512x256

/-- The gradient of a tile of queries. -/
def dqTile (dm : FVec F S256x256 .f32) (qdec : FVec F S256x1 .f32) (cos sin : FVec F S256x128 .f32)
    (k : FVec F S256x256 .bf16) (v o : FVec F S256x512 .bf16) (st : FVec F S1x1x512x256 .bf16) : FVec F S256x256 .bf16 :=
  bf (unrope cos sin (addf
    (matmul dot_S256x256_S256x256_S256x256_1_0_0_1_n_n none
      (dscores dm (tileV o) (tileV v)) (bf (scaled (rope cos sin k))) (constant S256x256 .f32 0x00000000#32))
    (rows (matmul dot_S256x512_S512x256_S256x256_1_0_0_1_n_n none (tileV o) (mat st) (constant S256x256 .f32 0x00000000#32))
      qdec)))

/-- The gradient of a tile of keys. -/
def dkTile (dm : FVec F S256x256 .f32) (kdec : FVec F S256x1 .f32) (cos sin : FVec F S256x128 .f32)
    (q : FVec F S256x256 .bf16) (v o : FVec F S256x512 .bf16) (st : FVec F S1x1x512x256 .f32) : FVec F S256x256 .bf16 :=
  bf (unrope cos sin (scaled (addf
    (matmul dot_S256x256_S256x256_S256x256_0_0_1_1_n_n none
      (dscores dm (tileV o) (tileV v)) (bf (rope cos sin q)) (constant S256x256 .f32 0x00000000#32))
    (rows (matmul dot_S256x512_S512x256_S256x256_1_0_0_1_n_n none (tileV v) (bf (mat st)) (constant S256x256 .f32 0x00000000#32))
      kdec))))

end Cert.KernelIdeal.Ret

end
-- ==== Proof.Retention.lean ====
/- Retention's gradient over the reals, without any program: what the three gradients are as sums over the tokens, and how
   such a sum splits into the tokens of one chunk and a state carried over the chunks after (or before) it. A direction is
   a `Bool`: `false` reads the tokens in their order, `true` reads the context's tokens and the latent tokens each from
   their end. -/
module

public import Mathlib.Analysis.SpecialFunctions.Exp
public import Idealize.ShloMosaic.PureOps.Ideal

@[expose] public section

set_option maxRecDepth 16384

noncomputable section

namespace Cert.Ret

/-! ## The order of the tokens -/

/-- The token read at a place of the backward direction (and the place at which a token is read). -/
def mirror (t : Fin 8448) : Fin 8448 := if h : t.val < 256 then ⟨255 - t.val, by omega⟩ else ⟨8703 - t.val, by omega⟩

theorem mirror_val (t : Fin 8448) : (mirror t).val = if t.val < 256 then 255 - t.val else 8703 - t.val := by
  unfold mirror; split <;> rfl

theorem mirror_mirror (t : Fin 8448) : mirror (mirror t) = t := by
  ext; have := t.isLt; rw [mirror_val, mirror_val]; split <;> split <;> omega

/-- Reading backward, as a rearrangement of the tokens. -/
def mirrorE : Fin 8448 ≃ Fin 8448 := ⟨mirror, mirror, mirror_mirror, mirror_mirror⟩

/-- The place at which a direction reads a token. -/
def place (b : Bool) (t : Fin 8448) : Fin 8448 := if b then mirror t else t

/-- The place of a token in its chunk. -/
def placeC (b : Bool) (i : Fin 256) : ℕ := if b then 255 - i.val else i.val

theorem placeC_le (b : Bool) (i : Fin 256) : placeC b i ≤ 255 := by unfold placeC; split <;> omega

/-- The chunk visited at a step, last chunk of the direction first. -/
def chunk (b : Bool) (s : Fin 33) : Fin 33 :=
  if b then (if h : s.val < 32 then ⟨s.val + 1, by omega⟩ else ⟨0, by omega⟩) else ⟨32 - s.val, by omega⟩

/-- Token `i` of the chunk visited at step `s`. -/
def tok (b : Bool) (s : Fin 33) (i : Fin 256) : Fin 8448 := ⟨256 * (chunk b s).val + i.val, by omega⟩

theorem place_tok (b : Bool) (s : Fin 33) (i : Fin 256) : (place b (tok b s i)).val = 256 * (32 - s.val) + placeC b i := by
  have hs := s.isLt; have hi := i.isLt
  cases b
  · simp [place, placeC, tok, chunk]
  · simp only [place, placeC, if_true, mirror_val, tok, chunk]
    split
    · next h => simp only [] at *; split <;> omega
    · next h => simp only [] at *; split <;> omega

/-- Which step visits a chunk. -/
def step (b : Bool) (c : Fin 33) : Fin 33 :=
  if b then (if h : c.val = 0 then ⟨32, by omega⟩ else ⟨c.val - 1, by omega⟩) else ⟨32 - c.val, by omega⟩

theorem chunk_step (b : Bool) (c : Fin 33) : chunk b (step b c) = c := by revert b c; decide
theorem step_chunk (b : Bool) (s : Fin 33) : step b (chunk b s) = s := by revert b s; decide

/-- The tokens as steps and places in a chunk. -/
def tokE (b : Bool) : Fin 33 × Fin 256 ≃ Fin 8448 where
  toFun p := tok b p.1 p.2
  invFun t := (step b ⟨t.val / 256, by omega⟩, ⟨t.val % 256, by omega⟩)
  left_inv p := by
    obtain ⟨s, i⟩ := p
    have h1 : (⟨(tok b s i).val / 256, by omega⟩ : Fin 33) = chunk b s := by ext; simp only [tok]; omega
    ext
    · simp only [h1, step_chunk]
    · simp only [tok]; omega
  right_inv t := by ext; simp only [tok, chunk_step]; omega

theorem sum_tok (b : Bool) (f : Fin 8448 → ℝ) : ∑ t, f t = ∑ s : Fin 33, ∑ i : Fin 256, f (tok b s i) := by
  rw [← (tokE b).sum_comp f, Fintype.sum_prod_type]; rfl

/-! ## The decay between two tokens -/

/-- The decay from token `s` to token `t`, zero where `t` is read before `s`. -/
def decay (b : Bool) (lg : ℝ) (t s : Fin 8448) : ℝ :=
  if (place b s).val ≤ (place b t).val then Real.exp (lg * ((place b t).val - (place b s).val : ℝ)) else 0

/-- The decay inside a chunk. -/
def decayC (b : Bool) (lg : ℝ) (i j : Fin 256) : ℝ :=
  if placeC b j ≤ placeC b i then Real.exp (lg * ((placeC b i : ℝ) - placeC b j)) else 0

/-- From the chunk's start to a token. -/
def fromStart (b : Bool) (lg : ℝ) (i : Fin 256) : ℝ := Real.exp (lg * ((placeC b i : ℝ) + 1))

/-- From a token to the chunk's end. -/
def toEnd (b : Bool) (lg : ℝ) (i : Fin 256) : ℝ := Real.exp (lg * (255 - (placeC b i : ℝ)))

theorem decay_same (b : Bool) (lg : ℝ) (s : Fin 33) (i j : Fin 256) :
    decay b lg (tok b s i) (tok b s j) = decayC b lg i j := by
  unfold decay decayC
  simp only [place_tok, add_le_add_iff_left]
  congr 2
  push_cast; ring

theorem decay_read_before (b : Bool) (lg : ℝ) {s s' : Fin 33} (h : s < s') (i j : Fin 256) :
    decay b lg (tok b s' i) (tok b s j) = 0 := by
  have h1 := placeC_le b i; have h2 := placeC_le b j; have h3 : s.val < s'.val := h; have := s'.isLt
  unfold decay
  simp only [place_tok]
  rw [if_neg (by omega)]

/-- What a chunk's token counts for after the chunks between. -/
def carried (b : Bool) (lg : ℝ) (s : ℕ) (s' : Fin 33) (i : Fin 256) : ℝ :=
  Real.exp (lg * (256 * (32 - (s'.val : ℝ)) + (placeC b i : ℝ) + 1 - 256 * (33 - (s : ℝ))))

theorem decay_read_after (b : Bool) (lg : ℝ) {s s' : Fin 33} (h : s' < s) (i j : Fin 256) :
    decay b lg (tok b s' i) (tok b s j) = carried b lg s s' i * toEnd b lg j := by
  have h1 := placeC_le b i; have h2 := placeC_le b j; have h3 : s'.val < s.val := h; have h4 := s.isLt
  unfold decay carried toEnd
  simp only [place_tok]
  rw [if_pos (by omega), ← Real.exp_add]
  congr 1
  have e1 : ((32 - s'.val : ℕ) : ℝ) = 32 - (s'.val : ℝ) := by rw [Nat.cast_sub (by omega)]; norm_num
  have e2 : ((32 - s.val : ℕ) : ℝ) = 32 - (s.val : ℝ) := by rw [Nat.cast_sub (by omega)]; norm_num
  push_cast [e1, e2]; ring

/-! ## The sums over the tokens that come after a token, and before it -/

/-- The sum over the tokens of the chunks visited before step `s`, as the state after those chunks holds it. -/
def after (b : Bool) (lg : ℝ) (f : Fin 8448 → ℝ) (s : ℕ) : ℝ :=
  ∑ s' : Fin 33, if s'.val < s then ∑ i : Fin 256, carried b lg s s' i * f (tok b s' i) else 0

theorem after_zero (b : Bool) (lg : ℝ) (f : Fin 8448 → ℝ) : after b lg f 0 = 0 := by simp [after]

theorem after_succ (b : Bool) (lg : ℝ) (f : Fin 8448 → ℝ) (s : Fin 33) :
    after b lg f (s.val + 1) =
      (∑ i : Fin 256, f (tok b s i) * fromStart b lg i) + after b lg f s.val * Real.exp (lg * 256) := by
  have hs : (∑ i : Fin 256, f (tok b s i) * fromStart b lg i)
      = ∑ s' : Fin 33, if s' = s then ∑ i : Fin 256, f (tok b s' i) * fromStart b lg i else 0 := by
    rw [Finset.sum_ite_eq' Finset.univ s]; simp
  unfold after
  rw [hs, Finset.sum_mul, ← Finset.sum_add_distrib]
  refine Finset.sum_congr rfl fun s' _ => ?_
  rcases lt_trichotomy s'.val s.val with h | h | h
  · rw [if_pos (by omega), if_neg (by intro e; rw [e] at h; omega), if_pos h, zero_add, Finset.sum_mul]
    refine Finset.sum_congr rfl fun i _ => ?_
    have : carried b lg (s.val + 1) s' i = carried b lg s.val s' i * Real.exp (lg * 256) := by
      unfold carried; rw [← Real.exp_add]; congr 1; push_cast; ring
    rw [this]; ring
  · have e : s' = s := Fin.ext h
    subst e
    rw [if_pos (by omega), if_pos rfl, if_neg (by omega), zero_mul, add_zero]
    refine Finset.sum_congr rfl fun i _ => ?_
    have : carried b lg (s'.val + 1) s' i = fromStart b lg i := by
      unfold carried fromStart; congr 1; push_cast; ring
    rw [this]; ring
  · rw [if_neg (by omega), if_neg (by intro e; rw [e] at h; omega), if_neg (by omega)]; simp

/-- A sum over the tokens read at or after a token: those of its chunk, and the state of the chunks after. -/
theorem sum_after (b : Bool) (lg : ℝ) (f : Fin 8448 → ℝ) (s : Fin 33) (j : Fin 256) :
    ∑ t, decay b lg t (tok b s j) * f t
      = (∑ i : Fin 256, decayC b lg i j * f (tok b s i)) + after b lg f s.val * toEnd b lg j := by
  have hs : (∑ i : Fin 256, decayC b lg i j * f (tok b s i))
      = ∑ s' : Fin 33, if s' = s then ∑ i : Fin 256, decayC b lg i j * f (tok b s' i) else 0 := by
    rw [Finset.sum_ite_eq' Finset.univ s]; simp
  unfold after
  rw [sum_tok b, hs, Finset.sum_mul, ← Finset.sum_add_distrib]
  refine Finset.sum_congr rfl fun s' _ => ?_
  rcases lt_trichotomy s' s with h | h | h
  · rw [if_neg (ne_of_lt h), if_pos (show s'.val < s.val from h), zero_add, Finset.sum_mul]
    refine Finset.sum_congr rfl fun i _ => ?_
    rw [decay_read_after b lg h]; ring
  · subst h
    rw [if_pos rfl, if_neg (lt_irrefl _), zero_mul, add_zero]
    exact Finset.sum_congr rfl fun i _ => by rw [decay_same]
  · rw [if_neg (ne_of_gt h), if_neg (not_lt.mpr (le_of_lt (show s.val < s'.val from h))), zero_mul, add_zero]
    exact Finset.sum_eq_zero fun i _ => by rw [decay_read_before b lg h, zero_mul]

/-- The weight of a token in the state before the chunk visited at step `s`. -/
def before (b : Bool) (lg : ℝ) (s : Fin 33) (u : Fin 8448) : ℝ :=
  if (place b u).val < 256 * (32 - s.val) then
    Real.exp (lg * (256 * (32 - (s.val : ℝ)) - 1 - ((place b u).val : ℝ))) else 0

/-- A sum over the tokens read at or before a token: those of its chunk, and the state of the chunks before. -/
theorem sum_before (b : Bool) (lg : ℝ) (g : Fin 8448 → ℝ) (s : Fin 33) (j : Fin 256) :
    ∑ u, decay b lg (tok b s j) u * g u
      = (∑ i : Fin 256, decayC b lg j i * g (tok b s i)) + (∑ u, before b lg s u * g u) * fromStart b lg j := by
  have hs : (∑ i : Fin 256, decayC b lg j i * g (tok b s i))
      = ∑ s' : Fin 33, if s' = s then ∑ i : Fin 256, decayC b lg j i * g (tok b s' i) else 0 := by
    rw [Finset.sum_ite_eq' Finset.univ s]; simp
  rw [sum_tok b, sum_tok b (fun u => before b lg s u * g u), hs, Finset.sum_mul, ← Finset.sum_add_distrib]
  refine Finset.sum_congr rfl fun s' _ => ?_
  have hs32 := s.isLt; have hs32' := s'.isLt
  rcases lt_trichotomy s s' with h | h | h
  · have h' : s.val < s'.val := h
    rw [if_neg (ne_of_gt h), zero_add, Finset.sum_mul]
    refine Finset.sum_congr rfl fun i _ => ?_
    have hi := placeC_le b i
    rw [decay_read_after b lg h]
    unfold before
    rw [place_tok, if_pos (by omega)]
    have : carried b lg s' s j * toEnd b lg i
        = Real.exp (lg * (256 * (32 - (s.val : ℝ)) - 1 - ((256 * (32 - s'.val) + placeC b i : ℕ) : ℝ))) * fromStart b lg j := by
      unfold carried toEnd fromStart
      rw [← Real.exp_add, ← Real.exp_add]
      congr 1
      have e1 : ((32 - s'.val : ℕ) : ℝ) = 32 - (s'.val : ℝ) := by rw [Nat.cast_sub (by omega)]; norm_num
      push_cast [e1]; ring
    rw [this]; ring
  · subst h
    rw [if_pos rfl]
    have : (∑ i : Fin 256, before b lg s (tok b s i) * g (tok b s i)) = 0 :=
      Finset.sum_eq_zero fun i _ => by unfold before; rw [place_tok, if_neg (by omega), zero_mul]
    rw [this, zero_mul, add_zero]
    exact Finset.sum_congr rfl fun i _ => by rw [decay_same]
  · have h' : s'.val < s.val := h
    rw [if_neg (ne_of_lt h), zero_add]
    have : (∑ i : Fin 256, before b lg s (tok b s' i) * g (tok b s' i)) = 0 :=
      Finset.sum_eq_zero fun i _ => by unfold before; rw [place_tok, if_neg (by omega), zero_mul]
    rw [this, zero_mul]
    exact Finset.sum_eq_zero fun i _ => by rw [decay_read_before b lg h, zero_mul]

/-! ## The gradients of one head -/

/-- The gradient of the queries. -/
def dq (b : Bool) (lg : ℝ) (k : Fin 8448 → Fin 256 → ℝ) (v o : Fin 8448 → Fin 512 → ℝ) (t : Fin 8448) (d : Fin 256) : ℝ :=
  ∑ u, decay b lg t u * ((∑ e, o t e * v u e) * k u d)

/-- The gradient of the keys. -/
def dk (b : Bool) (lg : ℝ) (q : Fin 8448 → Fin 256 → ℝ) (v o : Fin 8448 → Fin 512 → ℝ) (u : Fin 8448) (d : Fin 256) : ℝ :=
  ∑ t, decay b lg t u * ((∑ e, o t e * v u e) * q t d)

/-- The gradient of the values. -/
def dv (b : Bool) (lg : ℝ) (q k : Fin 8448 → Fin 256 → ℝ) (o : Fin 8448 → Fin 512 → ℝ) (u : Fin 8448) (e : Fin 512) : ℝ :=
  ∑ t, decay b lg t u * ((∑ d, q t d * k u d) * o t e)

/-- The state that the gradient carries from chunk to chunk. -/
def dstate (b : Bool) (lg : ℝ) (q : Fin 8448 → Fin 256 → ℝ) (o : Fin 8448 → Fin 512 → ℝ) (s : ℕ) (e : Fin 512) (d : Fin 256) : ℝ :=
  after b lg (fun t => o t e * q t d) s

/-- The state that the forward pass leaves before the chunk visited at step `s`. -/
def fstate (b : Bool) (lg : ℝ) (k : Fin 8448 → Fin 256 → ℝ) (v : Fin 8448 → Fin 512 → ℝ) (s : Fin 33) (e : Fin 512) (d : Fin 256) : ℝ :=
  ∑ u, before b lg s u * (v u e * k u d)

theorem dstate_zero (b : Bool) (lg : ℝ) (q : Fin 8448 → Fin 256 → ℝ) (o : Fin 8448 → Fin 512 → ℝ) (e : Fin 512) (d : Fin 256) :
    dstate b lg q o 0 e d = 0 := after_zero _ _ _

theorem dstate_succ (b : Bool) (lg : ℝ) (q : Fin 8448 → Fin 256 → ℝ) (o : Fin 8448 → Fin 512 → ℝ) (s : Fin 33) (e : Fin 512) (d : Fin 256) :
    dstate b lg q o (s.val + 1) e d
      = (∑ i : Fin 256, o (tok b s i) e * (q (tok b s i) d * fromStart b lg i)) + dstate b lg q o s.val e d * Real.exp (lg * 256) := by
  unfold dstate
  rw [after_succ]
  congr 1
  exact Finset.sum_congr rfl fun i _ => by ring

theorem sum_after_sum {ι : Type} [Fintype ι] (b : Bool) (lg : ℝ) (f : ι → Fin 8448 → ℝ) (c : ι → ℝ) (s : ℕ) :
    after b lg (fun t => ∑ x, c x * f x t) s = ∑ x, c x * after b lg (f x) s := by
  unfold after
  simp only [Finset.mul_sum]
  rw [Finset.sum_comm]
  refine Finset.sum_congr rfl fun s' _ => ?_
  split
  · rw [Finset.sum_comm]
    simp only [Finset.mul_sum]
    refine Finset.sum_congr rfl fun x _ => Finset.sum_congr rfl fun i _ => by ring
  · simp

theorem dq_tok (b : Bool) (lg : ℝ) (k : Fin 8448 → Fin 256 → ℝ) (v o : Fin 8448 → Fin 512 → ℝ) (s : Fin 33) (j d : Fin 256) :
    dq b lg k v o (tok b s j) d
      = (∑ i : Fin 256, (∑ e, o (tok b s j) e * v (tok b s i) e) * decayC b lg j i * k (tok b s i) d)
        + (∑ e, o (tok b s j) e * fstate b lg k v s e d) * fromStart b lg j := by
  unfold dq fstate
  rw [sum_before]
  refine congrArg₂ (· + ·) ?_ (congrArg (· * _) ?_)
  · exact Finset.sum_congr rfl fun i _ => by ring
  · simp only [Finset.mul_sum, Finset.sum_mul]
    rw [Finset.sum_comm]
    exact Finset.sum_congr rfl fun x _ => Finset.sum_congr rfl fun i _ => by ring

theorem dk_tok (b : Bool) (lg : ℝ) (q : Fin 8448 → Fin 256 → ℝ) (v o : Fin 8448 → Fin 512 → ℝ) (s : Fin 33) (j d : Fin 256) :
    dk b lg q v o (tok b s j) d
      = (∑ i : Fin 256, (∑ e, o (tok b s i) e * v (tok b s j) e) * decayC b lg i j * q (tok b s i) d)
        + (∑ e, v (tok b s j) e * dstate b lg q o s.val e d) * toEnd b lg j := by
  unfold dk dstate
  rw [sum_after]
  refine congrArg₂ (· + ·) ?_ (congrArg (· * _) ?_)
  · exact Finset.sum_congr rfl fun i _ => by ring
  · rw [← sum_after_sum]
    refine congrArg (fun f => after b lg f s.val) ?_
    funext t
    rw [Finset.sum_mul]
    exact Finset.sum_congr rfl fun x _ => by ring

theorem dv_tok (b : Bool) (lg : ℝ) (q k : Fin 8448 → Fin 256 → ℝ) (o : Fin 8448 → Fin 512 → ℝ) (s : Fin 33) (j : Fin 256) (e : Fin 512) :
    dv b lg q k o (tok b s j) e
      = (∑ i : Fin 256, (∑ d, q (tok b s i) d * k (tok b s j) d) * decayC b lg i j * o (tok b s i) e)
        + ∑ d, k (tok b s j) d * toEnd b lg j * dstate b lg q o s.val e d := by
  unfold dv dstate
  rw [sum_after]
  refine congrArg₂ (· + ·) ?_ ?_
  · exact Finset.sum_congr rfl fun i _ => by ring
  · have : (fun t => (∑ d, q t d * k (tok b s j) d) * o t e) = fun t => ∑ d, k (tok b s j) d * (o t e * q t d) := by
      funext t
      rw [Finset.sum_mul]
      exact Finset.sum_congr rfl fun x _ => by ring
    rw [this, sum_after_sum, Finset.sum_mul]
    exact Finset.sum_congr rfl fun x _ => by ring

/-! ## The rotation -/

/-- A token's features, turned by its angles. -/
def rot (c s : Fin 128 → ℝ) (x : Fin 256 → ℝ) (d : Fin 256) : ℝ :=
  if h : d.val < 128 then x d * c ⟨d.val, h⟩ - x ⟨128 + d.val, by omega⟩ * s ⟨d.val, h⟩
  else x ⟨128 + (d.val - 128), by omega⟩ * c ⟨d.val - 128, by omega⟩ + x ⟨d.val - 128, by omega⟩ * s ⟨d.val - 128, by omega⟩

/-- A token's features, turned back. -/
def unrot (c s : Fin 128 → ℝ) (x : Fin 256 → ℝ) (d : Fin 256) : ℝ :=
  if h : d.val < 128 then x d * c ⟨d.val, h⟩ + x ⟨128 + d.val, by omega⟩ * s ⟨d.val, h⟩
  else x ⟨128 + (d.val - 128), by omega⟩ * c ⟨d.val - 128, by omega⟩ - x ⟨d.val - 128, by omega⟩ * s ⟨d.val - 128, by omega⟩

end Cert.Ret

end
-- ==== Proof.TileReal.lean ====
/- What one head's tiles hold over the reals. Each function of `Tile` is read at an index of a tile whose inputs are
   real numbers: the result is the real number that `Retention` speaks of. -/
module

public import proofs.«01_k».proof.Proof.Tile
public import proofs.«01_k».proof.Proof.Retention
public import Idealize.ShloMosaic.Lib.Pipeline.ValueKit
public import Idealize.ShloMosaic.Lib.Pointwise

@[expose] public section

set_option maxRecDepth 16384

noncomputable section

namespace Cert.KernelIdeal.Ret

open Cert.KernelIdeal Cert.KernelIdeal.Gen Idealize.ShloMosaic Idealize.SL.Sem

/-- A sum of real numbers, as extended reals. -/
theorem coe_sum {ι : Type} (s : Finset ι) (f : ι → ℝ) : (∑ x ∈ s, ((f x : ℝ) : EReal)) = ((∑ x ∈ s, f x : ℝ) : EReal) := by
  classical
  induction s using Finset.induction_on with
  | empty => simp
  | insert a s h ih => rw [Finset.sum_insert h, Finset.sum_insert h, ih, EReal.coe_add]

section Rotation

variable {cos sin : FVec Ideal S256x128 .f32} {c s : Fin 256 → Fin 128 → ℝ}

theorem rope_real (hc : ∀ a b, cos (ix2 a b) = ((c a b : ℝ) : EReal)) (hs : ∀ a b, sin (ix2 a b) = ((s a b : ℝ) : EReal))
    {x : FVec Ideal S256x256 .bf16} {f : Fin 256 → Fin 256 → ℝ} (hx : ∀ a b, x (ix2 a b) = ((f a b : ℝ) : EReal))
    (a b : Fin 256) : rope cos sin x (ix2 a b) = ((Cert.Ret.rot (c a) (s a) (f a) b : ℝ) : EReal) := by
  unfold rope join half0 half1 table
  pointwise
  unfold Cert.Ret.rot
  split <;> simp only [hc, hs, hx] <;> norm_cast

theorem unrope_real (hc : ∀ a b, cos (ix2 a b) = ((c a b : ℝ) : EReal)) (hs : ∀ a b, sin (ix2 a b) = ((s a b : ℝ) : EReal))
    {x : FVec Ideal S256x256 .f32} {f : Fin 256 → Fin 256 → ℝ} (hx : ∀ a b, x (ix2 a b) = ((f a b : ℝ) : EReal))
    (a b : Fin 256) : unrope cos sin x (ix2 a b) = ((Cert.Ret.unrot (c a) (s a) (f a) b : ℝ) : EReal) := by
  unfold unrope join half0 half1 table
  pointwise
  unfold Cert.Ret.unrot
  split <;> simp only [hc, hs, hx] <;> norm_cast

end Rotation

theorem word_sixteenth : Ideal.ofBits .f32 0x3D800000#32 = ((1 / 16 : ℝ) : EReal) := by
  simp [Ideal.ofBits, Ideal.ieee, -EReal.coe_mul]; norm_num

theorem word_255 : Ideal.ofBits .f32 0x437F0000#32 = ((255 : ℝ) : EReal) := by
  simp [Ideal.ofBits, Ideal.ieee, -EReal.coe_mul]; norm_num

theorem word_256 : Ideal.ofBits .f32 0x43800000#32 = ((256 : ℝ) : EReal) := by
  simp [Ideal.ofBits, Ideal.ieee, -EReal.coe_mul]; norm_num

theorem scaled_real {x : FVec Ideal S256x256 .f32} {f : Fin 256 → Fin 256 → ℝ} (hx : ∀ a b, x (ix2 a b) = ((f a b : ℝ) : EReal))
    (a b : Fin 256) : scaled x (ix2 a b) = ((f a b * (1 / 16) : ℝ) : EReal) := by
  unfold scaled
  pointwise
  rw [hx, word_sixteenth, ← EReal.coe_mul]

/-! ## The decay tables -/

theorem sel_real (n : ℤ) (b : BitVec 32) (hb : b.toInt = n) (lg : ℝ) :
    Scalar.select (IntOp.cmpi CmpIPredicate.sge b 0#32)
        (Ideal.exp ((lg : EReal) * (FloatOps.sitofp FTy.f32 (IntOp.maxsi b 0#32) : Ideal .f32))) (0 : EReal)
      = ((if 0 ≤ n then Real.exp (lg * (n : ℝ)) else 0 : ℝ) : EReal) := by
  subst hb
  by_cases h : (0 : ℤ) ≤ b.toInt
  · have h1 : IntOp.cmpi CmpIPredicate.sge b 0#32 = 1#1 := by
      simp [IntOp.cmpi, BitVec.sle_eq_decide, h]
    have h2 : IntOp.maxsi b 0#32 = b := by
      simp only [IntOp.maxsi, BitVec.slt_eq_decide]
      split
      · rfl
      · next hb =>
        refine BitVec.eq_of_toInt_eq ?_
        simp only [decide_eq_true_eq, BitVec.toInt_zero] at hb ⊢
        omega
    rw [h1, h2, if_pos h]
    show Ideal.exp ((lg : EReal) * ((b.toInt : ℝ) : EReal)) = _
    rw [← EReal.coe_mul, Ideal.exp_coe]
  · have h1 : IntOp.cmpi CmpIPredicate.sge b 0#32 = 0#1 := by
      simp [IntOp.cmpi, BitVec.sle_eq_decide, h]
    rw [h1, if_neg h]
    rfl

theorem toInt_small (a : Fin 256) : (BitVec.ofNat 32 a.val).toInt = (a.val : ℤ) := by
  have ha := a.isLt
  rw [BitVec.toInt_eq_toNat_of_lt (by simp; omega), BitVec.toNat_ofNat, Nat.mod_eq_of_lt (by omega)]

theorem sub_toInt (a b : Fin 256) :
    (IntOp.subi (BitVec.ofNat 32 a.val) (BitVec.ofNat 32 b.val)).toInt = (a.val : ℤ) - b.val := by
  have ha := a.isLt; have hb := b.isLt
  have h1 := toInt_small a; have h2 := toInt_small b
  show (BitVec.ofNat 32 a.val - BitVec.ofNat 32 b.val).toInt = _
  rw [BitVec.toInt_sub, h1, h2, Int.bmod_def]; omega

theorem decaysF_real (lg : ℝ) (a b : Fin 256) :
    decays (F := Ideal) relF (lg : EReal) (ix2 a b) = ((Cert.Ret.decayC false lg a b : ℝ) : EReal) := by
  unfold decays relF
  pointwise
  refine (sel_real _ _ (sub_toInt a b) lg).trans ?_
  unfold Cert.Ret.decayC Cert.Ret.placeC
  simp only [Bool.false_eq_true, if_false]
  congr 1
  by_cases h : b.val ≤ a.val
  · rw [if_pos h, if_pos (by omega)]; push_cast; rfl
  · rw [if_neg h, if_neg (by omega)]

theorem decaysB_real (lg : ℝ) (a b : Fin 256) :
    decays (F := Ideal) relB (lg : EReal) (ix2 a b) = ((Cert.Ret.decayC true lg a b : ℝ) : EReal) := by
  unfold decays relB
  pointwise
  refine (sel_real _ _ (sub_toInt b a) lg).trans ?_
  unfold Cert.Ret.decayC Cert.Ret.placeC
  simp only [if_true]
  have ha := a.isLt; have hb := b.isLt
  congr 1
  by_cases h : a.val ≤ b.val
  · rw [if_pos (by omega), if_pos (by omega), Nat.cast_sub (by omega), Nat.cast_sub (by omega)]
    congr 2; push_cast; ring
  · rw [if_neg (by omega), if_neg (by omega)]

theorem place_word (a : Fin 256) : (FloatOps.sitofp FTy.f32 (BitVec.ofNat 32 a.val) : Ideal .f32) = ((a.val : ℝ) : EReal) := by
  show (((BitVec.ofNat 32 a.val).toInt : ℝ) : EReal) = _
  rw [toInt_small]; rfl

theorem qdecF_real (lg : ℝ) (a : Fin 256) : qdecF (F := Ideal) (lg : EReal) (ix2 a 0) = ((Cert.Ret.fromStart false lg a : ℝ) : EReal) := by
  unfold qdecF decay1 pos
  pointwise
  rw [place_word]
  unfold Cert.Ret.fromStart Cert.Ret.placeC
  simp only [Bool.false_eq_true, if_false]
  rw [← EReal.coe_one, ← EReal.coe_add, ← EReal.coe_mul, Ideal.exp_coe]

theorem kdecF_real (lg : ℝ) (a : Fin 256) : kdecF (F := Ideal) (lg : EReal) (ix2 a 0) = ((Cert.Ret.toEnd false lg a : ℝ) : EReal) := by
  unfold kdecF decay1 pos
  pointwise
  rw [place_word, word_255]
  unfold Cert.Ret.toEnd Cert.Ret.placeC
  simp only [Bool.false_eq_true, if_false]
  rw [← EReal.coe_sub, ← EReal.coe_mul, Ideal.exp_coe]

theorem qdecB_real (lg : ℝ) (a : Fin 256) : qdecB (F := Ideal) (lg : EReal) (ix2 a 0) = ((Cert.Ret.fromStart true lg a : ℝ) : EReal) := by
  unfold qdecB decay1 pos
  pointwise
  rw [place_word, word_256]
  unfold Cert.Ret.fromStart Cert.Ret.placeC
  have ha := a.isLt
  simp only [if_true]
  rw [← EReal.coe_sub, ← EReal.coe_mul, Ideal.exp_coe, Nat.cast_sub (by omega)]
  congr 3; push_cast; ring

theorem kdecB_real (lg : ℝ) (a : Fin 256) : kdecB (F := Ideal) (lg : EReal) (ix2 a 0) = ((Cert.Ret.toEnd true lg a : ℝ) : EReal) := by
  unfold kdecB decay1 pos
  pointwise
  rw [place_word]
  unfold Cert.Ret.toEnd Cert.Ret.placeC
  have ha := a.isLt
  simp only [if_true]
  rw [← EReal.coe_mul, Ideal.exp_coe, Nat.cast_sub (by omega)]
  congr 3; push_cast; ring

/-! ## The four tiles -/

section Tiles

variable {cos sin : FVec Ideal S256x128 .f32} {c s : Fin 256 → Fin 128 → ℝ}
  {dm : FVec Ideal S256x256 .f32} {m : Fin 256 → Fin 256 → ℝ}
  {dec : FVec Ideal S256x1 .f32} {w : Fin 256 → ℝ}
  {q k : FVec Ideal S256x256 .bf16} {fq fk : Fin 256 → Fin 256 → ℝ}
  {v o : FVec Ideal S256x512 .bf16} {fv fo : Fin 256 → Fin 512 → ℝ}

theorem bf_apply {s : Shape} (x : FVec Ideal s .f32) (y : s.Idx) : bf x y = x y := rfl

theorem dvTile_real (hc : ∀ a b, cos (ix2 a b) = ((c a b : ℝ) : EReal)) (hs : ∀ a b, sin (ix2 a b) = ((s a b : ℝ) : EReal))
    (hm : ∀ a b, dm (ix2 a b) = ((m a b : ℝ) : EReal)) (hw : ∀ a, dec (ix2 a 0) = ((w a : ℝ) : EReal))
    (hq : ∀ a b, q (ix2 a b) = ((fq a b : ℝ) : EReal)) (hk : ∀ a b, k (ix2 a b) = ((fk a b : ℝ) : EReal))
    (ho : ∀ a b, o (ix2 a b) = ((fo a b : ℝ) : EReal))
    {st : FVec Ideal S1x1x512x256 .f32} {fs : Fin 512 → Fin 256 → ℝ} (hst : ∀ a b, st (ix4 0 0 a b) = ((fs a b : ℝ) : EReal))
    (j : Fin 256) (e : Fin 512) :
    dvTile dm dec cos sin q k o st (ix2 j e) =
      (((∑ i : Fin 256, (∑ d, Cert.Ret.rot (c i) (s i) (fq i) d * (Cert.Ret.rot (c j) (s j) (fk j) d * (1 / 16))) * m i j * fo i e)
        + ∑ d, Cert.Ret.rot (c j) (s j) (fk j) d * (1 / 16) * w j * fs e d : ℝ) : EReal) := by
  have hrq := rope_real hc hs hq
  have hrk := scaled_real (rope_real hc hs hk)
  unfold dvTile scores mat rows bf tileV
  pointwise
  simp only [hrq, hrk, hm, hw, ho, hst, ← EReal.coe_mul, coe_sum, ← EReal.coe_add]

theorem dkTile_real (hc : ∀ a b, cos (ix2 a b) = ((c a b : ℝ) : EReal)) (hs : ∀ a b, sin (ix2 a b) = ((s a b : ℝ) : EReal))
    (hm : ∀ a b, dm (ix2 a b) = ((m a b : ℝ) : EReal)) (hw : ∀ a, dec (ix2 a 0) = ((w a : ℝ) : EReal))
    (hq : ∀ a b, q (ix2 a b) = ((fq a b : ℝ) : EReal)) (hv : ∀ a b, v (ix2 a b) = ((fv a b : ℝ) : EReal))
    (ho : ∀ a b, o (ix2 a b) = ((fo a b : ℝ) : EReal))
    {st : FVec Ideal S1x1x512x256 .f32} {fs : Fin 512 → Fin 256 → ℝ} (hst : ∀ a b, st (ix4 0 0 a b) = ((fs a b : ℝ) : EReal))
    (j d : Fin 256) :
    dkTile dm dec cos sin q v o st (ix2 j d) =
      ((Cert.Ret.unrot (c j) (s j) (fun d =>
        ((∑ i : Fin 256, (∑ e, fo i e * fv j e) * m i j * Cert.Ret.rot (c i) (s i) (fq i) d)
          + (∑ e, fv j e * fs e d) * w j) * (1 / 16)) d : ℝ) : EReal) := by
  have hrq := rope_real hc hs hq
  unfold dkTile
  refine unrope_real hc hs (f := fun j d => ((∑ i : Fin 256, (∑ e, fo i e * fv j e) * m i j * Cert.Ret.rot (c i) (s i) (fq i) d)
          + (∑ e, fv j e * fs e d) * w j) * (1 / 16)) (scaled_real fun a b => ?_) j d
  unfold dscores mat rows bf tileV
  pointwise
  simp only [hrq, hm, hw, ho, hv, hst, ← EReal.coe_mul, coe_sum, ← EReal.coe_add]

theorem dqTile_real (hc : ∀ a b, cos (ix2 a b) = ((c a b : ℝ) : EReal)) (hs : ∀ a b, sin (ix2 a b) = ((s a b : ℝ) : EReal))
    (hm : ∀ a b, dm (ix2 a b) = ((m a b : ℝ) : EReal)) (hw : ∀ a, dec (ix2 a 0) = ((w a : ℝ) : EReal))
    (hk : ∀ a b, k (ix2 a b) = ((fk a b : ℝ) : EReal)) (hv : ∀ a b, v (ix2 a b) = ((fv a b : ℝ) : EReal))
    (ho : ∀ a b, o (ix2 a b) = ((fo a b : ℝ) : EReal))
    {st : FVec Ideal S1x1x512x256 .bf16} {fs : Fin 512 → Fin 256 → ℝ} (hst : ∀ a b, st (ix4 0 0 a b) = ((fs a b : ℝ) : EReal))
    (j d : Fin 256) :
    dqTile dm dec cos sin k v o st (ix2 j d) =
      ((Cert.Ret.unrot (c j) (s j) (fun d =>
        (∑ i : Fin 256, (∑ e, fo j e * fv i e) * m j i * (Cert.Ret.rot (c i) (s i) (fk i) d * (1 / 16)))
          + (∑ e, fo j e * fs e d) * w j) d : ℝ) : EReal) := by
  have hrk := scaled_real (rope_real hc hs hk)
  unfold dqTile
  refine unrope_real hc hs (f := fun j d => (∑ i : Fin 256, (∑ e, fo j e * fv i e) * m j i * (Cert.Ret.rot (c i) (s i) (fk i) d * (1 / 16)))
          + (∑ e, fo j e * fs e d) * w j) (fun a b => ?_) j d
  unfold dscores mat rows bf tileV
  pointwise
  simp only [hrk, hm, hw, ho, hv, hst, ← EReal.coe_mul, coe_sum, ← EReal.coe_add]

theorem dstTile_real (hc : ∀ a b, cos (ix2 a b) = ((c a b : ℝ) : EReal)) (hs : ∀ a b, sin (ix2 a b) = ((s a b : ℝ) : EReal))
    (hw : ∀ a, dec (ix2 a 0) = ((w a : ℝ) : EReal))
    (hq : ∀ a b, q (ix2 a b) = ((fq a b : ℝ) : EReal)) (ho : ∀ a b, o (ix2 a b) = ((fo a b : ℝ) : EReal))
    {st : FVec Ideal S1x1x512x256 .f32} {fs : Fin 512 → Fin 256 → ℝ} (hst : ∀ a b, st (ix4 0 0 a b) = ((fs a b : ℝ) : EReal))
    (δ : ℝ) (e : Fin 512) (d : Fin 256) :
    dstTile (δ : EReal) dec cos sin q o st (ix4 0 0 e d) =
      (((∑ i : Fin 256, fo i e * (Cert.Ret.rot (c i) (s i) (fq i) d * w i)) + fs e d * δ : ℝ) : EReal) := by
  have hrq := rope_real hc hs hq
  unfold dstTile mat rows bf tileV
  pointwise
  simp only [hrq, hw, ho, hst, ← EReal.coe_mul, coe_sum, ← EReal.coe_add]

end Tiles

end Cert.KernelIdeal.Ret

end
-- ==== Proof.Heads.lean ====
/- The gradients head by head over the reals: the arguments as real tables, a head's columns, the rotated queries and
   scaled rotated keys, and the three gradients of a direction as the whole step returns them. -/
module

public import proofs.«01_k».proof.Proof.Retention

@[expose] public section

noncomputable section

namespace Cert.Ret

/-- The arguments: queries, keys, values, the output's gradient, and the rotation of every token. -/
structure Inputs where
  q : Fin 8448 → Fin 1024 → ℝ
  k : Fin 8448 → Fin 1024 → ℝ
  v : Fin 8448 → Fin 2048 → ℝ
  o : Fin 8448 → Fin 2048 → ℝ
  rc : Fin 8448 → Fin 128 → ℝ
  rs : Fin 8448 → Fin 128 → ℝ

/-- A head's column of queries or keys. -/
def colK (h : Fin 4) (d : Fin 256) : Fin 1024 := ⟨256 * h.val + d.val, by omega⟩

/-- A head's column of values. -/
def colV (h : Fin 4) (e : Fin 512) : Fin 2048 := ⟨512 * h.val + e.val, by omega⟩

variable (I : Inputs)

/-- A head's rotated queries. -/
def qh (h : Fin 4) (t : Fin 8448) (d : Fin 256) : ℝ := rot (I.rc t) (I.rs t) (fun d => I.q t (colK h d)) d

/-- A head's rotated and scaled keys. -/
def kh (h : Fin 4) (t : Fin 8448) (d : Fin 256) : ℝ := rot (I.rc t) (I.rs t) (fun d => I.k t (colK h d)) d * (1 / 16)

/-- A head's values. -/
def vh (h : Fin 4) (t : Fin 8448) (e : Fin 512) : ℝ := I.v t (colV h e)

/-- A head's output gradient. -/
def oh (h : Fin 4) (t : Fin 8448) (e : Fin 512) : ℝ := I.o t (colV h e)

/-- The denominator of a head's decay. -/
def denom (b : Bool) (h : Fin 4) : ℝ := if b then ![256, 128, 64, 32] h else ![32, 64, 128, 256] h

/-- A head's log-decay. -/
def lg (b : Bool) (h : Fin 4) : ℝ := Real.log ((denom b h - 1) / denom b h)

/-- The gradient of the queries. -/
def dqOut (b : Bool) (h : Fin 4) (t : Fin 8448) (d : Fin 256) : ℝ :=
  unrot (I.rc t) (I.rs t) (dq b (lg b h) (kh I h) (vh I h) (oh I h) t) d

/-- The gradient of the keys. -/
def dkOut (b : Bool) (h : Fin 4) (t : Fin 8448) (d : Fin 256) : ℝ :=
  unrot (I.rc t) (I.rs t) (fun d => dk b (lg b h) (qh I h) (vh I h) (oh I h) t d * (1 / 16)) d

/-- The gradient of the values. -/
def dvOut (b : Bool) (h : Fin 4) (t : Fin 8448) (e : Fin 512) : ℝ := dv b (lg b h) (qh I h) (kh I h) (oh I h) t e

end Cert.Ret

end
-- ==== Proof.HostReal.lean ====
/- What the host prepares, over the reals: the rotated queries and keys, the values by heads, the log-decays, the states
   before every chunk, and the orders of the two directions. -/
module

public import proofs.«01_k».proof.Proof.Host
public import proofs.«01_k».proof.Proof.TileReal
public import proofs.«01_k».proof.Proof.Heads

@[expose] public section

set_option maxRecDepth 16384

noncomputable section

namespace Cert.KernelIdeal.Ret

open Cert.KernelIdeal Cert.KernelIdeal.Gen Idealize.ShloMosaic Idealize.SL.Sem
open Cert.Ret (colK colV rot)

theorem headsK_real {x : FVec Ideal S8448x1024 .bf16} {f : Fin 8448 → Fin 1024 → ℝ} (hx : ∀ t a, x (ix2 t a) = ((f t a : ℝ) : EReal))
    (h : Fin 4) (t : Fin 8448) (d : Fin 256) : headsK x (ix3 h t d) = ((f t (colK h d) : ℝ) : EReal) := by
  unfold headsK
  pointwise
  rw [hx]
  exact congrArg (fun a => ((f t a : ℝ) : EReal)) (Fin.ext (by simp only [colK]; omega))

theorem headsV_real {x : FVec Ideal S8448x2048 .bf16} {f : Fin 8448 → Fin 2048 → ℝ} (hx : ∀ t a, x (ix2 t a) = ((f t a : ℝ) : EReal))
    (h : Fin 4) (t : Fin 8448) (e : Fin 512) : headsV x (ix3 h t e) = ((f t (colV h e) : ℝ) : EReal) := by
  unfold headsV
  pointwise
  rw [hx]
  exact congrArg (fun a => ((f t a : ℝ) : EReal)) (Fin.ext (by simp only [colV]; omega))

theorem word_zero : Ideal.ofBits .f32 0x00000000#32 = ((0 : ℝ) : EReal) := by simp [Ideal.ofBits, Ideal.ieee]

theorem word_one : Ideal.ofBits .f32 0x3F800000#32 = ((1 : ℝ) : EReal) := by
  simp [Ideal.ofBits, Ideal.ieee, ← EReal.coe_mul]; norm_num

/-- A table of the rotation, over the context's tokens too: `z` where nothing turns. -/
def under (z : ℝ) (f : Fin 8192 → Fin 128 → ℝ) (t : Fin 8448) (a : Fin 128) : ℝ :=
  if h : t.val < 256 then z else f ⟨t.val - 256, by omega⟩ a

theorem withContext_real {w : BitVec 32} {z : ℝ} (hw : Ideal.ofBits .f32 w = ((z : ℝ) : EReal)) {x : FVec Ideal S8192x128 .f32}
    {f : Fin 8192 → Fin 128 → ℝ} (hx : ∀ t a, x (ix2 t a) = ((f t a : ℝ) : EReal)) (t : Fin 8448) (a : Fin 128) :
    withContext w x (ix2 t a) = ((under z f t a : ℝ) : EReal) := by
  unfold under
  split
  · next ht => rw [← hw]; unfold withContext; pointwise; rw [dif_pos ht]
  · next ht => rw [← hx]; unfold withContext; pointwise; rw [dif_neg ht]

theorem turn_real {x : FVec Ideal S4x8192x256 .f32} {cos sin : FVec Ideal S8192x128 .f32} {f : Fin 4 → Fin 8192 → Fin 256 → ℝ}
    {c s : Fin 8192 → Fin 128 → ℝ} (hx : ∀ h t d, x (ix3 h t d) = ((f h t d : ℝ) : EReal))
    (hc : ∀ t a, cos (ix2 t a) = ((c t a : ℝ) : EReal)) (hs : ∀ t a, sin (ix2 t a) = ((s t a : ℝ) : EReal))
    (h : Fin 4) (t : Fin 8192) (d : Fin 256) : turn x cos sin (ix3 h t d) = ((rot (c t) (s t) (f h t) d : ℝ) : EReal) := by
  unfold turn allHeads rot
  pointwise
  simp only [hx, hc, hs, ← EReal.coe_mul, ← EReal.coe_add, ← EReal.coe_sub]
  split <;> rfl

theorem rot_context (x : Fin 256 → ℝ) (d : Fin 256) : rot (fun _ => 1) (fun _ => 0) x d = x d := by
  unfold rot
  split
  · ring
  · next h => rw [mul_one, mul_zero, add_zero]; congr 1; ext; simp only; omega

theorem rotated_real {x : FVec Ideal S8448x1024 .bf16} {cos sin : FVec Ideal S8192x128 .f32} {f : Fin 8448 → Fin 1024 → ℝ}
    {c s : Fin 8192 → Fin 128 → ℝ} (hx : ∀ t a, x (ix2 t a) = ((f t a : ℝ) : EReal))
    (hc : ∀ t a, cos (ix2 t a) = ((c t a : ℝ) : EReal)) (hs : ∀ t a, sin (ix2 t a) = ((s t a : ℝ) : EReal))
    (h : Fin 4) (t : Fin 8448) (d : Fin 256) :
    rotated x cos sin (ix3 h t d) = ((rot (under 1 c t) (under 0 s t) (fun d => f t (colK h d)) d : ℝ) : EReal) := by
  unfold rotated
  pointwise
  split
  · next ht =>
    rw [headsK_real hx]
    have e1 : under 1 c t = fun _ => 1 := by funext a; simp only [under, dif_pos ht]
    have e2 : under 0 s t = fun _ => 0 := by funext a; simp only [under, dif_pos ht]
    rw [e1, e2, rot_context]
  · next ht =>
    have e1 : under 1 c t = c ⟨t.val - 256, by omega⟩ := by funext a; simp only [under, dif_neg ht]
    have e2 : under 0 s t = s ⟨t.val - 256, by omega⟩ := by funext a; simp only [under, dif_neg ht]
    rw [e1, e2]
    refine (turn_real (f := fun h t d => f ⟨256 + t.val, by omega⟩ (colK h d)) (fun h t d => ?_) hc hs h _ d).trans ?_
    · pointwise
      exact headsK_real hx _ _ _
    · refine congrArg (fun t => ((rot _ _ (fun d => f t (colK h d)) d : ℝ) : EReal)) (Fin.ext ?_)
      simp only; omega

theorem keys_real {x : FVec Ideal S8448x1024 .bf16} {cos sin : FVec Ideal S8192x128 .f32} {f : Fin 8448 → Fin 1024 → ℝ}
    {c s : Fin 8192 → Fin 128 → ℝ} (hx : ∀ t a, x (ix2 t a) = ((f t a : ℝ) : EReal))
    (hc : ∀ t a, cos (ix2 t a) = ((c t a : ℝ) : EReal)) (hs : ∀ t a, sin (ix2 t a) = ((s t a : ℝ) : EReal))
    (h : Fin 4) (t : Fin 8448) (d : Fin 256) :
    keys x cos sin (ix3 h t d) = ((rot (under 1 c t) (under 0 s t) (fun d => f t (colK h d)) d * (1 / 16) : ℝ) : EReal) := by
  unfold keys
  pointwise
  rw [rotated_real hx hc hs, word_sixteenth, ← EReal.coe_mul]

theorem mirrorK_apply (x : FVec Ideal S4x8448x256 .f32) (h : Fin 4) (t : Fin 8448) (d : Fin 256) :
    mirrorK x (ix3 h t d) = x (ix3 h (Cert.Ret.mirror t) d) := by
  have := t.isLt
  by_cases ht : t.val < 256
  · unfold mirrorK
    pointwise
    rw [dif_pos ht]
    refine congrArg (fun t => x (ix3 h t d)) (Fin.ext ?_)
    show (Fin.rev (⟨t.val, ht⟩ : Fin 256)).val = (Cert.Ret.mirror t).val
    simp only [Cert.Ret.mirror_val, if_pos ht, Fin.val_rev]; omega
  · unfold mirrorK
    pointwise
    rw [dif_neg ht]
    refine congrArg (fun t => x (ix3 h t d)) (Fin.ext ?_)
    show 256 + (Fin.rev (⟨t.val - 256, by omega⟩ : Fin 8192)).val = (Cert.Ret.mirror t).val
    simp only [Cert.Ret.mirror_val, if_neg ht, Fin.val_rev]; omega

theorem mirrorV_apply (x : FVec Ideal S4x8448x512 .f32) (h : Fin 4) (t : Fin 8448) (d : Fin 512) :
    mirrorV x (ix3 h t d) = x (ix3 h (Cert.Ret.mirror t) d) := by
  have := t.isLt
  by_cases ht : t.val < 256
  · unfold mirrorV
    pointwise
    rw [dif_pos ht]
    refine congrArg (fun t => x (ix3 h t d)) (Fin.ext ?_)
    show (Fin.rev (⟨t.val, ht⟩ : Fin 256)).val = (Cert.Ret.mirror t).val
    simp only [Cert.Ret.mirror_val, if_pos ht, Fin.val_rev]; omega
  · unfold mirrorV
    pointwise
    rw [dif_neg ht]
    refine congrArg (fun t => x (ix3 h t d)) (Fin.ext ?_)
    show 256 + (Fin.rev (⟨t.val - 256, by omega⟩ : Fin 8192)).val = (Cert.Ret.mirror t).val
    simp only [Cert.Ret.mirror_val, if_neg ht, Fin.val_rev]; omega

/-! ## The decays -/

theorem word_two : Ideal.ofBits .f32 0x40000000#32 = ((2 : ℝ) : EReal) := by
  simp [Ideal.ofBits, Ideal.ieee, ← EReal.coe_mul]; norm_num

theorem word_minus_five : Ideal.ofBits .f32 0xC0A00000#32 = ((-5 : ℝ) : EReal) := by
  simp [Ideal.ofBits, Ideal.ieee, ← EReal.coe_mul]; norm_num

theorem nat_word (n : ℕ) (h : n < 2 ^ 31) : (FloatOps.sitofp FTy.f32 (BitVec.ofNat 32 n) : Ideal .f32) = ((n : ℝ) : EReal) := by
  show (((BitVec.ofNat 32 n).toInt : ℝ) : EReal) = _
  have : (BitVec.ofNat 32 n).toInt = (n : ℤ) := by
    rw [BitVec.toInt_eq_toNat_bmod, BitVec.toNat_ofNat, Int.bmod_def]; omega
  rw [this]; rfl

theorem decay_base (h : Fin 4) : 1 - Real.rpow 2 (-5 - (h.val : ℝ)) = (Cert.Ret.denom false h - 1) / Cert.Ret.denom false h := by
  have e : Real.rpow 2 (-5 - (h.val : ℝ)) = ((2 : ℝ) ^ (5 + h.val))⁻¹ := by
    rw [show (-5 - (h.val : ℝ)) = -((5 + h.val : ℕ) : ℝ) by push_cast; ring]
    show (2 : ℝ) ^ (-((5 + h.val : ℕ) : ℝ)) = _
    rw [Real.rpow_neg (by norm_num), Real.rpow_natCast]
  rw [e]
  fin_cases h <;> simp [Cert.Ret.denom] <;> norm_num

theorem logDecays_real (h : Fin 4) : logDecays (F := Ideal) (ix1 h) = ((Cert.Ret.lg false h : ℝ) : EReal) := by
  unfold logDecays
  pointwise
  rw [word_two, word_minus_five, nat_word h.val (by omega), ← EReal.coe_sub, Ideal.pow_coe_coe, ← EReal.coe_one, ← EReal.coe_sub,
    decay_base]
  have hp : ¬ (Cert.Ret.denom false h - 1) / Cert.Ret.denom false h ≤ 0 := by
    fin_cases h <;> simp [Cert.Ret.denom] <;> norm_num
  rw [Ideal.log_coe, if_neg hp]
  rfl

theorem logDecays_reversed (h : Fin 4) : Host.reverse [0] (logDecays (F := Ideal)) (ix1 h) = ((Cert.Ret.lg true h : ℝ) : EReal) := by
  pointwise
  refine (logDecays_real h.rev).trans ?_
  unfold Cert.Ret.lg
  have : Cert.Ret.denom false h.rev = Cert.Ret.denom true h := by fin_cases h <;> rfl
  rw [this]

/-! ## The states before every chunk -/

/-- What a token counts for in the state before a chunk. -/
def weight (l : ℝ) (n : Fin 33) (p : Fin 8448) : ℝ :=
  if p.val < 256 * n.val then Real.exp (l * (256 * (n.val : ℝ) - 1 - (p.val : ℝ))) else 0

theorem weights_real {lg : FVec Ideal S4 .f32} {l : Fin 4 → ℝ} (hl : ∀ h, lg (ix1 h) = ((l h : ℝ) : EReal))
    (n : Fin 33) (h : Fin 4) (p : Fin 8448) : weights lg (ix3 n h p) = ((weight (l h) n p : ℝ) : EReal) := by
  unfold weights gap
  pointwise
  rw [hl, word_256, nat_word n.val (by omega), nat_word p.val (by omega), ← EReal.coe_mul, ← EReal.coe_one, ← EReal.coe_sub,
    ← EReal.coe_sub, ← EReal.coe_zero]
  have e : (0 : ℝ) ≤ 256 * (n.val : ℝ) - 1 - (p.val : ℝ) ↔ p.val < 256 * n.val := by
    rw [sub_nonneg, le_sub_iff_add_le, ← Nat.cast_ofNat (R := ℝ) (n := 256)]
    norm_cast
  unfold weight
  by_cases hp : p.val < 256 * n.val
  · rw [if_pos (EReal.coe_le_coe_iff.mpr (e.mpr hp)), if_pos hp, max_eq_left (EReal.coe_le_coe_iff.mpr (e.mpr hp)), ← EReal.coe_mul, Ideal.exp_coe]
  · rw [if_neg (fun h => hp (e.mp (EReal.coe_le_coe_iff.mp h))), if_neg hp]

theorem states_real {k : FVec Ideal S4x8448x256 .f32} {v : FVec Ideal S4x8448x512 .f32} {lg : FVec Ideal S4 .f32} {l : Fin 4 → ℝ}
    {fk : Fin 4 → Fin 8448 → Fin 256 → ℝ} {fv : Fin 4 → Fin 8448 → Fin 512 → ℝ}
    (hk : ∀ h t d, k (ix3 h t d) = ((fk h t d : ℝ) : EReal)) (hv : ∀ h t e, v (ix3 h t e) = ((fv h t e : ℝ) : EReal))
    (hl : ∀ h, lg (ix1 h) = ((l h : ℝ) : EReal)) (n : Fin 33) (h : Fin 4) (e : Fin 512) (d : Fin 256) :
    states k v lg (ix4 n h e d) = ((∑ p, fv h p e * (fk h p d * weight (l h) n p) : ℝ) : EReal) := by
  unfold states weighed
  pointwise
  simp only [hk, hv, weights_real hl, ← EReal.coe_mul]
  exact coe_sum _ _

theorem byChunk_apply (x : FVec Ideal S33x4x512x256 .f32) (s : Fin 33) (h : Fin 4) (e : Fin 512) (d : Fin 256) :
    byChunk x (ix4 (Cert.Ret.chunk true s) h e d) = x (ix4 (Cert.Ret.chunk false s) h e d) := by
  have hs := s.isLt
  by_cases h1 : (Cert.Ret.chunk true s).val < 1
  · unfold byChunk
    pointwise
    rw [dif_pos h1]
    refine congrArg (fun n => x (ix4 n h e d)) (Fin.ext ?_)
    revert h1
    simp only [Cert.Ret.chunk, if_true, Bool.false_eq_true, if_false]
    split <;> simp only [] <;> omega
  · unfold byChunk
    pointwise
    rw [dif_neg h1]
    refine congrArg (fun n => x (ix4 n h e d)) (Fin.ext ?_)
    have hc := (Cert.Ret.chunk true s).isLt
    show 1 + (Fin.rev (⟨(Cert.Ret.chunk true s).val - 1, by omega⟩ : Fin 32)).val = (Cert.Ret.chunk false s).val
    rw [Fin.val_rev]
    revert h1
    simp only [Cert.Ret.chunk, if_true, Bool.false_eq_true, if_false]
    split <;> simp only [] <;> omega

theorem weight_before (b : Bool) (l : ℝ) (s : Fin 33) (u : Fin 8448) :
    weight l (Cert.Ret.chunk false s) (Cert.Ret.place b u) = Cert.Ret.before b l s u := by
  have hs := s.isLt
  have e1 : ((32 - s.val : ℕ) : ℝ) = 32 - (s.val : ℝ) := by rw [Nat.cast_sub (by omega)]; norm_num
  unfold weight Cert.Ret.before
  simp only [Cert.Ret.chunk, Bool.false_eq_true, if_false, e1]

theorem fstate_forward (l : ℝ) (k : Fin 8448 → Fin 256 → ℝ) (v : Fin 8448 → Fin 512 → ℝ) (s : Fin 33) (e : Fin 512) (d : Fin 256) :
    ∑ p, v p e * (k p d * weight l (Cert.Ret.chunk false s) p) = Cert.Ret.fstate false l k v s e d := by
  unfold Cert.Ret.fstate
  refine Finset.sum_congr rfl fun u _ => ?_
  rw [← weight_before]
  show _ = weight l (Cert.Ret.chunk false s) u * _
  ring

theorem fstate_backward (l : ℝ) (k : Fin 8448 → Fin 256 → ℝ) (v : Fin 8448 → Fin 512 → ℝ) (s : Fin 33) (e : Fin 512) (d : Fin 256) :
    ∑ p, v (Cert.Ret.mirror p) e * (k (Cert.Ret.mirror p) d * weight l (Cert.Ret.chunk false s) p)
      = Cert.Ret.fstate true l k v s e d := by
  unfold Cert.Ret.fstate
  rw [← Cert.Ret.mirrorE.sum_comp]
  refine Finset.sum_congr rfl fun u _ => ?_
  show v (Cert.Ret.mirror (Cert.Ret.mirror u)) e * (k (Cert.Ret.mirror (Cert.Ret.mirror u)) d * weight l (Cert.Ret.chunk false s) (Cert.Ret.mirror u)) = _
  rw [Cert.Ret.mirror_mirror, ← weight_before]
  show _ = weight l (Cert.Ret.chunk false s) (Cert.Ret.mirror u) * _
  ring

end Cert.KernelIdeal.Ret

end
-- ==== Proof.Blocks.lean ====
/- The blocks by head: a head's columns of a loaded block, a block stored as four heads' tiles, the carried states stored as
   eight; and the decays that the body names. -/
module

public import proofs.«01_k».proof.Proof.Tile
public import Idealize.ShloMosaic.Lib.Pipeline.ValueKit
public import Idealize.ShloMosaic.Lib.Pipeline.ReadBack
public import Idealize.ShloMosaic.Lib.Ring

@[expose] public section

set_option maxRecDepth 16384

noncomputable section

namespace Cert.KernelIdeal.Ret

open Cert.KernelIdeal Cert.KernelIdeal.Gen Idealize.ShloMosaic Idealize.ShloMosaic.TcCoe Idealize.SL.Sem

variable {F : FTy → Type} [FloatOps F] [Named F]

/-- The log-decay `log (1 - 1/32)`. -/
def lg32 : F .f32 := Named.named (φ := .f32) κ "log_gamma_32" 0xBD020AEC#32

/-- What it comes to over a chunk. -/
def chunk32 : F .f32 := Named.named (φ := .f32) κ "chunk_decay_32" 0x399ACCA1#32

/-- The log-decay `log (1 - 1/64)`. -/
def lg64 : F .f32 := Named.named (φ := .f32) κ "log_gamma_64" 0xBC8102B3#32

/-- What it comes to over a chunk. -/
def chunk64 : F .f32 := Named.named (φ := .f32) κ "chunk_decay_64" 0x3C9160A5#32

/-- The log-decay `log (1 - 1/128)`. -/
def lg128 : F .f32 := Named.named (φ := .f32) κ "log_gamma_128" 0xBC0080AC#32

/-- What it comes to over a chunk. -/
def chunk128 : F .f32 := Named.named (φ := .f32) κ "chunk_decay_128" 0x3E097FCE#32

/-- The log-decay `log (1 - 1/256)`. -/
def lg256 : F .f32 := Named.named (φ := .f32) κ "log_gamma_256" 0xBB80402B#32

/-- What it comes to over a chunk. -/
def chunk256 : F .f32 := Named.named (φ := .f32) κ "chunk_decay_256" 0x3EBBFC5D#32

/-- A head's columns of queries or keys, from column `n`. -/
def headK (x : Vec F S256x1024 .bf16) (n : ℕ) (h : ∀ a, (![0, n] : Fin 2 → ℕ) a + S256x256.size a ≤ S256x1024.size a) : Vec F S256x256 .bf16 :=
  View.ld x (Rect.unit (![0, n] : Fin 2 → ℕ) S256x256.size h)

/-- A head's columns of values, from column `n`. -/
def headV (x : Vec F S256x2048 .bf16) (n : ℕ) (h : ∀ a, (![0, n] : Fin 2 → ℕ) a + S256x512.size a ≤ S256x2048.size a) : Vec F S256x512 .bf16 :=
  View.ld x (Rect.unit (![0, n] : Fin 2 → ℕ) S256x512.size h)

/-- A head's saved state. -/
def savedAt (x : Vec F S1x4x512x256 .bf16) (b : ℕ) (h : ∀ r, (![0, b, 0, 0] : Fin 4 → ℕ) r + S1x1x512x256.size r ≤ S1x4x512x256.size r) :
    Vec F S1x1x512x256 .bf16 :=
  View.ld x (Rect.unit (![0, b, 0, 0] : Fin 4 → ℕ) S1x1x512x256.size h)

/-- A direction's and head's carried state. -/
def carryAt (x : Vec F S2x4x512x256 .f32) (a b : ℕ) (h : ∀ r, (![a, b, 0, 0] : Fin 4 → ℕ) r + S1x1x512x256.size r ≤ S2x4x512x256.size r) :
    Vec F S1x1x512x256 .f32 :=
  View.ld x (Rect.unit (![a, b, 0, 0] : Fin 4 → ℕ) S1x1x512x256.size h)

/-- A block of query or key gradients stored head by head. -/
def fourK (t0 t1 t2 t3 : FVec F S256x256 .bf16) : Vec F S256x1024 .bf16 :=
  View.canon [⟨Rect.unit ![0, 768] S256x256.size inb_S256x1024_S256x256_0_768, t3⟩,
    ⟨Rect.unit ![0, 512] S256x256.size inb_S256x1024_S256x256_0_512, t2⟩,
    ⟨Rect.unit ![0, 256] S256x256.size inb_S256x1024_S256x256_0_256, t1⟩,
    ⟨Rect.unit ![0, 0] S256x256.size inb_S256x1024_S256x256_0_0, t0⟩]

/-- A block of value gradients stored head by head. -/
def fourV (t0 t1 t2 t3 : FVec F S256x512 .bf16) : Vec F S256x2048 .bf16 :=
  View.canon [⟨Rect.unit ![0, 1536] S256x512.size inb_S256x2048_S256x512_0_1536, t3⟩,
    ⟨Rect.unit ![0, 1024] S256x512.size inb_S256x2048_S256x512_0_1024, t2⟩,
    ⟨Rect.unit ![0, 512] S256x512.size inb_S256x2048_S256x512_0_512, t1⟩,
    ⟨Rect.unit ![0, 0] S256x512.size inb_S256x2048_S256x512_0_0, t0⟩]

/-- The carried states stored direction by direction and head by head, over what `L` stored. -/
def eight (t00 t01 t02 t03 t10 t11 t12 t13 : FVec F S1x1x512x256 .f32) (L : List (View.Piece (Elt F) S2x4x512x256 .f32)) : Vec F S2x4x512x256 .f32 :=
  View.canon (
    ⟨Rect.unit ![1, 3, 0, 0] S1x1x512x256.size inb_S2x4x512x256_S1x1x512x256_1_3_0_0, t13⟩ ::
    ⟨Rect.unit ![1, 2, 0, 0] S1x1x512x256.size inb_S2x4x512x256_S1x1x512x256_1_2_0_0, t12⟩ ::
    ⟨Rect.unit ![1, 1, 0, 0] S1x1x512x256.size inb_S2x4x512x256_S1x1x512x256_1_1_0_0, t11⟩ ::
    ⟨Rect.unit ![1, 0, 0, 0] S1x1x512x256.size inb_S2x4x512x256_S1x1x512x256_1_0_0_0, t10⟩ ::
    ⟨Rect.unit ![0, 3, 0, 0] S1x1x512x256.size inb_S2x4x512x256_S1x1x512x256_0_3_0_0, t03⟩ ::
    ⟨Rect.unit ![0, 2, 0, 0] S1x1x512x256.size inb_S2x4x512x256_S1x1x512x256_0_2_0_0, t02⟩ ::
    ⟨Rect.unit ![0, 1, 0, 0] S1x1x512x256.size inb_S2x4x512x256_S1x1x512x256_0_1_0_0, t01⟩ ::
    ⟨Rect.unit ![0, 0, 0, 0] S1x1x512x256.size inb_S2x4x512x256_S1x1x512x256_0_0_0_0, t00⟩ :: L)

theorem headK_apply (x : Vec F S256x1024 .bf16) (n : ℕ) (h) (i : Fin 256) (d : Fin 256) (hn : n + d.val < 1024) :
    headK x n h (ix2 i d) = x (ix2 i ⟨n + d.val, hn⟩) := by
  show x _ = x _
  congr 1
  funext a
  fin_cases a <;> ext <;> simp [ix2, Rect.emb, Rect.unit]

theorem fourK_apply (t0 t1 t2 t3 : FVec F S256x256 .bf16) (h : Fin 4) (i : Fin 256) (d : Fin 256) (hn : 256 * h.val + d.val < 1024) :
    fourK t0 t1 t2 t3 (ix2 i ⟨256 * h.val + d.val, hn⟩) = (![t0, t1, t2, t3] h) (ix2 i d) := by
  have key : ∀ y : S256x1024.Idx, y = ix2 i ⟨256 * h.val + d.val, hn⟩ → ∀ v, v = (![t0, t1, t2, t3] h) (ix2 i d) →
      fourK t0 t1 t2 t3 y = v := by
    intro y hy v hv
    have e0 : (y 0).val = i.val := by rw [hy]; rfl
    have e1 : (y 1).val = 256 * h.val + d.val := by rw [hy]; rfl
    have hd := d.isLt; have hh := h.isLt
    unfold fourK
    canon_tiles x hx
    · obtain rfl : h = 3 := Fin.ext (by show h.val = 3; omega)
      rw [hv]
      show t3 x = t3 (ix2 i d)
      congr 1
      funext a
      fin_cases a
      · exact Fin.ext (by show (x 0).val = i.val; omega)
      · refine Fin.ext ?_
        show (x 1).val = d.val
        simp at e1
        omega
    · obtain rfl : h = 2 := Fin.ext (by show h.val = 2; omega)
      rw [hv]
      show t2 x = t2 (ix2 i d)
      congr 1
      funext a
      fin_cases a
      · exact Fin.ext (by show (x 0).val = i.val; omega)
      · refine Fin.ext ?_
        show (x 1).val = d.val
        simp at e1
        omega
    · obtain rfl : h = 1 := Fin.ext (by show h.val = 1; omega)
      rw [hv]
      show t1 x = t1 (ix2 i d)
      congr 1
      funext a
      fin_cases a
      · exact Fin.ext (by show (x 0).val = i.val; omega)
      · refine Fin.ext ?_
        show (x 1).val = d.val
        simp at e1
        omega
    · obtain rfl : h = 0 := Fin.ext (by show h.val = 0; omega)
      rw [hv]
      show t0 x = t0 (ix2 i d)
      congr 1
      funext a
      fin_cases a
      · exact Fin.ext (by show (x 0).val = i.val; omega)
      · refine Fin.ext ?_
        show (x 1).val = d.val
        simp at e1
        omega
  exact key _ rfl _ rfl

theorem headV_apply (x : Vec F S256x2048 .bf16) (n : ℕ) (h) (i : Fin 256) (d : Fin 512) (hn : n + d.val < 2048) :
    headV x n h (ix2 i d) = x (ix2 i ⟨n + d.val, hn⟩) := by
  show x _ = x _
  congr 1
  funext a
  fin_cases a <;> ext <;> simp [ix2, Rect.emb, Rect.unit]

theorem fourV_apply (t0 t1 t2 t3 : FVec F S256x512 .bf16) (h : Fin 4) (i : Fin 256) (d : Fin 512) (hn : 512 * h.val + d.val < 2048) :
    fourV t0 t1 t2 t3 (ix2 i ⟨512 * h.val + d.val, hn⟩) = (![t0, t1, t2, t3] h) (ix2 i d) := by
  have key : ∀ y : S256x2048.Idx, y = ix2 i ⟨512 * h.val + d.val, hn⟩ → ∀ v, v = (![t0, t1, t2, t3] h) (ix2 i d) →
      fourV t0 t1 t2 t3 y = v := by
    intro y hy v hv
    have e0 : (y 0).val = i.val := by rw [hy]; rfl
    have e1 : (y 1).val = 512 * h.val + d.val := by rw [hy]; rfl
    have hd := d.isLt; have hh := h.isLt
    unfold fourV
    canon_tiles x hx
    · obtain rfl : h = 3 := Fin.ext (by show h.val = 3; omega)
      rw [hv]
      show t3 x = t3 (ix2 i d)
      congr 1
      funext a
      fin_cases a
      · exact Fin.ext (by show (x 0).val = i.val; omega)
      · refine Fin.ext ?_
        show (x 1).val = d.val
        simp at e1
        omega
    · obtain rfl : h = 2 := Fin.ext (by show h.val = 2; omega)
      rw [hv]
      show t2 x = t2 (ix2 i d)
      congr 1
      funext a
      fin_cases a
      · exact Fin.ext (by show (x 0).val = i.val; omega)
      · refine Fin.ext ?_
        show (x 1).val = d.val
        simp at e1
        omega
    · obtain rfl : h = 1 := Fin.ext (by show h.val = 1; omega)
      rw [hv]
      show t1 x = t1 (ix2 i d)
      congr 1
      funext a
      fin_cases a
      · exact Fin.ext (by show (x 0).val = i.val; omega)
      · refine Fin.ext ?_
        show (x 1).val = d.val
        simp at e1
        omega
    · obtain rfl : h = 0 := Fin.ext (by show h.val = 0; omega)
      rw [hv]
      show t0 x = t0 (ix2 i d)
      congr 1
      funext a
      fin_cases a
      · exact Fin.ext (by show (x 0).val = i.val; omega)
      · refine Fin.ext ?_
        show (x 1).val = d.val
        simp at e1
        omega
  exact key _ rfl _ rfl

theorem carryAt_apply (x : Vec F S2x4x512x256 .f32) (a : Fin 2) (b : Fin 4) (h) (e : Fin 512) (d : Fin 256) :
    carryAt x a.val b.val h (ix4 0 0 e d) = x (ix4 a b e d) := by
  show x _ = x _
  congr 1
  funext r
  fin_cases r <;> ext <;> simp [ix4, Rect.emb, Rect.unit]

theorem savedAt_apply (x : Vec F S1x4x512x256 .bf16) (b : Fin 4) (h) (e : Fin 512) (d : Fin 256) :
    savedAt x b.val h (ix4 0 0 e d) = x (ix4 0 b e d) := by
  show x _ = x _
  congr 1
  funext r
  fin_cases r <;> ext <;> simp [ix4, Rect.emb, Rect.unit]

/-- Eight states laid out by direction and head. -/
def spread (T : Fin 2 → Fin 4 → FVec F S1x1x512x256 .f32) : Vec F S2x4x512x256 .f32 :=
  fun y => T (y 0) (y 1) (ix4 0 0 (y 2) (y 3))

theorem piece_eq (a : Fin 2) (b : Fin 4) (h : ∀ r, (![a.val, b.val, 0, 0] : Fin 4 → ℕ) r + S1x1x512x256.size r ≤ S2x4x512x256.size r)
    (T : Fin 2 → Fin 4 → FVec F S1x1x512x256 .f32) (x : S1x1x512x256.Idx) :
    T a b x = spread T ((Rect.unit (s := S2x4x512x256) (![a.val, b.val, 0, 0] : Fin 4 → ℕ) S1x1x512x256.size h).emb x) := by
  have l0 : (x 0).val < 1 := (x 0).isLt
  have l1 : (x 1).val < 1 := (x 1).isLt
  unfold spread
  have e0 : ((Rect.unit (s := S2x4x512x256) (![a.val, b.val, 0, 0] : Fin 4 → ℕ) S1x1x512x256.size h).emb x) 0 = a := by
    ext; simp [Rect.emb, Rect.unit]
  have e1 : ((Rect.unit (s := S2x4x512x256) (![a.val, b.val, 0, 0] : Fin 4 → ℕ) S1x1x512x256.size h).emb x) 1 = b := by
    ext; simp [Rect.emb, Rect.unit]
  rw [e0, e1]
  congr 1
  funext r
  fin_cases r
  · exact Fin.ext (by show (x 0).val = 0; omega)
  · exact Fin.ext (by show (x 1).val = 0; omega)
  · ext; simp [ix4, Rect.emb, Rect.unit]
  · ext; simp [ix4, Rect.emb, Rect.unit]

/-- The states as one function. -/
def eightFn (t00 t01 t02 t03 t10 t11 t12 t13 : FVec F S1x1x512x256 .f32) : Vec F S2x4x512x256 .f32 :=
  spread ![![t00, t01, t02, t03], ![t10, t11, t12, t13]]

theorem eight_eq (t00 t01 t02 t03 t10 t11 t12 t13 : FVec F S1x1x512x256 .f32) (L : List (View.Piece (Elt F) S2x4x512x256 .f32)) :
    eight t00 t01 t02 t03 t10 t11 t12 t13 L = eightFn t00 t01 t02 t03 t10 t11 t12 t13 := by
  funext y
  refine View.canon_append_of_piecesOf (eightFn t00 t01 t02 t03 t10 t11 t12 t13) L
    [⟨Rect.unit ![1, 3, 0, 0] S1x1x512x256.size inb_S2x4x512x256_S1x1x512x256_1_3_0_0, t13⟩,
      ⟨Rect.unit ![1, 2, 0, 0] S1x1x512x256.size inb_S2x4x512x256_S1x1x512x256_1_2_0_0, t12⟩,
      ⟨Rect.unit ![1, 1, 0, 0] S1x1x512x256.size inb_S2x4x512x256_S1x1x512x256_1_1_0_0, t11⟩,
      ⟨Rect.unit ![1, 0, 0, 0] S1x1x512x256.size inb_S2x4x512x256_S1x1x512x256_1_0_0_0, t10⟩,
      ⟨Rect.unit ![0, 3, 0, 0] S1x1x512x256.size inb_S2x4x512x256_S1x1x512x256_0_3_0_0, t03⟩,
      ⟨Rect.unit ![0, 2, 0, 0] S1x1x512x256.size inb_S2x4x512x256_S1x1x512x256_0_2_0_0, t02⟩,
      ⟨Rect.unit ![0, 1, 0, 0] S1x1x512x256.size inb_S2x4x512x256_S1x1x512x256_0_1_0_0, t01⟩,
      ⟨Rect.unit ![0, 0, 0, 0] S1x1x512x256.size inb_S2x4x512x256_S1x1x512x256_0_0_0_0, t00⟩] ⟨?_, ?_, ?_, ?_, ?_, ?_, ?_, ?_, trivial⟩ y
    (View.cover_of_tiledL (s := S2x4x512x256) _ S1x1x512x256.size (by sl_kernel_rfl) y)
  · exact fun x => piece_eq 1 3 inb_S2x4x512x256_S1x1x512x256_1_3_0_0 ![![t00, t01, t02, t03], ![t10, t11, t12, t13]] x
  · exact fun x => piece_eq 1 2 inb_S2x4x512x256_S1x1x512x256_1_2_0_0 ![![t00, t01, t02, t03], ![t10, t11, t12, t13]] x
  · exact fun x => piece_eq 1 1 inb_S2x4x512x256_S1x1x512x256_1_1_0_0 ![![t00, t01, t02, t03], ![t10, t11, t12, t13]] x
  · exact fun x => piece_eq 1 0 inb_S2x4x512x256_S1x1x512x256_1_0_0_0 ![![t00, t01, t02, t03], ![t10, t11, t12, t13]] x
  · exact fun x => piece_eq 0 3 inb_S2x4x512x256_S1x1x512x256_0_3_0_0 ![![t00, t01, t02, t03], ![t10, t11, t12, t13]] x
  · exact fun x => piece_eq 0 2 inb_S2x4x512x256_S1x1x512x256_0_2_0_0 ![![t00, t01, t02, t03], ![t10, t11, t12, t13]] x
  · exact fun x => piece_eq 0 1 inb_S2x4x512x256_S1x1x512x256_0_1_0_0 ![![t00, t01, t02, t03], ![t10, t11, t12, t13]] x
  · exact fun x => piece_eq 0 0 inb_S2x4x512x256_S1x1x512x256_0_0_0_0 ![![t00, t01, t02, t03], ![t10, t11, t12, t13]] x

end Cert.KernelIdeal.Ret

end
-- ==== Proof.KernelIdeal.Visited.lean ====
/- What a visit leaves, in the kernel's own words: every stored tile is one of `Tile`'s functions of the loaded blocks, head by
   head and direction by direction; at the first visit over states of zeros, at a later one over the states carried to it. -/
module

public import proofs.«01_k».proof.Proof.Blocks
public import proofs.«01_k».proof.Proof.KernelIdeal.Visit

@[expose] public section

set_option maxRecDepth 16384

noncomputable section

namespace Cert.KernelIdeal.Ret

open Cert.KernelIdeal Cert.KernelIdeal.Gen Idealize.ShloMosaic Idealize.ShloMosaic.TcCoe Idealize.SL.Sem

variable {F : FTy → Type} [FloatOps F] [Named F]

/-- The states before the first visit. -/
def zeros : Vec F S2x4x512x256 .f32 := k0_pay2

/-- What a visit leaves, from the blocks it is given and the states it finds. -/
structure IsVisit (L : Left F)
  (x0 : Vec F S256x1024 .bf16) (x1 : Vec F S256x1024 .bf16) (x2 : Vec F S256x2048 .bf16) (x3 : Vec F S256x128 .f32) (x4 : Vec F S256x128 .f32) (x5
  : Vec F S1x4x512x256 .bf16) (x6 : Vec F S256x2048 .bf16) (x7 : Vec F S256x1024 .bf16) (x8 : Vec F S256x1024 .bf16) (x9 : Vec F S256x2048 .bf16)
  (x10 : Vec F S256x128 .f32) (x11 : Vec F S256x128 .f32) (x12 : Vec F S1x4x512x256 .bf16) (x13 : Vec F S256x2048 .bf16)
  (st : Vec F S2x4x512x256 .f32) : Prop where
  dqf : L.dqf =
      fourK (dqTile (decays relF lg32) (qdecF lg32) x3 x4 (headK x1 0 inb_S256x1024_S256x256_0_0) (headV x2 0 inb_S256x2048_S256x512_0_0) (headV x6 0 inb_S256x2048_S256x512_0_0) (savedAt x5 0 inb_S1x4x512x256_S1x1x512x256_0_0_0_0))
      (dqTile (decays relF lg64) (qdecF lg64) x3 x4 (headK x1 256 inb_S256x1024_S256x256_0_256) (headV x2 512 inb_S256x2048_S256x512_0_512) (headV x6 512 inb_S256x2048_S256x512_0_512) (savedAt x5 1 inb_S1x4x512x256_S1x1x512x256_0_1_0_0))
      (dqTile (decays relF lg128) (qdecF lg128) x3 x4 (headK x1 512 inb_S256x1024_S256x256_0_512) (headV x2 1024 inb_S256x2048_S256x512_0_1024) (headV x6 1024 inb_S256x2048_S256x512_0_1024) (savedAt x5 2 inb_S1x4x512x256_S1x1x512x256_0_2_0_0))
      (dqTile (decays relF lg256) (qdecF lg256) x3 x4 (headK x1 768 inb_S256x1024_S256x256_0_768) (headV x2 1536 inb_S256x2048_S256x512_0_1536) (headV x6 1536 inb_S256x2048_S256x512_0_1536) (savedAt x5 3 inb_S1x4x512x256_S1x1x512x256_0_3_0_0))
  dkf : L.dkf =
      fourK (dkTile (decays relF lg32) (kdecF lg32) x3 x4 (headK x0 0 inb_S256x1024_S256x256_0_0) (headV x2 0 inb_S256x2048_S256x512_0_0) (headV x6 0 inb_S256x2048_S256x512_0_0) (carryAt st 0 0 inb_S2x4x512x256_S1x1x512x256_0_0_0_0))
      (dkTile (decays relF lg64) (kdecF lg64) x3 x4 (headK x0 256 inb_S256x1024_S256x256_0_256) (headV x2 512 inb_S256x2048_S256x512_0_512) (headV x6 512 inb_S256x2048_S256x512_0_512) (carryAt st 0 1 inb_S2x4x512x256_S1x1x512x256_0_1_0_0))
      (dkTile (decays relF lg128) (kdecF lg128) x3 x4 (headK x0 512 inb_S256x1024_S256x256_0_512) (headV x2 1024 inb_S256x2048_S256x512_0_1024) (headV x6 1024 inb_S256x2048_S256x512_0_1024) (carryAt st 0 2 inb_S2x4x512x256_S1x1x512x256_0_2_0_0))
      (dkTile (decays relF lg256) (kdecF lg256) x3 x4 (headK x0 768 inb_S256x1024_S256x256_0_768) (headV x2 1536 inb_S256x2048_S256x512_0_1536) (headV x6 1536 inb_S256x2048_S256x512_0_1536) (carryAt st 0 3 inb_S2x4x512x256_S1x1x512x256_0_3_0_0))
  dvf : L.dvf =
      fourV (dvTile (decays relF lg32) (kdecF lg32) x3 x4 (headK x0 0 inb_S256x1024_S256x256_0_0) (headK x1 0 inb_S256x1024_S256x256_0_0) (headV x6 0 inb_S256x2048_S256x512_0_0) (carryAt st 0 0 inb_S2x4x512x256_S1x1x512x256_0_0_0_0))
      (dvTile (decays relF lg64) (kdecF lg64) x3 x4 (headK x0 256 inb_S256x1024_S256x256_0_256) (headK x1 256 inb_S256x1024_S256x256_0_256) (headV x6 512 inb_S256x2048_S256x512_0_512) (carryAt st 0 1 inb_S2x4x512x256_S1x1x512x256_0_1_0_0))
      (dvTile (decays relF lg128) (kdecF lg128) x3 x4 (headK x0 512 inb_S256x1024_S256x256_0_512) (headK x1 512 inb_S256x1024_S256x256_0_512) (headV x6 1024 inb_S256x2048_S256x512_0_1024) (carryAt st 0 2 inb_S2x4x512x256_S1x1x512x256_0_2_0_0))
      (dvTile (decays relF lg256) (kdecF lg256) x3 x4 (headK x0 768 inb_S256x1024_S256x256_0_768) (headK x1 768 inb_S256x1024_S256x256_0_768) (headV x6 1536 inb_S256x2048_S256x512_0_1536) (carryAt st 0 3 inb_S2x4x512x256_S1x1x512x256_0_3_0_0))
  dqb : L.dqb =
      fourK (dqTile (decays relB lg256) (qdecB lg256) x10 x11 (headK x8 0 inb_S256x1024_S256x256_0_0) (headV x9 0 inb_S256x2048_S256x512_0_0) (headV x13 0 inb_S256x2048_S256x512_0_0) (savedAt x12 0 inb_S1x4x512x256_S1x1x512x256_0_0_0_0))
      (dqTile (decays relB lg128) (qdecB lg128) x10 x11 (headK x8 256 inb_S256x1024_S256x256_0_256) (headV x9 512 inb_S256x2048_S256x512_0_512) (headV x13 512 inb_S256x2048_S256x512_0_512) (savedAt x12 1 inb_S1x4x512x256_S1x1x512x256_0_1_0_0))
      (dqTile (decays relB lg64) (qdecB lg64) x10 x11 (headK x8 512 inb_S256x1024_S256x256_0_512) (headV x9 1024 inb_S256x2048_S256x512_0_1024) (headV x13 1024 inb_S256x2048_S256x512_0_1024) (savedAt x12 2 inb_S1x4x512x256_S1x1x512x256_0_2_0_0))
      (dqTile (decays relB lg32) (qdecB lg32) x10 x11 (headK x8 768 inb_S256x1024_S256x256_0_768) (headV x9 1536 inb_S256x2048_S256x512_0_1536) (headV x13 1536 inb_S256x2048_S256x512_0_1536) (savedAt x12 3 inb_S1x4x512x256_S1x1x512x256_0_3_0_0))
  dkb : L.dkb =
      fourK (dkTile (decays relB lg256) (kdecB lg256) x10 x11 (headK x7 0 inb_S256x1024_S256x256_0_0) (headV x9 0 inb_S256x2048_S256x512_0_0) (headV x13 0 inb_S256x2048_S256x512_0_0) (carryAt st 1 0 inb_S2x4x512x256_S1x1x512x256_1_0_0_0))
      (dkTile (decays relB lg128) (kdecB lg128) x10 x11 (headK x7 256 inb_S256x1024_S256x256_0_256) (headV x9 512 inb_S256x2048_S256x512_0_512) (headV x13 512 inb_S256x2048_S256x512_0_512) (carryAt st 1 1 inb_S2x4x512x256_S1x1x512x256_1_1_0_0))
      (dkTile (decays relB lg64) (kdecB lg64) x10 x11 (headK x7 512 inb_S256x1024_S256x256_0_512) (headV x9 1024 inb_S256x2048_S256x512_0_1024) (headV x13 1024 inb_S256x2048_S256x512_0_1024) (carryAt st 1 2 inb_S2x4x512x256_S1x1x512x256_1_2_0_0))
      (dkTile (decays relB lg32) (kdecB lg32) x10 x11 (headK x7 768 inb_S256x1024_S256x256_0_768) (headV x9 1536 inb_S256x2048_S256x512_0_1536) (headV x13 1536 inb_S256x2048_S256x512_0_1536) (carryAt st 1 3 inb_S2x4x512x256_S1x1x512x256_1_3_0_0))
  dvb : L.dvb =
      fourV (dvTile (decays relB lg256) (kdecB lg256) x10 x11 (headK x7 0 inb_S256x1024_S256x256_0_0) (headK x8 0 inb_S256x1024_S256x256_0_0) (headV x13 0 inb_S256x2048_S256x512_0_0) (carryAt st 1 0 inb_S2x4x512x256_S1x1x512x256_1_0_0_0))
      (dvTile (decays relB lg128) (kdecB lg128) x10 x11 (headK x7 256 inb_S256x1024_S256x256_0_256) (headK x8 256 inb_S256x1024_S256x256_0_256) (headV x13 512 inb_S256x2048_S256x512_0_512) (carryAt st 1 1 inb_S2x4x512x256_S1x1x512x256_1_1_0_0))
      (dvTile (decays relB lg64) (kdecB lg64) x10 x11 (headK x7 512 inb_S256x1024_S256x256_0_512) (headK x8 512 inb_S256x1024_S256x256_0_512) (headV x13 1024 inb_S256x2048_S256x512_0_1024) (carryAt st 1 2 inb_S2x4x512x256_S1x1x512x256_1_2_0_0))
      (dvTile (decays relB lg32) (kdecB lg32) x10 x11 (headK x7 768 inb_S256x1024_S256x256_0_768) (headK x8 768 inb_S256x1024_S256x256_0_768) (headV x13 1536 inb_S256x2048_S256x512_0_1536) (carryAt st 1 3 inb_S2x4x512x256_S1x1x512x256_1_3_0_0))
  carry : L.carry =
      eightFn (dstTile chunk32 (qdecF lg32) x3 x4 (headK x0 0 inb_S256x1024_S256x256_0_0) (headV x6 0 inb_S256x2048_S256x512_0_0) (carryAt st 0 0 inb_S2x4x512x256_S1x1x512x256_0_0_0_0))
      (dstTile chunk64 (qdecF lg64) x3 x4 (headK x0 256 inb_S256x1024_S256x256_0_256) (headV x6 512 inb_S256x2048_S256x512_0_512) (carryAt st 0 1 inb_S2x4x512x256_S1x1x512x256_0_1_0_0))
      (dstTile chunk128 (qdecF lg128) x3 x4 (headK x0 512 inb_S256x1024_S256x256_0_512) (headV x6 1024 inb_S256x2048_S256x512_0_1024) (carryAt st 0 2 inb_S2x4x512x256_S1x1x512x256_0_2_0_0))
      (dstTile chunk256 (qdecF lg256) x3 x4 (headK x0 768 inb_S256x1024_S256x256_0_768) (headV x6 1536 inb_S256x2048_S256x512_0_1536) (carryAt st 0 3 inb_S2x4x512x256_S1x1x512x256_0_3_0_0))
      (dstTile chunk256 (qdecB lg256) x10 x11 (headK x7 0 inb_S256x1024_S256x256_0_0) (headV x13 0 inb_S256x2048_S256x512_0_0) (carryAt st 1 0 inb_S2x4x512x256_S1x1x512x256_1_0_0_0))
      (dstTile chunk128 (qdecB lg128) x10 x11 (headK x7 256 inb_S256x1024_S256x256_0_256) (headV x13 512 inb_S256x2048_S256x512_0_512) (carryAt st 1 1 inb_S2x4x512x256_S1x1x512x256_1_1_0_0))
      (dstTile chunk64 (qdecB lg64) x10 x11 (headK x7 512 inb_S256x1024_S256x256_0_512) (headV x13 1024 inb_S256x2048_S256x512_0_1024) (carryAt st 1 2 inb_S2x4x512x256_S1x1x512x256_1_2_0_0))
      (dstTile chunk32 (qdecB lg32) x10 x11 (headK x7 768 inb_S256x1024_S256x256_0_768) (headV x13 1536 inb_S256x2048_S256x512_0_1536) (carryAt st 1 3 inb_S2x4x512x256_S1x1x512x256_1_3_0_0))

section visit

variable (c : Dev nD) (i : grid0.Coords)
  (arg1 : Memref sig .tc .vmem S256x1024 .bf16) (harg1 : arg1.IsWhole) (arg2 : Memref sig .tc .vmem S256x1024 .bf16) (harg2 : arg2.IsWhole) (arg3 :
  Memref sig .tc .vmem S256x2048 .bf16) (harg3 : arg3.IsWhole) (arg4 : Memref sig .tc .vmem S256x128 .f32) (harg4 : arg4.IsWhole) (arg5 : Memref
  sig .tc .vmem S256x128 .f32) (harg5 : arg5.IsWhole) (arg6 : Memref sig .tc .vmem S1x4x512x256 .bf16) (harg6 : arg6.IsWhole) (arg7 : Memref sig
  .tc .vmem S256x2048 .bf16) (harg7 : arg7.IsWhole) (arg8 : Memref sig .tc .vmem S256x1024 .bf16) (harg8 : arg8.IsWhole) (arg9 : Memref sig .tc
  .vmem S256x1024 .bf16) (harg9 : arg9.IsWhole) (arg10 : Memref sig .tc .vmem S256x2048 .bf16) (harg10 : arg10.IsWhole) (arg11 : Memref sig .tc
  .vmem S256x128 .f32) (harg11 : arg11.IsWhole) (arg12 : Memref sig .tc .vmem S256x128 .f32) (harg12 : arg12.IsWhole) (arg13 : Memref sig .tc .vmem
  S1x4x512x256 .bf16) (harg13 : arg13.IsWhole) (arg14 : Memref sig .tc .vmem S256x2048 .bf16) (harg14 : arg14.IsWhole) (arg15 : Memref sig .tc
  .vmem S256x1024 .bf16) (harg15 : arg15.IsWhole) (arg16 : Memref sig .tc .vmem S256x1024 .bf16) (harg16 : arg16.IsWhole) (arg17 : Memref sig .tc
  .vmem S256x2048 .bf16) (harg17 : arg17.IsWhole) (arg18 : Memref sig .tc .vmem S256x1024 .bf16) (harg18 : arg18.IsWhole) (arg19 : Memref sig .tc
  .vmem S256x1024 .bf16) (harg19 : arg19.IsWhole) (arg20 : Memref sig .tc .vmem S256x2048 .bf16) (harg20 : arg20.IsWhole) (arg21 : Memref sig .tc
  .vmem S2x4x512x256 .f32) (harg21 : arg21.IsWhole)
  (x0 : Vec F S256x1024 .bf16) (x1 : Vec F S256x1024 .bf16) (x2 : Vec F S256x2048 .bf16) (x3 : Vec F S256x128 .f32) (x4 : Vec F S256x128 .f32) (x5
  : Vec F S1x4x512x256 .bf16) (x6 : Vec F S256x2048 .bf16) (x7 : Vec F S256x1024 .bf16) (x8 : Vec F S256x1024 .bf16) (x9 : Vec F S256x2048 .bf16)
  (x10 : Vec F S256x128 .f32) (x11 : Vec F S256x128 .f32) (x12 : Vec F S1x4x512x256 .bf16) (x13 : Vec F S256x2048 .bf16)

theorem dqf_A (hc0 : cond0_0 i) :
    (leftA c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0).dqf =
      fourK (dqTile (decays relF lg32) (qdecF lg32) x3 x4 (headK x1 0 inb_S256x1024_S256x256_0_0) (headV x2 0 inb_S256x2048_S256x512_0_0) (headV x6 0 inb_S256x2048_S256x512_0_0) (savedAt x5 0 inb_S1x4x512x256_S1x1x512x256_0_0_0_0))
      (dqTile (decays relF lg64) (qdecF lg64) x3 x4 (headK x1 256 inb_S256x1024_S256x256_0_256) (headV x2 512 inb_S256x2048_S256x512_0_512) (headV x6 512 inb_S256x2048_S256x512_0_512) (savedAt x5 1 inb_S1x4x512x256_S1x1x512x256_0_1_0_0))
      (dqTile (decays relF lg128) (qdecF lg128) x3 x4 (headK x1 512 inb_S256x1024_S256x256_0_512) (headV x2 1024 inb_S256x2048_S256x512_0_1024) (headV x6 1024 inb_S256x2048_S256x512_0_1024) (savedAt x5 2 inb_S1x4x512x256_S1x1x512x256_0_2_0_0))
      (dqTile (decays relF lg256) (qdecF lg256) x3 x4 (headK x1 768 inb_S256x1024_S256x256_0_768) (headV x2 1536 inb_S256x2048_S256x512_0_1536) (headV x6 1536 inb_S256x2048_S256x512_0_1536) (savedAt x5 3 inb_S1x4x512x256_S1x1x512x256_0_3_0_0)) := by
  unfold leftA Left.of
  dsimp only
  frame_open
  simp (disch := decide) only [↓ View.readCov_skip, ↓ View.readCov_cons_toLoadRect, ↓ View.readCov_fill]
  frame_out
  rfl

theorem dkf_A (hc0 : cond0_0 i) :
    (leftA c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0).dkf =
      fourK (dkTile (decays relF lg32) (kdecF lg32) x3 x4 (headK x0 0 inb_S256x1024_S256x256_0_0) (headV x2 0 inb_S256x2048_S256x512_0_0) (headV x6 0 inb_S256x2048_S256x512_0_0) (carryAt zeros 0 0 inb_S2x4x512x256_S1x1x512x256_0_0_0_0))
      (dkTile (decays relF lg64) (kdecF lg64) x3 x4 (headK x0 256 inb_S256x1024_S256x256_0_256) (headV x2 512 inb_S256x2048_S256x512_0_512) (headV x6 512 inb_S256x2048_S256x512_0_512) (carryAt zeros 0 1 inb_S2x4x512x256_S1x1x512x256_0_1_0_0))
      (dkTile (decays relF lg128) (kdecF lg128) x3 x4 (headK x0 512 inb_S256x1024_S256x256_0_512) (headV x2 1024 inb_S256x2048_S256x512_0_1024) (headV x6 1024 inb_S256x2048_S256x512_0_1024) (carryAt zeros 0 2 inb_S2x4x512x256_S1x1x512x256_0_2_0_0))
      (dkTile (decays relF lg256) (kdecF lg256) x3 x4 (headK x0 768 inb_S256x1024_S256x256_0_768) (headV x2 1536 inb_S256x2048_S256x512_0_1536) (headV x6 1536 inb_S256x2048_S256x512_0_1536) (carryAt zeros 0 3 inb_S2x4x512x256_S1x1x512x256_0_3_0_0)) := by
  unfold leftA Left.of
  dsimp only
  frame_open
  simp (disch := decide) only [↓ View.readCov_skip, ↓ View.readCov_cons_toLoadRect, ↓ View.readCov_fill]
  frame_out
  rfl

theorem dvf_A (hc0 : cond0_0 i) :
    (leftA c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0).dvf =
      fourV (dvTile (decays relF lg32) (kdecF lg32) x3 x4 (headK x0 0 inb_S256x1024_S256x256_0_0) (headK x1 0 inb_S256x1024_S256x256_0_0) (headV x6 0 inb_S256x2048_S256x512_0_0) (carryAt zeros 0 0 inb_S2x4x512x256_S1x1x512x256_0_0_0_0))
      (dvTile (decays relF lg64) (kdecF lg64) x3 x4 (headK x0 256 inb_S256x1024_S256x256_0_256) (headK x1 256 inb_S256x1024_S256x256_0_256) (headV x6 512 inb_S256x2048_S256x512_0_512) (carryAt zeros 0 1 inb_S2x4x512x256_S1x1x512x256_0_1_0_0))
      (dvTile (decays relF lg128) (kdecF lg128) x3 x4 (headK x0 512 inb_S256x1024_S256x256_0_512) (headK x1 512 inb_S256x1024_S256x256_0_512) (headV x6 1024 inb_S256x2048_S256x512_0_1024) (carryAt zeros 0 2 inb_S2x4x512x256_S1x1x512x256_0_2_0_0))
      (dvTile (decays relF lg256) (kdecF lg256) x3 x4 (headK x0 768 inb_S256x1024_S256x256_0_768) (headK x1 768 inb_S256x1024_S256x256_0_768) (headV x6 1536 inb_S256x2048_S256x512_0_1536) (carryAt zeros 0 3 inb_S2x4x512x256_S1x1x512x256_0_3_0_0)) := by
  unfold leftA Left.of
  dsimp only
  frame_open
  simp (disch := decide) only [↓ View.readCov_skip, ↓ View.readCov_cons_toLoadRect, ↓ View.readCov_fill]
  frame_out
  rfl

theorem dqb_A (hc0 : cond0_0 i) :
    (leftA c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0).dqb =
      fourK (dqTile (decays relB lg256) (qdecB lg256) x10 x11 (headK x8 0 inb_S256x1024_S256x256_0_0) (headV x9 0 inb_S256x2048_S256x512_0_0) (headV x13 0 inb_S256x2048_S256x512_0_0) (savedAt x12 0 inb_S1x4x512x256_S1x1x512x256_0_0_0_0))
      (dqTile (decays relB lg128) (qdecB lg128) x10 x11 (headK x8 256 inb_S256x1024_S256x256_0_256) (headV x9 512 inb_S256x2048_S256x512_0_512) (headV x13 512 inb_S256x2048_S256x512_0_512) (savedAt x12 1 inb_S1x4x512x256_S1x1x512x256_0_1_0_0))
      (dqTile (decays relB lg64) (qdecB lg64) x10 x11 (headK x8 512 inb_S256x1024_S256x256_0_512) (headV x9 1024 inb_S256x2048_S256x512_0_1024) (headV x13 1024 inb_S256x2048_S256x512_0_1024) (savedAt x12 2 inb_S1x4x512x256_S1x1x512x256_0_2_0_0))
      (dqTile (decays relB lg32) (qdecB lg32) x10 x11 (headK x8 768 inb_S256x1024_S256x256_0_768) (headV x9 1536 inb_S256x2048_S256x512_0_1536) (headV x13 1536 inb_S256x2048_S256x512_0_1536) (savedAt x12 3 inb_S1x4x512x256_S1x1x512x256_0_3_0_0)) := by
  unfold leftA Left.of
  dsimp only
  frame_open
  simp (disch := decide) only [↓ View.readCov_skip, ↓ View.readCov_cons_toLoadRect, ↓ View.readCov_fill]
  frame_out
  rfl

theorem dkb_A (hc0 : cond0_0 i) :
    (leftA c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0).dkb =
      fourK (dkTile (decays relB lg256) (kdecB lg256) x10 x11 (headK x7 0 inb_S256x1024_S256x256_0_0) (headV x9 0 inb_S256x2048_S256x512_0_0) (headV x13 0 inb_S256x2048_S256x512_0_0) (carryAt zeros 1 0 inb_S2x4x512x256_S1x1x512x256_1_0_0_0))
      (dkTile (decays relB lg128) (kdecB lg128) x10 x11 (headK x7 256 inb_S256x1024_S256x256_0_256) (headV x9 512 inb_S256x2048_S256x512_0_512) (headV x13 512 inb_S256x2048_S256x512_0_512) (carryAt zeros 1 1 inb_S2x4x512x256_S1x1x512x256_1_1_0_0))
      (dkTile (decays relB lg64) (kdecB lg64) x10 x11 (headK x7 512 inb_S256x1024_S256x256_0_512) (headV x9 1024 inb_S256x2048_S256x512_0_1024) (headV x13 1024 inb_S256x2048_S256x512_0_1024) (carryAt zeros 1 2 inb_S2x4x512x256_S1x1x512x256_1_2_0_0))
      (dkTile (decays relB lg32) (kdecB lg32) x10 x11 (headK x7 768 inb_S256x1024_S256x256_0_768) (headV x9 1536 inb_S256x2048_S256x512_0_1536) (headV x13 1536 inb_S256x2048_S256x512_0_1536) (carryAt zeros 1 3 inb_S2x4x512x256_S1x1x512x256_1_3_0_0)) := by
  unfold leftA Left.of
  dsimp only
  frame_open
  simp (disch := decide) only [↓ View.readCov_skip, ↓ View.readCov_cons_toLoadRect, ↓ View.readCov_fill]
  frame_out
  rfl

theorem dvb_A (hc0 : cond0_0 i) :
    (leftA c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0).dvb =
      fourV (dvTile (decays relB lg256) (kdecB lg256) x10 x11 (headK x7 0 inb_S256x1024_S256x256_0_0) (headK x8 0 inb_S256x1024_S256x256_0_0) (headV x13 0 inb_S256x2048_S256x512_0_0) (carryAt zeros 1 0 inb_S2x4x512x256_S1x1x512x256_1_0_0_0))
      (dvTile (decays relB lg128) (kdecB lg128) x10 x11 (headK x7 256 inb_S256x1024_S256x256_0_256) (headK x8 256 inb_S256x1024_S256x256_0_256) (headV x13 512 inb_S256x2048_S256x512_0_512) (carryAt zeros 1 1 inb_S2x4x512x256_S1x1x512x256_1_1_0_0))
      (dvTile (decays relB lg64) (kdecB lg64) x10 x11 (headK x7 512 inb_S256x1024_S256x256_0_512) (headK x8 512 inb_S256x1024_S256x256_0_512) (headV x13 1024 inb_S256x2048_S256x512_0_1024) (carryAt zeros 1 2 inb_S2x4x512x256_S1x1x512x256_1_2_0_0))
      (dvTile (decays relB lg32) (kdecB lg32) x10 x11 (headK x7 768 inb_S256x1024_S256x256_0_768) (headK x8 768 inb_S256x1024_S256x256_0_768) (headV x13 1536 inb_S256x2048_S256x512_0_1536) (carryAt zeros 1 3 inb_S2x4x512x256_S1x1x512x256_1_3_0_0)) := by
  unfold leftA Left.of
  dsimp only
  frame_open
  simp (disch := decide) only [↓ View.readCov_skip, ↓ View.readCov_cons_toLoadRect, ↓ View.readCov_fill]
  frame_out
  rfl

theorem carry_A (hc0 : cond0_0 i) :
    (leftA c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0).carry =
      eight (dstTile chunk32 (qdecF lg32) x3 x4 (headK x0 0 inb_S256x1024_S256x256_0_0) (headV x6 0 inb_S256x2048_S256x512_0_0) (carryAt zeros 0 0 inb_S2x4x512x256_S1x1x512x256_0_0_0_0))
      (dstTile chunk64 (qdecF lg64) x3 x4 (headK x0 256 inb_S256x1024_S256x256_0_256) (headV x6 512 inb_S256x2048_S256x512_0_512) (carryAt zeros 0 1 inb_S2x4x512x256_S1x1x512x256_0_1_0_0))
      (dstTile chunk128 (qdecF lg128) x3 x4 (headK x0 512 inb_S256x1024_S256x256_0_512) (headV x6 1024 inb_S256x2048_S256x512_0_1024) (carryAt zeros 0 2 inb_S2x4x512x256_S1x1x512x256_0_2_0_0))
      (dstTile chunk256 (qdecF lg256) x3 x4 (headK x0 768 inb_S256x1024_S256x256_0_768) (headV x6 1536 inb_S256x2048_S256x512_0_1536) (carryAt zeros 0 3 inb_S2x4x512x256_S1x1x512x256_0_3_0_0))
      (dstTile chunk256 (qdecB lg256) x10 x11 (headK x7 0 inb_S256x1024_S256x256_0_0) (headV x13 0 inb_S256x2048_S256x512_0_0) (carryAt zeros 1 0 inb_S2x4x512x256_S1x1x512x256_1_0_0_0))
      (dstTile chunk128 (qdecB lg128) x10 x11 (headK x7 256 inb_S256x1024_S256x256_0_256) (headV x13 512 inb_S256x2048_S256x512_0_512) (carryAt zeros 1 1 inb_S2x4x512x256_S1x1x512x256_1_1_0_0))
      (dstTile chunk64 (qdecB lg64) x10 x11 (headK x7 512 inb_S256x1024_S256x256_0_512) (headV x13 1024 inb_S256x2048_S256x512_0_1024) (carryAt zeros 1 2 inb_S2x4x512x256_S1x1x512x256_1_2_0_0))
      (dstTile chunk32 (qdecB lg32) x10 x11 (headK x7 768 inb_S256x1024_S256x256_0_768) (headV x13 1536 inb_S256x2048_S256x512_0_1536) (carryAt zeros 1 3 inb_S2x4x512x256_S1x1x512x256_1_3_0_0)) [⟨Rect.unit ![0, 0, 0, 0] S2x4x512x256.size inb_S2x4x512x256_S2x4x512x256_0_0_0_0, zeros⟩] := by
  unfold leftA Left.of
  dsimp only
  frame_open
  simp (disch := decide) only [↓ View.readCov_skip, ↓ View.readCov_cons_toLoadRect, ↓ View.readCov_fill]
  frame_out
  rfl

theorem dqf_B (hc0 : ¬cond0_0 i) (xs0 : Vec F S2x4x512x256 .f32) :
    (leftB c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0 xs0).dqf =
      fourK (dqTile (decays relF lg32) (qdecF lg32) x3 x4 (headK x1 0 inb_S256x1024_S256x256_0_0) (headV x2 0 inb_S256x2048_S256x512_0_0) (headV x6 0 inb_S256x2048_S256x512_0_0) (savedAt x5 0 inb_S1x4x512x256_S1x1x512x256_0_0_0_0))
      (dqTile (decays relF lg64) (qdecF lg64) x3 x4 (headK x1 256 inb_S256x1024_S256x256_0_256) (headV x2 512 inb_S256x2048_S256x512_0_512) (headV x6 512 inb_S256x2048_S256x512_0_512) (savedAt x5 1 inb_S1x4x512x256_S1x1x512x256_0_1_0_0))
      (dqTile (decays relF lg128) (qdecF lg128) x3 x4 (headK x1 512 inb_S256x1024_S256x256_0_512) (headV x2 1024 inb_S256x2048_S256x512_0_1024) (headV x6 1024 inb_S256x2048_S256x512_0_1024) (savedAt x5 2 inb_S1x4x512x256_S1x1x512x256_0_2_0_0))
      (dqTile (decays relF lg256) (qdecF lg256) x3 x4 (headK x1 768 inb_S256x1024_S256x256_0_768) (headV x2 1536 inb_S256x2048_S256x512_0_1536) (headV x6 1536 inb_S256x2048_S256x512_0_1536) (savedAt x5 3 inb_S1x4x512x256_S1x1x512x256_0_3_0_0)) := by
  unfold leftB Left.of
  dsimp only
  frame_open
  simp (disch := decide) only [↓ View.readCov_skip, ↓ View.readCov_cons_toLoadRect, ↓ View.readCov_fill]
  frame_out
  rfl

theorem dkf_B (hc0 : ¬cond0_0 i) (xs0 : Vec F S2x4x512x256 .f32) :
    (leftB c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0 xs0).dkf =
      fourK (dkTile (decays relF lg32) (kdecF lg32) x3 x4 (headK x0 0 inb_S256x1024_S256x256_0_0) (headV x2 0 inb_S256x2048_S256x512_0_0) (headV x6 0 inb_S256x2048_S256x512_0_0) (carryAt xs0 0 0 inb_S2x4x512x256_S1x1x512x256_0_0_0_0))
      (dkTile (decays relF lg64) (kdecF lg64) x3 x4 (headK x0 256 inb_S256x1024_S256x256_0_256) (headV x2 512 inb_S256x2048_S256x512_0_512) (headV x6 512 inb_S256x2048_S256x512_0_512) (carryAt xs0 0 1 inb_S2x4x512x256_S1x1x512x256_0_1_0_0))
      (dkTile (decays relF lg128) (kdecF lg128) x3 x4 (headK x0 512 inb_S256x1024_S256x256_0_512) (headV x2 1024 inb_S256x2048_S256x512_0_1024) (headV x6 1024 inb_S256x2048_S256x512_0_1024) (carryAt xs0 0 2 inb_S2x4x512x256_S1x1x512x256_0_2_0_0))
      (dkTile (decays relF lg256) (kdecF lg256) x3 x4 (headK x0 768 inb_S256x1024_S256x256_0_768) (headV x2 1536 inb_S256x2048_S256x512_0_1536) (headV x6 1536 inb_S256x2048_S256x512_0_1536) (carryAt xs0 0 3 inb_S2x4x512x256_S1x1x512x256_0_3_0_0)) := by
  unfold leftB Left.of
  dsimp only
  frame_open
  simp (disch := decide) only [↓ View.readCov_skip, ↓ View.readCov_cons_toLoadRect, ↓ View.readCov_fill]
  frame_out
  rfl

theorem dvf_B (hc0 : ¬cond0_0 i) (xs0 : Vec F S2x4x512x256 .f32) :
    (leftB c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0 xs0).dvf =
      fourV (dvTile (decays relF lg32) (kdecF lg32) x3 x4 (headK x0 0 inb_S256x1024_S256x256_0_0) (headK x1 0 inb_S256x1024_S256x256_0_0) (headV x6 0 inb_S256x2048_S256x512_0_0) (carryAt xs0 0 0 inb_S2x4x512x256_S1x1x512x256_0_0_0_0))
      (dvTile (decays relF lg64) (kdecF lg64) x3 x4 (headK x0 256 inb_S256x1024_S256x256_0_256) (headK x1 256 inb_S256x1024_S256x256_0_256) (headV x6 512 inb_S256x2048_S256x512_0_512) (carryAt xs0 0 1 inb_S2x4x512x256_S1x1x512x256_0_1_0_0))
      (dvTile (decays relF lg128) (kdecF lg128) x3 x4 (headK x0 512 inb_S256x1024_S256x256_0_512) (headK x1 512 inb_S256x1024_S256x256_0_512) (headV x6 1024 inb_S256x2048_S256x512_0_1024) (carryAt xs0 0 2 inb_S2x4x512x256_S1x1x512x256_0_2_0_0))
      (dvTile (decays relF lg256) (kdecF lg256) x3 x4 (headK x0 768 inb_S256x1024_S256x256_0_768) (headK x1 768 inb_S256x1024_S256x256_0_768) (headV x6 1536 inb_S256x2048_S256x512_0_1536) (carryAt xs0 0 3 inb_S2x4x512x256_S1x1x512x256_0_3_0_0)) := by
  unfold leftB Left.of
  dsimp only
  frame_open
  simp (disch := decide) only [↓ View.readCov_skip, ↓ View.readCov_cons_toLoadRect, ↓ View.readCov_fill]
  frame_out
  rfl

theorem dqb_B (hc0 : ¬cond0_0 i) (xs0 : Vec F S2x4x512x256 .f32) :
    (leftB c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0 xs0).dqb =
      fourK (dqTile (decays relB lg256) (qdecB lg256) x10 x11 (headK x8 0 inb_S256x1024_S256x256_0_0) (headV x9 0 inb_S256x2048_S256x512_0_0) (headV x13 0 inb_S256x2048_S256x512_0_0) (savedAt x12 0 inb_S1x4x512x256_S1x1x512x256_0_0_0_0))
      (dqTile (decays relB lg128) (qdecB lg128) x10 x11 (headK x8 256 inb_S256x1024_S256x256_0_256) (headV x9 512 inb_S256x2048_S256x512_0_512) (headV x13 512 inb_S256x2048_S256x512_0_512) (savedAt x12 1 inb_S1x4x512x256_S1x1x512x256_0_1_0_0))
      (dqTile (decays relB lg64) (qdecB lg64) x10 x11 (headK x8 512 inb_S256x1024_S256x256_0_512) (headV x9 1024 inb_S256x2048_S256x512_0_1024) (headV x13 1024 inb_S256x2048_S256x512_0_1024) (savedAt x12 2 inb_S1x4x512x256_S1x1x512x256_0_2_0_0))
      (dqTile (decays relB lg32) (qdecB lg32) x10 x11 (headK x8 768 inb_S256x1024_S256x256_0_768) (headV x9 1536 inb_S256x2048_S256x512_0_1536) (headV x13 1536 inb_S256x2048_S256x512_0_1536) (savedAt x12 3 inb_S1x4x512x256_S1x1x512x256_0_3_0_0)) := by
  unfold leftB Left.of
  dsimp only
  frame_open
  simp (disch := decide) only [↓ View.readCov_skip, ↓ View.readCov_cons_toLoadRect, ↓ View.readCov_fill]
  frame_out
  rfl

theorem dkb_B (hc0 : ¬cond0_0 i) (xs0 : Vec F S2x4x512x256 .f32) :
    (leftB c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0 xs0).dkb =
      fourK (dkTile (decays relB lg256) (kdecB lg256) x10 x11 (headK x7 0 inb_S256x1024_S256x256_0_0) (headV x9 0 inb_S256x2048_S256x512_0_0) (headV x13 0 inb_S256x2048_S256x512_0_0) (carryAt xs0 1 0 inb_S2x4x512x256_S1x1x512x256_1_0_0_0))
      (dkTile (decays relB lg128) (kdecB lg128) x10 x11 (headK x7 256 inb_S256x1024_S256x256_0_256) (headV x9 512 inb_S256x2048_S256x512_0_512) (headV x13 512 inb_S256x2048_S256x512_0_512) (carryAt xs0 1 1 inb_S2x4x512x256_S1x1x512x256_1_1_0_0))
      (dkTile (decays relB lg64) (kdecB lg64) x10 x11 (headK x7 512 inb_S256x1024_S256x256_0_512) (headV x9 1024 inb_S256x2048_S256x512_0_1024) (headV x13 1024 inb_S256x2048_S256x512_0_1024) (carryAt xs0 1 2 inb_S2x4x512x256_S1x1x512x256_1_2_0_0))
      (dkTile (decays relB lg32) (kdecB lg32) x10 x11 (headK x7 768 inb_S256x1024_S256x256_0_768) (headV x9 1536 inb_S256x2048_S256x512_0_1536) (headV x13 1536 inb_S256x2048_S256x512_0_1536) (carryAt xs0 1 3 inb_S2x4x512x256_S1x1x512x256_1_3_0_0)) := by
  unfold leftB Left.of
  dsimp only
  frame_open
  simp (disch := decide) only [↓ View.readCov_skip, ↓ View.readCov_cons_toLoadRect, ↓ View.readCov_fill]
  frame_out
  rfl

theorem dvb_B (hc0 : ¬cond0_0 i) (xs0 : Vec F S2x4x512x256 .f32) :
    (leftB c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0 xs0).dvb =
      fourV (dvTile (decays relB lg256) (kdecB lg256) x10 x11 (headK x7 0 inb_S256x1024_S256x256_0_0) (headK x8 0 inb_S256x1024_S256x256_0_0) (headV x13 0 inb_S256x2048_S256x512_0_0) (carryAt xs0 1 0 inb_S2x4x512x256_S1x1x512x256_1_0_0_0))
      (dvTile (decays relB lg128) (kdecB lg128) x10 x11 (headK x7 256 inb_S256x1024_S256x256_0_256) (headK x8 256 inb_S256x1024_S256x256_0_256) (headV x13 512 inb_S256x2048_S256x512_0_512) (carryAt xs0 1 1 inb_S2x4x512x256_S1x1x512x256_1_1_0_0))
      (dvTile (decays relB lg64) (kdecB lg64) x10 x11 (headK x7 512 inb_S256x1024_S256x256_0_512) (headK x8 512 inb_S256x1024_S256x256_0_512) (headV x13 1024 inb_S256x2048_S256x512_0_1024) (carryAt xs0 1 2 inb_S2x4x512x256_S1x1x512x256_1_2_0_0))
      (dvTile (decays relB lg32) (kdecB lg32) x10 x11 (headK x7 768 inb_S256x1024_S256x256_0_768) (headK x8 768 inb_S256x1024_S256x256_0_768) (headV x13 1536 inb_S256x2048_S256x512_0_1536) (carryAt xs0 1 3 inb_S2x4x512x256_S1x1x512x256_1_3_0_0)) := by
  unfold leftB Left.of
  dsimp only
  frame_open
  simp (disch := decide) only [↓ View.readCov_skip, ↓ View.readCov_cons_toLoadRect, ↓ View.readCov_fill]
  frame_out
  rfl

theorem carry_B (hc0 : ¬cond0_0 i) (xs0 : Vec F S2x4x512x256 .f32) :
    (leftB c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0 xs0).carry =
      eight (dstTile chunk32 (qdecF lg32) x3 x4 (headK x0 0 inb_S256x1024_S256x256_0_0) (headV x6 0 inb_S256x2048_S256x512_0_0) (carryAt xs0 0 0 inb_S2x4x512x256_S1x1x512x256_0_0_0_0))
      (dstTile chunk64 (qdecF lg64) x3 x4 (headK x0 256 inb_S256x1024_S256x256_0_256) (headV x6 512 inb_S256x2048_S256x512_0_512) (carryAt xs0 0 1 inb_S2x4x512x256_S1x1x512x256_0_1_0_0))
      (dstTile chunk128 (qdecF lg128) x3 x4 (headK x0 512 inb_S256x1024_S256x256_0_512) (headV x6 1024 inb_S256x2048_S256x512_0_1024) (carryAt xs0 0 2 inb_S2x4x512x256_S1x1x512x256_0_2_0_0))
      (dstTile chunk256 (qdecF lg256) x3 x4 (headK x0 768 inb_S256x1024_S256x256_0_768) (headV x6 1536 inb_S256x2048_S256x512_0_1536) (carryAt xs0 0 3 inb_S2x4x512x256_S1x1x512x256_0_3_0_0))
      (dstTile chunk256 (qdecB lg256) x10 x11 (headK x7 0 inb_S256x1024_S256x256_0_0) (headV x13 0 inb_S256x2048_S256x512_0_0) (carryAt xs0 1 0 inb_S2x4x512x256_S1x1x512x256_1_0_0_0))
      (dstTile chunk128 (qdecB lg128) x10 x11 (headK x7 256 inb_S256x1024_S256x256_0_256) (headV x13 512 inb_S256x2048_S256x512_0_512) (carryAt xs0 1 1 inb_S2x4x512x256_S1x1x512x256_1_1_0_0))
      (dstTile chunk64 (qdecB lg64) x10 x11 (headK x7 512 inb_S256x1024_S256x256_0_512) (headV x13 1024 inb_S256x2048_S256x512_0_1024) (carryAt xs0 1 2 inb_S2x4x512x256_S1x1x512x256_1_2_0_0))
      (dstTile chunk32 (qdecB lg32) x10 x11 (headK x7 768 inb_S256x1024_S256x256_0_768) (headV x13 1536 inb_S256x2048_S256x512_0_1536) (carryAt xs0 1 3 inb_S2x4x512x256_S1x1x512x256_1_3_0_0)) [] := by
  unfold leftB Left.of
  dsimp only
  frame_open
  simp (disch := decide) only [↓ View.readCov_skip, ↓ View.readCov_cons_toLoadRect, ↓ View.readCov_fill]
  frame_out
  rfl

theorem visited_A (hc0 : cond0_0 i) :
    IsVisit (leftA c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0)
      x0 x1 x2 x3 x4 x5 x6 x7 x8 x9 x10 x11 x12 x13 zeros where
  dqf := dqf_A c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0
  dkf := dkf_A c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0
  dvf := dvf_A c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0
  dqb := dqb_A c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0
  dkb := dkb_A c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0
  dvb := dvb_A c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0
  carry := (carry_A c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0).trans
    (eight_eq _ _ _ _ _ _ _ _ _)

theorem visited_B (hc0 : ¬cond0_0 i) (xs0 : Vec F S2x4x512x256 .f32) :
    IsVisit (leftB c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0 xs0)
      x0 x1 x2 x3 x4 x5 x6 x7 x8 x9 x10 x11 x12 x13 xs0 where
  dqf := dqf_B c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0 xs0
  dkf := dkf_B c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0 xs0
  dvf := dvf_B c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0 xs0
  dqb := dqb_B c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0 xs0
  dkb := dkb_B c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0 xs0
  dvb := dvb_B c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0 xs0
  carry := (carry_B c i arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 arg21 harg21 x0 x1 x2 x3 x4 x5 x6 x7 x8 x9 x10
      x11 x12 x13 hc0 xs0).trans
    (eight_eq _ _ _ _ _ _ _ _ _)

end visit

end Cert.KernelIdeal.Ret

end
-- ==== Proof.Steps.lean ====
/- One visit over the reals: a head's four tiles, computed from the blocks of the chunk visited and the states before it,
   are the gradients at that chunk's tokens and the carried gradient after it. -/
module

public import proofs.«01_k».proof.Proof.TileReal
public import proofs.«01_k».proof.Proof.Heads
public import proofs.«01_k».proof.Proof.Consts
public import proofs.«01_k».proof.Proof.KernelIdeal.Visited

@[expose] public section

set_option maxRecDepth 16384

noncomputable section

namespace Cert.KernelIdeal.Ret

open Cert.KernelIdeal Cert.KernelIdeal.Gen Idealize.ShloMosaic Idealize.SL.Sem
open Cert.Ret (Inputs tok colK colV qh kh vh oh dqOut dkOut dvOut dstate fstate)

/-- The blocks that a direction is given at a step. -/
structure Blocks (I : Inputs) (b : Bool) (s : Fin 33) (xq xk : Vec Ideal S256x1024 .bf16) (xv : Vec Ideal S256x2048 .bf16)
    (xc xs : Vec Ideal S256x128 .f32) (xst : Vec Ideal S1x4x512x256 .bf16) (xo : Vec Ideal S256x2048 .bf16) : Prop where
  hq : ∀ i a, xq (ix2 i a) = ((I.q (tok b s i) a : ℝ) : EReal)
  hk : ∀ i a, xk (ix2 i a) = ((I.k (tok b s i) a : ℝ) : EReal)
  hv : ∀ i a, xv (ix2 i a) = ((I.v (tok b s i) a : ℝ) : EReal)
  hc : ∀ i a, xc (ix2 i a) = ((I.rc (tok b s i) a : ℝ) : EReal)
  hs : ∀ i a, xs (ix2 i a) = ((I.rs (tok b s i) a : ℝ) : EReal)
  hst : ∀ h e d, xst (ix4 0 h e d) = ((fstate b (Cert.Ret.lg b h) (kh I h) (vh I h) s e d : ℝ) : EReal)
  ho : ∀ i a, xo (ix2 i a) = ((I.o (tok b s i) a : ℝ) : EReal)

section head

variable {I : Inputs} {b : Bool} {s : Fin 33} {xq xk : Vec Ideal S256x1024 .bf16} {xv : Vec Ideal S256x2048 .bf16}
  {xc xs : Vec Ideal S256x128 .f32} {xst : Vec Ideal S1x4x512x256 .bf16} {xo : Vec Ideal S256x2048 .bf16}
  (B : Blocks I b s xq xk xv xc xs xst xo) (h : Fin 4)
  {dm : FVec Ideal S256x256 .f32} (hm : ∀ i j, dm (ix2 i j) = ((Cert.Ret.decayC b (Cert.Ret.lg b h) i j : ℝ) : EReal))
  {fs te : FVec Ideal S256x1 .f32} (hf : ∀ i, fs (ix2 i 0) = ((Cert.Ret.fromStart b (Cert.Ret.lg b h) i : ℝ) : EReal))
  (he : ∀ i, te (ix2 i 0) = ((Cert.Ret.toEnd b (Cert.Ret.lg b h) i : ℝ) : EReal))
  {st : Vec Ideal S2x4x512x256 .f32} {a : Fin 2}
  (hst : ∀ e d, st (ix4 a h e d) = ((dstate b (Cert.Ret.lg b h) (qh I h) (oh I h) s.val e d : ℝ) : EReal))

include B

theorem headQ (p) (i d : Fin 256) : headK xq (256 * h.val) p (ix2 i d) = ((I.q (tok b s i) (colK h d) : ℝ) : EReal) :=
  (headK_apply xq _ p i d (by omega)).trans (B.hq i _)

theorem headKeys (p) (i d : Fin 256) : headK xk (256 * h.val) p (ix2 i d) = ((I.k (tok b s i) (colK h d) : ℝ) : EReal) :=
  (headK_apply xk _ p i d (by omega)).trans (B.hk i _)

theorem headVals (p) (i : Fin 256) (e : Fin 512) : headV xv (512 * h.val) p (ix2 i e) = ((vh I h (tok b s i) e : ℝ) : EReal) :=
  (headV_apply xv _ p i e (by omega)).trans (B.hv i _)

theorem headO (p) (i : Fin 256) (e : Fin 512) : headV xo (512 * h.val) p (ix2 i e) = ((oh I h (tok b s i) e : ℝ) : EReal) :=
  (headV_apply xo _ p i e (by omega)).trans (B.ho i _)

include hm hf in
theorem dq_at (p1 p2 p3 p4) (j d : Fin 256) :
    dqTile dm fs xc xs (headK xk (256 * h.val) p1) (headV xv (512 * h.val) p2) (headV xo (512 * h.val) p3) (savedAt xst h.val p4) (ix2 j d)
      = ((dqOut I b h (tok b s j) d : ℝ) : EReal) := by
  rw [dqTile_real B.hc B.hs hm hf (headKeys B h p1) (headVals B h p2) (headO B h p3)
    (fs := fstate b (Cert.Ret.lg b h) (kh I h) (vh I h) s)
    (fun e d => (savedAt_apply xst h p4 e d).trans (B.hst h e d))]
  unfold dqOut
  congr 2
  funext d
  rw [Cert.Ret.dq_tok]
  rfl

include hm he hst in
theorem dk_at (p1 p2 p3 p4) (j d : Fin 256) :
    dkTile dm te xc xs (headK xq (256 * h.val) p1) (headV xv (512 * h.val) p2) (headV xo (512 * h.val) p3) (carryAt st a.val h.val p4) (ix2 j d)
      = ((dkOut I b h (tok b s j) d : ℝ) : EReal) := by
  rw [dkTile_real B.hc B.hs hm he (headQ B h p1) (headVals B h p2) (headO B h p3)
    (fs := dstate b (Cert.Ret.lg b h) (qh I h) (oh I h) s.val)
    (fun e d => (carryAt_apply st a h p4 e d).trans (hst e d))]
  unfold dkOut
  congr 2
  funext d
  rw [Cert.Ret.dk_tok]
  rfl

include hm he hst in
theorem dv_at (p1 p2 p3 p4) (j : Fin 256) (e : Fin 512) :
    dvTile dm te xc xs (headK xq (256 * h.val) p1) (headK xk (256 * h.val) p2) (headV xo (512 * h.val) p3) (carryAt st a.val h.val p4) (ix2 j e)
      = ((dvOut I b h (tok b s j) e : ℝ) : EReal) := by
  rw [dvTile_real B.hc B.hs hm he (headQ B h p1) (headKeys B h p2) (headO B h p3)
    (fs := dstate b (Cert.Ret.lg b h) (qh I h) (oh I h) s.val)
    (fun e d => (carryAt_apply st a h p4 e d).trans (hst e d))]
  unfold dvOut
  rw [Cert.Ret.dv_tok]
  rfl

include hf hst in
theorem dst_at {w : Ideal .f32} (hw : w = ((Real.exp (Cert.Ret.lg b h * 256) : ℝ) : EReal)) (p1 p3 p4) (e : Fin 512) (d : Fin 256) :
    dstTile w fs xc xs (headK xq (256 * h.val) p1) (headV xo (512 * h.val) p3) (carryAt st a.val h.val p4) (ix4 0 0 e d)
      = ((dstate b (Cert.Ret.lg b h) (qh I h) (oh I h) (s.val + 1) e d : ℝ) : EReal) := by
  subst hw
  rw [dstTile_real B.hc B.hs hf (headQ B h p1) (headO B h p3)
    (fs := dstate b (Cert.Ret.lg b h) (qh I h) (oh I h) s.val)
    (fun e d => (carryAt_apply st a h p4 e d).trans (hst e d))]
  rw [Cert.Ret.dstate_succ]
  rfl

end head

/-! ## The named decays -/

/-- A head's log-decay and its decay over a chunk, as the body names them. -/
def logAt (b : Bool) (h : Fin 4) : Ideal .f32 := if b then ![lg256, lg128, lg64, lg32] h else ![lg32, lg64, lg128, lg256] h

def chunkAt (b : Bool) (h : Fin 4) : Ideal .f32 :=
  if b then ![chunk256, chunk128, chunk64, chunk32] h else ![chunk32, chunk64, chunk128, chunk256] h

theorem logAt_eq (b : Bool) (h : Fin 4) : logAt b h = ((Cert.Ret.lg b h : ℝ) : EReal) := by
  cases b <;> fin_cases h
  · exact log_32.trans (by simp [Cert.Ret.lg, Cert.Ret.denom]; norm_num)
  · exact log_64.trans (by simp [Cert.Ret.lg, Cert.Ret.denom]; norm_num)
  · exact log_128.trans (by simp [Cert.Ret.lg, Cert.Ret.denom]; norm_num)
  · exact log_256.trans (by simp [Cert.Ret.lg, Cert.Ret.denom]; norm_num)
  · exact log_256.trans (by simp [Cert.Ret.lg, Cert.Ret.denom]; norm_num)
  · exact log_128.trans (by simp [Cert.Ret.lg, Cert.Ret.denom]; norm_num)
  · exact log_64.trans (by simp [Cert.Ret.lg, Cert.Ret.denom]; norm_num)
  · exact log_32.trans (by simp [Cert.Ret.lg, Cert.Ret.denom]; norm_num)

theorem chunkAt_eq (b : Bool) (h : Fin 4) : chunkAt b h = ((Real.exp (Cert.Ret.lg b h * 256) : ℝ) : EReal) := by
  cases b <;> fin_cases h
  · exact chunk_32.trans (by simp [Cert.Ret.lg, Cert.Ret.denom]; norm_num)
  · exact chunk_64.trans (by simp [Cert.Ret.lg, Cert.Ret.denom]; norm_num)
  · exact chunk_128.trans (by simp [Cert.Ret.lg, Cert.Ret.denom]; norm_num)
  · exact chunk_256.trans (by simp [Cert.Ret.lg, Cert.Ret.denom]; norm_num)
  · exact chunk_256.trans (by simp [Cert.Ret.lg, Cert.Ret.denom]; norm_num)
  · exact chunk_128.trans (by simp [Cert.Ret.lg, Cert.Ret.denom]; norm_num)
  · exact chunk_64.trans (by simp [Cert.Ret.lg, Cert.Ret.denom]; norm_num)
  · exact chunk_32.trans (by simp [Cert.Ret.lg, Cert.Ret.denom]; norm_num)

theorem dmF (h : Fin 4) (i j : Fin 256) :
    decays relF (logAt false h) (ix2 i j) = ((Cert.Ret.decayC false (Cert.Ret.lg false h) i j : ℝ) : EReal) := by
  rw [logAt_eq]; exact decaysF_real _ i j
theorem dmB (h : Fin 4) (i j : Fin 256) :
    decays relB (logAt true h) (ix2 i j) = ((Cert.Ret.decayC true (Cert.Ret.lg true h) i j : ℝ) : EReal) := by
  rw [logAt_eq]; exact decaysB_real _ i j
theorem fsF (h : Fin 4) (i : Fin 256) : qdecF (logAt false h) (ix2 i 0) = ((Cert.Ret.fromStart false (Cert.Ret.lg false h) i : ℝ) : EReal) := by
  rw [logAt_eq]; exact qdecF_real _ i
theorem fsB (h : Fin 4) (i : Fin 256) : qdecB (logAt true h) (ix2 i 0) = ((Cert.Ret.fromStart true (Cert.Ret.lg true h) i : ℝ) : EReal) := by
  rw [logAt_eq]; exact qdecB_real _ i
theorem teF (h : Fin 4) (i : Fin 256) : kdecF (logAt false h) (ix2 i 0) = ((Cert.Ret.toEnd false (Cert.Ret.lg false h) i : ℝ) : EReal) := by
  rw [logAt_eq]; exact kdecF_real _ i
theorem teB (h : Fin 4) (i : Fin 256) : kdecB (logAt true h) (ix2 i 0) = ((Cert.Ret.toEnd true (Cert.Ret.lg true h) i : ℝ) : EReal) := by
  rw [logAt_eq]; exact kdecB_real _ i

/-! ## A whole visit -/

/-- What a visit at step `s` is to leave. -/
structure Good (I : Inputs) (s : Fin 33) (L : Left Ideal) : Prop where
  dqf : ∀ h j d, L.dqf (ix2 j (colK h d)) = ((dqOut I false h (tok false s j) d : ℝ) : EReal)
  dkf : ∀ h j d, L.dkf (ix2 j (colK h d)) = ((dkOut I false h (tok false s j) d : ℝ) : EReal)
  dvf : ∀ h j e, L.dvf (ix2 j (colV h e)) = ((dvOut I false h (tok false s j) e : ℝ) : EReal)
  dqb : ∀ h j d, L.dqb (ix2 j (colK h d)) = ((dqOut I true h (tok true s j) d : ℝ) : EReal)
  dkb : ∀ h j d, L.dkb (ix2 j (colK h d)) = ((dkOut I true h (tok true s j) d : ℝ) : EReal)
  dvb : ∀ h j e, L.dvb (ix2 j (colV h e)) = ((dvOut I true h (tok true s j) e : ℝ) : EReal)
  carryF : ∀ h e d, L.carry (ix4 0 h e d) = ((dstate false (Cert.Ret.lg false h) (qh I h) (oh I h) (s.val + 1) e d : ℝ) : EReal)
  carryB : ∀ h e d, L.carry (ix4 1 h e d) = ((dstate true (Cert.Ret.lg true h) (qh I h) (oh I h) (s.val + 1) e d : ℝ) : EReal)

theorem good_of {I : Inputs} {s : Fin 33} {L : Left Ideal} {x0 x1 x2 x3 x4 x5 x6 x7 x8 x9 x10 x11 x12 x13 st}
    (V : IsVisit L x0 x1 x2 x3 x4 x5 x6 x7 x8 x9 x10 x11 x12 x13 st)
    (BF : Blocks I false s x0 x1 x2 x3 x4 x5 x6) (BB : Blocks I true s x7 x8 x9 x10 x11 x12 x13)
    (sF : ∀ h e d, st (ix4 0 h e d) = ((dstate false (Cert.Ret.lg false h) (qh I h) (oh I h) s.val e d : ℝ) : EReal))
    (sB : ∀ h e d, st (ix4 1 h e d) = ((dstate true (Cert.Ret.lg true h) (qh I h) (oh I h) s.val e d : ℝ) : EReal)) :
    Good I s L where
  dqf h j d := by
    rw [V.dqf]
    refine (fourK_apply _ _ _ _ h j d (colK h d).isLt).trans ?_
    fin_cases h
    · exact dq_at BF 0 (dmF 0) (fsF 0) _ _ _ _ j d
    · exact dq_at BF 1 (dmF 1) (fsF 1) _ _ _ _ j d
    · exact dq_at BF 2 (dmF 2) (fsF 2) _ _ _ _ j d
    · exact dq_at BF 3 (dmF 3) (fsF 3) _ _ _ _ j d
  dkf h j d := by
    rw [V.dkf]
    refine (fourK_apply _ _ _ _ h j d (colK h d).isLt).trans ?_
    fin_cases h
    · exact dk_at BF 0 (dmF 0) (teF 0) (sF 0) _ _ _ _ j d
    · exact dk_at BF 1 (dmF 1) (teF 1) (sF 1) _ _ _ _ j d
    · exact dk_at BF 2 (dmF 2) (teF 2) (sF 2) _ _ _ _ j d
    · exact dk_at BF 3 (dmF 3) (teF 3) (sF 3) _ _ _ _ j d
  dvf h j e := by
    rw [V.dvf]
    refine (fourV_apply _ _ _ _ h j e (colV h e).isLt).trans ?_
    fin_cases h
    · exact dv_at BF 0 (dmF 0) (teF 0) (sF 0) _ _ _ _ j e
    · exact dv_at BF 1 (dmF 1) (teF 1) (sF 1) _ _ _ _ j e
    · exact dv_at BF 2 (dmF 2) (teF 2) (sF 2) _ _ _ _ j e
    · exact dv_at BF 3 (dmF 3) (teF 3) (sF 3) _ _ _ _ j e
  dqb h j d := by
    rw [V.dqb]
    refine (fourK_apply _ _ _ _ h j d (colK h d).isLt).trans ?_
    fin_cases h
    · exact dq_at BB 0 (dmB 0) (fsB 0) _ _ _ _ j d
    · exact dq_at BB 1 (dmB 1) (fsB 1) _ _ _ _ j d
    · exact dq_at BB 2 (dmB 2) (fsB 2) _ _ _ _ j d
    · exact dq_at BB 3 (dmB 3) (fsB 3) _ _ _ _ j d
  dkb h j d := by
    rw [V.dkb]
    refine (fourK_apply _ _ _ _ h j d (colK h d).isLt).trans ?_
    fin_cases h
    · exact dk_at BB 0 (dmB 0) (teB 0) (sB 0) _ _ _ _ j d
    · exact dk_at BB 1 (dmB 1) (teB 1) (sB 1) _ _ _ _ j d
    · exact dk_at BB 2 (dmB 2) (teB 2) (sB 2) _ _ _ _ j d
    · exact dk_at BB 3 (dmB 3) (teB 3) (sB 3) _ _ _ _ j d
  dvb h j e := by
    rw [V.dvb]
    refine (fourV_apply _ _ _ _ h j e (colV h e).isLt).trans ?_
    fin_cases h
    · exact dv_at BB 0 (dmB 0) (teB 0) (sB 0) _ _ _ _ j e
    · exact dv_at BB 1 (dmB 1) (teB 1) (sB 1) _ _ _ _ j e
    · exact dv_at BB 2 (dmB 2) (teB 2) (sB 2) _ _ _ _ j e
    · exact dv_at BB 3 (dmB 3) (teB 3) (sB 3) _ _ _ _ j e
  carryF h e d := by
    rw [V.carry]
    fin_cases h
    · exact dst_at BF 0 (fsF 0) (sF 0) (chunkAt_eq false 0) _ _ _ e d
    · exact dst_at BF 1 (fsF 1) (sF 1) (chunkAt_eq false 1) _ _ _ e d
    · exact dst_at BF 2 (fsF 2) (sF 2) (chunkAt_eq false 2) _ _ _ e d
    · exact dst_at BF 3 (fsF 3) (sF 3) (chunkAt_eq false 3) _ _ _ e d
  carryB h e d := by
    rw [V.carry]
    fin_cases h
    · exact dst_at BB 0 (fsB 0) (sB 0) (chunkAt_eq true 0) _ _ _ e d
    · exact dst_at BB 1 (fsB 1) (sB 1) (chunkAt_eq true 1) _ _ _ e d
    · exact dst_at BB 2 (fsB 2) (sB 2) (chunkAt_eq true 2) _ _ _ e d
    · exact dst_at BB 3 (fsB 3) (sB 3) (chunkAt_eq true 3) _ _ _ e d

theorem zeros_apply (y : S2x4x512x256.Idx) : zeros (F := Ideal) y = 0 := by
  show Ideal.ofBits .f32 0x00000000#32 = 0
  simp [Ideal.ofBits, Ideal.ieee]

end Cert.KernelIdeal.Ret

end
-- ==== Proof.KernelIdeal.Seen.lean ====
/- The blocks a visit is given, at coordinates: row `i` of a block is token `i` of the chunk that the direction visits, and the
   saved states are the ones before that chunk. -/
module

public import proofs.«01_k».proof.Proof.Retention
public import proofs.«01_k».proof.Proof.KernelIdeal.Visit
public import Idealize.ShloMosaic.Lib.Pipeline.ValueKit

@[expose] public section

set_option maxRecDepth 16384

noncomputable section

namespace Cert.KernelIdeal.Ret

open Cert.KernelIdeal Cert.KernelIdeal.Gen Idealize.ShloMosaic Idealize.ShloMosaic.TcCoe Idealize.SL.Sem
open Cert.Ret (chunk tok)

variable {F : FTy → Type} [FloatOps F] [Named F]

/-- A grid point as a step. -/
def pt (t : Fin cfg0.N) : Fin 33 := t.cast N_0

variable (m : (ℓ : Loc nD τ sig) → Buf (Elt F) ℓ) (c : Dev nD) (t : Fin cfg0.N)

theorem index0 : ∀ t : Fin cfg0.N, win0_0.index t 0 = (chunk false (pt t)).val ∧ win0_0.index t 1 = 0 :=
  (by decide +kernel : ∀ t : Fin grid0.N, win0_0.index t 0 = (chunk false (t.cast N_0)).val ∧ win0_0.index t 1 = 0)

theorem seen0 (i : Fin 256) (a : Fin 1024) : iblk m c 0 t (ix2 i a) = V m c main_arg0 (ix2 (tok false (pt t) i) a) := by
  have h := index0 t
  blk_ext [iblk, h.1, h.2, tok]

theorem index1 : ∀ t : Fin cfg0.N, win0_1.index t 0 = (chunk false (pt t)).val ∧ win0_1.index t 1 = 0 :=
  (by decide +kernel : ∀ t : Fin grid0.N, win0_1.index t 0 = (chunk false (t.cast N_0)).val ∧ win0_1.index t 1 = 0)

theorem seen1 (i : Fin 256) (a : Fin 1024) : iblk m c 1 t (ix2 i a) = V m c main_arg1 (ix2 (tok false (pt t) i) a) := by
  have h := index1 t
  blk_ext [iblk, h.1, h.2, tok]

theorem index2 : ∀ t : Fin cfg0.N, win0_2.index t 0 = (chunk false (pt t)).val ∧ win0_2.index t 1 = 0 :=
  (by decide +kernel : ∀ t : Fin grid0.N, win0_2.index t 0 = (chunk false (t.cast N_0)).val ∧ win0_2.index t 1 = 0)

theorem seen2 (i : Fin 256) (a : Fin 2048) : iblk m c 2 t (ix2 i a) = V m c main_arg2 (ix2 (tok false (pt t) i) a) := by
  have h := index2 t
  blk_ext [iblk, h.1, h.2, tok]

theorem index3 : ∀ t : Fin cfg0.N, win0_3.index t 0 = (chunk false (pt t)).val ∧ win0_3.index t 1 = 0 :=
  (by decide +kernel : ∀ t : Fin grid0.N, win0_3.index t 0 = (chunk false (t.cast N_0)).val ∧ win0_3.index t 1 = 0)

theorem seen3 (i : Fin 256) (a : Fin 128) : iblk m c 3 t (ix2 i a) = V m c main_v116 (ix2 (tok false (pt t) i) a) := by
  have h := index3 t
  blk_ext [iblk, h.1, h.2, tok]

theorem index4 : ∀ t : Fin cfg0.N, win0_4.index t 0 = (chunk false (pt t)).val ∧ win0_4.index t 1 = 0 :=
  (by decide +kernel : ∀ t : Fin grid0.N, win0_4.index t 0 = (chunk false (t.cast N_0)).val ∧ win0_4.index t 1 = 0)

theorem seen4 (i : Fin 256) (a : Fin 128) : iblk m c 4 t (ix2 i a) = V m c main_v118 (ix2 (tok false (pt t) i) a) := by
  have h := index4 t
  blk_ext [iblk, h.1, h.2, tok]

theorem index5 : ∀ t : Fin cfg0.N, win0_5.index t 0 = (chunk false (pt t)).val ∧ win0_5.index t 1 = 0 ∧ win0_5.index t 2 = 0 ∧ win0_5.index t 3 = 0 :=
  (by decide +kernel : ∀ t : Fin grid0.N, win0_5.index t 0 = (chunk false (t.cast N_0)).val ∧ win0_5.index t 1 = 0 ∧ win0_5.index t 2 = 0 ∧ win0_5.index t 3 = 0)

theorem seen5 (b : Fin 4) (e : Fin 512) (d : Fin 256) :
    iblk m c 5 t (ix4 0 b e d) = V m c main_v67 (ix4 (chunk false (pt t)) b e d) := by
  have h := index5 t
  blk_ext [iblk, h.1, h.2.1, h.2.2.1, h.2.2.2]

theorem index6 : ∀ t : Fin cfg0.N, win0_6.index t 0 = (chunk false (pt t)).val ∧ win0_6.index t 1 = 0 :=
  (by decide +kernel : ∀ t : Fin grid0.N, win0_6.index t 0 = (chunk false (t.cast N_0)).val ∧ win0_6.index t 1 = 0)

theorem seen6 (i : Fin 256) (a : Fin 2048) : iblk m c 6 t (ix2 i a) = V m c main_arg5 (ix2 (tok false (pt t) i) a) := by
  have h := index6 t
  blk_ext [iblk, h.1, h.2, tok]

theorem index7 : ∀ t : Fin cfg0.N, win0_7.index t 0 = (chunk true (pt t)).val ∧ win0_7.index t 1 = 0 :=
  (by decide +kernel : ∀ t : Fin grid0.N, win0_7.index t 0 = (chunk true (t.cast N_0)).val ∧ win0_7.index t 1 = 0)

theorem seen7 (i : Fin 256) (a : Fin 1024) : iblk m c 7 t (ix2 i a) = V m c main_arg0 (ix2 (tok true (pt t) i) a) := by
  have h := index7 t
  blk_ext [iblk, h.1, h.2, tok]

theorem index8 : ∀ t : Fin cfg0.N, win0_8.index t 0 = (chunk true (pt t)).val ∧ win0_8.index t 1 = 0 :=
  (by decide +kernel : ∀ t : Fin grid0.N, win0_8.index t 0 = (chunk true (t.cast N_0)).val ∧ win0_8.index t 1 = 0)

theorem seen8 (i : Fin 256) (a : Fin 1024) : iblk m c 8 t (ix2 i a) = V m c main_arg1 (ix2 (tok true (pt t) i) a) := by
  have h := index8 t
  blk_ext [iblk, h.1, h.2, tok]

theorem index9 : ∀ t : Fin cfg0.N, win0_9.index t 0 = (chunk true (pt t)).val ∧ win0_9.index t 1 = 0 :=
  (by decide +kernel : ∀ t : Fin grid0.N, win0_9.index t 0 = (chunk true (t.cast N_0)).val ∧ win0_9.index t 1 = 0)

theorem seen9 (i : Fin 256) (a : Fin 2048) : iblk m c 9 t (ix2 i a) = V m c main_arg2 (ix2 (tok true (pt t) i) a) := by
  have h := index9 t
  blk_ext [iblk, h.1, h.2, tok]

theorem index10 : ∀ t : Fin cfg0.N, win0_10.index t 0 = (chunk true (pt t)).val ∧ win0_10.index t 1 = 0 :=
  (by decide +kernel : ∀ t : Fin grid0.N, win0_10.index t 0 = (chunk true (t.cast N_0)).val ∧ win0_10.index t 1 = 0)

theorem seen10 (i : Fin 256) (a : Fin 128) : iblk m c 10 t (ix2 i a) = V m c main_v116 (ix2 (tok true (pt t) i) a) := by
  have h := index10 t
  blk_ext [iblk, h.1, h.2, tok]

theorem index11 : ∀ t : Fin cfg0.N, win0_11.index t 0 = (chunk true (pt t)).val ∧ win0_11.index t 1 = 0 :=
  (by decide +kernel : ∀ t : Fin grid0.N, win0_11.index t 0 = (chunk true (t.cast N_0)).val ∧ win0_11.index t 1 = 0)

theorem seen11 (i : Fin 256) (a : Fin 128) : iblk m c 11 t (ix2 i a) = V m c main_v118 (ix2 (tok true (pt t) i) a) := by
  have h := index11 t
  blk_ext [iblk, h.1, h.2, tok]

theorem index12 : ∀ t : Fin cfg0.N, win0_12.index t 0 = (chunk true (pt t)).val ∧ win0_12.index t 1 = 0 ∧ win0_12.index t 2 = 0 ∧ win0_12.index t 3 = 0 :=
  (by decide +kernel : ∀ t : Fin grid0.N, win0_12.index t 0 = (chunk true (t.cast N_0)).val ∧ win0_12.index t 1 = 0 ∧ win0_12.index t 2 = 0 ∧ win0_12.index t 3 = 0)

theorem seen12 (b : Fin 4) (e : Fin 512) (d : Fin 256) :
    iblk m c 12 t (ix4 0 b e d) = V m c main_v114 (ix4 (chunk true (pt t)) b e d) := by
  have h := index12 t
  blk_ext [iblk, h.1, h.2.1, h.2.2.1, h.2.2.2]

theorem index13 : ∀ t : Fin cfg0.N, win0_13.index t 0 = (chunk true (pt t)).val ∧ win0_13.index t 1 = 0 :=
  (by decide +kernel : ∀ t : Fin grid0.N, win0_13.index t 0 = (chunk true (t.cast N_0)).val ∧ win0_13.index t 1 = 0)

theorem seen13 (i : Fin 256) (a : Fin 2048) : iblk m c 13 t (ix2 i a) = V m c main_arg5 (ix2 (tok true (pt t) i) a) := by
  have h := index13 t
  blk_ext [iblk, h.1, h.2, tok]

end Cert.KernelIdeal.Ret

end
-- ==== Proof.Outcome.lean ====
/- The kernel's six arrays after the run, over the reals: every visit leaves the gradients of its chunk's tokens, and the
   chunks of the visits fill the arrays. -/
module

public import proofs.«01_k».proof.Proof.Steps
public import proofs.«01_k».proof.Proof.KernelIdeal.Seen
public import proofs.«01_k».proof.Proof.KernelIdeal.Launch

@[expose] public section

set_option maxRecDepth 16384

noncomputable section

namespace Cert.KernelIdeal.Ret

open Cert.KernelIdeal Cert.KernelIdeal.Gen Idealize.ShloMosaic Idealize.ShloMosaic.TcCoe Idealize.SL.Sem
open Cert.Ret (Inputs tok chunk colK colV qh kh vh oh dqOut dkOut dvOut dstate fstate)

variable (m : (ℓ : Loc nD τ sig) → Buf (Elt Ideal) ℓ) (c : Dev nD)

/-- What the launch's arrays hold, as real tables. -/
structure Holds (I : Inputs) : Prop where
  q : ∀ t a, V m c main_arg0 (ix2 t a) = ((I.q t a : ℝ) : EReal)
  k : ∀ t a, V m c main_arg1 (ix2 t a) = ((I.k t a : ℝ) : EReal)
  v : ∀ t a, V m c main_arg2 (ix2 t a) = ((I.v t a : ℝ) : EReal)
  o : ∀ t a, V m c main_arg5 (ix2 t a) = ((I.o t a : ℝ) : EReal)
  rc : ∀ t a, V m c main_v116 (ix2 t a) = ((I.rc t a : ℝ) : EReal)
  rs : ∀ t a, V m c main_v118 (ix2 t a) = ((I.rs t a : ℝ) : EReal)
  stF : ∀ s h e d, V m c main_v67 (ix4 (chunk false s) h e d) = ((fstate false (Cert.Ret.lg false h) (kh I h) (vh I h) s e d : ℝ) : EReal)
  stB : ∀ s h e d, V m c main_v114 (ix4 (chunk true s) h e d) = ((fstate true (Cert.Ret.lg true h) (kh I h) (vh I h) s e d : ℝ) : EReal)

variable {m c} {I : Inputs} (H : Holds m c I)

include H

theorem blocksF (t : Fin cfg0.N) : Blocks I false (pt t) (iblk m c 0 t) (iblk m c 1 t) (iblk m c 2 t) (iblk m c 3 t) (iblk m c 4 t)
    (iblk m c 5 t) (iblk m c 6 t) where
  hq i a := (seen0 m c t i a).trans (H.q _ _)
  hk i a := (seen1 m c t i a).trans (H.k _ _)
  hv i a := (seen2 m c t i a).trans (H.v _ _)
  hc i a := (seen3 m c t i a).trans (H.rc _ _)
  hs i a := (seen4 m c t i a).trans (H.rs _ _)
  hst h e d := (seen5 m c t h e d).trans (H.stF _ h e d)
  ho i a := (seen6 m c t i a).trans (H.o _ _)

theorem blocksB (t : Fin cfg0.N) : Blocks I true (pt t) (iblk m c 7 t) (iblk m c 8 t) (iblk m c 9 t) (iblk m c 10 t) (iblk m c 11 t)
    (iblk m c 12 t) (iblk m c 13 t) where
  hq i a := (seen7 m c t i a).trans (H.q _ _)
  hk i a := (seen8 m c t i a).trans (H.k _ _)
  hv i a := (seen9 m c t i a).trans (H.v _ _)
  hc i a := (seen10 m c t i a).trans (H.rc _ _)
  hs i a := (seen11 m c t i a).trans (H.rs _ _)
  hst h e d := (seen12 m c t h e d).trans (H.stB _ h e d)
  ho i a := (seen13 m c t i a).trans (H.o _ _)

theorem good_first (t : Fin cfg0.N) (h : t.val = 0) : Good I (pt t) (firstAt m c t h) := by
  unfold firstAt
  refine good_of (visited_A ..) (blocksF H t) (blocksB H t) (fun g e d => ?_) (fun g e d => ?_)
  · rw [zeros_apply, show (pt t).val = 0 from h, Cert.Ret.dstate_zero]; rfl
  · rw [zeros_apply, show (pt t).val = 0 from h, Cert.Ret.dstate_zero]; rfl

theorem good_next (t : Fin cfg0.N) (h : t.val ≠ 0) (xs0 : Vec Ideal S2x4x512x256 .f32)
    (sF : ∀ h e d, xs0 (ix4 0 h e d) = ((dstate false (Cert.Ret.lg false h) (qh I h) (oh I h) t.val e d : ℝ) : EReal))
    (sB : ∀ h e d, xs0 (ix4 1 h e d) = ((dstate true (Cert.Ret.lg true h) (qh I h) (oh I h) t.val e d : ℝ) : EReal)) :
    Good I (pt t) (nextAt m c t h xs0) := by
  unfold nextAt
  exact good_of (visited_B ..) (blocksF H t) (blocksB H t) sF sB

theorem good (n : ℕ) (hn : n < cfg0.N) : Good I (pt ⟨n, hn⟩) (leaves m c n hn) := by
  induction n with
  | zero => rw [leaves_first m c ⟨0, hn⟩ rfl]; exact good_first H ⟨0, hn⟩ rfl
  | succ n ih =>
    rw [leaves_next m c ⟨n + 1, hn⟩ (Nat.succ_ne_zero n)]
    have g := ih (Nat.lt_of_succ_lt hn)
    exact good_next H ⟨n + 1, hn⟩ (Nat.succ_ne_zero n) _ g.carryF g.carryB

end Cert.KernelIdeal.Ret

end
-- ==== Proof.Entry.lean ====
/- What the kernel's launch finds: from real inputs the host lines leave the real tables of `Holds`. -/
module

public import proofs.«01_k».proof.Proof.HostReal
public import proofs.«01_k».proof.Proof.Outcome

@[expose] public section

set_option maxRecDepth 16384

noncomputable section

namespace Cert.KernelIdeal.Ret

open Cert.KernelIdeal Cert.KernelIdeal.Gen Idealize.ShloMosaic Idealize.ShloMosaic.TcCoe Idealize.SL.Sem
open Cert.Ret (Inputs chunk kh vh colK colV rot)

theorem narrowed_apply {s : Shape} (x : FVec Ideal s .f32) (i : s.Idx) : truncf .bf16 x bitsLt_bf16_f32 i = x i := rfl

/-- The real tables the two directions work on. -/
def tables (q k : Fin 8448 → Fin 1024 → ℝ) (v o : Fin 8448 → Fin 2048 → ℝ) (c s : Fin 8192 → Fin 128 → ℝ) : Inputs :=
  ⟨q, k, v, o, under 1 c, under 0 s⟩

variable {m : (ℓ : Loc nD τ sig) → Buf (Elt Ideal) ℓ} {c : Dev nD}

theorem holds {q k : Fin 8448 → Fin 1024 → ℝ} {v o : Fin 8448 → Fin 2048 → ℝ} {rc rs : Fin 8192 → Fin 128 → ℝ}
    (hq : ∀ t a, (m ((c : Thread nD τ).loc main_arg0) : FVec Ideal S8448x1024 .bf16) (ix2 t a) = ((q t a : ℝ) : EReal))
    (hk : ∀ t a, (m ((c : Thread nD τ).loc main_arg1) : FVec Ideal S8448x1024 .bf16) (ix2 t a) = ((k t a : ℝ) : EReal))
    (hv : ∀ t a, (m ((c : Thread nD τ).loc main_arg2) : FVec Ideal S8448x2048 .bf16) (ix2 t a) = ((v t a : ℝ) : EReal))
    (hc : ∀ t a, (m ((c : Thread nD τ).loc main_arg3) : FVec Ideal S8192x128 .f32) (ix2 t a) = ((rc t a : ℝ) : EReal))
    (hs : ∀ t a, (m ((c : Thread nD τ).loc main_arg4) : FVec Ideal S8192x128 .f32) (ix2 t a) = ((rs t a : ℝ) : EReal))
    (ho : ∀ t a, (m ((c : Thread nD τ).loc main_arg5) : FVec Ideal S8448x2048 .bf16) (ix2 t a) = ((o t a : ℝ) : EReal)) :
    Holds m c (tables q k v o rc rs) where
  q t a := (congrFun (V_main_arg0 m c) (ix2 t a)).trans (hq t a)
  k t a := (congrFun (V_main_arg1 m c) (ix2 t a)).trans (hk t a)
  v t a := (congrFun (V_main_arg2 m c) (ix2 t a)).trans (hv t a)
  o t a := (congrFun (V_main_arg5 m c) (ix2 t a)).trans (ho t a)
  rc t a := (congrFun (V_cos m c) (ix2 t a)).trans (withContext_real word_one hc t a)
  rs t a := (congrFun (V_sin m c) (ix2 t a)).trans (withContext_real word_zero hs t a)
  stF s h e d := by
    refine (congrFun (V_states_forward m c) (ix4 (chunk false s) h e d)).trans ?_
    refine (narrowed_apply _ _).trans ?_
    refine (states_real (keys_real hk hc hs) (headsV_real hv) logDecays_real (chunk false s) h e d).trans ?_
    exact congrArg (fun r : ℝ => (r : EReal))
      (fstate_forward (Cert.Ret.lg false h) (kh (tables q k v o rc rs) h) (vh (tables q k v o rc rs) h) s e d)
  stB s h e d := by
    refine (congrFun (V_states_backward m c) (ix4 (chunk true s) h e d)).trans ?_
    refine (narrowed_apply _ _).trans ?_
    refine (byChunk_apply _ s h e d).trans ?_
    refine (states_real (fun h t d => (mirrorK_apply _ h t d).trans (keys_real hk hc hs h (Cert.Ret.mirror t) d))
      (fun h t e => (mirrorV_apply _ h t e).trans (headsV_real hv h (Cert.Ret.mirror t) e)) logDecays_reversed (chunk false s) h e d).trans ?_
    exact congrArg (fun r : ℝ => (r : EReal))
      (fstate_backward (Cert.Ret.lg true h) (kh (tables q k v o rc rs) h) (vh (tables q k v o rc rs) h) s e d)

end Cert.KernelIdeal.Ret

end
-- ==== Proof.Arrays.lean ====
/- The kernel's six arrays after the run, over the reals: the chunks of the visits fill them with the gradients. -/
module

public import proofs.«01_k».proof.Proof.Outcome

@[expose] public section

set_option maxRecDepth 16384

noncomputable section

namespace Cert.KernelIdeal.Ret

open Cert.KernelIdeal Cert.KernelIdeal.Gen Idealize.ShloMosaic Idealize.ShloMosaic.TcCoe Idealize.SL.Sem
open Cert.Ret (Inputs tok chunk step colK colV dqOut dkOut dvOut)

variable {m : (ℓ : Loc nD τ sig) → Buf (Elt Ideal) ℓ} {c : Dev nD} {I : Inputs} (H : Holds m c I)

/-- Four heads' gradients of queries or keys as one array. -/
def laidK (f : Fin 4 → Fin 8448 → Fin 256 → ℝ) : Vec Ideal S8448x1024 .bf16 :=
  fun y => ((f ⟨(y 1).val / 256, by have : (y 1).val < 1024 := (y 1).isLt; omega⟩ (y 0) ⟨(y 1).val % 256, by omega⟩ : ℝ) : EReal)

/-- Four heads' gradients of values as one array. -/
def laidV (f : Fin 4 → Fin 8448 → Fin 512 → ℝ) : Vec Ideal S8448x2048 .bf16 :=
  fun y => ((f ⟨(y 1).val / 512, by have : (y 1).val < 2048 := (y 1).isLt; omega⟩ (y 0) ⟨(y 1).val % 512, by omega⟩ : ℝ) : EReal)

theorem blockK {L : Vec Ideal S256x1024 .bf16} {f : Fin 4 → Fin 8448 → Fin 256 → ℝ} {b : Bool} {s : Fin 33}
    (h : ∀ g j d, L (ix2 j (colK g d)) = ((f g (tok b s j) d : ℝ) : EReal)) (y : S256x1024.Idx) (z : S8448x1024.Idx)
    (h0 : (z 0).val = 256 * (chunk b s).val + (y 0).val) (h1 : (z 1).val = (y 1).val) : L y = laidK f z := by
  have l1 : (y 1).val < 1024 := (y 1).isLt
  have e : y = ix2 (y 0) (colK ⟨(y 1).val / 256, by omega⟩ ⟨(y 1).val % 256, by omega⟩) := by
    funext a
    fin_cases a
    · rfl
    · exact Fin.ext (by show (y 1).val = 256 * ((y 1).val / 256) + (y 1).val % 256; omega)
  have z0 : z 0 = tok b s (y 0) := Fin.ext h0
  rw [e]
  refine (h _ _ _).trans ?_
  unfold laidK
  simp only [h1, z0]

theorem blockV {L : Vec Ideal S256x2048 .bf16} {f : Fin 4 → Fin 8448 → Fin 512 → ℝ} {b : Bool} {s : Fin 33}
    (h : ∀ g j d, L (ix2 j (colV g d)) = ((f g (tok b s j) d : ℝ) : EReal)) (y : S256x2048.Idx) (z : S8448x2048.Idx)
    (h0 : (z 0).val = 256 * (chunk b s).val + (y 0).val) (h1 : (z 1).val = (y 1).val) : L y = laidV f z := by
  have l1 : (y 1).val < 2048 := (y 1).isLt
  have e : y = ix2 (y 0) (colV ⟨(y 1).val / 512, by omega⟩ ⟨(y 1).val % 512, by omega⟩) := by
    funext a
    fin_cases a
    · rfl
    · exact Fin.ext (by show (y 1).val = 512 * ((y 1).val / 512) + (y 1).val % 512; omega)
  have z0 : z 0 = tok b s (y 0) := Fin.ext h0
  rw [e]
  refine (h _ _ _).trans ?_
  unfold laidV
  simp only [h1, z0]

theorem index14 : ∀ t : Fin cfg0.N, win0_14.index t 0 = (chunk false (pt t)).val ∧ win0_14.index t 1 = 0 :=
  (by decide +kernel : ∀ t : Fin grid0.N, win0_14.index t 0 = (chunk false (t.cast N_0)).val ∧ win0_14.index t 1 = 0)

include H in
theorem array14 : (data m 0 c).arrAt 14 cfg0.N = laidK (dqOut I false) := by
  refine (data m 0 c).arrAt_eq_of_covers 14 _ (by decide +kernel) fun t hf y => ?_
  have h := index14 t
  blk_simp
  rw [out14]
  have g : Good I (pt t) (leaves m c t.val t.isLt) := good H t.val t.isLt
  refine blockK g.dqf _ _ ?_ ?_
  · blk_simp [h.1]; exact congrArg (· + _) (Nat.mul_comm _ _)
  · blk_simp [h.2]

theorem index15 : ∀ t : Fin cfg0.N, win0_15.index t 0 = (chunk false (pt t)).val ∧ win0_15.index t 1 = 0 :=
  (by decide +kernel : ∀ t : Fin grid0.N, win0_15.index t 0 = (chunk false (t.cast N_0)).val ∧ win0_15.index t 1 = 0)

include H in
theorem array15 : (data m 0 c).arrAt 15 cfg0.N = laidK (dkOut I false) := by
  refine (data m 0 c).arrAt_eq_of_covers 15 _ (by decide +kernel) fun t hf y => ?_
  have h := index15 t
  blk_simp
  rw [out15]
  have g : Good I (pt t) (leaves m c t.val t.isLt) := good H t.val t.isLt
  refine blockK g.dkf _ _ ?_ ?_
  · blk_simp [h.1]; exact congrArg (· + _) (Nat.mul_comm _ _)
  · blk_simp [h.2]

theorem index16 : ∀ t : Fin cfg0.N, win0_16.index t 0 = (chunk false (pt t)).val ∧ win0_16.index t 1 = 0 :=
  (by decide +kernel : ∀ t : Fin grid0.N, win0_16.index t 0 = (chunk false (t.cast N_0)).val ∧ win0_16.index t 1 = 0)

include H in
theorem array16 : (data m 0 c).arrAt 16 cfg0.N = laidV (dvOut I false) := by
  refine (data m 0 c).arrAt_eq_of_covers 16 _ (by decide +kernel) fun t hf y => ?_
  have h := index16 t
  blk_simp
  rw [out16]
  have g : Good I (pt t) (leaves m c t.val t.isLt) := good H t.val t.isLt
  refine blockV g.dvf _ _ ?_ ?_
  · blk_simp [h.1]; exact congrArg (· + _) (Nat.mul_comm _ _)
  · blk_simp [h.2]

theorem index17 : ∀ t : Fin cfg0.N, win0_17.index t 0 = (chunk true (pt t)).val ∧ win0_17.index t 1 = 0 :=
  (by decide +kernel : ∀ t : Fin grid0.N, win0_17.index t 0 = (chunk true (t.cast N_0)).val ∧ win0_17.index t 1 = 0)

include H in
theorem array17 : (data m 0 c).arrAt 17 cfg0.N = laidK (dqOut I true) := by
  refine (data m 0 c).arrAt_eq_of_covers 17 _ (by decide +kernel) fun t hf y => ?_
  have h := index17 t
  blk_simp
  rw [out17]
  have g : Good I (pt t) (leaves m c t.val t.isLt) := good H t.val t.isLt
  refine blockK g.dqb _ _ ?_ ?_
  · blk_simp [h.1]; exact congrArg (· + _) (Nat.mul_comm _ _)
  · blk_simp [h.2]

theorem index18 : ∀ t : Fin cfg0.N, win0_18.index t 0 = (chunk true (pt t)).val ∧ win0_18.index t 1 = 0 :=
  (by decide +kernel : ∀ t : Fin grid0.N, win0_18.index t 0 = (chunk true (t.cast N_0)).val ∧ win0_18.index t 1 = 0)

include H in
theorem array18 : (data m 0 c).arrAt 18 cfg0.N = laidK (dkOut I true) := by
  refine (data m 0 c).arrAt_eq_of_covers 18 _ (by decide +kernel) fun t hf y => ?_
  have h := index18 t
  blk_simp
  rw [out18]
  have g : Good I (pt t) (leaves m c t.val t.isLt) := good H t.val t.isLt
  refine blockK g.dkb _ _ ?_ ?_
  · blk_simp [h.1]; exact congrArg (· + _) (Nat.mul_comm _ _)
  · blk_simp [h.2]

theorem index19 : ∀ t : Fin cfg0.N, win0_19.index t 0 = (chunk true (pt t)).val ∧ win0_19.index t 1 = 0 :=
  (by decide +kernel : ∀ t : Fin grid0.N, win0_19.index t 0 = (chunk true (t.cast N_0)).val ∧ win0_19.index t 1 = 0)

include H in
theorem array19 : (data m 0 c).arrAt 19 cfg0.N = laidV (dvOut I true) := by
  refine (data m 0 c).arrAt_eq_of_covers 19 _ (by decide +kernel) fun t hf y => ?_
  have h := index19 t
  blk_simp
  rw [out19]
  have g : Good I (pt t) (leaves m c t.val t.isLt) := good H t.val t.isLt
  refine blockV g.dvb _ _ ?_ ?_
  · blk_simp [h.1]; exact congrArg (· + _) (Nat.mul_comm _ _)
  · blk_simp [h.2]

end Cert.KernelIdeal.Ret

end
-- ==== Proof.Finite.lean ====
/- The precondition says that every input is a real number: its compares with the largest word, joined over every array. -/
module

public import proofs.«01_k».proof.Proof.Gen.Pre_finite
public import Idealize.ShloMosaic.Lib.ReduceAll
public import Idealize.ShloMosaic.Lib.Pointwise

@[expose] public section

set_option maxRecDepth 16384

noncomputable section

namespace Cert.Pre_finite.Real

open Cert.Pre_finite Idealize.ShloMosaic

/-- An entry is a real number. -/
theorem real_of_lt {x : EReal} (h : Ideal.cmp .olt (max x (-x)) (Ideal.ofBits .f32 0x7F800000#32) = 1#1) : x = ((x.toReal : ℝ) : EReal) := by
  have hw : Ideal.ofBits .f32 0x7F800000#32 = (⊤ : EReal) := by simp [Ideal.ofBits, Ideal.ieee]
  rw [hw] at h
  have hl : max x (-x) < ⊤ := by
    by_contra hn
    simp [Ideal.cmp, hn] at h
  refine (EReal.coe_toReal (fun e => ?_) (fun e => ?_)).symm
  · rw [e] at hl; simp at hl
  · rw [e] at hl; simp at hl

/-- A bit joined of two is 1 only when both are. -/
theorem both {x y : IVec S_ 1} {j : S_.Idx} (h : andi x y j = 1#1) : x j = 1#1 ∧ y j = 1#1 := by
  change x j &&& y j = 1#1 at h
  revert h
  generalize x j = a
  generalize y j = b
  revert a b
  decide

instance : Subsingleton S_.Idx := ⟨fun a b => funext fun i => i.elim0⟩

/-- The precondition's one word, at its one index. -/
def word {s : Shape} {axes : List (Fin s.rank)} (x : IVec s 1) (h : s.ReducesTo axes S_) : IVec S_ 1 :=
  Host.reduce IntOp.andi x (constantI S_ 1 1#1) h Facts.h_S_

theorem word_all {s : Shape} {axes : List (Fin s.rank)} {x : IVec s 1} {h : s.ReducesTo axes S_} (e : word x h ix0 = 1#1) (i : s.Idx) : x i = 1#1 :=
  Host.reduce_andi_all _ _ _ _ ix0 e i

/-- One array's entries against the largest word. -/
def under {s : Shape} (hb : S_.BroadcastsInDim s (![] : Fin 0 → Fin s.rank)) (x : FVec Ideal s .f32) : IVec s 1 :=
  cmpf .olt (Host.absf x) (broadcastInDim s ![] hb (constant S_ .f32 0x7F800000#32))

theorem fn_split (a0 a1 : FVec Ideal S8448x1024 .bf16) (a2 : FVec Ideal S8448x2048 .bf16) (a3 a4 : FVec Ideal S8192x128 .f32)
    (a5 : FVec Ideal S8448x2048 .bf16) : fn (F := Ideal) a0 a1 a2 a3 a4 a5
      = andi (andi (andi (andi (andi
          (word (under Facts.bcast_S_S8448x1024 (extf .f32 a0 Facts.bitsLt_bf16_f32)) Facts.reducesTo_S8448x1024_S_d0_1)
          (word (under Facts.bcast_S_S8448x1024 (extf .f32 a1 Facts.bitsLt_bf16_f32)) Facts.reducesTo_S8448x1024_S_d0_1))
          (word (under Facts.bcast_S_S8448x2048 (extf .f32 a2 Facts.bitsLt_bf16_f32)) Facts.reducesTo_S8448x2048_S_d0_1))
          (word (under Facts.bcast_S_S8192x128 a3) Facts.reducesTo_S8192x128_S_d0_1))
          (word (under Facts.bcast_S_S8192x128 a4) Facts.reducesTo_S8192x128_S_d0_1))
          (word (under Facts.bcast_S_S8448x2048 (extf .f32 a5 Facts.bitsLt_bf16_f32)) Facts.reducesTo_S8448x2048_S_d0_1) := rfl

/-- Under the precondition every entry of the six inputs is a real number. -/
theorem real {a0 a1 : FVec Ideal S8448x1024 .bf16} {a2 : FVec Ideal S8448x2048 .bf16} {a3 a4 : FVec Ideal S8192x128 .f32}
    {a5 : FVec Ideal S8448x2048 .bf16} (h : fn (F := Ideal) a0 a1 a2 a3 a4 a5 = fun _ => 1#1) :
    (∀ i, a0 i = ((EReal.toReal (a0 i) : ℝ) : EReal)) ∧ (∀ i, a1 i = ((EReal.toReal (a1 i) : ℝ) : EReal))
      ∧ (∀ i, a2 i = ((EReal.toReal (a2 i) : ℝ) : EReal)) ∧ (∀ i, a3 i = ((EReal.toReal (a3 i) : ℝ) : EReal))
      ∧ (∀ i, a4 i = ((EReal.toReal (a4 i) : ℝ) : EReal)) ∧ (∀ i, a5 i = ((EReal.toReal (a5 i) : ℝ) : EReal)) := by
  rw [fn_split] at h
  have e := congrFun h ix0
  obtain ⟨e, h5⟩ := both e
  obtain ⟨e, h4⟩ := both e
  obtain ⟨e, h3⟩ := both e
  obtain ⟨e, h2⟩ := both e
  obtain ⟨h0, h1⟩ := both e
  exact ⟨fun i => real_of_lt (word_all h0 i), fun i => real_of_lt (word_all h1 i), fun i => real_of_lt (word_all h2 i),
    fun i => real_of_lt (word_all h3 i), fun i => real_of_lt (word_all h4 i), fun i => real_of_lt (word_all h5 i)⟩

end Cert.Pre_finite.Real

end
-- ==== Proof.RefWords.lean ====
/- The operations of the reference, in the words of the problem: the decays between all the tokens, the rotation turned
   back, and the order of the backward direction undone. -/
module

public import proofs.«01_k».proof.Proof.Gen.ReferenceIdeal.Run
public import proofs.«01_k».proof.Proof.HostReal

@[expose] public section

set_option maxRecDepth 16384

noncomputable section

namespace Cert.ReferenceIdeal.Ret

open Cert.ReferenceIdeal Cert.ReferenceIdeal.Gen Idealize.ShloMosaic Idealize.SL.Sem
open Cert.Ret (colK colV rot unrot mirror)
open Cert.KernelIdeal.Ret (nat_word coe_sum word_zero under)

variable {F : FTy → Type} [FloatOps F]

/-- How far a token lies after another. -/
def apart : FVec F S8448x8448 .f32 :=
  subf (broadcastInDim S8448x8448 ![0, 1] bcast_S8448x1_S8448x8448_0_1 (broadcastInDim S8448x1 ![0] bcast_S8448_S8448x1_0 (sitofp .f32 (iotaInDim S8448 32 0))))
    (broadcastInDim S8448x8448 ![0, 1] bcast_S1x8448_S8448x8448_0_1 (broadcastInDim S1x8448 ![1] bcast_S8448_S1x8448_1 (sitofp .f32 (iotaInDim S8448 32 0))))

/-- The decays between all the tokens, head by head. -/
def allDecays (lg : FVec F S4 .f32) : FVec F S4x8448x8448 .f32 :=
  select (broadcastInDim S4x8448x8448 ![1, 2] bcast_S8448x8448_S4x8448x8448_1_2
      (cmpf .oge (apart (F := F)) (broadcastInDim S8448x8448 ![] bcast_S_S8448x8448 (constant S_ .f32 0x00000000#32))))
    (Host.exp (mulf (broadcastInDim S4x8448x8448 ![0, 1, 2] bcast_S4x1x1_S4x8448x8448_0_1_2 (broadcastInDim S4x1x1 ![0] bcast_S4_S4x1x1_0 lg))
      (broadcastInDim S4x8448x8448 ![0, 1, 2] bcast_S1x8448x8448_S4x8448x8448_0_1_2
        (broadcastInDim S1x8448x8448 ![1, 2] bcast_S8448x8448_S1x8448x8448_1_2
          (maximumf apart (broadcastInDim S8448x8448 ![] bcast_S_S8448x8448 (constant S_ .f32 0x00000000#32)))))))
    (broadcastInDim S4x8448x8448 ![] bcast_S_S4x8448x8448 (id (constant S_ .f32 0x00000000#32)))

/-- A table of the rotation for every head. -/
def allHeads (c : FVec F S8192x128 .f32) : FVec F S4x8192x128 .f32 :=
  broadcastInDim S4x8192x128 ![0, 1, 2] bcast_S1x8192x128_S4x8192x128_0_1_2
    (broadcastInDim S1x8192x128 ![1, 2] bcast_S8192x128_S1x8192x128_1_2 c)

/-- The latent tokens' features, turned back. -/
def turnBack (x : FVec F S4x8192x256 .f32) (cos sin : FVec F S8192x128 .f32) : FVec F S4x8192x256 .f32 :=
  addf
    (pad S4x8192x256 ![0, 0, 128] ![0, 0, 0] ![0, 0, 0]
      (addf (mulf (extractStridedSlice S4x8192x128 ![0, 0, 128] x slices_S4x8192x256_S4x8192x128_0_0_128) (allHeads cos))
        (mulf (Host.negf (extractStridedSlice S4x8192x128 ![0, 0, 0] x slices_S4x8192x256_S4x8192x128_0_0_0)) (allHeads sin)))
      (constant S_ .f32 0x00000000#32) pads_S4x8192x128_S4x8192x256_000_000_12800 h_S_)
    (pad S4x8192x256 ![0, 0, 0] ![0, 0, 128] ![0, 0, 0]
      (addf (mulf (extractStridedSlice S4x8192x128 ![0, 0, 128] x slices_S4x8192x256_S4x8192x128_0_0_128) (allHeads sin))
        (mulf (extractStridedSlice S4x8192x128 ![0, 0, 0] x slices_S4x8192x256_S4x8192x128_0_0_0) (allHeads cos)))
      (constant S_ .f32 0x00000000#32) pads_S4x8192x128_S4x8192x256_000_000_01280 h_S_)

/-- A gradient by heads, its latent tokens turned back. -/
def joined (x : FVec F S4x8448x256 .f32) (cos sin : FVec F S8192x128 .f32) : FVec F S4x8448x256 .f32 :=
  addf
    (pad S4x8448x256 ![0, 256, 0] ![0, 0, 0] ![0, 0, 0]
      (turnBack (extractStridedSlice S4x8192x256 ![0, 256, 0] x slices_S4x8448x256_S4x8192x256_0_256_0) cos sin)
      (constant S_ .f32 0x00000000#32) pads_S4x8192x256_S4x8448x256_000_25600_000 h_S_)
    (pad S4x8448x256 ![0, 0, 0] ![0, 8192, 0] ![0, 0, 0]
      (extractStridedSlice S4x256x256 ![0, 0, 0] x slices_S4x8448x256_S4x256x256_0_0_0) (constant S_ .f32 0x00000000#32)
      pads_S4x256x256_S4x8448x256_000_081920_000 h_S_)

/-- Such a gradient as the step returns it. -/
def returnedK (x : FVec F S4x8448x256 .f32) (cos sin : FVec F S8192x128 .f32) : FVec F S8448x1024 .bf16 :=
  truncf .bf16 (shapeCast S8448x1024 (transpose S8448x4x256 [1, 0, 2] (joined x cos sin) transposes_S4x8448x256_S8448x4x256_1_0_2) shapeCasts_S8448x4x256_S8448x1024)
    bitsLt_bf16_f32

/-- A gradient by heads as the step returns it. -/
def returnedV (x : FVec F S4x8448x512 .f32) : FVec F S8448x2048 .bf16 :=
  truncf .bf16 (shapeCast S8448x2048 (transpose S8448x4x512 [1, 0, 2] x transposes_S4x8448x512_S8448x4x512_1_0_2) shapeCasts_S8448x4x512_S8448x2048)
    bitsLt_bf16_f32

/-- The order of the backward direction undone, for queries and keys. -/
def unmirrorK (x : FVec F S4x8448x256 .f32) : FVec F S4x8448x256 .f32 :=
  addf
    (pad S4x8448x256 ![0, 256, 0] ![0, 0, 0] ![0, 0, 0]
      (Host.reverse [1] (extractStridedSlice S4x8192x256 ![0, 256, 0] x slices_S4x8448x256_S4x8192x256_0_256_0))
      (constant S_ .f32 0x00000000#32) pads_S4x8192x256_S4x8448x256_000_25600_000 h_S_)
    (pad S4x8448x256 ![0, 0, 0] ![0, 8192, 0] ![0, 0, 0]
      (Host.reverse [1] (extractStridedSlice S4x256x256 ![0, 0, 0] x slices_S4x8448x256_S4x256x256_0_0_0))
      (constant S_ .f32 0x00000000#32) pads_S4x256x256_S4x8448x256_000_081920_000 h_S_)

/-- The order of the backward direction undone, for values. -/
def unmirrorV (x : FVec F S4x8448x512 .f32) : FVec F S4x8448x512 .f32 :=
  addf
    (pad S4x8448x512 ![0, 256, 0] ![0, 0, 0] ![0, 0, 0]
      (Host.reverse [1] (extractStridedSlice S4x8192x512 ![0, 256, 0] x slices_S4x8448x512_S4x8192x512_0_256_0))
      (constant S_ .f32 0x00000000#32) pads_S4x8192x512_S4x8448x512_000_25600_000 h_S_)
    (pad S4x8448x512 ![0, 0, 0] ![0, 8192, 0] ![0, 0, 0]
      (Host.reverse [1] (extractStridedSlice S4x256x512 ![0, 0, 0] x slices_S4x8448x512_S4x256x512_0_0_0))
      (constant S_ .f32 0x00000000#32) pads_S4x256x512_S4x8448x512_000_081920_000 h_S_)

/-! ## Over the reals -/

theorem allDecays_real {lg : FVec Ideal S4 .f32} {l : Fin 4 → ℝ} (hl : ∀ h, lg (ix1 h) = ((l h : ℝ) : EReal))
    (h : Fin 4) (t u : Fin 8448) : allDecays lg (ix3 h t u) = ((Cert.Ret.decay false (l h) t u : ℝ) : EReal) := by
  unfold allDecays apart
  pointwise
  rw [hl, nat_word t.val (by omega), nat_word u.val (by omega), ← EReal.coe_sub, ← EReal.coe_zero]
  have e : (0 : ℝ) ≤ (t.val : ℝ) - (u.val : ℝ) ↔ u.val ≤ t.val := by rw [sub_nonneg, Nat.cast_le]
  unfold Cert.Ret.decay
  show _ = (((if u.val ≤ t.val then Real.exp (l h * ((t.val : ℝ) - (u.val : ℝ))) else 0 : ℝ)) : EReal)
  by_cases hp : u.val ≤ t.val
  · rw [if_pos (EReal.coe_le_coe_iff.mpr (e.mpr hp)), if_pos hp, max_eq_left (EReal.coe_le_coe_iff.mpr (e.mpr hp)), ← EReal.coe_mul, Ideal.exp_coe]
  · rw [if_neg (fun h => hp (e.mp (EReal.coe_le_coe_iff.mp h))), if_neg hp]
    exact word_zero

theorem turnBack_real {x : FVec Ideal S4x8192x256 .f32} {cos sin : FVec Ideal S8192x128 .f32} {f : Fin 4 → Fin 8192 → Fin 256 → ℝ}
    {c s : Fin 8192 → Fin 128 → ℝ} (hx : ∀ h t d, x (ix3 h t d) = ((f h t d : ℝ) : EReal))
    (hc : ∀ t a, cos (ix2 t a) = ((c t a : ℝ) : EReal)) (hs : ∀ t a, sin (ix2 t a) = ((s t a : ℝ) : EReal))
    (h : Fin 4) (t : Fin 8192) (d : Fin 256) : turnBack x cos sin (ix3 h t d) = ((unrot (c t) (s t) (f h t) d : ℝ) : EReal) := by
  unfold turnBack allHeads unrot
  pointwise
  by_cases hd : d.val < 128
  · rw [dif_neg (by omega), dif_pos hd, dif_pos hd, zero_add]
    simp only [hx, hc, hs, ← EReal.coe_mul, ← EReal.coe_add]
    congr 1; ring
  · have := d.isLt
    rw [dif_pos (by omega), dif_neg hd, dif_neg hd, add_zero]
    simp only [hx, hc, hs, ← EReal.coe_mul, ← EReal.coe_neg, ← EReal.coe_add]
    congr 1; ring

theorem unmirrorK_apply (x : FVec Ideal S4x8448x256 .f32) (h : Fin 4) (t : Fin 8448) (d : Fin 256) :
    unmirrorK x (ix3 h t d) = x (ix3 h (mirror t) d) := by
  have := t.isLt
  by_cases ht : t.val < 256
  · unfold unmirrorK
    pointwise
    rw [dif_neg (by omega), dif_pos ht, zero_add]
    refine congrArg (fun t => x (ix3 h t d)) (Fin.ext ?_)
    show (Fin.rev (⟨t.val, ht⟩ : Fin 256)).val = (mirror t).val
    simp only [Cert.Ret.mirror_val, if_pos ht, Fin.val_rev]; omega
  · unfold unmirrorK
    pointwise
    rw [dif_pos (by omega), dif_neg ht, add_zero]
    refine congrArg (fun t => x (ix3 h t d)) (Fin.ext ?_)
    show 256 + (Fin.rev (⟨t.val - 256, by omega⟩ : Fin 8192)).val = (mirror t).val
    simp only [Cert.Ret.mirror_val, if_neg ht, Fin.val_rev]; omega

theorem unmirrorV_apply (x : FVec Ideal S4x8448x512 .f32) (h : Fin 4) (t : Fin 8448) (d : Fin 512) :
    unmirrorV x (ix3 h t d) = x (ix3 h (mirror t) d) := by
  have := t.isLt
  by_cases ht : t.val < 256
  · unfold unmirrorV
    pointwise
    rw [dif_neg (by omega), dif_pos ht, zero_add]
    refine congrArg (fun t => x (ix3 h t d)) (Fin.ext ?_)
    show (Fin.rev (⟨t.val, ht⟩ : Fin 256)).val = (mirror t).val
    simp only [Cert.Ret.mirror_val, if_pos ht, Fin.val_rev]; omega
  · unfold unmirrorV
    pointwise
    rw [dif_pos (by omega), dif_neg ht, add_zero]
    refine congrArg (fun t => x (ix3 h t d)) (Fin.ext ?_)
    show 256 + (Fin.rev (⟨t.val - 256, by omega⟩ : Fin 8192)).val = (mirror t).val
    simp only [Cert.Ret.mirror_val, if_neg ht, Fin.val_rev]; omega

theorem unrot_context (x : Fin 256 → ℝ) (d : Fin 256) : unrot (fun _ => 1) (fun _ => 0) x d = x d := by
  unfold unrot
  split
  · ring
  · next h => rw [mul_one, mul_zero, sub_zero]; congr 1; ext; simp only; omega

theorem joined_real {x : FVec Ideal S4x8448x256 .f32} {cos sin : FVec Ideal S8192x128 .f32} {f : Fin 4 → Fin 8448 → Fin 256 → ℝ}
    {c s : Fin 8192 → Fin 128 → ℝ} (hx : ∀ h t d, x (ix3 h t d) = ((f h t d : ℝ) : EReal))
    (hc : ∀ t a, cos (ix2 t a) = ((c t a : ℝ) : EReal)) (hs : ∀ t a, sin (ix2 t a) = ((s t a : ℝ) : EReal))
    (h : Fin 4) (t : Fin 8448) (d : Fin 256) :
    joined x cos sin (ix3 h t d) = ((unrot (under 1 c t) (under 0 s t) (f h t) d : ℝ) : EReal) := by
  have := t.isLt
  by_cases ht : t.val < 256
  · have e1 : under 1 c t = fun _ => 1 := by funext a; simp only [under, dif_pos ht]
    have e2 : under 0 s t = fun _ => 0 := by funext a; simp only [under, dif_pos ht]
    rw [e1, e2, unrot_context, ← hx]
    unfold joined
    pointwise
    rw [dif_neg (by omega), dif_pos ht, zero_add]
  · have e1 : under 1 c t = c ⟨t.val - 256, by omega⟩ := by funext a; simp only [under, dif_neg ht]
    have e2 : under 0 s t = s ⟨t.val - 256, by omega⟩ := by funext a; simp only [under, dif_neg ht]
    have hb : ∀ (h : Fin 4) (t : Fin 8192) (d : Fin 256), extractStridedSlice S4x8192x256 ![0, 256, 0] x slices_S4x8448x256_S4x8192x256_0_256_0 (ix3 h t d)
        = ((f h ⟨256 + t.val, by omega⟩ d : ℝ) : EReal) := fun h t d => by
      pointwise
      exact hx _ _ _
    have hr := turnBack_real hb hc hs h ⟨t.val - 256, by omega⟩ d
    have et : (⟨256 + (t.val - 256), by omega⟩ : Fin 8448) = t := Fin.ext (by simp only; omega)
    simp only [et] at hr
    rw [e1, e2, ← hr]
    unfold joined
    pointwise
    rw [dif_pos (by omega), dif_neg ht, add_zero]

theorem returnedK_real {x : FVec Ideal S4x8448x256 .f32} {cos sin : FVec Ideal S8192x128 .f32} {f : Fin 4 → Fin 8448 → Fin 256 → ℝ}
    {c s : Fin 8192 → Fin 128 → ℝ} (hx : ∀ h t d, x (ix3 h t d) = ((f h t d : ℝ) : EReal))
    (hc : ∀ t a, cos (ix2 t a) = ((c t a : ℝ) : EReal)) (hs : ∀ t a, sin (ix2 t a) = ((s t a : ℝ) : EReal))
    (t : Fin 8448) (a : Fin 1024) : returnedK x cos sin (ix2 t a)
      = ((unrot (under 1 c t) (under 0 s t) (f ⟨a.val / 256, by omega⟩ t) ⟨a.val % 256, by omega⟩ : ℝ) : EReal) := by
  rw [← joined_real hx hc hs]
  unfold returnedK
  pointwise

theorem returnedV_real {x : FVec Ideal S4x8448x512 .f32} {f : Fin 4 → Fin 8448 → Fin 512 → ℝ}
    (hx : ∀ h t d, x (ix3 h t d) = ((f h t d : ℝ) : EReal)) (t : Fin 8448) (a : Fin 2048) :
    returnedV x (ix2 t a) = ((f ⟨a.val / 512, by omega⟩ t ⟨a.val % 512, by omega⟩ : ℝ) : EReal) := by
  rw [← hx]
  unfold returnedV
  pointwise

end Cert.ReferenceIdeal.Ret

end
-- ==== Proof.RefReal.lean ====
/- The reference over the reals: its six results are the gradients of the two directions, every sum over all the tokens. -/
module

public import proofs.«01_k».proof.Proof.RefWords

@[expose] public section

set_option maxRecDepth 16384

noncomputable section

namespace Cert.ReferenceIdeal.Ret

open Cert.ReferenceIdeal Cert.ReferenceIdeal.Gen Cert.ReferenceIdeal.Value Idealize.ShloMosaic Idealize.ShloMosaic.StableHlo Idealize.SL.Sem
open Cert.Ret (Inputs colK colV rot unrot mirror mirrorE mirror_mirror qh kh vh oh decay dq dk dv dqOut dkOut dvOut)
open Cert.KernelIdeal.Ret (coe_sum under word_sixteenth headsV headsV_real rotated rotated_real keys keys_real mirrorK mirrorK_apply mirrorV mirrorV_apply
  logDecays logDecays_real logDecays_reversed)

/-- The tokens' vectors, summed under the weights they have for every token. -/
def collected {F : FTy → Type} [FloatOps F] (x : FVec F S4x8448x512 .f32) (w : FVec F S4x8448x8448 .f32) : FVec F S4x8448x512 .f32 :=
  transpose S4x8448x512 [0, 2, 1] (Host.dotGeneral dot_S4x8448x512_S4x8448x8448_S4x512x8448_1_1_2_2_0_0 none x w)
    transposes_S4x512x8448_S4x8448x512_0_2_1

/-! ## Sums in the order of the backward direction -/

theorem decay_mirror (l : ℝ) (t u : Fin 8448) : decay false l (mirror t) (mirror u) = decay true l t u := rfl

theorem decay_mirror_left (l : ℝ) (t u : Fin 8448) : decay false l (mirror t) u = decay true l t (mirror u) := by
  rw [← decay_mirror, mirror_mirror]

theorem decay_mirror_right (l : ℝ) (t u : Fin 8448) : decay false l t (mirror u) = decay true l (mirror t) u := by
  rw [← decay_mirror, mirror_mirror]

theorem sum_mirror (f : Fin 8448 → ℝ) : ∑ t, f (mirror t) = ∑ t, f t := mirrorE.sum_comp f

section

variable (l : ℝ) (q k : Fin 8448 → Fin 256 → ℝ) (v o : Fin 8448 → Fin 512 → ℝ)

theorem dq_forward (t : Fin 8448) (d : Fin 256) :
    ∑ u, (∑ e, o t e * v u e) * decay false l t u * k u d = dq false l k v o t d := by
  unfold dq
  exact Finset.sum_congr rfl fun u _ => by ring

theorem dk_forward (u : Fin 8448) (d : Fin 256) :
    ∑ t, (∑ e, o t e * v u e) * decay false l t u * q t d = dk false l q v o u d := by
  unfold dk
  exact Finset.sum_congr rfl fun t _ => by ring

theorem dv_forward (u : Fin 8448) (e : Fin 512) :
    ∑ t, o t e * ((∑ d, q t d * k u d) * decay false l t u) = dv false l q k o u e := by
  unfold dv
  exact Finset.sum_congr rfl fun t _ => by ring

theorem dq_backward (t : Fin 8448) (d : Fin 256) :
    ∑ u, (∑ e, o (mirror (mirror t)) e * v (mirror u) e) * decay false l (mirror t) u * k (mirror u) d = dq true l k v o t d := by
  unfold dq
  refine Eq.trans ?_ (sum_mirror _)
  exact Finset.sum_congr rfl fun u _ => by simp only [mirror_mirror, decay_mirror_left]; ring

theorem dk_backward (u : Fin 8448) (d : Fin 256) :
    ∑ t, (∑ e, o (mirror t) e * v (mirror (mirror u)) e) * decay false l t (mirror u) * q (mirror t) d = dk true l q v o u d := by
  unfold dk
  refine Eq.trans ?_ (sum_mirror _)
  exact Finset.sum_congr rfl fun t _ => by simp only [mirror_mirror, decay_mirror_right]; ring

theorem dv_backward (u : Fin 8448) (e : Fin 512) :
    ∑ t, o (mirror t) e * ((∑ d, q (mirror t) d * k (mirror (mirror u)) d) * decay false l t (mirror u)) = dv true l q k o u e := by
  unfold dv
  refine Eq.trans ?_ (sum_mirror _)
  exact Finset.sum_congr rfl fun t _ => by simp only [mirror_mirror, decay_mirror_right]; ring

end

/-! ## What the reference computes -/

variable (V0 : Valuation τ sig (Elt Ideal))

theorem v2_eq : @Eq (FVec Ideal S4x8448x512 .f32) (res_main_v2 V0) (headsV (V0 (Proc.devRef .tc main_arg5))) := rfl

theorem v53_eq : @Eq (FVec Ideal S4x8448x512 .f32) (res_main_v53 V0) (headsV (V0 (Proc.devRef .tc main_arg2))) := rfl

theorem v25_eq : @Eq (FVec Ideal S4x8448x256 .f32) (res_main_v25 V0) (rotated (V0 (Proc.devRef .tc main_arg0)) (V0 (Proc.devRef .tc main_arg3)) (V0 (Proc.devRef .tc main_arg4))) := rfl

theorem v50_eq : @Eq (FVec Ideal S4x8448x256 .f32) (res_main_v50 V0) (keys (V0 (Proc.devRef .tc main_arg1)) (V0 (Proc.devRef .tc main_arg3)) (V0 (Proc.devRef .tc main_arg4))) := rfl

theorem v78_eq : @Eq (FVec Ideal S4x8448x8448 .f32) (res_main_v78 V0) (allDecays logDecays) := rfl

theorem v196_eq : @Eq (FVec Ideal S4x8448x256 .f32) (res_main_v196 V0) (mirrorK (rotated (V0 (Proc.devRef .tc main_arg0)) (V0 (Proc.devRef .tc main_arg3)) (V0 (Proc.devRef .tc main_arg4)))) := rfl

theorem v201_eq : @Eq (FVec Ideal S4x8448x256 .f32) (res_main_v201 V0) (mirrorK (keys (V0 (Proc.devRef .tc main_arg1)) (V0 (Proc.devRef .tc main_arg3)) (V0 (Proc.devRef .tc main_arg4)))) := rfl

theorem v206_eq : @Eq (FVec Ideal S4x8448x512 .f32) (res_main_v206 V0) (mirrorV (headsV (V0 (Proc.devRef .tc main_arg2)))) := rfl

theorem v247_eq : @Eq (FVec Ideal S4x8448x512 .f32) (res_main_v247 V0) (unmirrorV (res_main_v2 V0)) := rfl

theorem v232_eq : @Eq (FVec Ideal S4x8448x8448 .f32) (res_main_v232 V0) (allDecays (Host.reverse [0] logDecays)) := rfl

theorem v274_eq : @Eq (FVec Ideal S4x8448x256 .f32) (res_main_v274 V0) (unmirrorK (res_main_v253 V0)) := rfl

theorem v279_eq : @Eq (FVec Ideal S4x8448x256 .f32) (res_main_v279 V0) (mulf (unmirrorK (res_main_v252 V0)) (broadcastInDim S4x8448x256 ![] bcast_S_S4x8448x256 (constant S_ .f32 0x3D800000#32))) := rfl

/-- The arguments' contents as real tables. -/
structure Given (q k : Fin 8448 → Fin 1024 → ℝ) (v o : Fin 8448 → Fin 2048 → ℝ) (c s : Fin 8192 → Fin 128 → ℝ) : Prop where
  q : ∀ t a, (V0 (Proc.devRef .tc main_arg0) : FVec Ideal S8448x1024 .bf16) (ix2 t a) = ((q t a : ℝ) : EReal)
  k : ∀ t a, (V0 (Proc.devRef .tc main_arg1) : FVec Ideal S8448x1024 .bf16) (ix2 t a) = ((k t a : ℝ) : EReal)
  v : ∀ t a, (V0 (Proc.devRef .tc main_arg2) : FVec Ideal S8448x2048 .bf16) (ix2 t a) = ((v t a : ℝ) : EReal)
  c : ∀ t a, (V0 (Proc.devRef .tc main_arg3) : FVec Ideal S8192x128 .f32) (ix2 t a) = ((c t a : ℝ) : EReal)
  s : ∀ t a, (V0 (Proc.devRef .tc main_arg4) : FVec Ideal S8192x128 .f32) (ix2 t a) = ((s t a : ℝ) : EReal)
  o : ∀ t a, (V0 (Proc.devRef .tc main_arg5) : FVec Ideal S8448x2048 .bf16) (ix2 t a) = ((o t a : ℝ) : EReal)

/-- The inputs of the step that the arguments give. -/
def inputs (q k : Fin 8448 → Fin 1024 → ℝ) (v o : Fin 8448 → Fin 2048 → ℝ) (c s : Fin 8192 → Fin 128 → ℝ) : Inputs :=
  ⟨q, k, v, o, under 1 c, under 0 s⟩

variable {V0} {q k : Fin 8448 → Fin 1024 → ℝ} {v o : Fin 8448 → Fin 2048 → ℝ} {c s : Fin 8192 → Fin 128 → ℝ} (G : Given V0 q k v o c s)

include G

theorem v2_real (h : Fin 4) (t : Fin 8448) (e : Fin 512) : res_main_v2 V0 (ix3 h t e) = ((oh (inputs q k v o c s) h t e : ℝ) : EReal) := by
  rw [v2_eq]
  exact (headsV_real G.o h t e)

theorem v53_real (h : Fin 4) (t : Fin 8448) (e : Fin 512) : res_main_v53 V0 (ix3 h t e) = ((vh (inputs q k v o c s) h t e : ℝ) : EReal) := by
  rw [v53_eq]
  exact (headsV_real G.v h t e)

theorem v25_real (h : Fin 4) (t : Fin 8448) (d : Fin 256) : res_main_v25 V0 (ix3 h t d) = ((qh (inputs q k v o c s) h t d : ℝ) : EReal) := by
  rw [v25_eq]
  exact (rotated_real G.q G.c G.s h t d)

theorem v50_real (h : Fin 4) (t : Fin 8448) (d : Fin 256) : res_main_v50 V0 (ix3 h t d) = ((kh (inputs q k v o c s) h t d : ℝ) : EReal) := by
  rw [v50_eq]
  exact (keys_real G.k G.c G.s h t d)

omit G in
theorem v78_real (h : Fin 4) (t u : Fin 8448) : res_main_v78 V0 (ix3 h t u) = ((decay false (Cert.Ret.lg false h) t u : ℝ) : EReal) := by
  rw [v78_eq]
  exact (allDecays_real logDecays_real h t u)

theorem v80_real (h : Fin 4) (t u : Fin 8448) : res_main_v80 V0 (ix3 h t u)
    = (((∑ d, qh (inputs q k v o c s) h t d * kh (inputs q k v o c s) h u d) * decay false (Cert.Ret.lg false h) t u : ℝ) : EReal) := by
  unfold res_main_v80
  pointwise
  simp only [v25_real G, v50_real G, v78_real, ← EReal.coe_mul, coe_sum]

theorem v85_real (h : Fin 4) (t u : Fin 8448) : res_main_v85 V0 (ix3 h t u)
    = (((∑ e, oh (inputs q k v o c s) h t e * vh (inputs q k v o c s) h u e) * decay false (Cert.Ret.lg false h) t u : ℝ) : EReal) := by
  unfold res_main_v85
  pointwise
  simp only [v2_real G, v53_real G, v78_real, ← EReal.coe_mul, coe_sum]

theorem v87_real (h : Fin 4) (t : Fin 8448) (d : Fin 256) : res_main_v87 V0 (ix3 h t d)
    = ((dq false (Cert.Ret.lg false h) (kh (inputs q k v o c s) h) (vh (inputs q k v o c s) h) (oh (inputs q k v o c s) h) t d : ℝ) : EReal) := by
  unfold res_main_v87
  pointwise
  simp only [v85_real G, v50_real G, ← EReal.coe_mul, coe_sum, dq_forward]

theorem v92_real (h : Fin 4) (t : Fin 8448) (d : Fin 256) : res_main_v92 V0 (ix3 h t d)
    = ((dk false (Cert.Ret.lg false h) (qh (inputs q k v o c s) h) (vh (inputs q k v o c s) h) (oh (inputs q k v o c s) h) t d * (1 / 16) : ℝ) : EReal) := by
  unfold res_main_v92
  pointwise
  simp only [v85_real G, v25_real G, word_sixteenth, ← EReal.coe_mul, coe_sum, dk_forward]

/-- The forward direction's gradient of the values, by heads. -/
theorem v88_real (h : Fin 4) (u : Fin 8448) (e : Fin 512) :
    collected (F := Ideal) (res_main_v2 V0) (res_main_v80 V0) (ix3 h u e) = ((dvOut (inputs q k v o c s) false h u e : ℝ) : EReal) := by
  unfold collected
  pointwise
  simp only [v2_real G, v80_real G, ← EReal.coe_mul, coe_sum, dv_forward]
  rfl

/-! The backward direction. -/

theorem v196_real (h : Fin 4) (t : Fin 8448) (d : Fin 256) : res_main_v196 V0 (ix3 h t d) = ((qh (inputs q k v o c s) h (mirror t) d : ℝ) : EReal) := by
  rw [v196_eq]
  exact ((mirrorK_apply _ _ _ _).trans (rotated_real G.q G.c G.s h (mirror t) d))

theorem v201_real (h : Fin 4) (t : Fin 8448) (d : Fin 256) : res_main_v201 V0 (ix3 h t d) = ((kh (inputs q k v o c s) h (mirror t) d : ℝ) : EReal) := by
  rw [v201_eq]
  exact ((mirrorK_apply _ _ _ _).trans (keys_real G.k G.c G.s h (mirror t) d))

theorem v206_real (h : Fin 4) (t : Fin 8448) (e : Fin 512) : res_main_v206 V0 (ix3 h t e) = ((vh (inputs q k v o c s) h (mirror t) e : ℝ) : EReal) := by
  rw [v206_eq]
  exact ((mirrorV_apply _ _ _ _).trans (headsV_real G.v h (mirror t) e))

theorem v247_real (h : Fin 4) (t : Fin 8448) (e : Fin 512) : res_main_v247 V0 (ix3 h t e) = ((oh (inputs q k v o c s) h (mirror t) e : ℝ) : EReal) := by
  rw [v247_eq]
  exact ((unmirrorV_apply _ _ _ _).trans (v2_real G h (mirror t) e))

omit G in
theorem v232_real (h : Fin 4) (t u : Fin 8448) : res_main_v232 V0 (ix3 h t u) = ((decay false (Cert.Ret.lg true h) t u : ℝ) : EReal) := by
  rw [v232_eq]
  exact (allDecays_real logDecays_reversed h t u)

theorem v234_real (h : Fin 4) (t u : Fin 8448) : res_main_v234 V0 (ix3 h t u)
    = (((∑ d, qh (inputs q k v o c s) h (mirror t) d * kh (inputs q k v o c s) h (mirror u) d) * decay false (Cert.Ret.lg true h) t u : ℝ) : EReal) := by
  unfold res_main_v234
  pointwise
  simp only [v196_real G, v201_real G, v232_real, ← EReal.coe_mul, coe_sum]

theorem v251_real (h : Fin 4) (t u : Fin 8448) : res_main_v251 V0 (ix3 h t u)
    = (((∑ e, oh (inputs q k v o c s) h (mirror t) e * vh (inputs q k v o c s) h (mirror u) e) * decay false (Cert.Ret.lg true h) t u : ℝ) : EReal) := by
  unfold res_main_v251
  pointwise
  simp only [v247_real G, v206_real G, v232_real, ← EReal.coe_mul, coe_sum]

theorem v274_real (h : Fin 4) (t : Fin 8448) (d : Fin 256) : res_main_v274 V0 (ix3 h t d)
    = ((dq true (Cert.Ret.lg true h) (kh (inputs q k v o c s) h) (vh (inputs q k v o c s) h) (oh (inputs q k v o c s) h) t d : ℝ) : EReal) := by
  rw [v274_eq, unmirrorK_apply]
  unfold res_main_v253
  pointwise
  simp only [v251_real G, v201_real G, ← EReal.coe_mul, coe_sum, dq_backward]

theorem v252_real (h : Fin 4) (t : Fin 8448) (d : Fin 256) : res_main_v252 V0 (ix3 h (mirror t) d)
    = ((dk true (Cert.Ret.lg true h) (qh (inputs q k v o c s) h) (vh (inputs q k v o c s) h) (oh (inputs q k v o c s) h) t d : ℝ) : EReal) := by
  unfold res_main_v252
  pointwise
  simp only [v251_real G, v196_real G, ← EReal.coe_mul, coe_sum, dk_backward]

theorem v279_real (h : Fin 4) (t : Fin 8448) (d : Fin 256) : res_main_v279 V0 (ix3 h t d)
    = ((dk true (Cert.Ret.lg true h) (qh (inputs q k v o c s) h) (vh (inputs q k v o c s) h) (oh (inputs q k v o c s) h) t d * (1 / 16) : ℝ) : EReal) := by
  rw [v279_eq]
  pointwise
  rw [unmirrorK_apply, v252_real G, word_sixteenth, ← EReal.coe_mul]

theorem v249_real (h : Fin 4) (u : Fin 8448) (e : Fin 512) : res_main_v249 V0 (ix3 h (mirror u) e)
    = ((dvOut (inputs q k v o c s) true h u e : ℝ) : EReal) := by
  unfold res_main_v249
  pointwise
  simp only [v247_real G, v234_real G, ← EReal.coe_mul, coe_sum, dv_backward]
  rfl

theorem v277_real (h : Fin 4) (u : Fin 8448) (e : Fin 512) : unmirrorV (res_main_v249 V0) (ix3 h u e)
    = ((dvOut (inputs q k v o c s) true h u e : ℝ) : EReal) := (unmirrorV_apply _ _ _ _).trans (v249_real G h u e)

end Cert.ReferenceIdeal.Ret

end
-- ==== Proof.RefOut.lean ====
/- The reference's six results are the kernel's six arrays, as real tables. -/
module

public import proofs.«01_k».proof.Proof.RefReal
public import proofs.«01_k».proof.Proof.Arrays

@[expose] public section

set_option maxRecDepth 16384

noncomputable section

namespace Cert.ReferenceIdeal.Ret

open Cert.ReferenceIdeal Cert.ReferenceIdeal.Gen Cert.ReferenceIdeal.Value Idealize.ShloMosaic Idealize.ShloMosaic.StableHlo Idealize.SL.Sem
open Cert.Ret (Inputs colK colV rot unrot kh vh oh qh dq dk dv dqOut dkOut dvOut)
open Cert.KernelIdeal.Ret (under laidK laidV)

theorem asK {x : FVec Ideal S8448x1024 .bf16} {f : Fin 4 → Fin 8448 → Fin 256 → ℝ}
    (h : ∀ (t : Fin 8448) (a : Fin 1024), x (ix2 t a) = ((f ⟨a.val / 256, by omega⟩ t ⟨a.val % 256, by omega⟩ : ℝ) : EReal)) :
    x = laidK f := by
  funext y
  have e : y = ix2 (y 0) (y 1) := by funext i; fin_cases i <;> rfl
  rw [e]
  exact h (y 0) (y 1)

theorem asV {x : FVec Ideal S8448x2048 .bf16} {f : Fin 4 → Fin 8448 → Fin 512 → ℝ}
    (h : ∀ (t : Fin 8448) (a : Fin 2048), x (ix2 t a) = ((f ⟨a.val / 512, by omega⟩ t ⟨a.val % 512, by omega⟩ : ℝ) : EReal)) :
    x = laidV f := by
  funext y
  have e : y = ix2 (y 0) (y 1) := by funext i; fin_cases i <;> rfl
  rw [e]
  exact h (y 0) (y 1)

variable {V0 : Valuation τ sig (Elt Ideal)} {q k : Fin 8448 → Fin 1024 → ℝ} {v o : Fin 8448 → Fin 2048 → ℝ}
  {c s : Fin 8192 → Fin 128 → ℝ} (G : Given V0 q k v o c s)

include G

theorem out_dqF : returnedK (F := Ideal) (res_main_v87 V0) (V0 (Proc.devRef .tc main_arg3)) (V0 (Proc.devRef .tc main_arg4))
    = laidK (dqOut (inputs q k v o c s) false) :=
  asK (f := dqOut (inputs q k v o c s) false) fun t a => returnedK_real (v87_real G) G.c G.s t a

theorem out_dkF : returnedK (F := Ideal) (res_main_v92 V0) (V0 (Proc.devRef .tc main_arg3)) (V0 (Proc.devRef .tc main_arg4))
    = laidK (dkOut (inputs q k v o c s) false) :=
  asK (f := dkOut (inputs q k v o c s) false) fun t a => returnedK_real (v92_real G) G.c G.s t a

theorem out_dvF : returnedV (F := Ideal) (collected (res_main_v2 V0) (res_main_v80 V0)) = laidV (dvOut (inputs q k v o c s) false) :=
  asV (f := dvOut (inputs q k v o c s) false) fun t a => returnedV_real (v88_real G) t a

theorem out_dqB : returnedK (F := Ideal) (res_main_v274 V0) (V0 (Proc.devRef .tc main_arg3)) (V0 (Proc.devRef .tc main_arg4))
    = laidK (dqOut (inputs q k v o c s) true) :=
  asK (f := dqOut (inputs q k v o c s) true) fun t a => returnedK_real (v274_real G) G.c G.s t a

theorem out_dkB : returnedK (F := Ideal) (res_main_v279 V0) (V0 (Proc.devRef .tc main_arg3)) (V0 (Proc.devRef .tc main_arg4))
    = laidK (dkOut (inputs q k v o c s) true) :=
  asK (f := dkOut (inputs q k v o c s) true) fun t a => returnedK_real (v279_real G) G.c G.s t a

theorem out_dvB : returnedV (F := Ideal) (unmirrorV (res_main_v249 V0)) = laidV (dvOut (inputs q k v o c s) true) :=
  asV (f := dvOut (inputs q k v o c s) true) fun t a => returnedV_real (v277_real G) t a

end Cert.ReferenceIdeal.Ret

end
-- ==== Proof.Agree.lean ====
/- The two programs' runs against each other: from real inputs both leave the same six arrays. -/
module

public import proofs.«01_k».proof.Defs
public import proofs.«01_k».proof.Proof.Gen.Kernel
public import proofs.«01_k».proof.Proof.Entry
public import proofs.«01_k».proof.Proof.Arrays
public import proofs.«01_k».proof.Proof.Finite
public import proofs.«01_k».proof.Proof.RefOut
public import proofs.«01_k».proof.Proof.Gen.ReferenceIdeal.Run

@[expose] public section

set_option maxRecDepth 16384

noncomputable section

namespace Cert.Agree

open Idealize.ShloMosaic Idealize.ShloMosaic.StableHlo Idealize.SL.Sem
open Cert.Ret (Inputs dqOut dkOut dvOut)
open Cert.KernelIdeal.Ret (laidK laidV)

/-- The six arrays both programs leave. -/
structure Left (I : Inputs) (y0 y1 : FVec Ideal Cert.KernelIdeal.S8448x1024 .bf16) (y2 : FVec Ideal Cert.KernelIdeal.S8448x2048 .bf16)
    (y3 y4 : FVec Ideal Cert.KernelIdeal.S8448x1024 .bf16) (y5 : FVec Ideal Cert.KernelIdeal.S8448x2048 .bf16) : Prop where
  dqF : y0 = laidK (dqOut I false)
  dkF : y1 = laidK (dkOut I false)
  dvF : y2 = laidV (dvOut I false)
  dqB : y3 = laidK (dqOut I true)
  dkB : y4 = laidK (dkOut I true)
  dvB : y5 = laidV (dvOut I true)

section Kernel

open Cert.KernelIdeal Cert.KernelIdeal.Gen Cert.KernelIdeal.Ret

theorem kernel_left (m : (ℓ : Loc nD τ sig) → Buf (Elt Ideal) ℓ) (ρ : Dev nD → PrngReg) (I : Dev nD → Inputs)
    (H : ∀ c, Holds m c (I c)) : θ_run (defs (F := Ideal)) (onTc (τ := τ) (main (F := Ideal))) ⟨m, fun _ => 0, ρ⟩ (fun r => ∀ c : Dev nD,
      Left (I c) (r.2.mem ((c.tc : Thread nD τ).loc main_v119_0)) (r.2.mem ((c.tc : Thread nD τ).loc main_v119_1))
        (r.2.mem ((c.tc : Thread nD τ).loc main_v119_2)) (r.2.mem ((c.tc : Thread nD τ).loc main_v119_3))
        (r.2.mem ((c.tc : Thread nD τ).loc main_v119_4)) (r.2.mem ((c.tc : Thread nD τ).loc main_v119_5))) :=
  (θ_run defs _ _).mono (fun r h c =>
    ⟨((h.1 c).1 14).trans (array14 (H c)), ((h.1 c).1 15).trans (array15 (H c)), ((h.1 c).1 16).trans (array16 (H c)),
      ((h.1 c).1 17).trans (array17 (H c)), ((h.1 c).1 18).trans (array18 (H c)), ((h.1 c).1 19).trans (array19 (H c))⟩) (runs m ρ)

end Kernel

section Reference

open Cert.ReferenceIdeal Cert.ReferenceIdeal.Gen Cert.ReferenceIdeal.Ret

variable (m : (ℓ : Loc nD τ sig) → Buf (Elt Ideal) ℓ) (ρ : Dev nD → PrngReg)

theorem reference_left (I : Dev nD → Inputs)
    (H : ∀ c, ∃ q k v o rc rs, Given (launchContents m c) q k v o rc rs ∧ I c = inputs q k v o rc rs) :
    θ_run (defs (F := Ideal)) (onTc (τ := τ) (main (F := Ideal))) ⟨m, fun _ => 0, ρ⟩ (fun r => ∀ c : Dev nD,
      Left (I c) (r.2.mem ((c.tc : Thread nD τ).loc main_v140)) (r.2.mem ((c.tc : Thread nD τ).loc main_v116))
        (r.2.mem ((c.tc : Thread nD τ).loc main_v90)) (r.2.mem ((c.tc : Thread nD τ).loc main_v327))
        (r.2.mem ((c.tc : Thread nD τ).loc main_v303)) (r.2.mem ((c.tc : Thread nD τ).loc main_v277))) := by
  refine (θ_run defs _ _).mono (fun r h c => ?_) (Cert.ReferenceIdeal.Value.run m ρ)
  obtain ⟨h0, h1, h2, h3, h4, h5, -⟩ := h c
  obtain ⟨q, k, v, o, rc, rs, G, e⟩ := H c
  rw [e]
  exact ⟨h0.trans (out_dqF G), h1.trans (out_dkF G), h2.trans (out_dvF G), h3.trans (out_dqB G), h4.trans (out_dkB G), h5.trans (out_dvB G)⟩

/-- The reference changes no argument, and declares no counter. -/
theorem reference_frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2.2.2.2.2.2, sem_eq_zero_of_no_sems (by decide) r.2⟩)
    (Cert.ReferenceIdeal.Value.run m ρ)

end Reference

/-- The inputs as real tables, on one device. -/
def seen (m : (ℓ : Loc Cert.KernelIdeal.nD Cert.KernelIdeal.τ Cert.KernelIdeal.sig) → Buf (Elt Ideal) ℓ) (c : Dev Cert.KernelIdeal.nD) : Inputs :=
  Cert.KernelIdeal.Ret.tables
    (fun t a => EReal.toReal ((m ((c.tc : Thread Cert.KernelIdeal.nD Cert.KernelIdeal.τ).loc Cert.KernelIdeal.main_arg0) : FVec Ideal Cert.KernelIdeal.S8448x1024 .bf16) (ix2 t a)))
    (fun t a => EReal.toReal ((m ((c.tc : Thread Cert.KernelIdeal.nD Cert.KernelIdeal.τ).loc Cert.KernelIdeal.main_arg1) : FVec Ideal Cert.KernelIdeal.S8448x1024 .bf16) (ix2 t a)))
    (fun t a => EReal.toReal ((m ((c.tc : Thread Cert.KernelIdeal.nD Cert.KernelIdeal.τ).loc Cert.KernelIdeal.main_arg2) : FVec Ideal Cert.KernelIdeal.S8448x2048 .bf16) (ix2 t a)))
    (fun t a => EReal.toReal ((m ((c.tc : Thread Cert.KernelIdeal.nD Cert.KernelIdeal.τ).loc Cert.KernelIdeal.main_arg5) : FVec Ideal Cert.KernelIdeal.S8448x2048 .bf16) (ix2 t a)))
    (fun t a => EReal.toReal ((m ((c.tc : Thread Cert.KernelIdeal.nD Cert.KernelIdeal.τ).loc Cert.KernelIdeal.main_arg3) : FVec Ideal Cert.KernelIdeal.S8192x128 .f32) (ix2 t a)))
    (fun t a => EReal.toReal ((m ((c.tc : Thread Cert.KernelIdeal.nD Cert.KernelIdeal.τ).loc Cert.KernelIdeal.main_arg4) : FVec Ideal Cert.KernelIdeal.S8192x128 .f32) (ix2 t a)))

theorem algebraic : Cert.algebraic_KernelIdeal_ReferenceIdeal_pre_finite := by
  intro m g m' g' hpre hagree
  have hreal := fun c => Cert.Pre_finite.Real.real (hpre c)
  have HK : ∀ c, Cert.KernelIdeal.Ret.Holds m c (seen m c) := fun c =>
    Cert.KernelIdeal.Ret.holds (fun t a => (hreal c).1 (ix2 t a)) (fun t a => (hreal c).2.1 (ix2 t a)) (fun t a => (hreal c).2.2.1 (ix2 t a))
      (fun t a => (hreal c).2.2.2.1 (ix2 t a)) (fun t a => (hreal c).2.2.2.2.1 (ix2 t a)) (fun t a => (hreal c).2.2.2.2.2 (ix2 t a))
  have HR : ∀ c, ∃ q k v o rc rs, Cert.ReferenceIdeal.Ret.Given (launchContents m' c) q k v o rc rs
      ∧ seen m c = Cert.ReferenceIdeal.Ret.inputs q k v o rc rs := fun c =>
    ⟨_, _, _, _, _, _,
      { q := fun t a => (congrFun (hagree c).1 (ix2 t a)).trans ((hreal c).1 (ix2 t a))
        k := fun t a => (congrFun (hagree c).2.1 (ix2 t a)).trans ((hreal c).2.1 (ix2 t a))
        v := fun t a => (congrFun (hagree c).2.2.1 (ix2 t a)).trans ((hreal c).2.2.1 (ix2 t a))
        c := fun t a => (congrFun (hagree c).2.2.2.1 (ix2 t a)).trans ((hreal c).2.2.2.1 (ix2 t a))
        s := fun t a => (congrFun (hagree c).2.2.2.2.1 (ix2 t a)).trans ((hreal c).2.2.2.2.1 (ix2 t a))
        o := fun t a => (congrFun (hagree c).2.2.2.2.2 (ix2 t a)).trans ((hreal c).2.2.2.2.2 (ix2 t a)) }, rfl⟩
  refine ⟨fun c => laidK (dqOut (seen m c) false), fun c => laidK (dkOut (seen m c) false), fun c => laidV (dvOut (seen m c) false),
    fun c => laidK (dqOut (seen m c) true), fun c => laidK (dkOut (seen m c) true), fun c => laidV (dvOut (seen m c) true), ?_, ?_⟩
  · exact (θ_run _ _ _).mono (fun r h c => ⟨(h.1 c).dqF, (h.1 c).dkF, (h.1 c).dvF, (h.1 c).dqB, (h.1 c).dkB, (h.1 c).dvB, h.2.1 c⟩)
      (θ_run_and (kernel_left m g (seen m) HK) (Cert.KernelIdeal.Ret.frame m g))
  · exact (θ_run _ _ _).mono (fun r h c => ⟨(h.1 c).dqF, (h.1 c).dkF, (h.1 c).dvF, (h.1 c).dqB, (h.1 c).dkB, (h.1 c).dvB, h.2.1 c⟩)
      (θ_run_and (reference_left m' g' (seen m) HR) (reference_frame m' g'))

end Cert.Agree

end
-- ==== Proof.Weight.lean ====
/- The gradient of a weight is one product over all the tokens. The calls compute it a tile at a time: three visits, 2816 tokens
   each, add their products up in the tile's scratch, and the last one writes the sum out. -/
module

public import Idealize.ShloMosaic.Lib.Pipeline.ValueKit
public import Idealize.ShloMosaic.Lib.Pointwise

@[expose] public section

noncomputable section

namespace Cert.Weight

open Idealize.ShloMosaic

/-- Entry `(k, n)` of the gradient: over the tokens, the activation's entry `k` times the cotangent's entry `n`. -/
def product {K M : ℕ} (x : FVec Ideal ⟨2, ![K, 8448]⟩ .bf16) (y : FVec Ideal ⟨2, ![8448, M]⟩ .bf16) (k : Fin K) (n : Fin M) : EReal :=
  ∑ l : Fin 8448, x (ix2 k l) * y (ix2 l n)

/-- One visit's share of it, from the blocks the visit is given. -/
def part {a b : ℕ} (x : FVec Ideal ⟨2, ![a, 2816]⟩ .bf16) (y : FVec Ideal ⟨2, ![2816, b]⟩ .bf16) (i : Fin a) (j : Fin b) : EReal :=
  ∑ l : Fin 2816, x (ix2 i l) * y (ix2 l j)

/-- The tile that visit `t` writes out: `acc` is the scratch after each visit, `x0` and `x1` the blocks, `x` and `y` the arrays, and
    the tile's entry `(i, j)` is the gradient's `(k, n)`. -/
theorem tile {N a b K M : ℕ} {x0 : Fin N → FVec Ideal ⟨2, ![a, 2816]⟩ .bf16} {x1 : Fin N → FVec Ideal ⟨2, ![2816, b]⟩ .bf16}
    {x : FVec Ideal ⟨2, ![K, 8448]⟩ .bf16} {y : FVec Ideal ⟨2, ![8448, M]⟩ .bf16}
    (acc : (n : ℕ) → n < N → FVec Ideal ⟨2, ![a, b]⟩ .f32)
    (start : ∀ t : Fin N, t.val % 3 = 0 → ∀ i j, acc t.val t.isLt (ix2 i j) = part (x0 t) (x1 t) i j)
    (step : ∀ t : Fin N, ¬t.val % 3 = 0 → ∀ i j, acc t.val t.isLt (ix2 i j)
      = acc (t.val - 1) (Nat.lt_of_le_of_lt (Nat.sub_le _ _) t.isLt) (ix2 i j) + part (x0 t) (x1 t) i j)
    (t : Fin N) (ht : t.val % 3 = 2) {i : Fin a} {j : Fin b} {k : Fin K} {n : Fin M}
    (seen0 : ∀ u : Fin N, u.val / 3 = t.val / 3 → ∀ (l : Fin 2816) (h : u.val % 3 * 2816 + l.val < 8448),
      x0 u (ix2 i l) = x (ix2 k ⟨u.val % 3 * 2816 + l.val, h⟩))
    (seen1 : ∀ u : Fin N, u.val / 3 = t.val / 3 → ∀ (l : Fin 2816) (h : u.val % 3 * 2816 + l.val < 8448),
      x1 u (ix2 l j) = y (ix2 ⟨u.val % 3 * 2816 + l.val, h⟩ n)) :
    acc t.val t.isLt (ix2 i j) = product x y k n := by
  rw [Pipeline.eq_sum_fin_of_reset_step_of_flush (fun m h => acc m h (ix2 i j)) 3 0 (fun u => part (x0 u) (x1 u) i j)
    (fun u h => (start u h i j).trans (zero_add _).symm) (fun u h => step u h i j) t ht, zero_add]
  refine Fin.sum_mul_add_congr fun s l h => ?_
  have hs := s.isLt
  have e : (3 * (t.val / 3) + s.val) % 3 = s.val := by omega
  have e' : (3 * (t.val / 3) + s.val) / 3 = t.val / 3 := by omega
  have p := seen0 ⟨3 * (t.val / 3) + s.val, Pipeline.run_point_lt_of_flush t ht s⟩ e' l (by dsimp only; rw [e]; exact h)
  have q := seen1 ⟨3 * (t.val / 3) + s.val, Pipeline.run_point_lt_of_flush t ht s⟩ e' l (by dsimp only; rw [e]; exact h)
  simp only [e] at p q
  rw [p, q]

end Cert.Weight

end
-- ==== Proof.Weight.FfnIn.lean ====
/- The gradient of a feed-forward layer's input weight: four tiles side by side. -/
module

public import proofs.«01_k».proof.Defs
public import proofs.«01_k».proof.Proof.Weight
public import proofs.«01_k».proof.Proof.Gen.FfnInIdeal.Value
public import proofs.«01_k».proof.Proof.Gen.FfnInRefIdeal.Run
public import Idealize.ShloMosaic.Lib.Pipeline.ReadBack

@[expose] public section

set_option maxRecDepth 16384

noncomputable section

namespace Cert.FfnInIdeal.Weight

open Cert.FfnInIdeal Cert.FfnInIdeal.Value Cert.FfnInIdeal.Gen Idealize.ShloMosaic Idealize.ShloMosaic.TcCoe Idealize.SL.Sem
open Cert.Weight (part product tile)

theorem first (x0 : Vec Ideal S1024x2816 .bf16) (x1 : Vec Ideal S2816x1408 .bf16) (i : Fin 1024) (j : Fin 1408) :
    k0_pay2 (F := Ideal) x0 x1 (ix2 i j) = part x0 x1 i j := by
  unfold k0_pay2 k0_pay1 part
  pointwise

theorem later (x0 : Vec Ideal S1024x2816 .bf16) (x1 : Vec Ideal S2816x1408 .bf16) (acc : Vec Ideal S1024x1408 .f32)
    (i : Fin 1024) (j : Fin 1408) : k0_pay3 (F := Ideal) x0 x1 acc (ix2 i j) = acc (ix2 i j) + part x0 x1 i j := by
  unfold k0_pay3 k0_pay1 part
  pointwise

variable (m : (ℓ : Loc nD τ sig) → Buf (Elt Ideal) ℓ) (c : Dev nD)

theorem start (t : Fin cfg0.N) (h : t.val % 3 = 0) (i : Fin 1024) (j : Fin 1408) :
    (outsAt0 m c t.val t.isLt).2 (ix2 i j) = part (iblk m c 0 t) (iblk m c 1 t) i j := by
  rw [outsAt0_A m c t h (by omega) (by omega)]
  frame_out
  exact first _ _ i j

theorem step (t : Fin cfg0.N) (h : ¬t.val % 3 = 0) (i : Fin 1024) (j : Fin 1408) :
    (outsAt0 m c t.val t.isLt).2 (ix2 i j)
      = (outsAt0 m c (t.val - 1) (Nat.lt_of_le_of_lt (Nat.sub_le _ _) t.isLt)).2 (ix2 i j) + part (iblk m c 0 t) (iblk m c 1 t) i j := by
  by_cases h2 : t.val % 3 = 2
  · rw [outsAt0_C m c t h (by omega) h2]
    frame_out
    rw [read_unread_whole]
    exact later _ _ _ i j
  · rw [outsAt0_B m c t h (by omega) h2]
    frame_out
    rw [read_unread_whole]
    exact later _ _ _ i j

/-- The visit that writes a tile out converts the scratch as it leaves it. -/
theorem written (t : Fin cfg0.N) (h : t.val % 3 = 2) (y : S1024x1408.Idx) :
    (outsAt0 m c t.val t.isLt).1 y = (outsAt0 m c t.val t.isLt).2 y := by
  rw [outsAt0_C m c t (by omega) (by omega) h]
  frame_out
  rfl

theorem index : ∀ t : Fin cfg0.N, (win0_0.index t 0 = 0 ∧ win0_0.index t 1 = t.val % 3)
    ∧ win0_1.index t 0 = t.val % 3 ∧ win0_1.index t 1 = t.val / 3 :=
  (by decide +kernel : ∀ t : Fin grid0.N, (win0_0.index t 0 = 0 ∧ win0_0.index t 1 = t.val % 3)
    ∧ win0_1.index t 0 = t.val % 3 ∧ win0_1.index t 1 = t.val / 3)

/-- The result's entry is the product over all the tokens. -/
theorem entry (k : Fin 1024) (n : Fin 5632) : G2 m c (ix2 k n)
    = product (m ((c : Thread nD τ).loc main_arg0)) (m ((c : Thread nD τ).loc main_arg1)) k n := by
  have hk := k.isLt
  have hn := n.isLt
  have hp : pt2Of (ix2 k n) = 3 * (n.val / 1408) + 2 := by
    show 3 * (4 * (k.val / 1024 - 0) + 1 * (n.val / 1408 - 0)) + 2 = _
    omega
  have hN : pt2Of (ix2 k n) < cfg0.N := by rw [hp, show cfg0.N = 12 from N_0]; omega
  have hl : loc2Of (ix2 k n) = ix2 (⟨k.val % 1024, Nat.mod_lt _ (by decide)⟩ : Fin 1024) (⟨n.val % 1408, Nat.mod_lt _ (by decide)⟩ : Fin 1408) := by
    funext a
    fin_cases a <;> rfl
  unfold G2
  rw [dif_pos hN, ← outsAt0_sweep m c _ hN, written m c ⟨_, hN⟩ (by show pt2Of (ix2 k n) % 3 = 2; omega), hl]
  refine tile (fun n h => (outsAt0 m c n h).2) (start m c) (step m c) ⟨_, hN⟩ (by show pt2Of (ix2 k n) % 3 = 2; omega)
    (fun u hu l h => ?_) (fun u hu l h => ?_)
  · have e := index u
    blk_ext [iblk, e.1.1, e.1.2]
  · have e := index u
    have hu : u.val / 3 = n.val / 1408 := by rw [hu]; show pt2Of (ix2 k n) / 3 = _; omega
    rw [hu] at e
    blk_ext [iblk, e.2.1, e.2.2]

end Cert.FfnInIdeal.Weight

namespace Cert.FfnInRefIdeal.Weight

open Cert.FfnInRefIdeal Cert.FfnInRefIdeal.Gen Idealize.ShloMosaic Idealize.ShloMosaic.TcCoe Idealize.ShloMosaic.StableHlo Idealize.SL.Sem
open Cert.Weight (product)

/-- The reference's entry is the same product. -/
theorem entry (x : FVec Ideal S1024x8448 .bf16) (y : FVec Ideal S8448x5632 .bf16) (k : Fin 1024) (n : Fin 5632) :
    (truncf .bf16 (transpose S1024x5632 [1, 0] (Host.dotGeneral dot_S8448x5632_S8448x1024_S5632x1024_0_0_1_1_n_n none
      (extf .f32 y bitsLt_bf16_f32) (extf .f32 (transpose S8448x1024 [1, 0] x transposes_S1024x8448_S8448x1024_1_0) bitsLt_bf16_f32))
      transposes_S5632x1024_S1024x5632_1_0) bitsLt_bf16_f32 : FVec Ideal S1024x5632 .bf16) (ix2 k n) = product x y k n := by
  unfold product
  pointwise
  exact Finset.sum_congr rfl fun l _ => mul_comm _ _

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Cert.FfnInRefIdeal.Value.run m ρ)

end Cert.FfnInRefIdeal.Weight

namespace Cert.Weight

open Idealize.ShloMosaic Idealize.SL.Sem

theorem ffn_in : Cert.algebraic_FfnInIdeal_FfnInRefIdeal := by
  intro m g m' g' _ hagree
  refine ⟨fun c => Cert.FfnInIdeal.Value.G2 m c, Cert.FfnInIdeal.Value.run m g, ?_⟩
  refine (θ_run _ _ _).mono (fun r h c => ⟨(h c).1.trans ?_, (h c).2⟩) (Cert.FfnInRefIdeal.Value.run m' g')
  rw [(hagree c).1, (hagree c).2]
  funext y
  obtain ⟨k, n, rfl⟩ : ∃ k n, y = ix2 k n := ⟨y 0, y 1, by funext a; fin_cases a <;> rfl⟩
  exact (Cert.FfnInRefIdeal.Weight.entry _ _ _ _).trans (Cert.FfnInIdeal.Weight.entry m c _ _).symm

end Cert.Weight

end
-- ==== Proof.Weight.FfnOut.lean ====
/- The gradient of a feed-forward layer's output weight: two tiles, one above the other. -/
module

public import proofs.«01_k».proof.Defs
public import proofs.«01_k».proof.Proof.Weight
public import proofs.«01_k».proof.Proof.Gen.FfnOutIdeal.Value
public import proofs.«01_k».proof.Proof.Gen.FfnOutRefIdeal.Run
public import Idealize.ShloMosaic.Lib.Pipeline.ReadBack

@[expose] public section

set_option maxRecDepth 16384

noncomputable section

namespace Cert.FfnOutIdeal.Weight

open Cert.FfnOutIdeal Cert.FfnOutIdeal.Value Cert.FfnOutIdeal.Gen Idealize.ShloMosaic Idealize.ShloMosaic.TcCoe Idealize.SL.Sem
open Cert.Weight (part product tile)

theorem first (x0 : Vec Ideal S1408x2816 .bf16) (x1 : Vec Ideal S2816x1024 .bf16) (i : Fin 1408) (j : Fin 1024) :
    k0_pay2 (F := Ideal) x0 x1 (ix2 i j) = part x0 x1 i j := by
  unfold k0_pay2 k0_pay1 part
  pointwise

theorem later (x0 : Vec Ideal S1408x2816 .bf16) (x1 : Vec Ideal S2816x1024 .bf16) (acc : Vec Ideal S1408x1024 .f32)
    (i : Fin 1408) (j : Fin 1024) : k0_pay3 (F := Ideal) x0 x1 acc (ix2 i j) = acc (ix2 i j) + part x0 x1 i j := by
  unfold k0_pay3 k0_pay1 part
  pointwise

variable (m : (ℓ : Loc nD τ sig) → Buf (Elt Ideal) ℓ) (c : Dev nD)

theorem start (t : Fin cfg0.N) (h : t.val % 3 = 0) (i : Fin 1408) (j : Fin 1024) :
    (outsAt0 m c t.val t.isLt).2 (ix2 i j) = part (iblk m c 0 t) (iblk m c 1 t) i j := by
  rw [outsAt0_A m c t h (by omega) (by omega)]
  frame_out
  exact first _ _ i j

theorem step (t : Fin cfg0.N) (h : ¬t.val % 3 = 0) (i : Fin 1408) (j : Fin 1024) :
    (outsAt0 m c t.val t.isLt).2 (ix2 i j)
      = (outsAt0 m c (t.val - 1) (Nat.lt_of_le_of_lt (Nat.sub_le _ _) t.isLt)).2 (ix2 i j) + part (iblk m c 0 t) (iblk m c 1 t) i j := by
  by_cases h2 : t.val % 3 = 2
  · rw [outsAt0_C m c t h (by omega) h2]
    frame_out
    rw [read_unread_whole]
    exact later _ _ _ i j
  · rw [outsAt0_B m c t h (by omega) h2]
    frame_out
    rw [read_unread_whole]
    exact later _ _ _ i j

/-- The visit that writes a tile out converts the scratch as it leaves it. -/
theorem written (t : Fin cfg0.N) (h : t.val % 3 = 2) (y : S1408x1024.Idx) :
    (outsAt0 m c t.val t.isLt).1 y = (outsAt0 m c t.val t.isLt).2 y := by
  rw [outsAt0_C m c t (by omega) (by omega) h]
  frame_out
  rfl

theorem index : ∀ t : Fin cfg0.N, (win0_0.index t 0 = t.val / 3 ∧ win0_0.index t 1 = t.val % 3)
    ∧ win0_1.index t 0 = t.val % 3 ∧ win0_1.index t 1 = 0 :=
  (by decide +kernel : ∀ t : Fin grid0.N, (win0_0.index t 0 = t.val / 3 ∧ win0_0.index t 1 = t.val % 3)
    ∧ win0_1.index t 0 = t.val % 3 ∧ win0_1.index t 1 = 0)

/-- The result's entry is the product over all the tokens. -/
theorem entry (k : Fin 2816) (n : Fin 1024) : G2 m c (ix2 k n)
    = product (m ((c : Thread nD τ).loc main_arg0)) (m ((c : Thread nD τ).loc main_arg1)) k n := by
  have hk := k.isLt
  have hn := n.isLt
  have hp : pt2Of (ix2 k n) = 3 * (k.val / 1408) + 2 := by
    show 3 * (1 * (k.val / 1408 - 0) + 1 * (n.val / 1024 - 0)) + 2 = _
    omega
  have hN : pt2Of (ix2 k n) < cfg0.N := by rw [hp, show cfg0.N = 6 from N_0]; omega
  have hl : loc2Of (ix2 k n) = ix2 (⟨k.val % 1408, Nat.mod_lt _ (by decide)⟩ : Fin 1408) (⟨n.val % 1024, Nat.mod_lt _ (by decide)⟩ : Fin 1024) := by
    funext a
    fin_cases a <;> rfl
  unfold G2
  rw [dif_pos hN, ← outsAt0_sweep m c _ hN, written m c ⟨_, hN⟩ (by show pt2Of (ix2 k n) % 3 = 2; omega), hl]
  refine tile (fun n h => (outsAt0 m c n h).2) (start m c) (step m c) ⟨_, hN⟩ (by show pt2Of (ix2 k n) % 3 = 2; omega)
    (fun u hu l h => ?_) (fun u hu l h => ?_)
  · have e := index u
    have hu : u.val / 3 = k.val / 1408 := by rw [hu]; show pt2Of (ix2 k n) / 3 = _; omega
    rw [hu] at e
    blk_ext [iblk, e.1.1, e.1.2]
  · have e := index u
    blk_ext [iblk, e.2.1, e.2.2]

end Cert.FfnOutIdeal.Weight

namespace Cert.FfnOutRefIdeal.Weight

open Cert.FfnOutRefIdeal Cert.FfnOutRefIdeal.Gen Idealize.ShloMosaic Idealize.ShloMosaic.TcCoe Idealize.ShloMosaic.StableHlo Idealize.SL.Sem
open Cert.Weight (product)

/-- The reference's entry is the same product. -/
theorem entry (x : FVec Ideal S2816x8448 .bf16) (y : FVec Ideal S8448x1024 .bf16) (k : Fin 2816) (n : Fin 1024) :
    (truncf .bf16 (transpose S2816x1024 [1, 0] (Host.dotGeneral dot_S8448x1024_S8448x2816_S1024x2816_0_0_1_1_n_n none
      (extf .f32 y bitsLt_bf16_f32) (extf .f32 (transpose S8448x2816 [1, 0] x transposes_S2816x8448_S8448x2816_1_0) bitsLt_bf16_f32))
      transposes_S1024x2816_S2816x1024_1_0) bitsLt_bf16_f32 : FVec Ideal S2816x1024 .bf16) (ix2 k n) = product x y k n := by
  unfold product
  pointwise
  exact Finset.sum_congr rfl fun l _ => mul_comm _ _

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Cert.FfnOutRefIdeal.Value.run m ρ)

end Cert.FfnOutRefIdeal.Weight

namespace Cert.Weight

open Idealize.ShloMosaic Idealize.SL.Sem

theorem ffn_out : Cert.algebraic_FfnOutIdeal_FfnOutRefIdeal := by
  intro m g m' g' _ hagree
  refine ⟨fun c => Cert.FfnOutIdeal.Value.G2 m c, Cert.FfnOutIdeal.Value.run m g, ?_⟩
  refine (θ_run _ _ _).mono (fun r h c => ⟨(h c).1.trans ?_, (h c).2⟩) (Cert.FfnOutRefIdeal.Value.run m' g')
  rw [(hagree c).1, (hagree c).2]
  funext y
  obtain ⟨k, n, rfl⟩ : ∃ k n, y = ix2 k n := ⟨y 0, y 1, by funext a; fin_cases a <;> rfl⟩
  exact (Cert.FfnOutRefIdeal.Weight.entry _ _ _ _).trans (Cert.FfnOutIdeal.Weight.entry m c _ _).symm

end Cert.Weight

end
-- ==== Proof.Weight.OddIn.lean ====
/- The gradient of the odd layer's input projection: four tiles side by side. -/
module

public import proofs.«01_k».proof.Defs
public import proofs.«01_k».proof.Proof.Weight
public import proofs.«01_k».proof.Proof.Gen.OddInIdeal.Value
public import proofs.«01_k».proof.Proof.Gen.OddInRefIdeal.Run
public import Idealize.ShloMosaic.Lib.Pipeline.ReadBack

@[expose] public section

set_option maxRecDepth 16384

noncomputable section

namespace Cert.OddInIdeal.Weight

open Cert.OddInIdeal Cert.OddInIdeal.Value Cert.OddInIdeal.Gen Idealize.ShloMosaic Idealize.ShloMosaic.TcCoe Idealize.SL.Sem
open Cert.Weight (part product tile)

theorem first (x0 : Vec Ideal S1024x2816 .bf16) (x1 : Vec Ideal S2816x1536 .bf16) (i : Fin 1024) (j : Fin 1536) :
    k0_pay2 (F := Ideal) x0 x1 (ix2 i j) = part x0 x1 i j := by
  unfold k0_pay2 k0_pay1 part
  pointwise

theorem later (x0 : Vec Ideal S1024x2816 .bf16) (x1 : Vec Ideal S2816x1536 .bf16) (acc : Vec Ideal S1024x1536 .f32)
    (i : Fin 1024) (j : Fin 1536) : k0_pay3 (F := Ideal) x0 x1 acc (ix2 i j) = acc (ix2 i j) + part x0 x1 i j := by
  unfold k0_pay3 k0_pay1 part
  pointwise

variable (m : (ℓ : Loc nD τ sig) → Buf (Elt Ideal) ℓ) (c : Dev nD)

theorem start (t : Fin cfg0.N) (h : t.val % 3 = 0) (i : Fin 1024) (j : Fin 1536) :
    (outsAt0 m c t.val t.isLt).2 (ix2 i j) = part (iblk m c 0 t) (iblk m c 1 t) i j := by
  rw [outsAt0_A m c t h (by omega) (by omega)]
  frame_out
  exact first _ _ i j

theorem step (t : Fin cfg0.N) (h : ¬t.val % 3 = 0) (i : Fin 1024) (j : Fin 1536) :
    (outsAt0 m c t.val t.isLt).2 (ix2 i j)
      = (outsAt0 m c (t.val - 1) (Nat.lt_of_le_of_lt (Nat.sub_le _ _) t.isLt)).2 (ix2 i j) + part (iblk m c 0 t) (iblk m c 1 t) i j := by
  by_cases h2 : t.val % 3 = 2
  · rw [outsAt0_C m c t h (by omega) h2]
    frame_out
    rw [read_unread_whole]
    exact later _ _ _ i j
  · rw [outsAt0_B m c t h (by omega) h2]
    frame_out
    rw [read_unread_whole]
    exact later _ _ _ i j

/-- The visit that writes a tile out converts the scratch as it leaves it. -/
theorem written (t : Fin cfg0.N) (h : t.val % 3 = 2) (y : S1024x1536.Idx) :
    (outsAt0 m c t.val t.isLt).1 y = (outsAt0 m c t.val t.isLt).2 y := by
  rw [outsAt0_C m c t (by omega) (by omega) h]
  frame_out
  rfl

theorem index : ∀ t : Fin cfg0.N, (win0_0.index t 0 = 0 ∧ win0_0.index t 1 = t.val % 3)
    ∧ win0_1.index t 0 = t.val % 3 ∧ win0_1.index t 1 = t.val / 3 :=
  (by decide +kernel : ∀ t : Fin grid0.N, (win0_0.index t 0 = 0 ∧ win0_0.index t 1 = t.val % 3)
    ∧ win0_1.index t 0 = t.val % 3 ∧ win0_1.index t 1 = t.val / 3)

/-- The result's entry is the product over all the tokens. -/
theorem entry (k : Fin 1024) (n : Fin 6144) : G2 m c (ix2 k n)
    = product (m ((c : Thread nD τ).loc main_arg0)) (m ((c : Thread nD τ).loc main_arg1)) k n := by
  have hk := k.isLt
  have hn := n.isLt
  have hp : pt2Of (ix2 k n) = 3 * (n.val / 1536) + 2 := by
    show 3 * (4 * (k.val / 1024 - 0) + 1 * (n.val / 1536 - 0)) + 2 = _
    omega
  have hN : pt2Of (ix2 k n) < cfg0.N := by rw [hp, show cfg0.N = 12 from N_0]; omega
  have hl : loc2Of (ix2 k n) = ix2 (⟨k.val % 1024, Nat.mod_lt _ (by decide)⟩ : Fin 1024) (⟨n.val % 1536, Nat.mod_lt _ (by decide)⟩ : Fin 1536) := by
    funext a
    fin_cases a <;> rfl
  unfold G2
  rw [dif_pos hN, ← outsAt0_sweep m c _ hN, written m c ⟨_, hN⟩ (by show pt2Of (ix2 k n) % 3 = 2; omega), hl]
  refine tile (fun n h => (outsAt0 m c n h).2) (start m c) (step m c) ⟨_, hN⟩ (by show pt2Of (ix2 k n) % 3 = 2; omega)
    (fun u hu l h => ?_) (fun u hu l h => ?_)
  · have e := index u
    blk_ext [iblk, e.1.1, e.1.2]
  · have e := index u
    have hu : u.val / 3 = n.val / 1536 := by rw [hu]; show pt2Of (ix2 k n) / 3 = _; omega
    rw [hu] at e
    blk_ext [iblk, e.2.1, e.2.2]

end Cert.OddInIdeal.Weight

namespace Cert.OddInRefIdeal.Weight

open Cert.OddInRefIdeal Cert.OddInRefIdeal.Gen Idealize.ShloMosaic Idealize.ShloMosaic.TcCoe Idealize.ShloMosaic.StableHlo Idealize.SL.Sem
open Cert.Weight (product)

/-- The reference's entry is the same product. -/
theorem entry (x : FVec Ideal S1024x8448 .bf16) (y : FVec Ideal S8448x6144 .bf16) (k : Fin 1024) (n : Fin 6144) :
    (truncf .bf16 (transpose S1024x6144 [1, 0] (Host.dotGeneral dot_S8448x6144_S8448x1024_S6144x1024_0_0_1_1_n_n none
      (extf .f32 y bitsLt_bf16_f32) (extf .f32 (transpose S8448x1024 [1, 0] x transposes_S1024x8448_S8448x1024_1_0) bitsLt_bf16_f32))
      transposes_S6144x1024_S1024x6144_1_0) bitsLt_bf16_f32 : FVec Ideal S1024x6144 .bf16) (ix2 k n) = product x y k n := by
  unfold product
  pointwise
  exact Finset.sum_congr rfl fun l _ => mul_comm _ _

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Cert.OddInRefIdeal.Value.run m ρ)

end Cert.OddInRefIdeal.Weight

namespace Cert.Weight

open Idealize.ShloMosaic Idealize.SL.Sem

theorem odd_in : Cert.algebraic_OddInIdeal_OddInRefIdeal := by
  intro m g m' g' _ hagree
  refine ⟨fun c => Cert.OddInIdeal.Value.G2 m c, Cert.OddInIdeal.Value.run m g, ?_⟩
  refine (θ_run _ _ _).mono (fun r h c => ⟨(h c).1.trans ?_, (h c).2⟩) (Cert.OddInRefIdeal.Value.run m' g')
  rw [(hagree c).1, (hagree c).2]
  funext y
  obtain ⟨k, n, rfl⟩ : ∃ k n, y = ix2 k n := ⟨y 0, y 1, by funext a; fin_cases a <;> rfl⟩
  exact (Cert.OddInRefIdeal.Weight.entry _ _ _ _).trans (Cert.OddInIdeal.Weight.entry m c _ _).symm

end Cert.Weight

end
-- ==== Proof.Weight.OddOut.lean ====
/- The gradient of the odd layer's output projection: two tiles, one above the other. -/
module

public import proofs.«01_k».proof.Defs
public import proofs.«01_k».proof.Proof.Weight
public import proofs.«01_k».proof.Proof.Gen.OddOutIdeal.Value
public import proofs.«01_k».proof.Proof.Gen.OddOutRefIdeal.Run
public import Idealize.ShloMosaic.Lib.Pipeline.ReadBack

@[expose] public section

set_option maxRecDepth 16384

noncomputable section

namespace Cert.OddOutIdeal.Weight

open Cert.OddOutIdeal Cert.OddOutIdeal.Value Cert.OddOutIdeal.Gen Idealize.ShloMosaic Idealize.ShloMosaic.TcCoe Idealize.SL.Sem
open Cert.Weight (part product tile)

theorem first (x0 : Vec Ideal S1024x2816 .bf16) (x1 : Vec Ideal S2816x1024 .bf16) (i : Fin 1024) (j : Fin 1024) :
    k0_pay2 (F := Ideal) x0 x1 (ix2 i j) = part x0 x1 i j := by
  unfold k0_pay2 k0_pay1 part
  pointwise

theorem later (x0 : Vec Ideal S1024x2816 .bf16) (x1 : Vec Ideal S2816x1024 .bf16) (acc : Vec Ideal S1024x1024 .f32)
    (i : Fin 1024) (j : Fin 1024) : k0_pay3 (F := Ideal) x0 x1 acc (ix2 i j) = acc (ix2 i j) + part x0 x1 i j := by
  unfold k0_pay3 k0_pay1 part
  pointwise

variable (m : (ℓ : Loc nD τ sig) → Buf (Elt Ideal) ℓ) (c : Dev nD)

theorem start (t : Fin cfg0.N) (h : t.val % 3 = 0) (i : Fin 1024) (j : Fin 1024) :
    (outsAt0 m c t.val t.isLt).2 (ix2 i j) = part (iblk m c 0 t) (iblk m c 1 t) i j := by
  rw [outsAt0_A m c t h (by omega) (by omega)]
  frame_out
  exact first _ _ i j

theorem step (t : Fin cfg0.N) (h : ¬t.val % 3 = 0) (i : Fin 1024) (j : Fin 1024) :
    (outsAt0 m c t.val t.isLt).2 (ix2 i j)
      = (outsAt0 m c (t.val - 1) (Nat.lt_of_le_of_lt (Nat.sub_le _ _) t.isLt)).2 (ix2 i j) + part (iblk m c 0 t) (iblk m c 1 t) i j := by
  by_cases h2 : t.val % 3 = 2
  · rw [outsAt0_C m c t h (by omega) h2]
    frame_out
    rw [read_unread_whole]
    exact later _ _ _ i j
  · rw [outsAt0_B m c t h (by omega) h2]
    frame_out
    rw [read_unread_whole]
    exact later _ _ _ i j

/-- The visit that writes a tile out converts the scratch as it leaves it. -/
theorem written (t : Fin cfg0.N) (h : t.val % 3 = 2) (y : S1024x1024.Idx) :
    (outsAt0 m c t.val t.isLt).1 y = (outsAt0 m c t.val t.isLt).2 y := by
  rw [outsAt0_C m c t (by omega) (by omega) h]
  frame_out
  rfl

theorem index : ∀ t : Fin cfg0.N, (win0_0.index t 0 = t.val / 3 ∧ win0_0.index t 1 = t.val % 3)
    ∧ win0_1.index t 0 = t.val % 3 ∧ win0_1.index t 1 = 0 :=
  (by decide +kernel : ∀ t : Fin grid0.N, (win0_0.index t 0 = t.val / 3 ∧ win0_0.index t 1 = t.val % 3)
    ∧ win0_1.index t 0 = t.val % 3 ∧ win0_1.index t 1 = 0)

/-- The result's entry is the product over all the tokens. -/
theorem entry (k : Fin 2048) (n : Fin 1024) : G2 m c (ix2 k n)
    = product (m ((c : Thread nD τ).loc main_arg0)) (m ((c : Thread nD τ).loc main_arg1)) k n := by
  have hk := k.isLt
  have hn := n.isLt
  have hp : pt2Of (ix2 k n) = 3 * (k.val / 1024) + 2 := by
    show 3 * (1 * (k.val / 1024 - 0) + 1 * (n.val / 1024 - 0)) + 2 = _
    omega
  have hN : pt2Of (ix2 k n) < cfg0.N := by rw [hp, show cfg0.N = 6 from N_0]; omega
  have hl : loc2Of (ix2 k n) = ix2 (⟨k.val % 1024, Nat.mod_lt _ (by decide)⟩ : Fin 1024) (⟨n.val % 1024, Nat.mod_lt _ (by decide)⟩ : Fin 1024) := by
    funext a
    fin_cases a <;> rfl
  unfold G2
  rw [dif_pos hN, ← outsAt0_sweep m c _ hN, written m c ⟨_, hN⟩ (by show pt2Of (ix2 k n) % 3 = 2; omega), hl]
  refine tile (fun n h => (outsAt0 m c n h).2) (start m c) (step m c) ⟨_, hN⟩ (by show pt2Of (ix2 k n) % 3 = 2; omega)
    (fun u hu l h => ?_) (fun u hu l h => ?_)
  · have e := index u
    have hu : u.val / 3 = k.val / 1024 := by rw [hu]; show pt2Of (ix2 k n) / 3 = _; omega
    rw [hu] at e
    blk_ext [iblk, e.1.1, e.1.2]
  · have e := index u
    blk_ext [iblk, e.2.1, e.2.2]

end Cert.OddOutIdeal.Weight

namespace Cert.OddOutRefIdeal.Weight

open Cert.OddOutRefIdeal Cert.OddOutRefIdeal.Gen Idealize.ShloMosaic Idealize.ShloMosaic.TcCoe Idealize.ShloMosaic.StableHlo Idealize.SL.Sem
open Cert.Weight (product)

/-- The reference's entry is the same product. -/
theorem entry (x : FVec Ideal S2048x8448 .bf16) (y : FVec Ideal S8448x1024 .bf16) (k : Fin 2048) (n : Fin 1024) :
    (truncf .bf16 (transpose S2048x1024 [1, 0] (Host.dotGeneral dot_S8448x1024_S8448x2048_S1024x2048_0_0_1_1_n_n none
      (extf .f32 y bitsLt_bf16_f32) (extf .f32 (transpose S8448x2048 [1, 0] x transposes_S2048x8448_S8448x2048_1_0) bitsLt_bf16_f32))
      transposes_S1024x2048_S2048x1024_1_0) bitsLt_bf16_f32 : FVec Ideal S2048x1024 .bf16) (ix2 k n) = product x y k n := by
  unfold product
  pointwise
  exact Finset.sum_congr rfl fun l _ => mul_comm _ _

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Cert.OddOutRefIdeal.Value.run m ρ)

end Cert.OddOutRefIdeal.Weight

namespace Cert.Weight

open Idealize.ShloMosaic Idealize.SL.Sem

theorem odd_out : Cert.algebraic_OddOutIdeal_OddOutRefIdeal := by
  intro m g m' g' _ hagree
  refine ⟨fun c => Cert.OddOutIdeal.Value.G2 m c, Cert.OddOutIdeal.Value.run m g, ?_⟩
  refine (θ_run _ _ _).mono (fun r h c => ⟨(h c).1.trans ?_, (h c).2⟩) (Cert.OddOutRefIdeal.Value.run m' g')
  rw [(hagree c).1, (hagree c).2]
  funext y
  obtain ⟨k, n, rfl⟩ : ∃ k n, y = ix2 k n := ⟨y 0, y 1, by funext a; fin_cases a <;> rfl⟩
  exact (Cert.OddOutRefIdeal.Weight.entry _ _ _ _).trans (Cert.OddOutIdeal.Weight.entry m c _ _).symm

end Cert.Weight

end
-- ==== Proof.Weight.EvenIn.lean ====
/- The gradient of the even layer's input projection: two tiles side by side. -/
module

public import proofs.«01_k».proof.Defs
public import proofs.«01_k».proof.Proof.Weight
public import proofs.«01_k».proof.Proof.Gen.EvenInIdeal.Value
public import proofs.«01_k».proof.Proof.Gen.EvenInRefIdeal.Run
public import Idealize.ShloMosaic.Lib.Pipeline.ReadBack

@[expose] public section

set_option maxRecDepth 16384

noncomputable section

namespace Cert.EvenInIdeal.Weight

open Cert.EvenInIdeal Cert.EvenInIdeal.Value Cert.EvenInIdeal.Gen Idealize.ShloMosaic Idealize.ShloMosaic.TcCoe Idealize.SL.Sem
open Cert.Weight (part product tile)

theorem first (x0 : Vec Ideal S1024x2816 .bf16) (x1 : Vec Ideal S2816x1664 .bf16) (i : Fin 1024) (j : Fin 1664) :
    k0_pay2 (F := Ideal) x0 x1 (ix2 i j) = part x0 x1 i j := by
  unfold k0_pay2 k0_pay1 part
  pointwise

theorem later (x0 : Vec Ideal S1024x2816 .bf16) (x1 : Vec Ideal S2816x1664 .bf16) (acc : Vec Ideal S1024x1664 .f32)
    (i : Fin 1024) (j : Fin 1664) : k0_pay3 (F := Ideal) x0 x1 acc (ix2 i j) = acc (ix2 i j) + part x0 x1 i j := by
  unfold k0_pay3 k0_pay1 part
  pointwise

variable (m : (ℓ : Loc nD τ sig) → Buf (Elt Ideal) ℓ) (c : Dev nD)

theorem start (t : Fin cfg0.N) (h : t.val % 3 = 0) (i : Fin 1024) (j : Fin 1664) :
    (outsAt0 m c t.val t.isLt).2 (ix2 i j) = part (iblk m c 0 t) (iblk m c 1 t) i j := by
  rw [outsAt0_A m c t h (by omega) (by omega)]
  frame_out
  exact first _ _ i j

theorem step (t : Fin cfg0.N) (h : ¬t.val % 3 = 0) (i : Fin 1024) (j : Fin 1664) :
    (outsAt0 m c t.val t.isLt).2 (ix2 i j)
      = (outsAt0 m c (t.val - 1) (Nat.lt_of_le_of_lt (Nat.sub_le _ _) t.isLt)).2 (ix2 i j) + part (iblk m c 0 t) (iblk m c 1 t) i j := by
  by_cases h2 : t.val % 3 = 2
  · rw [outsAt0_C m c t h (by omega) h2]
    frame_out
    rw [read_unread_whole]
    exact later _ _ _ i j
  · rw [outsAt0_B m c t h (by omega) h2]
    frame_out
    rw [read_unread_whole]
    exact later _ _ _ i j

/-- The visit that writes a tile out converts the scratch as it leaves it. -/
theorem written (t : Fin cfg0.N) (h : t.val % 3 = 2) (y : S1024x1664.Idx) :
    (outsAt0 m c t.val t.isLt).1 y = (outsAt0 m c t.val t.isLt).2 y := by
  rw [outsAt0_C m c t (by omega) (by omega) h]
  frame_out
  rfl

theorem index : ∀ t : Fin cfg0.N, (win0_0.index t 0 = 0 ∧ win0_0.index t 1 = t.val % 3)
    ∧ win0_1.index t 0 = t.val % 3 ∧ win0_1.index t 1 = t.val / 3 :=
  (by decide +kernel : ∀ t : Fin grid0.N, (win0_0.index t 0 = 0 ∧ win0_0.index t 1 = t.val % 3)
    ∧ win0_1.index t 0 = t.val % 3 ∧ win0_1.index t 1 = t.val / 3)

/-- The result's entry is the product over all the tokens. -/
theorem entry (k : Fin 1024) (n : Fin 3328) : G2 m c (ix2 k n)
    = product (m ((c : Thread nD τ).loc main_arg0)) (m ((c : Thread nD τ).loc main_arg1)) k n := by
  have hk := k.isLt
  have hn := n.isLt
  have hp : pt2Of (ix2 k n) = 3 * (n.val / 1664) + 2 := by
    show 3 * (2 * (k.val / 1024 - 0) + 1 * (n.val / 1664 - 0)) + 2 = _
    omega
  have hN : pt2Of (ix2 k n) < cfg0.N := by rw [hp, show cfg0.N = 6 from N_0]; omega
  have hl : loc2Of (ix2 k n) = ix2 (⟨k.val % 1024, Nat.mod_lt _ (by decide)⟩ : Fin 1024) (⟨n.val % 1664, Nat.mod_lt _ (by decide)⟩ : Fin 1664) := by
    funext a
    fin_cases a <;> rfl
  unfold G2
  rw [dif_pos hN, ← outsAt0_sweep m c _ hN, written m c ⟨_, hN⟩ (by show pt2Of (ix2 k n) % 3 = 2; omega), hl]
  refine tile (fun n h => (outsAt0 m c n h).2) (start m c) (step m c) ⟨_, hN⟩ (by show pt2Of (ix2 k n) % 3 = 2; omega)
    (fun u hu l h => ?_) (fun u hu l h => ?_)
  · have e := index u
    blk_ext [iblk, e.1.1, e.1.2]
  · have e := index u
    have hu : u.val / 3 = n.val / 1664 := by rw [hu]; show pt2Of (ix2 k n) / 3 = _; omega
    rw [hu] at e
    blk_ext [iblk, e.2.1, e.2.2]

end Cert.EvenInIdeal.Weight

namespace Cert.EvenInRefIdeal.Weight

open Cert.EvenInRefIdeal Cert.EvenInRefIdeal.Gen Idealize.ShloMosaic Idealize.ShloMosaic.TcCoe Idealize.ShloMosaic.StableHlo Idealize.SL.Sem
open Cert.Weight (product)

/-- The reference's entry is the same product. -/
theorem entry (x : FVec Ideal S1024x8448 .bf16) (y : FVec Ideal S8448x3328 .bf16) (k : Fin 1024) (n : Fin 3328) :
    (truncf .bf16 (transpose S1024x3328 [1, 0] (Host.dotGeneral dot_S8448x3328_S8448x1024_S3328x1024_0_0_1_1_n_n none
      (extf .f32 y bitsLt_bf16_f32) (extf .f32 (transpose S8448x1024 [1, 0] x transposes_S1024x8448_S8448x1024_1_0) bitsLt_bf16_f32))
      transposes_S3328x1024_S1024x3328_1_0) bitsLt_bf16_f32 : FVec Ideal S1024x3328 .bf16) (ix2 k n) = product x y k n := by
  unfold product
  pointwise
  exact Finset.sum_congr rfl fun l _ => mul_comm _ _

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Cert.EvenInRefIdeal.Value.run m ρ)

end Cert.EvenInRefIdeal.Weight

namespace Cert.Weight

open Idealize.ShloMosaic Idealize.SL.Sem

theorem even_in : Cert.algebraic_EvenInIdeal_EvenInRefIdeal := by
  intro m g m' g' _ hagree
  refine ⟨fun c => Cert.EvenInIdeal.Value.G2 m c, Cert.EvenInIdeal.Value.run m g, ?_⟩
  refine (θ_run _ _ _).mono (fun r h c => ⟨(h c).1.trans ?_, (h c).2⟩) (Cert.EvenInRefIdeal.Value.run m' g')
  rw [(hagree c).1, (hagree c).2]
  funext y
  obtain ⟨k, n, rfl⟩ : ∃ k n, y = ix2 k n := ⟨y 0, y 1, by funext a; fin_cases a <;> rfl⟩
  exact (Cert.EvenInRefIdeal.Weight.entry _ _ _ _).trans (Cert.EvenInIdeal.Weight.entry m c _ _).symm

end Cert.Weight

end
-- ==== Proof.Weight.EvenOut.lean ====
/- The gradient of the even layer's output projection: one tile. -/
module

public import proofs.«01_k».proof.Defs
public import proofs.«01_k».proof.Proof.Weight
public import proofs.«01_k».proof.Proof.Gen.EvenOutIdeal.Value
public import proofs.«01_k».proof.Proof.Gen.EvenOutRefIdeal.Run
public import Idealize.ShloMosaic.Lib.Pipeline.ReadBack

@[expose] public section

set_option maxRecDepth 16384

noncomputable section

namespace Cert.EvenOutIdeal.Weight

open Cert.EvenOutIdeal Cert.EvenOutIdeal.Value Cert.EvenOutIdeal.Gen Idealize.ShloMosaic Idealize.ShloMosaic.TcCoe Idealize.SL.Sem
open Cert.Weight (part product tile)

theorem first (x0 : Vec Ideal S1024x2816 .bf16) (x1 : Vec Ideal S2816x1024 .bf16) (i : Fin 1024) (j : Fin 1024) :
    k0_pay2 (F := Ideal) x0 x1 (ix2 i j) = part x0 x1 i j := by
  unfold k0_pay2 k0_pay1 part
  pointwise

theorem later (x0 : Vec Ideal S1024x2816 .bf16) (x1 : Vec Ideal S2816x1024 .bf16) (acc : Vec Ideal S1024x1024 .f32)
    (i : Fin 1024) (j : Fin 1024) : k0_pay3 (F := Ideal) x0 x1 acc (ix2 i j) = acc (ix2 i j) + part x0 x1 i j := by
  unfold k0_pay3 k0_pay1 part
  pointwise

variable (m : (ℓ : Loc nD τ sig) → Buf (Elt Ideal) ℓ) (c : Dev nD)

theorem start (t : Fin cfg0.N) (h : t.val % 3 = 0) (i : Fin 1024) (j : Fin 1024) :
    (outsAt0 m c t.val t.isLt).2 (ix2 i j) = part (iblk m c 0 t) (iblk m c 1 t) i j := by
  have hN : t.val < 3 := lt_of_lt_of_eq t.isLt N_0
  rw [outsAt0_A m c t h (by omega) (by omega)]
  frame_out
  exact first _ _ i j

theorem step (t : Fin cfg0.N) (h : ¬t.val % 3 = 0) (i : Fin 1024) (j : Fin 1024) :
    (outsAt0 m c t.val t.isLt).2 (ix2 i j)
      = (outsAt0 m c (t.val - 1) (Nat.lt_of_le_of_lt (Nat.sub_le _ _) t.isLt)).2 (ix2 i j) + part (iblk m c 0 t) (iblk m c 1 t) i j := by
  by_cases h2 : t.val % 3 = 2
  · rw [outsAt0_C m c t h (by omega) h2]
    frame_out
    rw [read_unread_whole]
    exact later _ _ _ i j
  · rw [outsAt0_B m c t h (by omega) h2]
    frame_out
    rw [read_unread_whole]
    exact later _ _ _ i j

/-- The visit that writes a tile out converts the scratch as it leaves it. -/
theorem written (t : Fin cfg0.N) (h : t.val % 3 = 2) (y : S1024x1024.Idx) :
    (outsAt0 m c t.val t.isLt).1 y = (outsAt0 m c t.val t.isLt).2 y := by
  rw [outsAt0_C m c t (by omega) (by omega) h]
  frame_out
  rfl

theorem index : ∀ t : Fin cfg0.N, (win0_0.index t 0 = 0 ∧ win0_0.index t 1 = t.val % 3)
    ∧ win0_1.index t 0 = t.val % 3 ∧ win0_1.index t 1 = t.val / 3 :=
  (by decide +kernel : ∀ t : Fin grid0.N, (win0_0.index t 0 = 0 ∧ win0_0.index t 1 = t.val % 3)
    ∧ win0_1.index t 0 = t.val % 3 ∧ win0_1.index t 1 = t.val / 3)

/-- The result's entry is the product over all the tokens. -/
theorem entry (k : Fin 1024) (n : Fin 1024) : G2 m c (ix2 k n)
    = product (m ((c : Thread nD τ).loc main_arg0)) (m ((c : Thread nD τ).loc main_arg1)) k n := by
  have hk := k.isLt
  have hn := n.isLt
  have hp : pt2Of (ix2 k n) = 3 * (n.val / 1024) + 2 := by
    show 3 * (1 * (k.val / 1024 - 0) + 1 * (n.val / 1024 - 0)) + 2 = _
    omega
  have hN : pt2Of (ix2 k n) < cfg0.N := by rw [hp, show cfg0.N = 3 from N_0]; omega
  have hl : loc2Of (ix2 k n) = ix2 (⟨k.val % 1024, Nat.mod_lt _ (by decide)⟩ : Fin 1024) (⟨n.val % 1024, Nat.mod_lt _ (by decide)⟩ : Fin 1024) := by
    funext a
    fin_cases a <;> rfl
  unfold G2
  rw [dif_pos hN, ← outsAt0_sweep m c _ hN, written m c ⟨_, hN⟩ (by show pt2Of (ix2 k n) % 3 = 2; omega), hl]
  refine tile (fun n h => (outsAt0 m c n h).2) (start m c) (step m c) ⟨_, hN⟩ (by show pt2Of (ix2 k n) % 3 = 2; omega)
    (fun u hu l h => ?_) (fun u hu l h => ?_)
  · have e := index u
    blk_ext [iblk, e.1.1, e.1.2]
  · have e := index u
    have hu : u.val / 3 = n.val / 1024 := by rw [hu]; show pt2Of (ix2 k n) / 3 = _; omega
    rw [hu] at e
    blk_ext [iblk, e.2.1, e.2.2]

end Cert.EvenOutIdeal.Weight

namespace Cert.EvenOutRefIdeal.Weight

open Cert.EvenOutRefIdeal Cert.EvenOutRefIdeal.Gen Idealize.ShloMosaic Idealize.ShloMosaic.TcCoe Idealize.ShloMosaic.StableHlo Idealize.SL.Sem
open Cert.Weight (product)

/-- The reference's entry is the same product. -/
theorem entry (x : FVec Ideal S1024x8448 .bf16) (y : FVec Ideal S8448x1024 .bf16) (k : Fin 1024) (n : Fin 1024) :
    (truncf .bf16 (transpose S1024x1024 [1, 0] (Host.dotGeneral dot_S8448x1024_S8448x1024_S1024x1024_0_0_1_1_n_n none
      (extf .f32 y bitsLt_bf16_f32) (extf .f32 (transpose S8448x1024 [1, 0] x transposes_S1024x8448_S8448x1024_1_0) bitsLt_bf16_f32))
      transposes_S1024x1024_S1024x1024_1_0) bitsLt_bf16_f32 : FVec Ideal S1024x1024 .bf16) (ix2 k n) = product x y k n := by
  unfold product
  pointwise
  exact Finset.sum_congr rfl fun l _ => mul_comm _ _

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Cert.EvenOutRefIdeal.Value.run m ρ)

end Cert.EvenOutRefIdeal.Weight

namespace Cert.Weight

open Idealize.ShloMosaic Idealize.SL.Sem

theorem even_out : Cert.algebraic_EvenOutIdeal_EvenOutRefIdeal := by
  intro m g m' g' _ hagree
  refine ⟨fun c => Cert.EvenOutIdeal.Value.G2 m c, Cert.EvenOutIdeal.Value.run m g, ?_⟩
  refine (θ_run _ _ _).mono (fun r h c => ⟨(h c).1.trans ?_, (h c).2⟩) (Cert.EvenOutRefIdeal.Value.run m' g')
  rw [(hagree c).1, (hagree c).2]
  funext y
  obtain ⟨k, n, rfl⟩ : ∃ k n, y = ix2 k n := ⟨y 0, y 1, by funext a; fin_cases a <;> rfl⟩
  exact (Cert.EvenOutRefIdeal.Weight.entry _ _ _ _).trans (Cert.EvenOutIdeal.Weight.entry m c _ _).symm

end Cert.Weight

end
-- ==== Proof.Forward.lean ====
/- The forward pass's products. A token's row is normalised, scaled by a gain and modulated by its stream's shift and scale; then it
   goes through the layer's weights. The context's 256 tokens take the first modulation, the latent ones the second. -/
module

public import Idealize.ShloMosaic.Lib.Pipeline.ValueKit
public import Idealize.ShloMosaic.Lib.Pointwise

@[expose] public section

noncomputable section

namespace Cert.Forward

open Idealize.ShloMosaic

/-- The modulation that a token's row takes. -/
def stream (r : Fin 8448) : Fin 2 := if r.val < 256 then 0 else 1

/-- A row over its root mean square, times the gain, modulated. -/
def normed (x g shift scale : Fin 1024 → EReal) (a : Fin 1024) : EReal :=
  x a * Ideal.rsqrt (Ideal.div (∑ b, x b * x b) (Ideal.ofBits FTy.f32 0x44800000#32) + Ideal.ofBits FTy.f32 0x358637BD#32) * g a
    * (1 + scale a) + shift a

/-- Row `r` of the normalised tokens. -/
def hidden {d : ℕ} (h : 2048 ≤ d) (x : FVec Ideal ⟨2, ![8448, 1024]⟩ .f32) (g : FVec Ideal ⟨1, ![1024]⟩ .f32)
    (m : FVec Ideal ⟨3, ![2, 1, d]⟩ .f32) (r : Fin 8448) : Fin 1024 → EReal :=
  normed (fun a => x (ix2 r a)) (fun a => g (ix1 a)) (fun a => m (ix3 (stream r) 0 ⟨a.val, by omega⟩))
    (fun a => m (ix3 (stream r) 0 ⟨1024 + a.val, by omega⟩))

/-- A row times column `j` of a weight. -/
def proj {n : ℕ} (h : Fin 1024 → EReal) (w : FVec Ideal ⟨2, ![1024, n]⟩ .bf16) (j : Fin n) : EReal := ∑ a, h a * w (ix2 a j)

/-- `n` of a weight's columns from column `o` on, for every token's row. -/
def columns {n k : ℕ} (h : Fin 8448 → Fin 1024 → EReal) (w : FVec Ideal ⟨2, ![1024, k]⟩ .bf16) (o : ℕ) (le : o + n ≤ k) :
    FVec Ideal ⟨2, ![8448, n]⟩ .bf16 := fun y => proj (h (y 0)) w ⟨o + (y 1).val, by have : (y 1).val < n := (y 1).isLt; omega⟩

/-- The gated unit: the first half of the row through the sigmoid's gate, times the second half. -/
def gated (u : Fin 5632 → EReal) (j : Fin 2816) : EReal :=
  u ⟨j.val, by omega⟩ * Ideal.logistic (u ⟨j.val, by omega⟩) * u ⟨2816 + j.val, by omega⟩

/-- The layer's output from the row of its first product. -/
def layer (u : Fin 5632 → EReal) (w : FVec Ideal ⟨2, ![2816, 1024]⟩ .bf16) (a : Fin 1024) : EReal := ∑ j, gated u j * w (ix2 j a)

/-- Rows given one by one, as an array. -/
def table {n : ℕ} {k : FTy} (f : Fin 8448 → Fin n → EReal) : FVec Ideal ⟨2, ![8448, n]⟩ k := fun y => f (y 0) (y 1)

/-- The tokens with a layer's output added through their stream's gate. -/
def residual (x : FVec Ideal ⟨2, ![8448, 1024]⟩ .f32) (m : FVec Ideal ⟨3, ![2, 1, 3072]⟩ .f32) (f : Fin 8448 → Fin 1024 → EReal) :
    FVec Ideal ⟨2, ![8448, 1024]⟩ .f32 := table fun r a => x (ix2 r a) + m (ix3 (stream r) 0 ⟨2048 + a.val, by omega⟩) * f r a

/-- A sum over the hidden width, as the call takes it: 1536 columns, then 1280. -/
theorem sum_hidden (f : Fin 2816 → EReal) :
    (∑ j : Fin 1536, f ⟨j.val, by omega⟩) + (∑ j : Fin 1280, f ⟨1536 + j.val, by omega⟩) = ∑ j, f j := (Fin.sum_univ_add (a := 1536) (b := 1280) f).symm

/-- Columns of a product from column `o` on, read where they lie in the whole product. -/
theorem piece {n : ℕ} (h : Fin 256 → Fin 1024 → EReal) (w : FVec Ideal ⟨2, ![1024, 5632]⟩ .bf16) (o : ℕ) (le : o + n ≤ 5632)
    (p : FVec Ideal ⟨2, ![256, n]⟩ .bf16)
    (hp : ∀ i (b : Fin n), p (ix2 i b) = ∑ a, h i a * w (ix2 a (⟨o + b.val, by omega⟩ : Fin 5632)))
    (i : Fin 256) (j : Fin 5632) (x : Shape.Idx ⟨2, ![256, n]⟩) (h0 : i.val = (x 0).val) (h1 : j.val = o + (x 1).val) :
    p x = proj (h i) w j := by
  obtain ⟨k, b, rfl⟩ : ∃ (k : Fin 256) (b : Fin n), x = ix2 k b := ⟨x 0, x 1, by funext a; fin_cases a <;> rfl⟩
  obtain rfl : i = k := Fin.ext h0
  rw [hp]
  unfold proj
  exact Finset.sum_congr rfl fun a _ => congrArg₂ _ rfl (congrArg _ (congrArg (ix2 a) (Fin.ext h1.symm)))

end Cert.Forward

end
-- ==== Proof.Forward.Reference.lean ====
/- The reference's rows: what its host operations leave of the normalised tokens and of the modulation, at coordinates. -/
module

public import proofs.«01_k».proof.Proof.Forward
public import Idealize.ShloMosaic.Lib.Pointwise

@[expose] public section

set_option maxRecDepth 16384

noncomputable section

namespace Cert.Forward

open Idealize.ShloMosaic

/-- The normalised and modulated tokens, as the reference's operations compute them. -/
def rows (x shift scale : FVec Ideal ⟨2, ![8448, 1024]⟩ .f32) (g : FVec Ideal ⟨1, ![1024]⟩ .f32)
    (reduces : Shape.ReducesTo ⟨2, ![8448, 1024]⟩ [1] ⟨1, ![8448]⟩) (pos : 0 < Shape.numel ⟨0, ![]⟩)
    (column : Shape.BroadcastsInDim ⟨1, ![8448]⟩ ⟨2, ![8448, 1]⟩ (![0] : Fin 1 → Fin 2))
    (fill : Shape.BroadcastsInDim ⟨0, ![]⟩ ⟨2, ![8448, 1]⟩ (![] : Fin 0 → Fin 2))
    (across : Shape.BroadcastsInDim ⟨2, ![8448, 1]⟩ ⟨2, ![8448, 1024]⟩ (![0, 1] : Fin 2 → Fin 2))
    (line : Shape.BroadcastsInDim ⟨1, ![1024]⟩ ⟨2, ![1, 1024]⟩ (![1] : Fin 1 → Fin 2))
    (down : Shape.BroadcastsInDim ⟨2, ![1, 1024]⟩ ⟨2, ![8448, 1024]⟩ (![0, 1] : Fin 2 → Fin 2))
    (fills : Shape.BroadcastsInDim ⟨0, ![]⟩ ⟨2, ![8448, 1024]⟩ (![] : Fin 0 → Fin 2)) : FVec Ideal ⟨2, ![8448, 1024]⟩ .f32 :=
  addf (mulf (mulf (mulf x (broadcastInDim ⟨2, ![8448, 1024]⟩ ![0, 1] across
      (Host.rsqrt (addf (Host.divf (broadcastInDim ⟨2, ![8448, 1]⟩ ![0] column (Host.reduceAdd (mulf x x) (constant ⟨0, ![]⟩ .f32 0x00000000#32) reduces pos))
        (broadcastInDim ⟨2, ![8448, 1]⟩ ![] fill (constant ⟨0, ![]⟩ .f32 0x44800000#32)))
        (broadcastInDim ⟨2, ![8448, 1]⟩ ![] fill (constant ⟨0, ![]⟩ .f32 0x358637BD#32))))))
      (broadcastInDim ⟨2, ![8448, 1024]⟩ ![0, 1] down (broadcastInDim ⟨2, ![1, 1024]⟩ ![1] line g)))
      (addf (broadcastInDim ⟨2, ![8448, 1024]⟩ ![] fills (constant ⟨0, ![]⟩ .f32 0x3F800000#32)) scale)) shift

/-- Row `r` is the normalised row of token `r`. -/
theorem rows_apply (x shift scale : FVec Ideal ⟨2, ![8448, 1024]⟩ .f32) (g : FVec Ideal ⟨1, ![1024]⟩ .f32) (h₁ h₂ h₃ h₄ h₅ h₆ h₇ h₈)
    (r : Fin 8448) (a : Fin 1024) : rows x shift scale g h₁ h₂ h₃ h₄ h₅ h₆ h₇ h₈ (ix2 r a)
      = normed (fun b => x (ix2 r b)) (fun b => g (ix1 b)) (fun b => shift (ix2 r b)) (fun b => scale (ix2 r b)) a := by
  unfold rows normed
  pointwise

/-- Each token's modulation: the context's rows, then the latent ones. -/
def modulation {d : ℕ} (m : FVec Ideal ⟨3, ![2, 1, d]⟩ .f32)
    (s₀ : Shape.Slices ⟨3, ![2, 1, d]⟩ ![0, 0, 0] ⟨3, ![1, 1, d]⟩) (s₁ : Shape.Slices ⟨3, ![2, 1, d]⟩ ![1, 0, 0] ⟨3, ![1, 1, d]⟩)
    (casts : Shape.ShapeCasts ⟨3, ![1, 1, d]⟩ ⟨2, ![1, d]⟩)
    (b₀ : Shape.BroadcastsInDim ⟨2, ![1, d]⟩ ⟨2, ![256, d]⟩ (![0, 1] : Fin 2 → Fin 2))
    (b₁ : Shape.BroadcastsInDim ⟨2, ![1, d]⟩ ⟨2, ![8192, d]⟩ (![0, 1] : Fin 2 → Fin 2))
    (joins : Shape.Concatenates [⟨2, ![256, d]⟩, ⟨2, ![8192, d]⟩] ⟨2, ![8448, d]⟩ 0) : FVec Ideal ⟨2, ![8448, d]⟩ .f32 :=
  concatenate ⟨2, ![8448, d]⟩ 0 [⟨⟨2, ![256, d]⟩, broadcastInDim ⟨2, ![256, d]⟩ ![0, 1] b₀
      (shapeCast ⟨2, ![1, d]⟩ (extractStridedSlice ⟨3, ![1, 1, d]⟩ ![0, 0, 0] m s₀) casts)⟩,
    ⟨⟨2, ![8192, d]⟩, broadcastInDim ⟨2, ![8192, d]⟩ ![0, 1] b₁
      (shapeCast ⟨2, ![1, d]⟩ (extractStridedSlice ⟨3, ![1, 1, d]⟩ ![1, 0, 0] m s₁) casts)⟩] joins

/-- Row `r` is the modulation of token `r`'s stream: the shift and the scale. -/
theorem modulation_apply_mixer (m : FVec Ideal ⟨3, ![2, 1, 2048]⟩ .f32) (h₁ h₂ h₃ h₄ h₅ h₆) (r : Fin 8448) (a : Fin 2048) :
    modulation m h₁ h₂ h₃ h₄ h₅ h₆ (ix2 r a) = m (ix3 (stream r) 0 a) := by
  unfold modulation stream
  by_cases h : r.val < 256
  · rw [if_pos h]
    pointwise
    rw [dif_pos h]
  · rw [if_neg h]
    pointwise
    rw [dif_neg h]

/-- The same where the gate lies beside them. -/
theorem modulation_apply_layer (m : FVec Ideal ⟨3, ![2, 1, 3072]⟩ .f32) (h₁ h₂ h₃ h₄ h₅ h₆) (r : Fin 8448) (a : Fin 3072) :
    modulation m h₁ h₂ h₃ h₄ h₅ h₆ (ix2 r a) = m (ix3 (stream r) 0 a) := by
  unfold modulation stream
  by_cases h : r.val < 256
  · rw [if_pos h]
    pointwise
    rw [dif_pos h]
  · rw [if_neg h]
    pointwise
    rw [dif_neg h]

end Cert.Forward

end
-- ==== Proof.Forward.Ffn.lean ====
/- The gated layer: the normalised tokens through the first weight, the gate, the second weight, and back onto the tokens. Each visit
   of the call takes 256 tokens and does the hidden columns in two parts. First what the call leaves, then the reference, then the claim. -/
module

public import proofs.«01_k».proof.Defs
public import proofs.«01_k».proof.Proof.Forward.Reference
public import proofs.«01_k».proof.Proof.Gen.FfnIdeal.Value
public import proofs.«01_k».proof.Proof.Gen.FfnRefIdeal.Run
public import Idealize.ShloMosaic.Lib.Pipeline.ReadBack
public import Idealize.ShloMosaic.Lib.StableHlo.RunRead

@[expose] public section

set_option maxRecDepth 16384

noncomputable section

namespace Cert.FfnIdeal.Forward

open Cert.FfnIdeal Cert.FfnIdeal.Gen Idealize.ShloMosaic Idealize.ShloMosaic.TcCoe Idealize.SL.Sem
open Cert.Forward (normed proj stream columns gated layer residual table piece)

/-- The rows that a visit normalises: entry `a` of row `i`. -/
theorem unit_row (v : Vec Ideal S1x1x3072 .f32) (x : Vec Ideal S256x1024 .f32) (g : Vec Ideal S1x1024 .f32) (i : Fin 256) (a : Fin 1024) :
    k0_pay9 (F := Ideal) v x g (ix2 i a) = normed (fun b => x (ix2 i b)) (fun b => g (ix2 0 b)) (fun b => v (ix3 0 0 ⟨b.val, by omega⟩))
      (fun b => v (ix3 0 0 ⟨1024 + b.val, by omega⟩)) a := by
  unfold k0_pay9 k0_pay8 normed
  pointwise

variable (m : (ℓ : Loc nD τ sig) → Buf (Elt Ideal) ℓ) (c : Dev nD)

/-- A token's normalised row, from the arguments. -/
abbrev row (r : Fin 8448) : Fin 1024 → EReal :=
  Cert.Forward.hidden (by decide) (m ((c : Thread nD τ).loc main_arg0)) (m ((c : Thread nD τ).loc main_arg1)) (m ((c : Thread nD τ).loc main_arg2)) r

/-- The gain as the call takes it is the argument. -/
theorem V_gain (a : Fin 1024) : V m c main_v0 (ix2 0 a) = m ((c : Thread nD τ).loc main_arg1) (ix1 a) := by
  have e : V m c main_v0 = broadcastInDim S1x1024 ![1] bcast_S1024_S1x1024_1 (m ((c : Thread nD τ).loc main_arg1)) := by
    after_reads_simp
  rw [e]
  pointwise

/-- The block of each input that visit `t` sees: its 256 tokens, the gain, the stream's modulation, the weights. -/
theorem index : ∀ t : Fin cfg0.N, (win0_0.index t 0 = t.val ∧ win0_0.index t 1 = 0) ∧ (win0_1.index t 0 = 0 ∧ win0_1.index t 1 = 0)
    ∧ (win0_2.index t 0 = min t.val 1 ∧ win0_2.index t 1 = 0 ∧ win0_2.index t 2 = 0) ∧ (win0_3.index t 0 = 0 ∧ win0_3.index t 1 = 0) ∧ (win0_4.index t 0 = 0 ∧ win0_4.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = min t.val 1 ∧ win0_2.index t 1 = 0 ∧ win0_2.index t 2 = 0) ∧ (win0_3.index t 0 = 0 ∧ win0_3.index t 1 = 0) ∧ (win0_4.index t 0 = 0 ∧ win0_4.index t 1 = 0))

/-- There are 33 visits. -/
theorem point (t : Fin cfg0.N) : t.val < 33 := t.isLt.trans_eq N_0

/-- The token in row `i` of visit `t`. -/
def tok (t : Fin cfg0.N) (i : Fin 256) : Fin 8448 := ⟨256 * t.val + i.val, by have := point t; omega⟩

/-- A visit sees its tokens. -/
theorem seen_x (t : Fin cfg0.N) (i : Fin 256) (a : Fin 1024) :
    iblk m c 0 t (ix2 i a) = m ((c : Thread nD τ).loc main_arg0) (ix2 (tok t i) a) := by
  have e := index t
  blk_ext [iblk, e.1.1, e.1.2, tok]

/-- Every visit sees the gain. -/
theorem seen_g (t : Fin cfg0.N) (a : Fin 1024) : iblk m c 1 t (ix2 0 a) = m ((c : Thread nD τ).loc main_arg1) (ix1 a) := by
  have e := index t
  rw [← V_gain m c a]
  blk_ext [iblk, e.2.1.1, e.2.1.2]

/-- A visit sees the modulation of its tokens' stream. -/
theorem seen_m (t : Fin cfg0.N) (i : Fin 256) (a : Fin 3072) :
    iblk m c 2 t (ix3 0 0 a) = m ((c : Thread nD τ).loc main_arg2) (ix3 (stream (tok t i)) 0 a) := by
  have e := index t
  have h : (stream (tok t i)).val = min t.val 1 := by
    unfold stream tok
    split <;> rename_i h <;> simp only at h ⊢ <;> omega
  blk_ext [iblk, e.2.2.1.1, e.2.2.1.2.1, e.2.2.1.2.2, h]

/-- Every visit sees the whole weight. -/
theorem seen_w (t : Fin cfg0.N) (a : Fin 1024) (n : Fin 5632) : iblk m c 3 t (ix2 a n) = m ((c : Thread nD τ).loc main_arg3) (ix2 a n) := by
  have e := index t
  blk_ext [iblk, e.2.2.2.1.1, e.2.2.2.1.2]

/-- Every visit sees the whole second weight. -/
theorem seen_v (t : Fin cfg0.N) (j : Fin 2816) (a : Fin 1024) : iblk m c 4 t (ix2 j a) = m ((c : Thread nD τ).loc main_arg4) (ix2 j a) := by
  have e := index t
  blk_ext [iblk, e.2.2.2.2.1, e.2.2.2.2.2]

/-- Over what a visit sees, its normalised rows are those of its tokens. -/
theorem block_row (t : Fin cfg0.N) (i : Fin 256) (a : Fin 1024) :
    k0_pay9 (F := Ideal) (iblk m c 2 t) (iblk m c 0 t) (iblk m c 1 t) (ix2 i a) = row m c (tok t i) a := by
  rw [unit_row]
  unfold row Cert.Forward.hidden
  simp only [seen_x, seen_g, seen_m m c t i]

/-- A token's row of the layer's first product. -/
abbrev first (r : Fin 8448) (j : Fin 5632) : EReal := proj (row m c r) (m ((c : Thread nD τ).loc main_arg3)) j

/-- Visit `t` writes the rows of its own tokens. -/
theorem index_out : ∀ t : Fin cfg0.N, (win0_5.index t 0 = t.val ∧ win0_5.index t 1 = 0) ∧ (win0_6.index t 0 = t.val ∧ win0_6.index t 1 = 0)
    ∧ (win0_7.index t 0 = t.val ∧ win0_7.index t 1 = 0) :=
  (by decide +kernel : ∀ t : Fin grid0.N, (win0_5.index t 0 = t.val ∧ win0_5.index t 1 = 0) ∧ (win0_6.index t 0 = t.val ∧ win0_6.index t 1 = 0)
    ∧ (win0_7.index t 0 = t.val ∧ win0_7.index t 1 = 0))

/-- Where an entry of a visit's block lies in result 1 of the call. -/
theorem place5 (t : Fin cfg0.N) (i : Fin 256) (j : Fin 1024) :
    ((View.whole main_v1_0).slice (win0_5.rect t)).emb (ix2 i j) = ix2 (tok t i) j := by
  have e := index_out t
  blk_ext [e.1.1, e.1.2, tok]

/-- Where an entry of a visit's block lies in result 2 of the call. -/
theorem place6 (t : Fin cfg0.N) (i : Fin 256) (j : Fin 5632) :
    ((View.whole main_v1_1).slice (win0_6.rect t)).emb (ix2 i j) = ix2 (tok t i) j := by
  have e := index_out t
  blk_ext [e.2.1.1, e.2.1.2, tok]

/-- Where an entry of a visit's block lies in result 3 of the call. -/
theorem place7 (t : Fin cfg0.N) (i : Fin 256) (j : Fin 1024) :
    ((View.whole main_v1_2).slice (win0_7.rect t)).emb (ix2 i j) = ix2 (tok t i) j := by
  have e := index_out t
  blk_ext [e.2.2.1, e.2.2.2, tok]

/-- The layer's output in a block, from the two halves of its hidden columns. -/
theorem fed_block (v : Vec Ideal S1x1x3072 .f32) (x : Vec Ideal S256x1024 .f32) (g : Vec Ideal S1x1024 .f32) (w : Vec Ideal S1024x5632 .bf16)
    (z : Vec Ideal S2816x1024 .bf16) (i : Fin 256) (j : Fin 1024) :
    k0_pay5 (F := Ideal) (k0_pay9 v x g) k0_pay10
      (k0_pay11 v x g (View.ld w (Rect.unit ![0, 0] ![1024, 1536] inb_S1024x5632_S1024x1536_0_0)))
      (k0_pay12 v x g (View.ld w (Rect.unit ![0, 2816] ![1024, 1536] inb_S1024x5632_S1024x1536_0_2816)))
      (View.ld z (Rect.unit ![0, 0] ![1536, 1024] inb_S2816x1024_S1536x1024_0_0))
      (View.ld w (Rect.unit ![0, 1536] ![1024, 1280] inb_S1024x5632_S1024x1280_0_1536))
      (View.ld w (Rect.unit ![0, 4352] ![1024, 1280] inb_S1024x5632_S1024x1280_0_4352))
      (View.ld z (Rect.unit ![1536, 0] ![1280, 1024] inb_S2816x1024_S1280x1024_1536_0)) (ix2 i j)
    = layer (proj (fun a => k0_pay9 (F := Ideal) v x g (ix2 i a)) w) z j := by
  unfold k0_pay5 k0_pay1 k0_pay2 k0_pay10 k0_pay11 k0_pay12
  pointwise
  refine Eq.trans ?_ (Cert.Forward.sum_hidden fun k => gated (proj (fun a => k0_pay9 (F := Ideal) v x g (ix2 i a)) w) k * z (ix2 k j))
  refine congrArg₂ _ rfl (Finset.sum_congr rfl fun k _ => ?_)
  have e : (⟨4352 + k.val, by omega⟩ : Fin 5632) = ⟨2816 + (1536 + k.val), by omega⟩ := Fin.ext (by show 4352 + _ = 2816 + (1536 + _); omega)
  simp only [e]
  rfl

/-- Over what a visit sees, a product with the first weight is its token's. -/
theorem first_seen (t : Fin cfg0.N) (i : Fin 256) :
    proj (fun a => k0_pay9 (F := Ideal) (iblk m c 2 t) (iblk m c 0 t) (iblk m c 1 t) (ix2 i a)) (iblk m c 3 t) = first m c (tok t i) := by
  funext j
  unfold first proj
  simp only [block_row, seen_w]

/-- The same of the layer's output. -/
theorem layer_seen (t : Fin cfg0.N) (i : Fin 256) (j : Fin 1024) :
    layer (proj (fun a => k0_pay9 (F := Ideal) (iblk m c 2 t) (iblk m c 0 t) (iblk m c 1 t) (ix2 i a)) (iblk m c 3 t)) (iblk m c 4 t) j
      = layer (first m c (tok t i)) (m ((c : Thread nD τ).loc main_arg4)) j := by
  rw [first_seen]
  unfold layer
  simp only [seen_v]

/-- The first result: the tokens with the layer's output added through the gate. -/
theorem array5 : (dats m 0 c).arrAt 5 cfg0.N = residual (m ((c : Thread nD τ).loc main_arg0)) (m ((c : Thread nD τ).loc main_arg2))
    (fun r => layer (first m c r) (m ((c : Thread nD τ).loc main_arg4))) := by
  refine (dats m 0 c).arrAt_eq_of_covers 5 _ (by decide +kernel) fun t hf y => ?_
  blk_simp
  rw [after0_5]
  unfold outsAt0
  frame_out
  obtain ⟨i, j, rfl⟩ : ∃ (i : Fin 256) (j : Fin 1024), y = ix2 i j := ⟨y 0, y 1, by funext a; fin_cases a <;> rfl⟩
  refine Eq.trans ?_ (congrArg _ (place5 t i j).symm)
  unfold k0_pay7 k0_pay8
  pointwise
  exact congrArg₂ (fun p q : EReal => p + q) (seen_x m c t i j)
    (congrArg₂ (fun p q : EReal => p * q) (seen_m m c t i ⟨2048 + j.val, by omega⟩)
      ((fed_block _ _ _ _ _ i j).trans (layer_seen m c t i j)))

/-- A visit's product with the columns from `o` on, read where it lies in the result. -/
theorem piece_seen {n : ℕ} (t : Fin cfg0.N) (o : ℕ) (le : o + n ≤ 5632) (p : FVec Ideal ⟨2, ![256, n]⟩ .bf16)
    (hp : ∀ i (b : Fin n), p (ix2 i b) = ∑ a, k0_pay9 (F := Ideal) (iblk m c 2 t) (iblk m c 0 t) (iblk m c 1 t) (ix2 i a)
      * iblk m c 3 t (ix2 a (⟨o + b.val, by omega⟩ : Fin 5632)))
    (i : Fin 256) (j : Fin 5632) (x : Shape.Idx ⟨2, ![256, n]⟩) (h0 : i.val = (x 0).val) (h1 : j.val = o + (x 1).val) :
    p x = columns (n := 5632) (row m c) (m ((c : Thread nD τ).loc main_arg3)) 0 (by decide) (ix2 (tok t i) j) :=
  (piece (fun i a => k0_pay9 (F := Ideal) (iblk m c 2 t) (iblk m c 0 t) (iblk m c 1 t) (ix2 i a)) (iblk m c 3 t) o le p hp i j x h0 h1).trans
    ((congrFun (first_seen m c t i) j).trans (congrArg (proj _ _) (Fin.ext (Nat.zero_add _).symm)))

/-- The second result: the first product, written in four pieces. -/
theorem array6 : (dats m 0 c).arrAt 6 cfg0.N = columns (n := 5632) (row m c) (m ((c : Thread nD τ).loc main_arg3)) 0 (by decide) := by
  refine (dats m 0 c).arrAt_eq_of_covers 6 _ (by decide +kernel) fun t hf y => ?_
  blk_simp
  rw [after0_6]
  unfold outsAt0
  frame_out
  obtain ⟨i, j, rfl⟩ : ∃ (i : Fin 256) (j : Fin 5632), y = ix2 i j := ⟨y 0, y 1, by funext a; fin_cases a <;> rfl⟩
  refine Eq.trans ?_ (congrArg _ (place6 t i j).symm)
  canon_tiles x hx using (View.cover_of_tiledBy _ ![256, 256] (by sl_kernel_rfl) _)
  · exact piece_seen m c t 4352 (by decide) _ (fun i b => by unfold k0_pay4 k0_pay2; pointwise) i j x hx0 hx1
  · exact piece_seen m c t 1536 (by decide) _ (fun i b => by unfold k0_pay3 k0_pay1; pointwise) i j x hx0 hx1
  · exact piece_seen m c t 2816 (by decide) _ (fun i b => by unfold k0_pay14 k0_pay12; pointwise) i j x hx0 hx1
  · exact piece_seen m c t 0 (by decide) _ (fun i b => by unfold k0_pay13 k0_pay11; pointwise) i j x hx0
      (hx1.trans (Nat.zero_add _).symm)

/-- The third result: the layer's output. -/
theorem array7 : (dats m 0 c).arrAt 7 cfg0.N = table (k := .bf16) fun r => layer (first m c r) (m ((c : Thread nD τ).loc main_arg4)) := by
  refine (dats m 0 c).arrAt_eq_of_covers 7 _ (by decide +kernel) fun t hf y => ?_
  blk_simp
  rw [after0_7]
  unfold outsAt0
  frame_out
  obtain ⟨i, j, rfl⟩ : ∃ (i : Fin 256) (j : Fin 1024), y = ix2 i j := ⟨y 0, y 1, by funext a; fin_cases a <;> rfl⟩
  refine Eq.trans ?_ (congrArg _ (place7 t i j).symm)
  unfold k0_pay6
  exact (fed_block _ _ _ _ _ i j).trans (layer_seen m c t i j)

end Cert.FfnIdeal.Forward

namespace Cert.FfnRefIdeal.Forward

open Cert.FfnRefIdeal Cert.FfnRefIdeal.Gen Cert.FfnRefIdeal.Value Idealize.ShloMosaic Idealize.ShloMosaic.TcCoe Idealize.ShloMosaic.StableHlo Idealize.SL.Sem
open Cert.Forward (proj columns rows modulation gated layer residual table)

variable (x : FVec Ideal S8448x1024 .f32) (g : FVec Ideal S1024 .f32) (d : FVec Ideal S2x1x3072 .f32) (w : FVec Ideal S1024x5632 .bf16)
  (v : FVec Ideal S2816x1024 .bf16)

/-- Each token's shift, scale and gate. -/
abbrev modulations : FVec Ideal S8448x3072 .f32 := modulation d slices_S2x1x3072_S1x1x3072_0_0_0 slices_S2x1x3072_S1x1x3072_1_0_0
  shapeCasts_S1x1x3072_S1x3072 bcast_S1x3072_S256x3072_0_1 bcast_S1x3072_S8192x3072_0_1 concatenates_S256x3072_S8192x3072_S8448x3072_d0

/-- The layer's first product. -/
def whole : FVec Ideal S8448x5632 .f32 :=
  Host.dotGeneral dot_S8448x1024_S1024x5632_S8448x5632_1_0_0_1_n_n none
    (rows x (extractStridedSlice S8448x1024 ![0, 0] (modulations d) slices_S8448x3072_S8448x1024_0_0)
      (extractStridedSlice S8448x1024 ![0, 1024] (modulations d) slices_S8448x3072_S8448x1024_0_1024) g
      reducesTo_S8448x1024_S8448_d1 h_S_ bcast_S8448_S8448x1_0 bcast_S_S8448x1 bcast_S8448x1_S8448x1024_0_1 bcast_S1024_S1x1024_1
      bcast_S1x1024_S8448x1024_0_1 bcast_S_S8448x1024) (extf .f32 w bitsLt_bf16_f32)

/-- The product at a token and a column. -/
theorem whole_apply (r : Fin 8448) (j : Fin 5632) : whole x g d w (ix2 r j) = proj (Cert.Forward.hidden (by decide) x g d r) w j := by
  unfold whole proj Cert.Forward.hidden
  pointwise
  refine Finset.sum_congr rfl fun a _ => ?_
  rw [Cert.Forward.rows_apply]
  pointwise
  simp only [Cert.Forward.modulation_apply_layer]

/-- The layer's output. -/
def output : FVec Ideal S8448x1024 .f32 :=
  Host.dotGeneral dot_S8448x2816_S2816x1024_S8448x1024_1_0_0_1_n_n none
    (mulf (mulf (extractStridedSlice S8448x2816 ![0, 0] (whole x g d w) slices_S8448x5632_S8448x2816_0_0)
      (Host.divf (broadcastInDim S8448x2816 ![] bcast_S_S8448x2816 (constant S_ .f32 0x3F800000#32))
        (addf (broadcastInDim S8448x2816 ![] bcast_S_S8448x2816 (constant S_ .f32 0x3F800000#32))
          (Host.exp (Host.negf (extractStridedSlice S8448x2816 ![0, 0] (whole x g d w) slices_S8448x5632_S8448x2816_0_0))))))
      (extractStridedSlice S8448x2816 ![0, 2816] (whole x g d w) slices_S8448x5632_S8448x2816_0_2816)) (extf .f32 v bitsLt_bf16_f32)

/-- The layer's output at a token and a column. -/
theorem output_apply (r : Fin 8448) (a : Fin 1024) :
    output x g d w v (ix2 r a) = layer (fun j => proj (Cert.Forward.hidden (by decide) x g d r) w j) v a := by
  unfold output layer gated
  pointwise
  simp only [whole_apply]
  rfl

/-- The tokens with the output added through the gate. -/
def added : FVec Ideal S8448x1024 .f32 :=
  addf x (mulf (extractStridedSlice S8448x1024 ![0, 2048] (modulations d) slices_S8448x3072_S8448x1024_0_2048) (output x g d w v))

/-- These tokens, row by row. -/
theorem added_eq : added x g d w v = residual x d fun r => layer (proj (Cert.Forward.hidden (by decide) x g d r) w) v := by
  funext y
  obtain ⟨r, a, rfl⟩ : ∃ (r : Fin 8448) (a : Fin 1024), y = ix2 r a := ⟨y 0, y 1, by funext a; fin_cases a <;> rfl⟩
  unfold added
  pointwise
  rw [output_apply]
  exact congrArg₂ (fun p q : EReal => p + q) rfl (congrArg₂ (fun p q : EReal => p * q)
    (Cert.Forward.modulation_apply_layer _ _ _ _ _ _ _ r ⟨2048 + a.val, by omega⟩) rfl)

/-- The reference ends, leaves its arguments as they were, and its semaphores are zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => (h c).2.2.2, sem_eq_zero_of_no_sems (by decide) r.2⟩) (Cert.FfnRefIdeal.Value.run m ρ)

variable (m : (ℓ : Loc nD τ sig) → Buf (Elt Ideal) ℓ) (c : Dev nD)

/-- The reference's third result: the layer's output. -/
theorem result_output : res_out2 m c = table (k := .bf16) fun r => layer (fun j => proj (Cert.Forward.hidden (by decide) (m ((c : Thread nD τ).loc main_arg0))
    (m ((c : Thread nD τ).loc main_arg1)) (m ((c : Thread nD τ).loc main_arg2)) r) (m ((c : Thread nD τ).loc main_arg3)) j)
    (m ((c : Thread nD τ).loc main_arg4)) := by
  funext y
  obtain ⟨r, a, rfl⟩ : ∃ (r : Fin 8448) (a : Fin 1024), y = ix2 r a := ⟨y 0, y 1, by funext a; fin_cases a <;> rfl⟩
  exact output_apply _ _ _ _ _ r a

/-- The reference's first result: the tokens with the layer's output added through the gate. -/
theorem result_stream : res_out0 m c = residual (m ((c : Thread nD τ).loc main_arg0)) (m ((c : Thread nD τ).loc main_arg2)) fun r =>
    layer (proj (Cert.Forward.hidden (by decide) (m ((c : Thread nD τ).loc main_arg0)) (m ((c : Thread nD τ).loc main_arg1))
      (m ((c : Thread nD τ).loc main_arg2)) r) (m ((c : Thread nD τ).loc main_arg3))) (m ((c : Thread nD τ).loc main_arg4)) :=
  added_eq _ _ _ _ _

end Cert.FfnRefIdeal.Forward

namespace Cert.Forward

open Idealize.ShloMosaic Idealize.SL.Sem

/-- The three results of the call are the reference's, for all arguments. -/
theorem ffn : Cert.algebraic_FfnIdeal_FfnRefIdeal := by
  intro m g m' g' _ hagree
  refine ⟨fun c => (Cert.FfnIdeal.Gen.dats m 0 c).arrAt 5 _, fun c => (Cert.FfnIdeal.Gen.dats m 0 c).arrAt 6 _,
    fun c => (Cert.FfnIdeal.Gen.dats m 0 c).arrAt 7 _, Cert.FfnIdeal.Value.run_blocks m g, ?_⟩
  refine (θ_run _ _ _).mono (fun r h c => ⟨(h c).1.trans ?_, (h c).2.1.trans ?_, (h c).2.2.1.trans ?_, (h c).2.2.2⟩)
    (Cert.FfnRefIdeal.Value.run m' g')
  · refine (Cert.FfnRefIdeal.Forward.result_stream m' c).trans (Eq.trans ?_ (Cert.FfnIdeal.Forward.array5 m c).symm)
    rw [(hagree c).1, (hagree c).2.1, (hagree c).2.2.1, (hagree c).2.2.2.1, (hagree c).2.2.2.2]
  · rw [(hagree c).1, (hagree c).2.1, (hagree c).2.2.1, (hagree c).2.2.2.1]
    refine Eq.trans ?_ (Cert.FfnIdeal.Forward.array6 m c).symm
    funext y
    obtain ⟨r, j, rfl⟩ : ∃ (r : Fin 8448) (j : Fin 5632), y = ix2 r j := ⟨y 0, y 1, by funext a; fin_cases a <;> rfl⟩
    refine (Cert.FfnRefIdeal.Forward.whole_apply _ _ _ _ r j).trans ?_
    exact congrArg (proj _ _) (Fin.ext (Nat.zero_add _).symm)
  · refine (Cert.FfnRefIdeal.Forward.result_output m' c).trans (Eq.trans ?_ (Cert.FfnIdeal.Forward.array7 m c).symm)
    rw [(hagree c).1, (hagree c).2.1, (hagree c).2.2.1, (hagree c).2.2.2.1, (hagree c).2.2.2.2]

end Cert.Forward

end
-- ==== Proof.Forward.Mixer.lean ====
/- The product in front of the odd layer's mixer: queries, keys, values and gates from the normalised tokens. Each visit of the call takes
   256 tokens; its four results are stretches of one product's columns. First what the call leaves, then the reference, then the claim. -/
module

public import proofs.«01_k».proof.Defs
public import proofs.«01_k».proof.Proof.Forward.Reference
public import proofs.«01_k».proof.Proof.Gen.MixerIdeal.Value
public import proofs.«01_k».proof.Proof.Gen.MixerRefIdeal.Run
public import Idealize.ShloMosaic.Lib.Pipeline.ReadBack
public import Idealize.ShloMosaic.Lib.StableHlo.RunRead

@[expose] public section

set_option maxRecDepth 16384

noncomputable section

namespace Cert.MixerIdeal.Forward

open Cert.MixerIdeal Cert.MixerIdeal.Gen Idealize.ShloMosaic Idealize.ShloMosaic.TcCoe Idealize.SL.Sem
open Cert.Forward (normed proj stream columns)

/-- The rows that a visit normalises: entry `a` of row `i`. -/
theorem unit_row (v : Vec Ideal S1x1x2048 .f32) (x : Vec Ideal S256x1024 .f32) (g : Vec Ideal S1x1024 .f32) (i : Fin 256) (a : Fin 1024) :
    k0_pay3 (F := Ideal) v x g (ix2 i a) = normed (fun b => x (ix2 i b)) (fun b => g (ix2 0 b)) (fun b => v (ix3 0 0 ⟨b.val, by omega⟩))
      (fun b => v (ix3 0 0 ⟨1024 + b.val, by omega⟩)) a := by
  unfold k0_pay3 normed
  pointwise

variable (m : (ℓ : Loc nD τ sig) → Buf (Elt Ideal) ℓ) (c : Dev nD)

/-- A token's normalised row, from the arguments. -/
abbrev row (r : Fin 8448) : Fin 1024 → EReal :=
  Cert.Forward.hidden (by decide) (m ((c : Thread nD τ).loc main_arg0)) (m ((c : Thread nD τ).loc main_arg1)) (m ((c : Thread nD τ).loc main_arg2)) r

/-- The gain as the call takes it is the argument. -/
theorem V_gain (a : Fin 1024) : V m c main_v0 (ix2 0 a) = m ((c : Thread nD τ).loc main_arg1) (ix1 a) := by
  have e : V m c main_v0 = broadcastInDim S1x1024 ![1] bcast_S1024_S1x1024_1 (m ((c : Thread nD τ).loc main_arg1)) := by
    after_reads_simp
  rw [e]
  pointwise

/-- The block of each input that visit `t` sees: its 256 tokens, the gain, the stream's modulation, the weights. -/
theorem index : ∀ t : Fin cfg0.N, (win0_0.index t 0 = t.val ∧ win0_0.index t 1 = 0) ∧ (win0_1.index t 0 = 0 ∧ win0_1.index t 1 = 0)
    ∧ (win0_2.index t 0 = min t.val 1 ∧ win0_2.index t 1 = 0 ∧ win0_2.index t 2 = 0) ∧ (win0_3.index t 0 = 0 ∧ win0_3.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = min t.val 1 ∧ win0_2.index t 1 = 0 ∧ win0_2.index t 2 = 0) ∧ (win0_3.index t 0 = 0 ∧ win0_3.index t 1 = 0))

/-- There are 33 visits. -/
theorem point (t : Fin cfg0.N) : t.val < 33 := t.isLt.trans_eq N_0

/-- The token in row `i` of visit `t`. -/
def tok (t : Fin cfg0.N) (i : Fin 256) : Fin 8448 := ⟨256 * t.val + i.val, by have := point t; omega⟩

/-- A visit sees its tokens. -/
theorem seen_x (t : Fin cfg0.N) (i : Fin 256) (a : Fin 1024) :
    iblk m c 0 t (ix2 i a) = m ((c : Thread nD τ).loc main_arg0) (ix2 (tok t i) a) := by
  have e := index t
  blk_ext [iblk, e.1.1, e.1.2, tok]

/-- Every visit sees the gain. -/
theorem seen_g (t : Fin cfg0.N) (a : Fin 1024) : iblk m c 1 t (ix2 0 a) = m ((c : Thread nD τ).loc main_arg1) (ix1 a) := by
  have e := index t
  rw [← V_gain m c a]
  blk_ext [iblk, e.2.1.1, e.2.1.2]

/-- A visit sees the modulation of its tokens' stream. -/
theorem seen_m (t : Fin cfg0.N) (i : Fin 256) (a : Fin 2048) :
    iblk m c 2 t (ix3 0 0 a) = m ((c : Thread nD τ).loc main_arg2) (ix3 (stream (tok t i)) 0 a) := by
  have e := index t
  have h : (stream (tok t i)).val = min t.val 1 := by
    unfold stream tok
    split <;> rename_i h <;> simp only at h ⊢ <;> omega
  blk_ext [iblk, e.2.2.1.1, e.2.2.1.2.1, e.2.2.1.2.2, h]

/-- Every visit sees the whole weight. -/
theorem seen_w (t : Fin cfg0.N) (a : Fin 1024) (n : Fin 6144) : iblk m c 3 t (ix2 a n) = m ((c : Thread nD τ).loc main_arg3) (ix2 a n) := by
  have e := index t
  blk_ext [iblk, e.2.2.2.1, e.2.2.2.2]

/-- Over what a visit sees, its normalised rows are those of its tokens. -/
theorem block_row (t : Fin cfg0.N) (i : Fin 256) (a : Fin 1024) :
    k0_pay3 (F := Ideal) (iblk m c 2 t) (iblk m c 0 t) (iblk m c 1 t) (ix2 i a) = row m c (tok t i) a := by
  rw [unit_row]
  unfold row Cert.Forward.hidden
  simp only [seen_x, seen_g, seen_m m c t i]

/-- The product behind the first result. -/
theorem narrow0 (v : Vec Ideal S1x1x2048 .f32) (x : Vec Ideal S256x1024 .f32) (g : Vec Ideal S1x1024 .f32) (w : Vec Ideal S1024x1024 .bf16)
    (i : Fin 256) (j : Fin 1024) : k0_pay4 (F := Ideal) v x g w (ix2 i j) = ∑ a, k0_pay3 (F := Ideal) v x g (ix2 i a) * w (ix2 a j) := by
  unfold k0_pay4
  pointwise

/-- The product behind the second result. -/
theorem narrow1 (v : Vec Ideal S1x1x2048 .f32) (x : Vec Ideal S256x1024 .f32) (g : Vec Ideal S1x1024 .f32) (w : Vec Ideal S1024x1024 .bf16)
    (i : Fin 256) (j : Fin 1024) : k0_pay5 (F := Ideal) v x g w (ix2 i j) = ∑ a, k0_pay3 (F := Ideal) v x g (ix2 i a) * w (ix2 a j) := by
  unfold k0_pay5
  pointwise

/-- The product behind the third result. -/
theorem wide0 (h : FVec Ideal S256x1024 .bf16) (w : Vec Ideal S1024x2048 .bf16) (i : Fin 256) (j : Fin 2048) :
    k0_pay1 (F := Ideal) h w (ix2 i j) = ∑ a, h (ix2 i a) * w (ix2 a j) := by
  unfold k0_pay1
  pointwise

/-- The product behind the fourth result. -/
theorem wide1 (h : FVec Ideal S256x1024 .bf16) (w : Vec Ideal S1024x2048 .bf16) (i : Fin 256) (j : Fin 2048) :
    k0_pay2 (F := Ideal) h w (ix2 i j) = ∑ a, h (ix2 i a) * w (ix2 a j) := by
  unfold k0_pay2
  pointwise

/-- Visit `t` writes the rows of its own tokens. -/
theorem index_out : ∀ t : Fin cfg0.N, (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0) :=
  (by decide +kernel : ∀ t : Fin grid0.N, (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0))

/-- A visit's rows times the weight's columns from `o` on are those columns of the whole product. -/
theorem block_proj {n : ℕ} (t : Fin cfg0.N) (i : Fin 256) (j : Fin n) (o : ℕ) (le : o + n ≤ 6144)
    (h : FVec Ideal S256x1024 .bf16) (hh : ∀ a, h (ix2 i a) = row m c (tok t i) a)
    (w : FVec Ideal ⟨2, ![1024, n]⟩ .bf16) (hw : ∀ a, w (ix2 a j) = iblk m c 3 t (ix2 a (⟨o + j.val, by omega⟩ : Fin 6144))) :
    ∑ a, h (ix2 i a) * w (ix2 a j) = columns (n := n) (row m c) (m ((c : Thread nD τ).loc main_arg3)) o le (ix2 (tok t i) j) := by
  unfold columns proj
  refine Finset.sum_congr rfl fun a _ => ?_
  rw [hh, hw, seen_w]
  rfl

/-- The same rows, in the form in which the wide products take them. -/
theorem block_row' (t : Fin cfg0.N) (i : Fin 256) (a : Fin 1024) :
    k0_pay6 (F := Ideal) (iblk m c 0 t) (iblk m c 1 t) (iblk m c 2 t) (iblk m c 3 t) (ix2 i a) = row m c (tok t i) a := by
  rw [← block_row]
  unfold k0_pay6
  congr 1
  · exact View.ld_unit_zero (by funext a; fin_cases a <;> rfl) _ _
  · exact View.ld_unit_zero (by funext a; fin_cases a <;> rfl) _ _
  · exact View.ld_unit_zero (by funext a; fin_cases a <;> rfl) _ _

/-- Where an entry of a visit's block lies in result 1 of the call. -/
theorem place4 (t : Fin cfg0.N) (i : Fin 256) (j : Fin 1024) :
    ((View.whole main_v1_0).slice (win0_4.rect t)).emb (ix2 i j) = ix2 (tok t i) j := by
  have e := index_out t
  blk_ext [e.1.1, e.1.2, tok]

/-- The first result: columns 0 to 1023 of the product. -/
theorem array4 : (dats m 0 c).arrAt 4 cfg0.N = columns (n := 1024) (row m c) (m ((c : Thread nD τ).loc main_arg3)) 0 (by decide) := by
  refine (dats m 0 c).arrAt_eq_of_covers 4 _ (by decide +kernel) fun t hf y => ?_
  blk_simp
  rw [after0_4]
  frame_out
  obtain ⟨i, j, rfl⟩ : ∃ (i : Fin 256) (j : Fin 1024), y = ix2 i j := ⟨y 0, y 1, by funext a; fin_cases a <;> rfl⟩
  refine Eq.trans ?_ (congrArg _ (place4 t i j).symm)
  refine (narrow0 _ _ _ _ i j).trans (block_proj m c t i j 0 _ _ (block_row m c t i) _ fun a => ?_)
  pointwise

/-- Where an entry of a visit's block lies in result 2 of the call. -/
theorem place5 (t : Fin cfg0.N) (i : Fin 256) (j : Fin 1024) :
    ((View.whole main_v1_1).slice (win0_5.rect t)).emb (ix2 i j) = ix2 (tok t i) j := by
  have e := index_out t
  blk_ext [e.2.1.1, e.2.1.2, tok]

/-- The second result: columns 1024 to 2047. -/
theorem array5 : (dats m 0 c).arrAt 5 cfg0.N = columns (n := 1024) (row m c) (m ((c : Thread nD τ).loc main_arg3)) 1024 (by decide) := by
  refine (dats m 0 c).arrAt_eq_of_covers 5 _ (by decide +kernel) fun t hf y => ?_
  blk_simp
  rw [after0_5]
  frame_out
  obtain ⟨i, j, rfl⟩ : ∃ (i : Fin 256) (j : Fin 1024), y = ix2 i j := ⟨y 0, y 1, by funext a; fin_cases a <;> rfl⟩
  refine Eq.trans ?_ (congrArg _ (place5 t i j).symm)
  refine (narrow1 _ _ _ _ i j).trans (block_proj m c t i j 1024 _ _ (block_row m c t i) _ fun a => ?_)
  pointwise

/-- Where an entry of a visit's block lies in result 3 of the call. -/
theorem place6 (t : Fin cfg0.N) (i : Fin 256) (j : Fin 2048) :
    ((View.whole main_v1_2).slice (win0_6.rect t)).emb (ix2 i j) = ix2 (tok t i) j := by
  have e := index_out t
  blk_ext [e.2.2.1.1, e.2.2.1.2, tok]

/-- The third result: columns 2048 to 4095. -/
theorem array6 : (dats m 0 c).arrAt 6 cfg0.N = columns (n := 2048) (row m c) (m ((c : Thread nD τ).loc main_arg3)) 2048 (by decide) := by
  refine (dats m 0 c).arrAt_eq_of_covers 6 _ (by decide +kernel) fun t hf y => ?_
  blk_simp
  rw [after0_6]
  frame_out
  obtain ⟨i, j, rfl⟩ : ∃ (i : Fin 256) (j : Fin 2048), y = ix2 i j := ⟨y 0, y 1, by funext a; fin_cases a <;> rfl⟩
  refine Eq.trans ?_ (congrArg _ (place6 t i j).symm)
  refine (wide0 _ _ i j).trans (block_proj m c t i j 2048 _ _ (block_row' m c t i) _ fun a => ?_)
  pointwise

/-- Where an entry of a visit's block lies in result 4 of the call. -/
theorem place7 (t : Fin cfg0.N) (i : Fin 256) (j : Fin 2048) :
    ((View.whole main_v1_3).slice (win0_7.rect t)).emb (ix2 i j) = ix2 (tok t i) j := by
  have e := index_out t
  blk_ext [e.2.2.2.1, e.2.2.2.2, tok]

/-- The fourth result: columns 4096 to 6143. -/
theorem array7 : (dats m 0 c).arrAt 7 cfg0.N = columns (n := 2048) (row m c) (m ((c : Thread nD τ).loc main_arg3)) 4096 (by decide) := by
  refine (dats m 0 c).arrAt_eq_of_covers 7 _ (by decide +kernel) fun t hf y => ?_
  blk_simp
  rw [after0_7]
  frame_out
  obtain ⟨i, j, rfl⟩ : ∃ (i : Fin 256) (j : Fin 2048), y = ix2 i j := ⟨y 0, y 1, by funext a; fin_cases a <;> rfl⟩
  refine Eq.trans ?_ (congrArg _ (place7 t i j).symm)
  refine (wide1 _ _ i j).trans (block_proj m c t i j 4096 _ _ (block_row' m c t i) _ fun a => ?_)
  pointwise

end Cert.MixerIdeal.Forward

namespace Cert.MixerRefIdeal.Forward

open Cert.MixerRefIdeal Cert.MixerRefIdeal.Gen Idealize.ShloMosaic Idealize.ShloMosaic.TcCoe Idealize.ShloMosaic.StableHlo Idealize.SL.Sem
open Cert.Forward (proj columns rows modulation)

variable (x : FVec Ideal S8448x1024 .f32) (g : FVec Ideal S1024 .f32) (d : FVec Ideal S2x1x2048 .f32) (w : FVec Ideal S1024x6144 .bf16)

/-- Each token's shift and scale. -/
abbrev modulations : FVec Ideal S8448x2048 .f32 := modulation d slices_S2x1x2048_S1x1x2048_0_0_0 slices_S2x1x2048_S1x1x2048_1_0_0
  shapeCasts_S1x1x2048_S1x2048 bcast_S1x2048_S256x2048_0_1 bcast_S1x2048_S8192x2048_0_1 concatenates_S256x2048_S8192x2048_S8448x2048_d0

/-- The whole product. -/
def whole : FVec Ideal S8448x6144 .bf16 :=
  truncf .bf16 (Host.dotGeneral dot_S8448x1024_S1024x6144_S8448x6144_1_0_0_1_n_n none
    (rows x (extractStridedSlice S8448x1024 ![0, 0] (modulations d) slices_S8448x2048_S8448x1024_0_0)
      (extractStridedSlice S8448x1024 ![0, 1024] (modulations d) slices_S8448x2048_S8448x1024_0_1024) g
      reducesTo_S8448x1024_S8448_d1 h_S_ bcast_S8448_S8448x1_0 bcast_S_S8448x1 bcast_S8448x1_S8448x1024_0_1 bcast_S1024_S1x1024_1
      bcast_S1x1024_S8448x1024_0_1 bcast_S_S8448x1024) (extf .f32 w bitsLt_bf16_f32)) bitsLt_bf16_f32

/-- The product at a token and a column. -/
theorem whole_apply (r : Fin 8448) (j : Fin 6144) : whole x g d w (ix2 r j) = proj (Cert.Forward.hidden (by decide) x g d r) w j := by
  unfold whole proj Cert.Forward.hidden
  pointwise
  refine Finset.sum_congr rfl fun a _ => ?_
  rw [Cert.Forward.rows_apply]
  pointwise
  simp only [Cert.Forward.modulation_apply_mixer]

/-- A result is a stretch of the product's columns. -/
theorem stretch {n : ℕ} (o : ℕ) (le : o + n ≤ 6144) (s : S8448x6144.Slices ![0, o] ⟨2, ![8448, n]⟩) :
    extractStridedSlice ⟨2, ![8448, n]⟩ ![0, o] (whole x g d w) s = columns (n := n) (Cert.Forward.hidden (by decide) x g d) w o le := by
  funext y
  obtain ⟨r, j, rfl⟩ : ∃ (r : Fin 8448) (j : Fin n), y = ix2 r j := ⟨y 0, y 1, by funext a; fin_cases a <;> rfl⟩
  refine Eq.trans ?_ (whole_apply x g d w r ⟨o + j.val, by omega⟩)
  pointwise

/-- The reference ends, leaves its arguments as they were, and its semaphores are zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2.2.2.2, sem_eq_zero_of_no_sems (by decide) r.2⟩) (Cert.MixerRefIdeal.Value.run m ρ)

end Cert.MixerRefIdeal.Forward

namespace Cert.Forward

open Idealize.ShloMosaic Idealize.SL.Sem

/-- The four results of the call are the reference's, for all arguments. -/
theorem mixer : Cert.algebraic_MixerIdeal_MixerRefIdeal := by
  intro m g m' g' _ hagree
  refine ⟨fun c => (Cert.MixerIdeal.Gen.dats m 0 c).arrAt 4 _, fun c => (Cert.MixerIdeal.Gen.dats m 0 c).arrAt 5 _,
    fun c => (Cert.MixerIdeal.Gen.dats m 0 c).arrAt 6 _, fun c => (Cert.MixerIdeal.Gen.dats m 0 c).arrAt 7 _,
    Cert.MixerIdeal.Value.run_blocks m g, ?_⟩
  refine (θ_run _ _ _).mono (fun r h c => ⟨(h c).1.trans ?_, (h c).2.1.trans ?_, (h c).2.2.1.trans ?_, (h c).2.2.2.1.trans ?_, (h c).2.2.2.2⟩)
    (Cert.MixerRefIdeal.Value.run m' g')
  all_goals rw [(hagree c).1, (hagree c).2.1, (hagree c).2.2.1, (hagree c).2.2.2]
  · exact (Cert.MixerRefIdeal.Forward.stretch _ _ _ _ 0 (by decide) _).trans (Cert.MixerIdeal.Forward.array4 m c).symm
  · exact (Cert.MixerRefIdeal.Forward.stretch _ _ _ _ 1024 (by decide) _).trans (Cert.MixerIdeal.Forward.array5 m c).symm
  · exact (Cert.MixerRefIdeal.Forward.stretch _ _ _ _ 2048 (by decide) _).trans (Cert.MixerIdeal.Forward.array6 m c).symm
  · exact (Cert.MixerRefIdeal.Forward.stretch _ _ _ _ 4096 (by decide) _).trans (Cert.MixerIdeal.Forward.array7 m c).symm

end Cert.Forward

end
-- ==== Proof.Forward.Target.lean ====
/- The loss: half the mean square, over a token's features, of what its row misses the target by, summed over the latent tokens; and
   its slope with respect to the rows. -/
module

public import proofs.«01_k».proof.Proof.Forward
public import proofs.«01_k».proof.Proof.HostReal

@[expose] public section

noncomputable section

namespace Cert.Forward

open Idealize.ShloMosaic

variable (y : FVec Ideal ⟨2, ![8448, 1024]⟩ .f32) (target : FVec Ideal ⟨2, ![8192, 1024]⟩ .f32)

/-- What latent token `r` misses its target by, in feature `a`. -/
def miss (r : Fin 8192) (a : Fin 1024) : EReal := y (ix2 ⟨256 + r.val, by omega⟩ a) - target (ix2 r a)

/-- A latent token's square of it, over all the features. -/
def square (r : Fin 8192) : EReal := ∑ a, miss y target r a * miss y target r a

/-- The loss. -/
def loss : EReal := ∑ r, square y target r * ((1 / 2048 : ℝ) : EReal)

/-- Its slope: nothing for the context's tokens. -/
def slope : FVec Ideal ⟨2, ![8448, 1024]⟩ .f32 := table fun r a =>
  if h : r.val < 256 then 0 else miss y target ⟨r.val - 256, by omega⟩ a * ((1 / 1024 : ℝ) : EReal)

theorem mul_self_nonneg (x : EReal) : 0 ≤ x * x := by
  rcases le_total 0 x with h | h
  · exact mul_nonneg h h
  · rw [← neg_mul_neg]
    exact mul_nonneg (EReal.neg_nonneg.mpr h) (EReal.neg_nonneg.mpr h)

theorem square_nonneg (r : Fin 8192) : 0 ≤ square y target r := Finset.sum_nonneg fun a _ => mul_self_nonneg _

/-- A factor goes into a sum of terms that are not negative. -/
theorem sum_scaled {ι : Type} (s : Finset ι) (f : ι → EReal) (h : ∀ i, 0 ≤ f i) (c : EReal) : (∑ i ∈ s, f i) * c = ∑ i ∈ s, f i * c := by
  classical
  induction s using Finset.induction_on with
  | empty => simp
  | insert a s ha ih =>
    rw [Finset.sum_insert ha, Finset.sum_insert ha, EReal.right_distrib_of_nonneg (h a) (Finset.sum_nonneg fun i _ => h i), ih]

/-- The loss, visit by visit: 32 visits of 256 tokens. -/
theorem loss_visits (f : Fin 32 → EReal)
    (hf : ∀ s : Fin 32, f s = (∑ i : Fin 256, square y target ⟨s.val * 256 + i.val, by omega⟩) * ((1 / 2048 : ℝ) : EReal)) :
    ∑ s, f s = loss y target := by
  unfold loss
  refine Eq.trans (Finset.sum_congr rfl fun s _ => (hf s).trans (sum_scaled _ _ (fun i => square_nonneg _ _ _) _)) ?_
  exact Fin.sum_mul_add_congr (f := fun r : Fin 8192 => square y target r * ((1 / 2048 : ℝ) : EReal)) (hL := by decide) fun s k hl => rfl

theorem word_features : Ideal.ofBits .f32 0x44800000#32 = ((1024 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_slope : Ideal.ofBits .f32 0x3A800000#32 = ((1 / 1024 : ℝ) : EReal) := by
  simp [Ideal.ofBits, Ideal.ieee, -EReal.coe_mul]; norm_num

theorem word_weight : Ideal.ofBits .f32 0x3A000000#32 = ((1 / 2048 : ℝ) : EReal) := by
  simp [Ideal.ofBits, Ideal.ieee, -EReal.coe_mul]; norm_num

/-- Half the sum of the means is the loss. -/
theorem loss_means : Ideal.ofBits .f32 0x3F000000#32 * ∑ r, Ideal.div (square y target r) (Ideal.ofBits .f32 0x44800000#32)
    = loss y target := by
  unfold loss
  rw [word_half, word_features, mul_comm, sum_scaled _ _ (fun r => ?_)]
  · refine Finset.sum_congr rfl fun r _ => ?_
    rw [Ideal.div_coe (by norm_num), mul_assoc, ← EReal.coe_mul]
    norm_num
  · rw [Ideal.div_coe (by norm_num)]
    exact mul_nonneg (square_nonneg _ _ _) (by norm_num)

end Cert.Forward

end
-- ==== Proof.Forward.Loss.lean ====
/- The last layer and the loss: the tokens after the gated layer, what the latent ones miss the target by, the loss and its slope. First
   what the call leaves, then the reference, then the claim. -/
module

public import proofs.«01_k».proof.Proof.Forward.Ffn
public import proofs.«01_k».proof.Proof.Forward.Target
public import proofs.«01_k».proof.Proof.Gen.LossIdeal.Value
public import proofs.«01_k».proof.Proof.Gen.LossRefIdeal.Run

@[expose] public section

set_option maxRecDepth 16384

noncomputable section

namespace Cert.LossIdeal.Forward

open Cert.LossIdeal Cert.LossIdeal.Gen Idealize.ShloMosaic Idealize.ShloMosaic.TcCoe Idealize.SL.Sem
open Cert.Forward (normed proj stream columns gated layer residual table piece miss square slope loss)

variable (m : (ℓ : Loc nD τ sig) → Buf (Elt Ideal) ℓ) (c : Dev nD)

/-- A token's normalised row, from the arguments. -/
abbrev row (r : Fin 8448) : Fin 1024 → EReal :=
  Cert.Forward.hidden (by decide) (m ((c : Thread nD τ).loc main_arg0)) (m ((c : Thread nD τ).loc main_arg1)) (m ((c : Thread nD τ).loc main_arg2)) r

/-- The gain as the call takes it is the argument. -/
theorem V_gain (a : Fin 1024) : V m c main_v0 (ix2 0 a) = m ((c : Thread nD τ).loc main_arg1) (ix1 a) := by
  have e : V m c main_v0 = broadcastInDim S1x1024 ![1] bcast_S1024_S1x1024_1 (m ((c : Thread nD τ).loc main_arg1)) := by
    after_reads_simp
  rw [e]
  pointwise

/-- The block of each input that visit `t` sees: its 256 tokens, the gain, the stream's modulation, the weights, its
    tokens' targets. -/
theorem index : ∀ t : Fin cfg0.N, (win0_0.index t 0 = t.val ∧ win0_0.index t 1 = 0) ∧ (win0_1.index t 0 = 0 ∧ win0_1.index t 1 = 0)
    ∧ (win0_2.index t 0 = min t.val 1 ∧ win0_2.index t 1 = 0 ∧ win0_2.index t 2 = 0) ∧ (win0_3.index t 0 = 0 ∧ win0_3.index t 1 = 0) ∧ (win0_4.index t 0 = 0 ∧ win0_4.index t 1 = 0)
    ∧ (win0_5.index t 0 = t.val - 1 ∧ win0_5.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = min t.val 1 ∧ win0_2.index t 1 = 0 ∧ win0_2.index t 2 = 0) ∧ (win0_3.index t 0 = 0 ∧ win0_3.index t 1 = 0) ∧ (win0_4.index t 0 = 0 ∧ win0_4.index t 1 = 0)
    ∧ (win0_5.index t 0 = t.val - 1 ∧ win0_5.index t 1 = 0))

/-- There are 33 visits. -/
theorem point (t : Fin cfg0.N) : t.val < 33 := t.isLt.trans_eq N_0

/-- The token in row `i` of visit `t`. -/
def tok (t : Fin cfg0.N) (i : Fin 256) : Fin 8448 := ⟨256 * t.val + i.val, by have := point t; omega⟩

/-- A visit sees its tokens. -/
theorem seen_x (t : Fin cfg0.N) (i : Fin 256) (a : Fin 1024) :
    iblk m c 0 t (ix2 i a) = m ((c : Thread nD τ).loc main_arg0) (ix2 (tok t i) a) := by
  have e := index t
  blk_ext [iblk, e.1.1, e.1.2, tok]

/-- Every visit sees the gain. -/
theorem seen_g (t : Fin cfg0.N) (a : Fin 1024) : iblk m c 1 t (ix2 0 a) = m ((c : Thread nD τ).loc main_arg1) (ix1 a) := by
  have e := index t
  rw [← V_gain m c a]
  blk_ext [iblk, e.2.1.1, e.2.1.2]

/-- A visit sees the modulation of its tokens' stream. -/
theorem seen_m (t : Fin cfg0.N) (i : Fin 256) (a : Fin 3072) :
    iblk m c 2 t (ix3 0 0 a) = m ((c : Thread nD τ).loc main_arg2) (ix3 (stream (tok t i)) 0 a) := by
  have e := index t
  have h : (stream (tok t i)).val = min t.val 1 := by
    unfold stream tok
    split <;> rename_i h <;> simp only at h ⊢ <;> omega
  blk_ext [iblk, e.2.2.1.1, e.2.2.1.2.1, e.2.2.1.2.2, h]

/-- Every visit sees the whole weight. -/
theorem seen_w (t : Fin cfg0.N) (a : Fin 1024) (n : Fin 5632) : iblk m c 3 t (ix2 a n) = m ((c : Thread nD τ).loc main_arg3) (ix2 a n) := by
  have e := index t
  blk_ext [iblk, e.2.2.2.1.1, e.2.2.2.1.2]

/-- Every visit sees the whole second weight. -/
theorem seen_v (t : Fin cfg0.N) (j : Fin 2816) (a : Fin 1024) : iblk m c 4 t (ix2 j a) = m ((c : Thread nD τ).loc main_arg4) (ix2 j a) := by
  have e := index t
  blk_ext [iblk, e.2.2.2.2.1.1, e.2.2.2.2.1.2]

/-- A visit after the first sees its tokens' targets. -/
theorem seen_target (t : Fin cfg0.N) (i : Fin 256) (a : Fin 1024) :
    iblk m c 5 t (ix2 i a) = m ((c : Thread nD τ).loc main_arg5) (ix2 ⟨256 * (t.val - 1) + i.val, by have := point t; omega⟩ a) := by
  have e := index t
  blk_ext [iblk, e.2.2.2.2.2.1, e.2.2.2.2.2.2]

/-- The rows that visit `t` normalises. -/
abbrev unit (t : Fin cfg0.N) : FVec Ideal S256x1024 .bf16 := k0_pay6 (F := Ideal) (iblk m c 2 t) (iblk m c 0 t) (iblk m c 1 t)

/-- They are those of its tokens. -/
theorem block_row (t : Fin cfg0.N) (i : Fin 256) (a : Fin 1024) : unit m c t (ix2 i a) = row m c (tok t i) a := by
  refine (Cert.FfnIdeal.Forward.unit_row (iblk m c 2 t) (iblk m c 0 t) (iblk m c 1 t) i a).trans ?_
  unfold row Cert.Forward.hidden
  simp only [seen_x, seen_g, seen_m m c t i]

/-- A token's row of the layer's first product. -/
abbrev first (r : Fin 8448) (j : Fin 5632) : EReal := proj (row m c r) (m ((c : Thread nD τ).loc main_arg3)) j

/-- Over what a visit sees, a product with the first weight is its token's. -/
theorem first_seen (t : Fin cfg0.N) (i : Fin 256) : proj (fun a => unit m c t (ix2 i a)) (iblk m c 3 t) = first m c (tok t i) := by
  funext j
  unfold first proj
  simp only [block_row, seen_w]

/-- The layer's output in visit `t`'s block. -/
abbrev fed (t : Fin cfg0.N) : FVec Ideal S256x1024 .f32 :=
  k0_pay16 (F := Ideal) (unit m c t) k0_pay7
    (k0_pay8 (iblk m c 2 t) (iblk m c 0 t) (iblk m c 1 t) (View.ld (iblk m c 3 t) (Rect.unit ![0, 0] ![1024, 1536] inb_S1024x5632_S1024x1536_0_0)))
    (k0_pay9 (iblk m c 2 t) (iblk m c 0 t) (iblk m c 1 t) (View.ld (iblk m c 3 t) (Rect.unit ![0, 2816] ![1024, 1536] inb_S1024x5632_S1024x1536_0_2816)))
    (View.ld (iblk m c 4 t) (Rect.unit ![0, 0] ![1536, 1024] inb_S2816x1024_S1536x1024_0_0))
    (View.ld (iblk m c 3 t) (Rect.unit ![0, 1536] ![1024, 1280] inb_S1024x5632_S1024x1280_0_1536))
    (View.ld (iblk m c 3 t) (Rect.unit ![0, 4352] ![1024, 1280] inb_S1024x5632_S1024x1280_0_4352))
    (View.ld (iblk m c 4 t) (Rect.unit ![1536, 0] ![1280, 1024] inb_S2816x1024_S1280x1024_1536_0))

/-- It is its tokens'. -/
theorem fed_seen (t : Fin cfg0.N) (i : Fin 256) (j : Fin 1024) :
    fed m c t (ix2 i j) = layer (first m c (tok t i)) (m ((c : Thread nD τ).loc main_arg4)) j := by
  refine (Cert.FfnIdeal.Forward.fed_block (iblk m c 2 t) (iblk m c 0 t) (iblk m c 1 t) (iblk m c 3 t) (iblk m c 4 t) i j).trans ?_
  refine (congrArg (fun u => layer u _ j) (first_seen m c t i)).trans ?_
  unfold layer
  simp only [seen_v]

/-- Visit `t` writes the rows of its own tokens. -/
theorem index_out : ∀ t : Fin cfg0.N, (win0_6.index t 0 = t.val ∧ win0_6.index t 1 = 0) ∧ (win0_7.index t 0 = t.val ∧ win0_7.index t 1 = 0)
    ∧ (win0_8.index t 0 = t.val ∧ win0_8.index t 1 = 0) :=
  (by decide +kernel : ∀ t : Fin grid0.N, (win0_6.index t 0 = t.val ∧ win0_6.index t 1 = 0) ∧ (win0_7.index t 0 = t.val ∧ win0_7.index t 1 = 0)
    ∧ (win0_8.index t 0 = t.val ∧ win0_8.index t 1 = 0))

/-- Where an entry of a visit's block lies in result 1 of the call. -/
theorem place6 (t : Fin cfg0.N) (i : Fin 256) (j : Fin 1024) :
    ((View.whole main_v1_0).slice (win0_6.rect t)).emb (ix2 i j) = ix2 (tok t i) j := by
  have e := index_out t
  blk_ext [e.1.1, e.1.2, tok]

/-- Where an entry of a visit's block lies in result 2 of the call. -/
theorem place7 (t : Fin cfg0.N) (i : Fin 256) (j : Fin 5632) :
    ((View.whole main_v1_1).slice (win0_7.rect t)).emb (ix2 i j) = ix2 (tok t i) j := by
  have e := index_out t
  blk_ext [e.2.1.1, e.2.1.2, tok]

/-- Where an entry of a visit's block lies in result 3 of the call. -/
theorem place8 (t : Fin cfg0.N) (i : Fin 256) (j : Fin 1024) :
    ((View.whole main_v1_2).slice (win0_8.rect t)).emb (ix2 i j) = ix2 (tok t i) j := by
  have e := index_out t
  blk_ext [e.2.2.1, e.2.2.2, tok]

/-- The third result: the layer's output. -/
theorem array8 : (dats m 0 c).arrAt 8 cfg0.N = table (k := .bf16) fun r => layer (first m c r) (m ((c : Thread nD τ).loc main_arg4)) := by
  refine (dats m 0 c).arrAt_eq_of_covers 8 _ (by decide +kernel) fun t hf y => ?_
  blk_simp
  rw [after0_8]
  obtain ⟨i, j, rfl⟩ : ∃ (i : Fin 256) (j : Fin 1024), y = ix2 i j := ⟨y 0, y 1, by funext a; fin_cases a <;> rfl⟩
  refine Eq.trans ?_ (congrArg _ (place8 t i j).symm)
  refine Eq.trans ?_ (fed_seen m c t i j)
  by_cases h0 : t.val % 33 = 0
  · rw [outsAt0_A m c t h0 (by have := point t; omega)]
    frame_out
    rfl
  · rw [outsAt0_B m c t h0 (by omega)]
    frame_out
    rfl

/-- A visit's product with the columns from `o` on, read where it lies in the result. -/
theorem piece_seen {n : ℕ} (t : Fin cfg0.N) (o : ℕ) (le : o + n ≤ 5632) (p : FVec Ideal ⟨2, ![256, n]⟩ .bf16)
    (hp : ∀ i (b : Fin n), p (ix2 i b) = ∑ a, unit m c t (ix2 i a)
      * iblk m c 3 t (ix2 a (⟨o + b.val, by omega⟩ : Fin 5632)))
    (i : Fin 256) (j : Fin 5632) (x : Shape.Idx ⟨2, ![256, n]⟩) (h0 : i.val = (x 0).val) (h1 : j.val = o + (x 1).val) :
    p x = columns (n := 5632) (row m c) (m ((c : Thread nD τ).loc main_arg3)) 0 (by decide) (ix2 (tok t i) j) :=
  (piece (fun i a => unit m c t (ix2 i a)) (iblk m c 3 t) o le p hp i j x h0 h1).trans
    ((congrFun (first_seen m c t i) j).trans (congrArg (proj _ _) (Fin.ext (Nat.zero_add _).symm)))

/-- The second result: the first product, written in four pieces. -/
theorem array7 : (dats m 0 c).arrAt 7 cfg0.N = columns (n := 5632) (row m c) (m ((c : Thread nD τ).loc main_arg3)) 0 (by decide) := by
  refine (dats m 0 c).arrAt_eq_of_covers 7 _ (by decide +kernel) fun t hf y => ?_
  blk_simp
  rw [after0_7]
  obtain ⟨i, j, rfl⟩ : ∃ (i : Fin 256) (j : Fin 5632), y = ix2 i j := ⟨y 0, y 1, by funext a; fin_cases a <;> rfl⟩
  refine Eq.trans ?_ (congrArg _ (place7 t i j).symm)
  have p4352 := fun x h0 h1 => piece_seen m c t 4352 (by decide) (k0_pay15 (F := Ideal) (unit m c t) (View.ld (iblk m c 3 t)
    (Rect.unit ![0, 4352] ![1024, 1280] inb_S1024x5632_S1024x1280_0_4352))) (fun i b => by unfold k0_pay15 k0_pay13; pointwise) i j x h0 h1
  have p1536 := fun x h0 h1 => piece_seen m c t 1536 (by decide) (k0_pay14 (F := Ideal) (unit m c t) (View.ld (iblk m c 3 t)
    (Rect.unit ![0, 1536] ![1024, 1280] inb_S1024x5632_S1024x1280_0_1536))) (fun i b => by unfold k0_pay14 k0_pay12; pointwise) i j x h0 h1
  have p2816 := fun x h0 h1 => piece_seen m c t 2816 (by decide) (k0_pay11 (F := Ideal) (iblk m c 2 t) (iblk m c 0 t) (iblk m c 1 t)
    (View.ld (iblk m c 3 t) (Rect.unit ![0, 2816] ![1024, 1536] inb_S1024x5632_S1024x1536_0_2816)))
    (fun i b => by unfold k0_pay11 k0_pay9; pointwise) i j x h0 h1
  have p0 := fun x h0 h1 => piece_seen m c t 0 (by decide) (k0_pay10 (F := Ideal) (iblk m c 2 t) (iblk m c 0 t) (iblk m c 1 t)
    (View.ld (iblk m c 3 t) (Rect.unit ![0, 0] ![1024, 1536] inb_S1024x5632_S1024x1536_0_0)))
    (fun i b => by unfold k0_pay10 k0_pay8; pointwise) i j x h0 h1
  by_cases h0 : t.val % 33 = 0
  · rw [outsAt0_A m c t h0 (by have := point t; omega)]
    frame_out
    canon_tiles x hx using (View.cover_of_tiledBy _ ![256, 256] (by sl_kernel_rfl) _)
    · exact p4352 x hx0 hx1
    · exact p1536 x hx0 hx1
    · exact p2816 x hx0 hx1
    · exact p0 x hx0 (hx1.trans (Nat.zero_add _).symm)
  · rw [outsAt0_B m c t h0 (by omega)]
    frame_out
    canon_tiles x hx using (View.cover_of_tiledBy _ ![256, 256] (by sl_kernel_rfl) _)
    · exact p4352 x hx0 hx1
    · exact p1536 x hx0 hx1
    · exact p2816 x hx0 hx1
    · exact p0 x hx0 (hx1.trans (Nat.zero_add _).symm)

/-- The tokens after the layer. -/
abbrev last : FVec Ideal ⟨2, ![8448, 1024]⟩ .f32 := residual (m ((c : Thread nD τ).loc main_arg0)) (m ((c : Thread nD τ).loc main_arg2))
    (fun r => layer (first m c r) (m ((c : Thread nD τ).loc main_arg4)))

/-- What visit `t`'s rows miss the block of the target by. -/
abbrev gap (t : Fin cfg0.N) : FVec Ideal S256x1024 .f32 :=
  k0_pay18 (F := Ideal) (k0_pay5 (iblk m c 2 t)) (iblk m c 0 t) (unit m c t) k0_pay7
    (k0_pay8 (iblk m c 2 t) (iblk m c 0 t) (iblk m c 1 t) (View.ld (iblk m c 3 t) (Rect.unit ![0, 0] ![1024, 1536] inb_S1024x5632_S1024x1536_0_0)))
    (k0_pay9 (iblk m c 2 t) (iblk m c 0 t) (iblk m c 1 t) (View.ld (iblk m c 3 t) (Rect.unit ![0, 2816] ![1024, 1536] inb_S1024x5632_S1024x1536_0_2816)))
    (View.ld (iblk m c 4 t) (Rect.unit ![0, 0] ![1536, 1024] inb_S2816x1024_S1536x1024_0_0))
    (View.ld (iblk m c 3 t) (Rect.unit ![0, 1536] ![1024, 1280] inb_S1024x5632_S1024x1280_0_1536))
    (View.ld (iblk m c 3 t) (Rect.unit ![0, 4352] ![1024, 1280] inb_S1024x5632_S1024x1280_0_4352))
    (View.ld (iblk m c 4 t) (Rect.unit ![1536, 0] ![1280, 1024] inb_S2816x1024_S1280x1024_1536_0)) (iblk m c 5 t)

/-- A visit after the first sees latent tokens, and misses their targets. -/
theorem gap_seen (t : Fin cfg0.N) (h : 1 ≤ t.val) (i : Fin 256) (j : Fin 1024) : gap m c t (ix2 i j)
    = miss (last m c) (m ((c : Thread nD τ).loc main_arg5)) ⟨256 * (t.val - 1) + i.val, by have := point t; omega⟩ j := by
  have e : (⟨256 + (256 * (t.val - 1) + i.val), by have := point t; omega⟩ : Fin 8448) = tok t i :=
    Fin.ext (by show 256 + (256 * (t.val - 1) + i.val) = 256 * t.val + i.val; omega)
  refine Eq.trans ?_ (congrArg (fun r => last m c (ix2 r j) - m ((c : Thread nD τ).loc main_arg5) (ix2 _ j)) e.symm)
  unfold gap k0_pay18 k0_pay5
  pointwise
  exact congrArg₂ (fun p q : EReal => p - q) (congrArg₂ (fun p q : EReal => p + q) (seen_x m c t i j)
    (congrArg₂ (fun p q : EReal => p * q) (seen_m m c t i ⟨2048 + j.val, by omega⟩) (fed_seen m c t i j))) (seen_target m c t i j)

/-- The call tells a visit after the first by its number. -/
theorem later : ∀ t : Fin cfg0.N, Scalar.cmpi .sgt (BitVec.ofNat 32 (grid0.coords t 0)) 0#32 = if 1 ≤ t.val then 1#1 else 0#1 :=
  (by decide +kernel : ∀ t : Fin grid0.N, Scalar.cmpi .sgt (BitVec.ofNat 32 (grid0.coords t 0)) 0#32 = if 1 ≤ t.val then 1#1 else 0#1)

/-- The first result: the loss's slope with respect to the tokens. -/
theorem array6 : (dats m 0 c).arrAt 6 cfg0.N = slope (last m c) (m ((c : Thread nD τ).loc main_arg5)) := by
  refine (dats m 0 c).arrAt_eq_of_covers 6 _ (by decide +kernel) fun t hf y => ?_
  blk_simp
  rw [after0_6]
  obtain ⟨i, j, rfl⟩ : ∃ (i : Fin 256) (j : Fin 1024), y = ix2 i j := ⟨y 0, y 1, by funext a; fin_cases a <;> rfl⟩
  refine Eq.trans ?_ (congrArg _ (place6 t i j).symm)
  by_cases h0 : t.val % 33 = 0
  · have h1 : ¬1 ≤ t.val := by have := point t; omega
    rw [outsAt0_A m c t h0 h1]
    frame_out
    unfold k0_pay1
    rw [later, if_neg h1]
    refine Eq.trans ?_ (dif_pos (show 256 * t.val + i.val < 256 by omega)).symm
    show k0_pay20 (F := Ideal) (ix2 i j) = 0
    unfold k0_pay20
    pointwise
  · have h1 : 1 ≤ t.val := by omega
    rw [outsAt0_B m c t h0 h1]
    frame_out
    unfold k0_pay1
    rw [later, if_pos h1]
    refine Eq.trans ?_ (dif_neg (show ¬256 * t.val + i.val < 256 by omega)).symm
    have e : (⟨256 * (t.val - 1) + i.val, by have := point t; omega⟩ : Fin 8192) = ⟨256 * t.val + i.val - 256, by have := point t; omega⟩ :=
      Fin.ext (by show 256 * (t.val - 1) + i.val = 256 * t.val + i.val - 256; omega)
    exact congrArg₂ (fun p q : EReal => p * q) ((gap_seen m c t h1 i j).trans (congrArg (fun r => miss _ _ r j) e)) Cert.Forward.word_slope

/-- What one visit adds to the loss, from what its rows miss. -/
theorem visit_adds (b : BitVec 32) (e : FVec Ideal S256x1024 .f32) (h : Scalar.cmpi .sgt b 0#32 = 1#1) :
    k0_pay2 (F := Ideal) b e = (∑ i : Fin 256, ∑ a : Fin 1024, e (ix2 i a) * e (ix2 i a)) * ((1 / 2048 : ℝ) : EReal) := by
  unfold k0_pay2
  rw [h]
  show _ * Ideal.ofBits .f32 0x3A000000#32 = _
  rw [Cert.Forward.word_weight]
  refine congrArg (fun p : EReal => p * _) ?_
  pointwise

/-- What visit `n + 1` adds to the loss. -/
def share (n : ℕ) : EReal := if h : n < 32 then
  (∑ i : Fin 256, square (last m c) (m ((c : Thread nD τ).loc main_arg5)) ⟨n * 256 + i.val, by omega⟩) * ((1 / 2048 : ℝ) : EReal) else 0

/-- The cell as the next visit takes it up. -/
theorem cast_same (z : FVec Ideal S1x1 .f32) (y : S1x1.Idx) : shapeCast S1x1 z shapeCasts_S1x1_S1x1 y = z y := by
  obtain ⟨r, a, rfl⟩ : ∃ (r : Fin 1) (a : Fin 1), y = ix2 r a := ⟨y 0, y 1, by funext a; fin_cases a <;> rfl⟩
  pointwise

/-- What the loss holds after visit `n`. -/
theorem held (n : ℕ) (hn : n < cfg0.N) (y : S1x1.Idx) : (outsAt0 m c n hn).2.2.2 y = ∑ k ∈ Finset.range n, share m c k := by
  induction n with
  | zero =>
    have e := congrArg (fun r => r.2.2.2 y) (outsAt0_A m c ⟨0, hn⟩ rfl (Nat.not_succ_le_zero 0))
    refine e.trans ?_
    frame_out
    unfold k0_pay3 k0_pay2
    rw [later, if_neg (Nat.not_succ_le_zero 0)]
    show Ideal.ofBits .f32 0x00000000#32 = _
    rw [Finset.sum_range_zero]
    exact Cert.KernelIdeal.Ret.word_zero
  | succ n ih =>
    have hN : n + 1 < 33 := hn.trans_eq N_0
    have h1 : 1 ≤ (⟨n + 1, hn⟩ : Fin cfg0.N).val := Nat.succ_pos n
    have e := congrArg (fun r => r.2.2.2 y) (outsAt0_B m c ⟨n + 1, hn⟩ (by show ¬(n + 1) % 33 = 0; omega) h1)
    refine e.trans ?_
    frame_out
    rw [Finset.sum_range_succ]
    unfold k0_pay4
    refine congrArg₂ (fun p q : EReal => p + q) ?_ ?_
    · exact (cast_same _ y).trans (ih _)
    · refine (visit_adds _ (gap m c ⟨n + 1, hn⟩) ((later _).trans (if_pos h1))).trans ?_
      unfold share
      rw [dif_pos (by omega)]
      refine congrArg (fun p : EReal => p * _) (Finset.sum_congr rfl fun i _ => Finset.sum_congr rfl fun a _ => ?_)
      rw [gap_seen m c ⟨n + 1, hn⟩ h1 i a]
      have e : (⟨256 * (n + 1 - 1) + i.val, by omega⟩ : Fin 8192) = ⟨n * 256 + i.val, by omega⟩ :=
        Fin.ext (by show 256 * (n + 1 - 1) + i.val = n * 256 + i.val; omega)
      exact congrArg (fun r => miss _ _ r a * miss _ _ r a) e

/-- The fourth result: the loss. -/
theorem array9 : (dats m 0 c).arrAt 9 cfg0.N = fun _ => loss (last m c) (m ((c : Thread nD τ).loc main_arg5)) := by
  refine (dats m 0 c).arrAt_eq_of_covers 9 _ (by decide +kernel) fun t hf y => ?_
  blk_simp
  rw [after0_9, held]
  have e : t.val = 32 := (by decide +kernel : ∀ t : Fin grid0.N, (cfg0.win 9).flush t = true → t.val = 32) t hf
  rw [e, Finset.sum_range]
  exact Cert.Forward.loss_visits _ _ _ fun s => dif_pos s.isLt

end Cert.LossIdeal.Forward

namespace Cert.LossRefIdeal.Forward

open Cert.LossRefIdeal Cert.LossRefIdeal.Gen Cert.LossRefIdeal.Value Idealize.ShloMosaic Idealize.ShloMosaic.TcCoe Idealize.ShloMosaic.StableHlo Idealize.SL.Sem
open Cert.Forward (proj layer residual table miss square slope loss)
open Cert.FfnRefIdeal.Forward (whole output added added_eq)

variable (m : (ℓ : Loc nD τ sig) → Buf (Elt Ideal) ℓ) (c : Dev nD)

/-- The reference ends, leaves its arguments as they were, and its semaphores are zero. -/
theorem frame (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => (h c).2.2.2.2, sem_eq_zero_of_no_sems (by decide) r.2⟩) (Cert.LossRefIdeal.Value.run m ρ)

/-- The tokens after the layer, as the reference adds them. -/
abbrev last : FVec Ideal S8448x1024 .f32 := added (m ((c : Thread nD τ).loc main_arg0)) (m ((c : Thread nD τ).loc main_arg1))
  (m ((c : Thread nD τ).loc main_arg2)) (m ((c : Thread nD τ).loc main_arg3)) (m ((c : Thread nD τ).loc main_arg4))

/-- What the latent ones miss the target by. -/
def gap (y : FVec Ideal S8448x1024 .f32) (target : FVec Ideal S8192x1024 .f32) : FVec Ideal S8192x1024 .f32 :=
  subf (extractStridedSlice S8192x1024 ![256, 0] y slices_S8448x1024_S8192x1024_256_0) target

/-- It, token by token. -/
theorem gap_apply (y : FVec Ideal S8448x1024 .f32) (target : FVec Ideal S8192x1024 .f32) (r : Fin 8192) (a : Fin 1024) :
    gap y target (ix2 r a) = miss y target r a := by
  unfold gap miss
  pointwise

/-- The slope's two factors are one. -/
theorem factors (e : EReal) : Ideal.div (Ideal.ofBits .f32 0x3F000000#32) (Ideal.ofBits .f32 0x44800000#32)
    * (Ideal.ofBits .f32 0x40000000#32 * e) = e * ((1 / 1024 : ℝ) : EReal) := by
  rw [Cert.Forward.word_half, Cert.Forward.word_features, Cert.KernelIdeal.Ret.word_two, Ideal.div_coe (by norm_num), mul_comm e,
    ← mul_assoc, ← EReal.coe_mul, ← EReal.coe_mul]
  norm_num

/-- The reference's first result: the slope. -/
theorem result_slope : res_out0 m c = slope (last m c) (m ((c : Thread nD τ).loc main_arg5)) := by
  have e : res_out0 m c = pad S8448x1024 ![256, 0] ![0, 0] ![0, 0] (mulf (broadcastInDim S8192x1024 ![0] bcast_S8192_S8192x1024_0
      (Host.divf (broadcastInDim S8192 ![] bcast_S_S8192 (mulf (constant S_ .f32 0x3F000000#32) (constant S_ .f32 0x3F800000#32)))
        (broadcastInDim S8192 ![] bcast_S_S8192 (constant S_ .f32 0x44800000#32))))
      (mulf (broadcastInDim S8192x1024 ![] bcast_S_S8192x1024 (constant S_ .f32 0x40000000#32)) (gap (last m c) (m ((c : Thread nD τ).loc main_arg5)))))
      (constant S_ .f32 0x00000000#32) pads_S8192x1024_S8448x1024_25600_000 h_S_ := rfl
  funext y
  obtain ⟨r, a, rfl⟩ : ∃ (r : Fin 8448) (a : Fin 1024), y = ix2 r a := ⟨y 0, y 1, by funext a; fin_cases a <;> rfl⟩
  rw [e]
  by_cases h : r.val < 256
  · refine Eq.trans ?_ (dif_pos h).symm
    pointwise
    exact dif_neg fun k => absurd k.1 (by omega)
  · refine Eq.trans ?_ (dif_neg h).symm
    pointwise
    rw [dif_pos ⟨by omega, by omega⟩, gap_apply, factors]

/-- The reference's fourth result: the loss. -/
theorem result_loss : res_out3 m c = fun _ => loss (last m c) (m ((c : Thread nD τ).loc main_arg5)) := by
  have e : res_out3 m c = shapeCast _ (mulf (constant S_ .f32 0x3F000000#32) (Host.reduceAdd (Host.divf (Host.reduceAdd
      (mulf (gap (last m c) (m ((c : Thread nD τ).loc main_arg5))) (gap (last m c) (m ((c : Thread nD τ).loc main_arg5)))) (constant S_ .f32 0x00000000#32)
        reducesTo_S8192x1024_S8192_d1 h_S_) (broadcastInDim S8192 ![] bcast_S_S8192 (constant S_ .f32 0x44800000#32))) (constant S_ .f32 0x00000000#32)
        reducesTo_S8192_S_d0 h_S_)) shapeCasts_S_S1x1 := rfl
  funext y
  obtain ⟨r, a, rfl⟩ : ∃ (r : Fin 1) (a : Fin 1), y = ix2 r a := ⟨y 0, y 1, by funext a; fin_cases a <;> rfl⟩
  rw [e]
  refine Eq.trans ?_ (Cert.Forward.loss_means _ _)
  pointwise
  simp only [gap_apply]
  rfl

end Cert.LossRefIdeal.Forward

namespace Cert.Forward

open Idealize.ShloMosaic Idealize.SL.Sem

/-- The four results of the call are the reference's, for all arguments. -/
theorem head : Cert.algebraic_LossIdeal_LossRefIdeal := by
  intro m g m' g' _ hagree
  refine ⟨fun c => (Cert.LossIdeal.Gen.dats m 0 c).arrAt 6 _, fun c => (Cert.LossIdeal.Gen.dats m 0 c).arrAt 7 _,
    fun c => (Cert.LossIdeal.Gen.dats m 0 c).arrAt 8 _, fun c => (Cert.LossIdeal.Gen.dats m 0 c).arrAt 9 _, Cert.LossIdeal.Value.run_blocks m g, ?_⟩
  refine (θ_run _ _ _).mono (fun r h c => ⟨(h c).1.trans ?_, (h c).2.1.trans ?_, (h c).2.2.1.trans ?_, (h c).2.2.2.1.trans ?_, (h c).2.2.2.2⟩)
    (Cert.LossRefIdeal.Value.run m' g')
  · refine (Cert.LossRefIdeal.Forward.result_slope m' c).trans (Eq.trans ?_ (Cert.LossIdeal.Forward.array6 m c).symm)
    refine congrArg₂ slope ((Cert.FfnRefIdeal.Forward.added_eq _ _ _ _ _).trans ?_) (hagree c).2.2.2.2.2
    rw [(hagree c).1, (hagree c).2.1, (hagree c).2.2.1, (hagree c).2.2.2.1, (hagree c).2.2.2.2.1]
  · rw [(hagree c).1, (hagree c).2.1, (hagree c).2.2.1, (hagree c).2.2.2.1]
    refine Eq.trans ?_ (Cert.LossIdeal.Forward.array7 m c).symm
    funext y
    obtain ⟨r, j, rfl⟩ : ∃ (r : Fin 8448) (j : Fin 5632), y = ix2 r j := ⟨y 0, y 1, by funext a; fin_cases a <;> rfl⟩
    refine (Cert.FfnRefIdeal.Forward.whole_apply _ _ _ _ r j).trans ?_
    exact congrArg (proj _ _) (Fin.ext (Nat.zero_add _).symm)
  · refine Eq.trans ?_ (Cert.LossIdeal.Forward.array8 m c).symm
    funext y
    obtain ⟨r, a, rfl⟩ : ∃ (r : Fin 8448) (a : Fin 1024), y = ix2 r a := ⟨y 0, y 1, by funext a; fin_cases a <;> rfl⟩
    refine (Cert.FfnRefIdeal.Forward.output_apply (m' ((c.tc : Thread _ _).loc Cert.LossRefIdeal.main_arg0)) (m' ((c.tc : Thread _ _).loc Cert.LossRefIdeal.main_arg1))
      (m' ((c.tc : Thread _ _).loc Cert.LossRefIdeal.main_arg2)) (m' ((c.tc : Thread _ _).loc Cert.LossRefIdeal.main_arg3))
      (m' ((c.tc : Thread _ _).loc Cert.LossRefIdeal.main_arg4)) r a).trans ?_
    rw [(hagree c).1, (hagree c).2.1, (hagree c).2.2.1, (hagree c).2.2.2.1, (hagree c).2.2.2.2.1]
    rfl
  · refine (Cert.LossRefIdeal.Forward.result_loss m' c).trans (Eq.trans ?_ (Cert.LossIdeal.Forward.array9 m c).symm)
    refine congrArg (fun l : EReal => fun _ : Shape.Idx ⟨2, ![1, 1]⟩ => l) (congrArg₂ loss ((Cert.FfnRefIdeal.Forward.added_eq _ _ _ _ _).trans ?_) (hagree c).2.2.2.2.2)
    rw [(hagree c).1, (hagree c).2.1, (hagree c).2.2.1, (hagree c).2.2.2.1, (hagree c).2.2.2.2.1]

end Cert.Forward

end
-- ==== Proof.Forward.Heads.lean ====
/- The mixer's way out in plain sums: each head of 512 columns over its root mean square, through the sigmoid's gate, then the layer's
   weight; the product is added to the tokens through their stream's gate. -/
module

public import proofs.«01_k».proof.Proof.Forward.Reference

@[expose] public section

noncomputable section

namespace Cert.Forward

open Idealize.ShloMosaic

/-- Entry `b` of the head that starts at column `s`: over the head's root mean square, times the gate. -/
def inHead (o g : Fin 2048 → EReal) (s : ℕ) (le : s + 512 ≤ 2048) (b : Fin 512) : EReal :=
  o ⟨s + b.val, by omega⟩ * Ideal.rsqrt (Ideal.div (∑ a : Fin 512, o ⟨s + a.val, by omega⟩ * o ⟨s + a.val, by omega⟩)
      (Ideal.ofBits FTy.f32 0x44000000#32) + Ideal.ofBits FTy.f32 0x358637BD#32)
    * (g ⟨s + b.val, by omega⟩ * Ideal.logistic (g ⟨s + b.val, by omega⟩))

/-- The row of all four heads. -/
def headed (o g : Fin 2048 → EReal) (j : Fin 2048) : EReal :=
  inHead o g (j.val / 512 * 512) (by omega) ⟨j.val % 512, Nat.mod_lt _ (by decide)⟩

/-- Column `j` of the row lies in its head. -/
theorem headed_of (o g : Fin 2048 → EReal) (j : Fin 2048) (s : ℕ) (le : s + 512 ≤ 2048) (b : Fin 512) (hs : s % 512 = 0)
    (h : j.val = s + b.val) : inHead o g s le b = headed o g j := by
  unfold headed
  have e : ∀ (s' : ℕ) (le' : s' + 512 ≤ 2048) (b' : Fin 512), s = s' → b = b' → inHead o g s le b = inHead o g s' le' b' := by
    rintro _ _ _ rfl rfl
    rfl
  exact e _ _ _ (by omega) (Fin.ext (by show b.val = j.val % 512; omega))

/-- The row times column `a` of the layer's weight. -/
def leaving (z : Fin 2048 → EReal) (w : FVec Ideal ⟨2, ![2048, 1024]⟩ .bf16) (a : Fin 1024) : EReal := ∑ k, z k * w (ix2 k a)

/-- The sum of the two directions and its gate at a token, as a row of four heads. -/
def heads (p q s : FVec Ideal ⟨2, ![8448, 2048]⟩ .bf16) (r : Fin 8448) : Fin 2048 → EReal :=
  headed (fun j => p (ix2 r j) + q (ix2 r j)) (fun j => s (ix2 r j))

/-- The tokens with a row added through their stream's gate. -/
def through (x : FVec Ideal ⟨2, ![8448, 1024]⟩ .f32) (m : FVec Ideal ⟨3, ![2, 1, 1024]⟩ .f32) (f : Fin 8448 → Fin 1024 → EReal) :
    FVec Ideal ⟨2, ![8448, 1024]⟩ .f32 := table fun r a => x (ix2 r a) + m (ix3 (stream r) 0 a) * f r a

/-- Each token's gate, where nothing lies beside it. -/
theorem modulation_apply_gate (m : FVec Ideal ⟨3, ![2, 1, 1024]⟩ .f32) (h₁ h₂ h₃ h₄ h₅ h₆) (r : Fin 8448) (a : Fin 1024) :
    modulation m h₁ h₂ h₃ h₄ h₅ h₆ (ix2 r a) = m (ix3 (stream r) 0 a) := by
  unfold modulation stream
  by_cases h : r.val < 256
  · rw [if_pos h]
    pointwise
    rw [dif_pos h]
  · rw [if_neg h]
    pointwise
    rw [dif_neg h]

end Cert.Forward

end
-- ==== Proof.Forward.Post.lean ====
/- The way out of the odd layer's mixer, as the call computes it. Each visit takes 256 tokens: it normalises and gates their four heads one
   after the other, multiplies the row by the weight and adds it to the tokens. What the call leaves, then the reference, then the claim. -/
module

public import proofs.«01_k».proof.Defs
public import proofs.«01_k».proof.Proof.Forward.Reference
public import proofs.«01_k».proof.Proof.Forward.Heads
public import proofs.«01_k».proof.Proof.Gen.PostIdeal.Value
public import proofs.«01_k».proof.Proof.Gen.PostRefIdeal.Run
public import Idealize.ShloMosaic.Lib.Pipeline.ReadBack
public import Idealize.ShloMosaic.Lib.StableHlo.RunRead

@[expose] public section

set_option maxRecDepth 16384

noncomputable section

namespace Cert.PostIdeal.Forward

open Cert.PostIdeal Cert.PostIdeal.Gen Idealize.ShloMosaic Idealize.ShloMosaic.TcCoe Idealize.SL.Sem
open Cert.Forward (stream table inHead headed headed_of leaving heads through)

/-- Entry `b` of the head at column `o`, in row `i` of a visit's block. -/
def entry (p q s : Vec Ideal S256x2048 .bf16) (i : Fin 256) (o : ℕ) (le : o + 512 ≤ 2048) (b : Fin 512) : EReal :=
  inHead (fun j => p (ix2 i j) + q (ix2 i j)) (fun j => s (ix2 i j)) o le b

/-- The first head of a visit's rows. -/
theorem head0 (p q s : Vec Ideal S256x2048 .bf16) (i : Fin 256) (b : Fin 512) :
    k0_pay4 (F := Ideal) p q s (ix2 i b) = entry p q s i 0 (by decide) b := by
  unfold k0_pay4 k0_pay2 k0_pay3 entry inHead
  pointwise

/-- The second. -/
theorem head1 (p q s : Vec Ideal S256x2048 .bf16) (i : Fin 256) (b : Fin 512) :
    k0_pay5 (F := Ideal) p q s (ix2 i b) = entry p q s i 512 (by decide) b := by
  unfold k0_pay5 k0_pay2 k0_pay3 entry inHead
  pointwise

/-- The third. -/
theorem head2 (p q s : Vec Ideal S256x2048 .bf16) (i : Fin 256) (b : Fin 512) :
    k0_pay6 (F := Ideal) (k0_pay2 p q) (k0_pay3 s) (ix2 i b)
      = entry p q s i 1024 (by decide) b := by
  unfold k0_pay6 k0_pay2 k0_pay3 entry inHead
  pointwise

/-- The fourth. -/
theorem head3 (p q s : Vec Ideal S256x2048 .bf16) (i : Fin 256) (b : Fin 512) :
    k0_pay7 (F := Ideal) (k0_pay2 p q) (k0_pay3 s) (ix2 i b)
      = entry p q s i 1536 (by decide) b := by
  unfold k0_pay7 k0_pay2 k0_pay3 entry inHead
  pointwise

variable (m : (ℓ : Loc nD τ sig) → Buf (Elt Ideal) ℓ) (c : Dev nD)

/-- The block of each input that visit `t` sees. -/
theorem index : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = min t.val 1 ∧ win0_5.index t 1 = 0 ∧ win0_5.index t 2 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = min t.val 1 ∧ win0_5.index t 1 = 0 ∧ win0_5.index t 2 = 0))

/-- There are 33 visits. -/
theorem point (t : Fin cfg0.N) : t.val < 33 := t.isLt.trans_eq N_0

/-- The token in row `i` of visit `t`. -/
def tok (t : Fin cfg0.N) (i : Fin 256) : Fin 8448 := ⟨256 * t.val + i.val, by have := point t; omega⟩

/-- A visit sees its tokens. -/
theorem seen_x (t : Fin cfg0.N) (i : Fin 256) (a : Fin 1024) :
    iblk m c 0 t (ix2 i a) = m ((c : Thread nD τ).loc main_arg0) (ix2 (tok t i) a) := by
  have e := index t
  blk_ext [iblk, e.1.1, e.1.2, tok]

/-- A visit sees its tokens' first direction. -/
theorem seen_p (t : Fin cfg0.N) (i : Fin 256) (j : Fin 2048) :
    iblk m c 1 t (ix2 i j) = m ((c : Thread nD τ).loc main_arg1) (ix2 (tok t i) j) := by
  have e := index t
  blk_ext [iblk, e.2.1.1, e.2.1.2, tok]

/-- A visit sees its tokens' second direction. -/
theorem seen_q (t : Fin cfg0.N) (i : Fin 256) (j : Fin 2048) :
    iblk m c 2 t (ix2 i j) = m ((c : Thread nD τ).loc main_arg2) (ix2 (tok t i) j) := by
  have e := index t
  blk_ext [iblk, e.2.2.1.1, e.2.2.1.2, tok]

/-- A visit sees its tokens' gates. -/
theorem seen_s (t : Fin cfg0.N) (i : Fin 256) (j : Fin 2048) :
    iblk m c 3 t (ix2 i j) = m ((c : Thread nD τ).loc main_arg3) (ix2 (tok t i) j) := by
  have e := index t
  blk_ext [iblk, e.2.2.2.1.1, e.2.2.2.1.2, tok]

/-- Every visit sees the whole weight. -/
theorem seen_w (t : Fin cfg0.N) (k : Fin 2048) (a : Fin 1024) : iblk m c 4 t (ix2 k a) = m ((c : Thread nD τ).loc main_arg4) (ix2 k a) := by
  have e := index t
  blk_ext [iblk, e.2.2.2.2.1.1, e.2.2.2.2.1.2]

/-- A visit sees the gate of its tokens' stream. -/
theorem seen_m (t : Fin cfg0.N) (i : Fin 256) (a : Fin 1024) :
    iblk m c 5 t (ix3 0 0 a) = m ((c : Thread nD τ).loc main_arg5) (ix3 (stream (tok t i)) 0 a) := by
  have e := index t
  have h : (stream (tok t i)).val = min t.val 1 := by
    unfold stream tok
    split <;> rename_i h <;> simp only at h ⊢ <;> omega
  blk_ext [iblk, e.2.2.2.2.2.1, e.2.2.2.2.2.2.1, e.2.2.2.2.2.2.2, h]

/-- A token's row of heads, from the arguments. -/
abbrev row (r : Fin 8448) : Fin 2048 → EReal :=
  heads (m ((c : Thread nD τ).loc main_arg1)) (m ((c : Thread nD τ).loc main_arg2)) (m ((c : Thread nD τ).loc main_arg3)) r

/-- A head's block, read where it lies in the row of its token. -/
theorem head_seen (t : Fin cfg0.N) (s : ℕ) (le : s + 512 ≤ 2048) (hs : s % 512 = 0) (z : FVec Ideal S256x512 .bf16)
    (hz : ∀ i b, z (ix2 i b) = entry (iblk m c 1 t) (iblk m c 2 t) (iblk m c 3 t) i s le b)
    (i : Fin 256) (j : Fin 2048) (x : Shape.Idx S256x512) (h0 : i.val = (x 0).val) (h1 : j.val = s + (x 1).val) :
    z x = row m c (tok t i) j := by
  obtain ⟨k, b, rfl⟩ : ∃ (k : Fin 256) (b : Fin 512), x = ix2 k b := ⟨x 0, x 1, by funext a; fin_cases a <;> rfl⟩
  obtain rfl : i = k := Fin.ext h0
  rw [hz]
  unfold entry
  simp only [seen_p, seen_q, seen_s]
  exact headed_of _ _ j s le b hs h1

/-- Visit `t` writes the rows of its own tokens. -/
theorem index_out : ∀ t : Fin cfg0.N, (win0_6.index t 0 = t.val ∧ win0_6.index t 1 = 0) ∧ (win0_7.index t 0 = t.val ∧ win0_7.index t 1 = 0)
    ∧ (win0_8.index t 0 = t.val ∧ win0_8.index t 1 = 0) :=
  (by decide +kernel : ∀ t : Fin grid0.N, (win0_6.index t 0 = t.val ∧ win0_6.index t 1 = 0) ∧ (win0_7.index t 0 = t.val ∧ win0_7.index t 1 = 0)
    ∧ (win0_8.index t 0 = t.val ∧ win0_8.index t 1 = 0))

/-- Where an entry of a visit's block lies in result 1 of the call. -/
theorem place6 (t : Fin cfg0.N) (i : Fin 256) (j : Fin 1024) :
    ((View.whole main_v0_0).slice (win0_6.rect t)).emb (ix2 i j) = ix2 (tok t i) j := by
  have e := index_out t
  blk_ext [e.1.1, e.1.2, tok]

/-- Where an entry of a visit's block lies in result 2 of the call. -/
theorem place7 (t : Fin cfg0.N) (i : Fin 256) (j : Fin 2048) :
    ((View.whole main_v0_1).slice (win0_7.rect t)).emb (ix2 i j) = ix2 (tok t i) j := by
  have e := index_out t
  blk_ext [e.2.1.1, e.2.1.2, tok]

/-- Where an entry of a visit's block lies in result 3 of the call. -/
theorem place8 (t : Fin cfg0.N) (i : Fin 256) (j : Fin 1024) :
    ((View.whole main_v0_2).slice (win0_8.rect t)).emb (ix2 i j) = ix2 (tok t i) j := by
  have e := index_out t
  blk_ext [e.2.2.1, e.2.2.2, tok]

/-- What a visit stores of its rows: the four heads, the last one first. -/
abbrev stores (t : Fin cfg0.N) : List (View.Piece (Elt Ideal) S256x2048 .bf16) :=
  [⟨Rect.unit ![0, 1536] ![256, 512] inb_S256x2048_S256x512_0_1536, k0_pay7 (k0_pay2 (iblk m c 1 t) (iblk m c 2 t)) (k0_pay3 (iblk m c 3 t))⟩,
    ⟨Rect.unit ![0, 1024] ![256, 512] inb_S256x2048_S256x512_0_1024, k0_pay6 (k0_pay2 (iblk m c 1 t) (iblk m c 2 t)) (k0_pay3 (iblk m c 3 t))⟩,
    ⟨Rect.unit ![0, 512] ![256, 512] inb_S256x2048_S256x512_0_512, k0_pay5 (iblk m c 1 t) (iblk m c 2 t) (iblk m c 3 t)⟩,
    ⟨Rect.unit ![0, 0] ![256, 512] inb_S256x2048_S256x512_0_0, k0_pay4 (iblk m c 1 t) (iblk m c 2 t) (iblk m c 3 t)⟩]

/-- They leave the tokens' rows of heads. -/
theorem stored (t : Fin cfg0.N) (i : Fin 256) (j : Fin 2048) : View.canon (stores m c t) (ix2 i j) = row m c (tok t i) j := by
  unfold stores
  canon_tiles x hx using (View.cover_of_tiledBy _ ![256, 512] (by sl_kernel_rfl) _)
  · exact head_seen m c t 1536 (by decide) (by decide) _ (fun i b => head3 _ _ _ i b) i j x hx0 hx1
  · exact head_seen m c t 1024 (by decide) (by decide) _ (fun i b => head2 _ _ _ i b) i j x hx0 hx1
  · exact head_seen m c t 512 (by decide) (by decide) _ (fun i b => head1 _ _ _ i b) i j x hx0 hx1
  · exact head_seen m c t 0 (by decide) (by decide) _ (fun i b => head0 _ _ _ i b) i j x hx0 (hx1.trans (Nat.zero_add _).symm)

/-- What the product reads back of them. -/
abbrev back (t : Fin cfg0.N) : Vec Ideal S256x2048 .bf16 :=
  (ms0_7 t).view.readCov (stores m c t)
    (Rect.unit (s := S256x2048) (![0, 0] : Fin 2 → ℕ) (![256, 2048] : Fin 2 → ℕ) inb_S256x2048_S256x2048_0_0).toLoadRect

/-- The product reads the whole row back. -/
theorem read_back (t : Fin cfg0.N) (i : Fin 256) (j : Fin 2048) : back m c t (ix2 i j) = row m c (tok t i) j := by
  unfold back
  rw [View.readCov_eq_canon']
  exact (congrFun (View.ld_unit_zero (by funext a; fin_cases a <;> rfl) _ (View.canon (stores m c t))) (ix2 i j)).trans (stored m c t i j)

/-- The product at an entry. -/
theorem leave_block (z : Vec Ideal S256x2048 .bf16) (w : Vec Ideal S2048x1024 .bf16) (i : Fin 256) (j : Fin 1024) :
    k0_pay8 (F := Ideal) z w (ix2 i j) = leaving (fun k => z (ix2 i k)) w j := by
  unfold k0_pay8 leaving
  pointwise

/-- Over what a visit stored and sees, the product is that of its token's row. -/
theorem leave_seen (t : Fin cfg0.N) (i : Fin 256) (j : Fin 1024) :
    k0_pay8 (F := Ideal) (back m c t)
      (iblk m c 4 t) (ix2 i j) = leaving (row m c (tok t i)) (m ((c : Thread nD τ).loc main_arg4)) j := by
  rw [leave_block]
  unfold leaving
  exact Finset.sum_congr rfl fun k _ => congrArg₂ (fun p q : EReal => p * q) (read_back m c t i k) (seen_w m c t k j)

/-- The first result: the tokens with the product added through the gate. -/
theorem array6 : (dats m 0 c).arrAt 6 cfg0.N = through (m ((c : Thread nD τ).loc main_arg0)) (m ((c : Thread nD τ).loc main_arg5))
    (fun r => leaving (row m c r) (m ((c : Thread nD τ).loc main_arg4))) := by
  refine (dats m 0 c).arrAt_eq_of_covers 6 _ (by decide +kernel) fun t hf y => ?_
  blk_simp
  rw [after0_6]
  unfold outsAt0
  frame_out
  obtain ⟨i, j, rfl⟩ : ∃ (i : Fin 256) (j : Fin 1024), y = ix2 i j := ⟨y 0, y 1, by funext a; fin_cases a <;> rfl⟩
  refine Eq.trans ?_ (congrArg _ (place6 t i j).symm)
  unfold k0_pay1
  pointwise
  exact congrArg₂ (fun p q : EReal => p + q) (seen_x m c t i j)
    (congrArg₂ (fun p q : EReal => p * q) (seen_m m c t i j) (leave_seen m c t i j))

/-- The second result: the rows of heads. -/
theorem array7 : (dats m 0 c).arrAt 7 cfg0.N = table (k := .bf16) (row m c) := by
  refine (dats m 0 c).arrAt_eq_of_covers 7 _ (by decide +kernel) fun t hf y => ?_
  blk_simp
  rw [after0_7]
  unfold outsAt0
  frame_out
  obtain ⟨i, j, rfl⟩ : ∃ (i : Fin 256) (j : Fin 2048), y = ix2 i j := ⟨y 0, y 1, by funext a; fin_cases a <;> rfl⟩
  refine Eq.trans ?_ (congrArg _ (place7 t i j).symm)
  exact stored m c t i j

/-- The third result: the product. -/
theorem array8 : (dats m 0 c).arrAt 8 cfg0.N = table (k := .bf16) fun r => leaving (row m c r) (m ((c : Thread nD τ).loc main_arg4)) := by
  refine (dats m 0 c).arrAt_eq_of_covers 8 _ (by decide +kernel) fun t hf y => ?_
  blk_simp
  rw [after0_8]
  unfold outsAt0
  frame_out
  obtain ⟨i, j, rfl⟩ : ∃ (i : Fin 256) (j : Fin 1024), y = ix2 i j := ⟨y 0, y 1, by funext a; fin_cases a <;> rfl⟩
  refine Eq.trans ?_ (congrArg _ (place8 t i j).symm)
  unfold k0_pay9
  exact leave_seen m c t i j

end Cert.PostIdeal.Forward

namespace Cert.PostRefIdeal.Forward

open Cert.PostRefIdeal Cert.PostRefIdeal.Gen Idealize.ShloMosaic Idealize.ShloMosaic.TcCoe Idealize.ShloMosaic.StableHlo Idealize.SL.Sem
open Cert.Forward (modulation table inHead headed headed_of leaving heads through)

variable (x : FVec Ideal S8448x1024 .f32) (p q s : FVec Ideal S8448x2048 .bf16) (w : FVec Ideal S2048x1024 .bf16) (d : FVec Ideal S2x1x1024 .f32)

/-- The sum of the two directions, head by head. -/
def both : FVec Ideal S8448x4x512 .f32 :=
  shapeCast _ (addf (extf .f32 p bitsLt_bf16_f32) (extf .f32 q bitsLt_bf16_f32)) shapeCasts_S8448x2048_S8448x4x512

/-- The gates, head by head. -/
def gates : FVec Ideal S8448x4x512 .f32 := extf .f32 (shapeCast S8448x4x512 s shapeCasts_S8448x2048_S8448x4x512) bitsLt_bf16_f32

/-- The heads, normalised and gated, as rows. -/
def lined : FVec Ideal S8448x2048 .f32 :=
  shapeCast _ (mulf (mulf (both p q) (broadcastInDim S8448x4x512 ![0, 1, 2] bcast_S8448x4x1_S8448x4x512_0_1_2
      (Host.rsqrt (addf (Host.divf (broadcastInDim S8448x4x1 ![0, 1] bcast_S8448x4_S8448x4x1_0_1
          (Host.reduceAdd (mulf (both p q) (both p q)) (constant S_ .f32 0x00000000#32) reducesTo_S8448x4x512_S8448x4_d2 h_S_))
        (broadcastInDim S8448x4x1 ![] bcast_S_S8448x4x1 (constant S_ .f32 0x44000000#32)))
        (broadcastInDim S8448x4x1 ![] bcast_S_S8448x4x1 (constant S_ .f32 0x358637BD#32))))))
    (mulf (gates s) (Host.divf (broadcastInDim S8448x4x512 ![] bcast_S_S8448x4x512 (constant S_ .f32 0x3F800000#32))
      (addf (broadcastInDim S8448x4x512 ![] bcast_S_S8448x4x512 (constant S_ .f32 0x3F800000#32))
        (Host.exp (Host.negf (gates s))))))) shapeCasts_S8448x4x512_S8448x2048

/-- The sum of the directions at a token, a head and an entry. -/
theorem both_apply (r : Fin 8448) (h : Fin 4) (b : Fin 512) :
    both p q (ix3 r h b) = p (ix2 r ⟨h.val * 512 + b.val, by omega⟩) + q (ix2 r ⟨h.val * 512 + b.val, by omega⟩) := by
  unfold both
  pointwise

/-- The gate there. -/
theorem gates_apply (r : Fin 8448) (h : Fin 4) (b : Fin 512) : gates s (ix3 r h b) = s (ix2 r ⟨h.val * 512 + b.val, by omega⟩) := by
  unfold gates
  pointwise

/-- A token's row of heads. -/
theorem lined_apply (r : Fin 8448) (j : Fin 2048) : lined p q s (ix2 r j) = heads p q s r j := by
  unfold lined heads headed inHead
  pointwise
  simp only [both_apply, gates_apply]
  rfl

/-- The product with the layer's weight. -/
def output : FVec Ideal S8448x1024 .f32 :=
  Host.dotGeneral dot_S8448x2048_S2048x1024_S8448x1024_1_0_0_1_n_n none (lined p q s) (extf .f32 w bitsLt_bf16_f32)

/-- The product at a token and a column. -/
theorem output_apply (r : Fin 8448) (a : Fin 1024) : output p q s w (ix2 r a) = leaving (heads p q s r) w a := by
  unfold output leaving
  pointwise
  simp only [lined_apply]

/-- The tokens with the product added through the gate. -/
def added : FVec Ideal S8448x1024 .f32 :=
  addf x (mulf (modulation d slices_S2x1x1024_S1x1x1024_0_0_0 slices_S2x1x1024_S1x1x1024_1_0_0 shapeCasts_S1x1x1024_S1x1024
    bcast_S1x1024_S256x1024_0_1 bcast_S1x1024_S8192x1024_0_1 concatenates_S256x1024_S8192x1024_S8448x1024_d0) (output p q s w))

/-- These tokens, row by row. -/
theorem added_eq : added x p q s w d = through x d fun r => leaving (heads p q s r) w := by
  funext y
  obtain ⟨r, a, rfl⟩ : ∃ (r : Fin 8448) (a : Fin 1024), y = ix2 r a := ⟨y 0, y 1, by funext a; fin_cases a <;> rfl⟩
  unfold added
  pointwise
  rw [output_apply]
  exact congrArg₂ (fun p q : EReal => p + q) rfl (congrArg₂ (fun p q : EReal => p * q)
    (Cert.Forward.modulation_apply_gate _ _ _ _ _ _ _ r a) rfl)

/-- The rows of heads, as the reference stores them. -/
theorem lined_eq : truncf .bf16 (lined p q s) bitsLt_bf16_f32 = table (k := .bf16) (heads p q s) := by
  funext y
  obtain ⟨r, j, rfl⟩ : ∃ (r : Fin 8448) (j : Fin 2048), y = ix2 r j := ⟨y 0, y 1, by funext a; fin_cases a <;> rfl⟩
  exact lined_apply p q s r j

/-- The product, as the reference stores it. -/
theorem output_eq : truncf .bf16 (output p q s w) bitsLt_bf16_f32 = table (k := .bf16) fun r => leaving (heads p q s r) w := by
  funext y
  obtain ⟨r, a, rfl⟩ : ∃ (r : Fin 8448) (a : Fin 1024), y = ix2 r a := ⟨y 0, y 1, by funext a; fin_cases a <;> rfl⟩
  exact output_apply p q s w r a

/-- The reference ends, leaves its arguments as they were, and its semaphores are zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => (h c).2.2.2, sem_eq_zero_of_no_sems (by decide) r.2⟩) (Cert.PostRefIdeal.Value.run m ρ)

end Cert.PostRefIdeal.Forward

namespace Cert.Forward

open Idealize.ShloMosaic Idealize.SL.Sem

/-- The three results of the call are the reference's, for all arguments. -/
theorem post : Cert.algebraic_PostIdeal_PostRefIdeal := by
  intro m g m' g' _ hagree
  refine ⟨fun c => (Cert.PostIdeal.Gen.dats m 0 c).arrAt 6 _, fun c => (Cert.PostIdeal.Gen.dats m 0 c).arrAt 7 _,
    fun c => (Cert.PostIdeal.Gen.dats m 0 c).arrAt 8 _, Cert.PostIdeal.Value.run_blocks m g, ?_⟩
  refine (θ_run _ _ _).mono (fun r h c => ⟨(h c).1.trans ?_, (h c).2.1.trans ?_, (h c).2.2.1.trans ?_, (h c).2.2.2⟩)
    (Cert.PostRefIdeal.Value.run m' g')
  all_goals simp only [(hagree c).1, (hagree c).2.1, (hagree c).2.2.1, (hagree c).2.2.2.1, (hagree c).2.2.2.2.1, (hagree c).2.2.2.2.2]
  · refine (Cert.PostRefIdeal.Forward.added_eq _ _ _ _ _ _).trans (Eq.trans ?_ (Cert.PostIdeal.Forward.array6 m c).symm)
    rw [(hagree c).2.2.2.2.2]
  · exact (Cert.PostRefIdeal.Forward.lined_eq _ _ _).trans (Cert.PostIdeal.Forward.array7 m c).symm
  · exact (Cert.PostRefIdeal.Forward.output_eq _ _ _ _).trans (Cert.PostIdeal.Forward.array8 m c).symm

end Cert.Forward

end
-- ==== Proof.Forward.Joined.lean ====
/- The even layer's way out of the mixer in plain sums: the attention's 512 columns, then four heads of 128 columns, each over its root mean
   square, times the gain, through the sigmoid's gate. The tokens come as two arrays, the context's and the latent ones. -/
module

public import proofs.«01_k».proof.Proof.Forward.Heads

@[expose] public section

noncomputable section

namespace Cert.Forward

open Idealize.ShloMosaic

/-- Entry `b` of the head that starts at column `s`. -/
def narrow (o g : Fin 512 → EReal) (u : Fin 128 → EReal) (s : ℕ) (le : s + 128 ≤ 512) (b : Fin 128) : EReal :=
  o ⟨s + b.val, by omega⟩ * Ideal.rsqrt (Ideal.div (∑ a : Fin 128, o ⟨s + a.val, by omega⟩ * o ⟨s + a.val, by omega⟩)
      (Ideal.ofBits FTy.f32 0x43000000#32) + Ideal.ofBits FTy.f32 0x358637BD#32) * u b
    * (g ⟨s + b.val, by omega⟩ * Ideal.logistic (g ⟨s + b.val, by omega⟩))

/-- The four heads side by side. -/
def narrowed (o g : Fin 512 → EReal) (u : Fin 128 → EReal) (j : Fin 512) : EReal :=
  narrow o g u (j.val / 128 * 128) (by omega) ⟨j.val % 128, Nat.mod_lt _ (by decide)⟩

/-- The attention's columns, then the heads. -/
def joined (a o g : Fin 512 → EReal) (u : Fin 128 → EReal) (j : Fin 1024) : EReal :=
  if h : j.val < 512 then a ⟨j.val, h⟩ else narrowed o g u ⟨j.val - 512, by omega⟩

/-- A column of a head, where it lies in the row. -/
theorem joined_head (a o g : Fin 512 → EReal) (u : Fin 128 → EReal) (j : Fin 1024) (s : ℕ) (le : s + 128 ≤ 512) (b : Fin 128) (hs : s % 128 = 0)
    (h : j.val = 512 + s + b.val) : narrow o g u s le b = joined a o g u j := by
  unfold joined narrowed
  rw [dif_neg (by omega)]
  have e : ∀ (s' : ℕ) (le' : s' + 128 ≤ 512) (b' : Fin 128), s = s' → b = b' → narrow o g u s le b = narrow o g u s' le' b' := by
    rintro _ _ _ rfl rfl
    rfl
  exact e _ _ _ (by show s = (j.val - 512) / 128 * 128; omega) (Fin.ext (by show b.val = (j.val - 512) % 128; omega))

/-- A token's row, from the arrays. -/
def merged (a p q : FVec Ideal ⟨2, ![8448, 512]⟩ .f32) (g : FVec Ideal ⟨2, ![8448, 2560]⟩ .f32) (u : FVec Ideal ⟨2, ![1, 128]⟩ .f32)
    (r : Fin 8448) : Fin 1024 → EReal :=
  joined (fun j => a (ix2 r j)) (fun j => p (ix2 r j) + q (ix2 r j)) (fun j => g (ix2 r ⟨2048 + j.val, by omega⟩)) (fun b => u (ix2 0 b))

/-- The row times column `a` of the layer's weight. -/
def merging (z : Fin 1024 → EReal) (w : FVec Ideal ⟨2, ![1024, 1024]⟩ .bf16) (a : Fin 1024) : EReal := ∑ k, z k * w (ix2 k a)

/-- The tokens of both streams: the context's first. -/
def streams (x : FVec Ideal ⟨2, ![256, 1024]⟩ .f32) (y : FVec Ideal ⟨2, ![8192, 1024]⟩ .f32) (r : Fin 8448) (a : Fin 1024) : EReal :=
  if h : r.val < 256 then x (ix2 ⟨r.val, h⟩ a) else y (ix2 ⟨r.val - 256, by omega⟩ a)

/-- They with a row added through their stream's gate. -/
def onto (x : FVec Ideal ⟨2, ![256, 1024]⟩ .f32) (y : FVec Ideal ⟨2, ![8192, 1024]⟩ .f32) (m : FVec Ideal ⟨3, ![2, 1, 1024]⟩ .f32)
    (f : Fin 8448 → Fin 1024 → EReal) : FVec Ideal ⟨2, ![8448, 1024]⟩ .f32 :=
  table fun r a => streams x y r a + m (ix3 (stream r) 0 a) * f r a

end Cert.Forward

end
-- ==== Proof.Forward.Merge.lean ====
/- The way out of the even layer's mixer, as the call computes it. Each visit takes 256 tokens, the first one the context's: it puts the
   attention's columns and the four gated heads side by side, multiplies the row by the weight and adds it to the tokens. What the call
   leaves, then the reference, then the claim. -/
module

public import proofs.«01_k».proof.Defs
public import proofs.«01_k».proof.Proof.Forward.Joined
public import proofs.«01_k».proof.Proof.Gen.MergeIdeal.Value
public import proofs.«01_k».proof.Proof.Gen.MergeRefIdeal.Run
public import Idealize.ShloMosaic.Lib.Pipeline.ReadBack
public import Idealize.ShloMosaic.Lib.StableHlo.RunRead

@[expose] public section

set_option maxRecDepth 16384

noncomputable section

namespace Cert.MergeIdeal.Forward

open Cert.MergeIdeal Cert.MergeIdeal.Gen Idealize.ShloMosaic Idealize.ShloMosaic.TcCoe Idealize.SL.Sem
open Cert.Forward (stream table narrow joined joined_head merged merging streams onto)

/-- Entry `b` of the head at column `o`, in row `i` of a visit's block. -/
def entry (p q s : Vec Ideal S256x512 .f32) (u : Vec Ideal S1x128 .f32) (i : Fin 256) (o : ℕ) (le : o + 128 ≤ 512) (b : Fin 128) : EReal :=
  narrow (fun j => p (ix2 i j) + q (ix2 i j)) (fun j => s (ix2 i j)) (fun b => u (ix2 0 b)) o le b

/-- The first head of a visit's rows. -/
theorem head0 (p q s : Vec Ideal S256x512 .f32) (u : Vec Ideal S1x128 .f32) (i : Fin 256) (b : Fin 128) :
    k0_pay7 (F := Ideal) p q s u (ix2 i b) = entry p q s u i 0 (by decide) b := by
  unfold k0_pay7 k0_pay5 entry narrow
  pointwise

/-- The second. -/
theorem head1 (p q s : Vec Ideal S256x512 .f32) (u : Vec Ideal S1x128 .f32) (i : Fin 256) (b : Fin 128) :
    k0_pay11 (F := Ideal) (k0_pay8 p q) (k0_pay9 s) (k0_pay10 p q) u (ix2 i b) = entry p q s u i 128 (by decide) b := by
  unfold k0_pay11 k0_pay8 k0_pay9 k0_pay10 k0_pay8 k0_pay5 entry narrow
  pointwise

/-- The third. -/
theorem head2 (p q s : Vec Ideal S256x512 .f32) (u : Vec Ideal S1x128 .f32) (i : Fin 256) (b : Fin 128) :
    k0_pay12 (F := Ideal) (k0_pay5 p q) s u (ix2 i b) = entry p q s u i 256 (by decide) b := by
  unfold k0_pay12 k0_pay5 entry narrow
  pointwise

/-- The fourth. -/
theorem head3 (p q s : Vec Ideal S256x512 .f32) (u : Vec Ideal S1x128 .f32) (i : Fin 256) (b : Fin 128) :
    k0_pay1 (F := Ideal) (k0_pay13 s) (k0_pay14 (k0_pay5 p q)) u (ix2 i b) = entry p q s u i 384 (by decide) b := by
  unfold k0_pay1 k0_pay13 k0_pay14 k0_pay5 entry narrow
  pointwise

variable (m : (ℓ : Loc nD τ sig) → Buf (Elt Ideal) ℓ) (c : Dev nD)

/-- The block of each input that visit `t` sees. -/
theorem index : ∀ t : Fin cfg0.N, (win0_0.index t 0 = 0 ∧ win0_0.index t 1 = 0) ∧ (win0_1.index t 0 = t.val - 1 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 4) ∧ (win0_5.index t 0 = 0 ∧ win0_5.index t 1 = 0)
    ∧ (win0_6.index t 0 = t.val ∧ win0_6.index t 1 = 0) ∧ (win0_7.index t 0 = 0 ∧ win0_7.index t 1 = 0)
    ∧ (win0_8.index t 0 = min t.val 1 ∧ win0_8.index t 1 = 0 ∧ win0_8.index t 2 = 0) :=
  (by decide +kernel : ∀ t : Fin grid0.N, (win0_0.index t 0 = 0 ∧ win0_0.index t 1 = 0) ∧ (win0_1.index t 0 = t.val - 1 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 4) ∧ (win0_5.index t 0 = 0 ∧ win0_5.index t 1 = 0)
    ∧ (win0_6.index t 0 = t.val ∧ win0_6.index t 1 = 0) ∧ (win0_7.index t 0 = 0 ∧ win0_7.index t 1 = 0)
    ∧ (win0_8.index t 0 = min t.val 1 ∧ win0_8.index t 1 = 0 ∧ win0_8.index t 2 = 0))

/-- There are 33 visits. -/
theorem point (t : Fin cfg0.N) : t.val < 33 := t.isLt.trans_eq N_0

/-- The token in row `i` of visit `t`. -/
def tok (t : Fin cfg0.N) (i : Fin 256) : Fin 8448 := ⟨256 * t.val + i.val, by have := point t; omega⟩

/-- Every visit sees the context's tokens. -/
theorem seen_c (t : Fin cfg0.N) (i : Fin 256) (a : Fin 1024) :
    iblk m c 0 t (ix2 i a) = m ((c : Thread nD τ).loc main_arg0) (ix2 i a) := by
  have e := index t
  blk_ext [iblk, e.1.1, e.1.2]

/-- A visit after the first sees its latent tokens. -/
theorem seen_l (t : Fin cfg0.N) (h : t.val ≠ 0) (i : Fin 256) (a : Fin 1024) :
    iblk m c 1 t (ix2 i a) = m ((c : Thread nD τ).loc main_arg1) (ix2 ⟨(tok t i).val - 256, by omega⟩ a) := by
  have e := index t
  have k : (tok t i).val - 256 = 256 * (t.val - 1) + i.val := by unfold tok; simp only; omega
  blk_ext [iblk, e.2.1.1, e.2.1.2, k]

/-- A visit sees its tokens' first direction. -/
theorem seen_p (t : Fin cfg0.N) (i : Fin 256) (j : Fin 512) :
    iblk m c 2 t (ix2 i j) = m ((c : Thread nD τ).loc main_arg2) (ix2 (tok t i) j) := by
  have e := index t
  blk_ext [iblk, e.2.2.1.1, e.2.2.1.2, tok]

/-- A visit sees its tokens' second direction. -/
theorem seen_q (t : Fin cfg0.N) (i : Fin 256) (j : Fin 512) :
    iblk m c 3 t (ix2 i j) = m ((c : Thread nD τ).loc main_arg3) (ix2 (tok t i) j) := by
  have e := index t
  blk_ext [iblk, e.2.2.2.1.1, e.2.2.2.1.2, tok]

/-- A visit sees its tokens' gates: the last 512 of the columns that they come with. -/
theorem seen_s (t : Fin cfg0.N) (i : Fin 256) (j : Fin 512) :
    iblk m c 4 t (ix2 i j) = m ((c : Thread nD τ).loc main_arg4) (ix2 (tok t i) ⟨2048 + j.val, by omega⟩) := by
  have e := index t
  blk_ext [iblk, e.2.2.2.2.1.1, e.2.2.2.2.1.2, tok]

/-- Every visit sees the gain. -/
theorem seen_u (t : Fin cfg0.N) (b : Fin 128) : iblk m c 5 t (ix2 0 b) = m ((c : Thread nD τ).loc main_arg5) (ix2 0 b) := by
  have e := index t
  blk_ext [iblk, e.2.2.2.2.2.1.1, e.2.2.2.2.2.1.2]

/-- A visit sees its tokens' attention. -/
theorem seen_a (t : Fin cfg0.N) (i : Fin 256) (j : Fin 512) :
    iblk m c 6 t (ix2 i j) = m ((c : Thread nD τ).loc main_arg6) (ix2 (tok t i) j) := by
  have e := index t
  blk_ext [iblk, e.2.2.2.2.2.2.1.1, e.2.2.2.2.2.2.1.2, tok]

/-- Every visit sees the whole weight. -/
theorem seen_w (t : Fin cfg0.N) (k : Fin 1024) (a : Fin 1024) : iblk m c 7 t (ix2 k a) = m ((c : Thread nD τ).loc main_arg7) (ix2 k a) := by
  have e := index t
  blk_ext [iblk, e.2.2.2.2.2.2.2.1.1, e.2.2.2.2.2.2.2.1.2]

/-- A visit sees the gate of its tokens' stream. -/
theorem seen_m (t : Fin cfg0.N) (i : Fin 256) (a : Fin 1024) :
    iblk m c 8 t (ix3 0 0 a) = m ((c : Thread nD τ).loc main_arg8) (ix3 (stream (tok t i)) 0 a) := by
  have e := index t
  have h : (stream (tok t i)).val = min t.val 1 := by
    unfold stream tok
    split <;> rename_i h <;> simp only at h ⊢ <;> omega
  blk_ext [iblk, e.2.2.2.2.2.2.2.2.1, e.2.2.2.2.2.2.2.2.2.1, e.2.2.2.2.2.2.2.2.2.2, h]

/-- A token's row, from the arguments. -/
abbrev row (r : Fin 8448) : Fin 1024 → EReal :=
  merged (m ((c : Thread nD τ).loc main_arg6)) (m ((c : Thread nD τ).loc main_arg2)) (m ((c : Thread nD τ).loc main_arg3))
    (m ((c : Thread nD τ).loc main_arg4)) (m ((c : Thread nD τ).loc main_arg5)) r

/-- A head's block, read where it lies in the row of its token. -/
theorem head_seen (t : Fin cfg0.N) (s : ℕ) (le : s + 128 ≤ 512) (hs : s % 128 = 0) (z : FVec Ideal S256x128 .bf16)
    (hz : ∀ i b, z (ix2 i b) = entry (iblk m c 2 t) (iblk m c 3 t) (iblk m c 4 t) (iblk m c 5 t) i s le b)
    (i : Fin 256) (j : Fin 1024) (x : Shape.Idx S256x128) (h0 : i.val = (x 0).val) (h1 : j.val = 512 + s + (x 1).val) :
    z x = row m c (tok t i) j := by
  obtain ⟨k, b, rfl⟩ : ∃ (k : Fin 256) (b : Fin 128), x = ix2 k b := ⟨x 0, x 1, by funext a; fin_cases a <;> rfl⟩
  obtain rfl : i = k := Fin.ext h0
  rw [hz]
  unfold entry
  simp only [seen_p, seen_q, seen_s, seen_u]
  exact joined_head _ _ _ _ j s le b hs h1

/-- The attention's block, likewise. -/
theorem slab_seen (t : Fin cfg0.N) (i : Fin 256) (j : Fin 1024) (x : Shape.Idx S256x512) (h0 : i.val = (x 0).val) (h1 : j.val = (x 1).val) :
    k0_pay6 (F := Ideal) (iblk m c 6 t) x = row m c (tok t i) j := by
  obtain ⟨k, b, rfl⟩ : ∃ (k : Fin 256) (b : Fin 512), x = ix2 k b := ⟨x 0, x 1, by funext a; fin_cases a <;> rfl⟩
  obtain rfl : i = k := Fin.ext h0
  have h : j.val < 512 := h1.trans_lt b.isLt
  unfold k0_pay6 row merged joined
  rw [dif_pos h]
  refine (seen_a m c t i b).trans (congrArg _ (congrArg (ix2 _) (Fin.ext h1.symm)))

/-- Visit `t` writes the rows of its own tokens. -/
theorem index_out : ∀ t : Fin cfg0.N, (win0_9.index t 0 = t.val ∧ win0_9.index t 1 = 0) ∧ (win0_10.index t 0 = t.val ∧ win0_10.index t 1 = 0)
    ∧ (win0_11.index t 0 = t.val ∧ win0_11.index t 1 = 0) :=
  (by decide +kernel : ∀ t : Fin grid0.N, (win0_9.index t 0 = t.val ∧ win0_9.index t 1 = 0) ∧ (win0_10.index t 0 = t.val ∧ win0_10.index t 1 = 0)
    ∧ (win0_11.index t 0 = t.val ∧ win0_11.index t 1 = 0))

/-- Where an entry of a visit's block lies in result 1 of the call. -/
theorem place9 (t : Fin cfg0.N) (i : Fin 256) (j : Fin 1024) :
    ((View.whole main_v0_0).slice (win0_9.rect t)).emb (ix2 i j) = ix2 (tok t i) j := by
  have e := index_out t
  blk_ext [e.1.1, e.1.2, tok]

/-- Where an entry of a visit's block lies in result 2 of the call. -/
theorem place10 (t : Fin cfg0.N) (i : Fin 256) (j : Fin 1024) :
    ((View.whole main_v0_1).slice (win0_10.rect t)).emb (ix2 i j) = ix2 (tok t i) j := by
  have e := index_out t
  blk_ext [e.2.1.1, e.2.1.2, tok]

/-- Where an entry of a visit's block lies in result 3 of the call. -/
theorem place11 (t : Fin cfg0.N) (i : Fin 256) (j : Fin 1024) :
    ((View.whole main_v0_2).slice (win0_11.rect t)).emb (ix2 i j) = ix2 (tok t i) j := by
  have e := index_out t
  blk_ext [e.2.2.1, e.2.2.2, tok]

/-- What a visit stores of its rows: the four heads, the last one first, and the attention's columns. -/
abbrev stores (t : Fin cfg0.N) : List (View.Piece (Elt Ideal) S256x1024 .bf16) :=
  [⟨Rect.unit ![0, 896] ![256, 128] inb_S256x1024_S256x128_0_896,
      k0_pay1 (k0_pay13 (iblk m c 4 t)) (k0_pay14 (k0_pay5 (iblk m c 2 t) (iblk m c 3 t))) (iblk m c 5 t)⟩,
    ⟨Rect.unit ![0, 768] ![256, 128] inb_S256x1024_S256x128_0_768,
      k0_pay12 (k0_pay5 (iblk m c 2 t) (iblk m c 3 t)) (iblk m c 4 t) (iblk m c 5 t)⟩,
    ⟨Rect.unit ![0, 640] ![256, 128] inb_S256x1024_S256x128_0_640,
      k0_pay11 (k0_pay8 (iblk m c 2 t) (iblk m c 3 t)) (k0_pay9 (iblk m c 4 t)) (k0_pay10 (iblk m c 2 t) (iblk m c 3 t)) (iblk m c 5 t)⟩,
    ⟨Rect.unit ![0, 512] ![256, 128] inb_S256x1024_S256x128_0_512, k0_pay7 (iblk m c 2 t) (iblk m c 3 t) (iblk m c 4 t) (iblk m c 5 t)⟩,
    ⟨Rect.unit ![0, 0] ![256, 512] inb_S256x1024_S256x512_0_0, k0_pay6 (iblk m c 6 t)⟩]

/-- They leave the tokens' rows. -/
theorem stored (t : Fin cfg0.N) (i : Fin 256) (j : Fin 1024) : View.canon (stores m c t) (ix2 i j) = row m c (tok t i) j := by
  unfold stores
  canon_tiles x hx using (View.cover_of_tiledBy _ ![256, 128] (by sl_kernel_rfl) _)
  · exact head_seen m c t 384 (by decide) (by decide) _ (fun i b => head3 _ _ _ _ i b) i j x hx0 hx1
  · exact head_seen m c t 256 (by decide) (by decide) _ (fun i b => head2 _ _ _ _ i b) i j x hx0 hx1
  · exact head_seen m c t 128 (by decide) (by decide) _ (fun i b => head1 _ _ _ _ i b) i j x hx0 hx1
  · exact head_seen m c t 0 (by decide) (by decide) _ (fun i b => head0 _ _ _ _ i b) i j x hx0 hx1
  · exact slab_seen m c t i j x hx0 hx1

/-- What the product reads back of them. -/
abbrev back (t : Fin cfg0.N) : Vec Ideal S256x1024 .bf16 :=
  (ms0_10 t).view.readCov (stores m c t)
    (Rect.unit (s := S256x1024) (![0, 0] : Fin 2 → ℕ) (![256, 1024] : Fin 2 → ℕ) inb_S256x1024_S256x1024_0_0).toLoadRect

/-- The product reads the whole row back. -/
theorem read_back (t : Fin cfg0.N) (i : Fin 256) (j : Fin 1024) : back m c t (ix2 i j) = row m c (tok t i) j := by
  unfold back
  rw [View.readCov_eq_canon']
  exact (congrFun (View.ld_unit_zero (by funext a; fin_cases a <;> rfl) _ (View.canon (stores m c t))) (ix2 i j)).trans (stored m c t i j)

/-- The product at an entry. -/
theorem merge_block (z : Vec Ideal S256x1024 .bf16) (w : Vec Ideal S1024x1024 .bf16) (i : Fin 256) (j : Fin 1024) :
    k0_pay2 (F := Ideal) z w (ix2 i j) = merging (fun k => z (ix2 i k)) w j := by
  unfold k0_pay2 merging
  pointwise

/-- Over what a visit stored and sees, the product is that of its token's row. -/
theorem merge_seen (t : Fin cfg0.N) (i : Fin 256) (j : Fin 1024) :
    k0_pay2 (F := Ideal) (back m c t) (iblk m c 7 t) (ix2 i j) = merging (row m c (tok t i)) (m ((c : Thread nD τ).loc main_arg7)) j := by
  rw [merge_block]
  unfold merging
  exact Finset.sum_congr rfl fun k _ => congrArg₂ (fun p q : EReal => p * q) (read_back m c t i k) (seen_w m c t k j)

/-- The first visit takes the context's tokens. -/
theorem first : ∀ t : Fin cfg0.N, Scalar.cmpi .eq (BitVec.ofNat 32 (grid0.coords t 0)) 0#32 = if t.val = 0 then 1#1 else 0#1 :=
  (by decide +kernel : ∀ t : Fin grid0.N, Scalar.cmpi .eq (BitVec.ofNat 32 (grid0.coords t 0)) 0#32 = if t.val = 0 then 1#1 else 0#1)

/-- The tokens that a visit takes. -/
theorem taken (t : Fin cfg0.N) (i : Fin 256) (j : Fin 1024) :
    Scalar.select (Scalar.cmpi .eq (BitVec.ofNat 32 (grid0.coords t 0)) 0#32) (iblk m c 0 t (ix2 i j)) (iblk m c 1 t (ix2 i j))
      = streams (m ((c : Thread nD τ).loc main_arg0)) (m ((c : Thread nD τ).loc main_arg1)) (tok t i) j := by
  rw [first]
  unfold streams
  by_cases h : t.val = 0
  · have k : (tok t i).val = i.val := by unfold tok; simp only; omega
    rw [if_pos h, dif_pos (k.trans_lt i.isLt)]
    exact (seen_c m c t i j).trans (congrArg _ (congrArg (fun r => ix2 r j) (Fin.ext k.symm)))
  · rw [if_neg h, dif_neg (by unfold tok; simp only; omega)]
    exact seen_l m c t h i j

/-- The first result: the tokens with the product added through the gate. -/
theorem array9 : (dats m 0 c).arrAt 9 cfg0.N = onto (m ((c : Thread nD τ).loc main_arg0)) (m ((c : Thread nD τ).loc main_arg1))
    (m ((c : Thread nD τ).loc main_arg8)) (fun r => merging (row m c r) (m ((c : Thread nD τ).loc main_arg7))) := by
  refine (dats m 0 c).arrAt_eq_of_covers 9 _ (by decide +kernel) fun t hf y => ?_
  blk_simp
  rw [after0_9]
  unfold outsAt0
  frame_out
  obtain ⟨i, j, rfl⟩ : ∃ (i : Fin 256) (j : Fin 1024), y = ix2 i j := ⟨y 0, y 1, by funext a; fin_cases a <;> rfl⟩
  refine Eq.trans ?_ (congrArg _ (place9 t i j).symm)
  unfold k0_pay4
  pointwise
  exact congrArg₂ (fun p q : EReal => p + q) (taken m c t i j)
    (congrArg₂ (fun p q : EReal => p * q) (seen_m m c t i j) (merge_seen m c t i j))

/-- The second result: the rows. -/
theorem array10 : (dats m 0 c).arrAt 10 cfg0.N = table (k := .bf16) (row m c) := by
  refine (dats m 0 c).arrAt_eq_of_covers 10 _ (by decide +kernel) fun t hf y => ?_
  blk_simp
  rw [after0_10]
  unfold outsAt0
  frame_out
  obtain ⟨i, j, rfl⟩ : ∃ (i : Fin 256) (j : Fin 1024), y = ix2 i j := ⟨y 0, y 1, by funext a; fin_cases a <;> rfl⟩
  refine Eq.trans ?_ (congrArg _ (place10 t i j).symm)
  exact stored m c t i j

/-- The third result: the product. -/
theorem array11 : (dats m 0 c).arrAt 11 cfg0.N = table (k := .bf16) fun r => merging (row m c r) (m ((c : Thread nD τ).loc main_arg7)) := by
  refine (dats m 0 c).arrAt_eq_of_covers 11 _ (by decide +kernel) fun t hf y => ?_
  blk_simp
  rw [after0_11]
  unfold outsAt0
  frame_out
  obtain ⟨i, j, rfl⟩ : ∃ (i : Fin 256) (j : Fin 1024), y = ix2 i j := ⟨y 0, y 1, by funext a; fin_cases a <;> rfl⟩
  refine Eq.trans ?_ (congrArg _ (place11 t i j).symm)
  unfold k0_pay3
  exact merge_seen m c t i j

end Cert.MergeIdeal.Forward

namespace Cert.MergeRefIdeal.Forward

open Cert.MergeRefIdeal Cert.MergeRefIdeal.Gen Idealize.ShloMosaic Idealize.ShloMosaic.TcCoe Idealize.ShloMosaic.StableHlo Idealize.SL.Sem
open Cert.Forward (modulation table narrow narrowed joined merged merging streams onto)

variable (x : FVec Ideal S256x1024 .f32) (l : FVec Ideal S8192x1024 .f32) (p q : FVec Ideal S8448x512 .f32) (s : FVec Ideal S8448x2560 .f32)
  (u : FVec Ideal S1x128 .f32) (a : FVec Ideal S8448x512 .f32) (w : FVec Ideal S1024x1024 .bf16) (d : FVec Ideal S2x1x1024 .f32)

/-- The sum of the two directions, head by head. -/
def both : FVec Ideal S8448x4x128 .f32 := shapeCast _ (addf p q) shapeCasts_S8448x512_S8448x4x128

/-- The gates, head by head. -/
def gates : FVec Ideal S8448x4x128 .f32 :=
  shapeCast _ (extractStridedSlice S8448x512 ![0, 2048] s slices_S8448x2560_S8448x512_0_2048) shapeCasts_S8448x512_S8448x4x128

/-- The heads, normalised and gated, as rows. -/
def lined : FVec Ideal S8448x512 .f32 :=
  shapeCast _ (mulf (mulf (mulf (both p q) (broadcastInDim S8448x4x128 ![0, 1, 2] bcast_S8448x4x1_S8448x4x128_0_1_2
      (Host.rsqrt (addf (Host.divf (broadcastInDim S8448x4x1 ![0, 1] bcast_S8448x4_S8448x4x1_0_1
          (Host.reduceAdd (mulf (both p q) (both p q)) (constant S_ .f32 0x00000000#32) reducesTo_S8448x4x128_S8448x4_d2 h_S_))
        (broadcastInDim S8448x4x1 ![] bcast_S_S8448x4x1 (constant S_ .f32 0x43000000#32)))
        (broadcastInDim S8448x4x1 ![] bcast_S_S8448x4x1 (constant S_ .f32 0x358637BD#32))))))
      (broadcastInDim S8448x4x128 ![0, 1, 2] bcast_S1x1x128_S8448x4x128_0_1_2
        (broadcastInDim S1x1x128 ![2] bcast_S128_S1x1x128_2 (shapeCast _ u shapeCasts_S1x128_S128))))
    (mulf (gates s) (Host.divf (broadcastInDim S8448x4x128 ![] bcast_S_S8448x4x128 (constant S_ .f32 0x3F800000#32))
      (addf (broadcastInDim S8448x4x128 ![] bcast_S_S8448x4x128 (constant S_ .f32 0x3F800000#32))
        (Host.exp (Host.negf (gates s))))))) shapeCasts_S8448x4x128_S8448x512

/-- The attention's columns before them. -/
def wide : FVec Ideal S8448x1024 .f32 :=
  concatenate S8448x1024 1 [⟨S8448x512, a⟩, ⟨S8448x512, lined p q s u⟩] concatenates_S8448x512_S8448x512_S8448x1024_d1

/-- The sum of the directions at a token, a head and an entry. -/
theorem both_apply (r : Fin 8448) (h : Fin 4) (b : Fin 128) :
    both p q (ix3 r h b) = p (ix2 r ⟨h.val * 128 + b.val, by omega⟩) + q (ix2 r ⟨h.val * 128 + b.val, by omega⟩) := by
  unfold both
  pointwise

/-- The gate there. -/
theorem gates_apply (r : Fin 8448) (h : Fin 4) (b : Fin 128) :
    gates s (ix3 r h b) = s (ix2 r ⟨2048 + (h.val * 128 + b.val), by omega⟩) := by
  unfold gates
  pointwise

/-- A token's heads. -/
theorem lined_apply (r : Fin 8448) (j : Fin 512) : lined p q s u (ix2 r j) = narrowed (fun j => p (ix2 r j) + q (ix2 r j))
    (fun j => s (ix2 r ⟨2048 + j.val, by omega⟩)) (fun b => u (ix2 0 b)) j := by
  unfold lined narrowed narrow
  pointwise
  simp only [both_apply, gates_apply]
  rfl

/-- A token's row. -/
theorem wide_apply (r : Fin 8448) (j : Fin 1024) : wide p q s u a (ix2 r j) = merged a p q s u r j := by
  unfold wide merged joined
  by_cases h : j.val < 512
  · rw [dif_pos h]
    pointwise
    rw [dif_pos h]
  · rw [dif_neg h]
    pointwise
    rw [dif_neg h]
    exact lined_apply p q s u r _

/-- The product with the layer's weight. -/
def output : FVec Ideal S8448x1024 .f32 :=
  Host.dotGeneral dot_S8448x1024_S1024x1024_S8448x1024_1_0_0_1_n_n none (wide p q s u a) (extf .f32 w bitsLt_bf16_f32)

/-- The product at a token and a column. -/
theorem output_apply (r : Fin 8448) (j : Fin 1024) : output p q s u a w (ix2 r j) = merging (merged a p q s u r) w j := by
  unfold output merging
  pointwise
  simp only [wide_apply]

/-- The tokens of both streams. -/
def tokens : FVec Ideal S8448x1024 .f32 :=
  concatenate S8448x1024 0 [⟨S256x1024, x⟩, ⟨S8192x1024, l⟩] concatenates_S256x1024_S8192x1024_S8448x1024_d0

/-- They at a token and a column. -/
theorem tokens_apply (r : Fin 8448) (j : Fin 1024) : tokens x l (ix2 r j) = streams x l r j := by
  unfold tokens streams
  by_cases h : r.val < 256
  · rw [dif_pos h]
    pointwise
    rw [dif_pos h]
  · rw [dif_neg h]
    pointwise
    rw [dif_neg h]

/-- The tokens with the product added through the gate. -/
def added : FVec Ideal S8448x1024 .f32 :=
  addf (tokens x l) (mulf (modulation d slices_S2x1x1024_S1x1x1024_0_0_0 slices_S2x1x1024_S1x1x1024_1_0_0 shapeCasts_S1x1x1024_S1x1024
    bcast_S1x1024_S256x1024_0_1 bcast_S1x1024_S8192x1024_0_1 concatenates_S256x1024_S8192x1024_S8448x1024_d0) (output p q s u a w))

/-- These tokens, row by row. -/
theorem added_eq : added x l p q s u a w d = onto x l d fun r => merging (merged a p q s u r) w := by
  funext y
  obtain ⟨r, j, rfl⟩ : ∃ (r : Fin 8448) (j : Fin 1024), y = ix2 r j := ⟨y 0, y 1, by funext a; fin_cases a <;> rfl⟩
  unfold added
  pointwise
  rw [output_apply, tokens_apply]
  exact congrArg₂ (fun p q : EReal => p + q) rfl (congrArg₂ (fun p q : EReal => p * q)
    (Cert.Forward.modulation_apply_gate _ _ _ _ _ _ _ r j) rfl)

/-- The rows, as the reference stores them. -/
theorem wide_eq : truncf .bf16 (wide p q s u a) bitsLt_bf16_f32 = table (k := .bf16) (merged a p q s u) := by
  funext y
  obtain ⟨r, j, rfl⟩ : ∃ (r : Fin 8448) (j : Fin 1024), y = ix2 r j := ⟨y 0, y 1, by funext a; fin_cases a <;> rfl⟩
  exact wide_apply p q s u a r j

/-- The product, as the reference stores it. -/
theorem output_eq : truncf .bf16 (output p q s u a w) bitsLt_bf16_f32 = table (k := .bf16) fun r => merging (merged a p q s u r) w := by
  funext y
  obtain ⟨r, j, rfl⟩ : ∃ (r : Fin 8448) (j : Fin 1024), y = ix2 r j := ⟨y 0, y 1, by funext a; fin_cases a <;> rfl⟩
  exact output_apply p q s u a w r j

/-- The reference ends, leaves its arguments as they were, and its semaphores are zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r h => ⟨fun c => (h c).2.2.2, sem_eq_zero_of_no_sems (by decide) r.2⟩) (Cert.MergeRefIdeal.Value.run m ρ)

end Cert.MergeRefIdeal.Forward

namespace Cert.Forward

open Idealize.ShloMosaic Idealize.SL.Sem

/-- The three results of the call are the reference's, for all arguments. -/
theorem merge : Cert.algebraic_MergeIdeal_MergeRefIdeal := by
  intro m g m' g' _ hagree
  refine ⟨fun c => (Cert.MergeIdeal.Gen.dats m 0 c).arrAt 9 _, fun c => (Cert.MergeIdeal.Gen.dats m 0 c).arrAt 10 _,
    fun c => (Cert.MergeIdeal.Gen.dats m 0 c).arrAt 11 _, Cert.MergeIdeal.Value.run_blocks m g, ?_⟩
  refine (θ_run _ _ _).mono (fun r h c => ⟨(h c).1.trans ?_, (h c).2.1.trans ?_, (h c).2.2.1.trans ?_, (h c).2.2.2⟩)
    (Cert.MergeRefIdeal.Value.run m' g')
  · refine (Cert.MergeRefIdeal.Forward.added_eq _ _ _ _ _ _ _ _ _).trans (Eq.trans ?_ (Cert.MergeIdeal.Forward.array9 m c).symm)
    obtain ⟨h0, h1, h2, h3, h4, h5, h6, h7, h8⟩ := hagree c
    rw [h0, h1, h2, h3, h4, h5, h6, h7, h8]
  · refine (Cert.MergeRefIdeal.Forward.wide_eq _ _ _ _ _).trans (Eq.trans ?_ (Cert.MergeIdeal.Forward.array10 m c).symm)
    obtain ⟨-, -, h2, h3, h4, h5, h6, -⟩ := hagree c
    rw [h2, h3, h4, h5, h6]
  · refine (Cert.MergeRefIdeal.Forward.output_eq _ _ _ _ _ _).trans (Eq.trans ?_ (Cert.MergeIdeal.Forward.array11 m c).symm)
    obtain ⟨-, -, h2, h3, h4, h5, h6, h7, -⟩ := hagree c
    rw [h2, h3, h4, h5, h6, h7]

end Cert.Forward

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame.RunB
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame.RunB
public import proofs.«01_k».proof.Proof.Gen.ReferenceIdeal
public import proofs.«01_k».proof.Proof.Gen.Pre_finite
public import proofs.«01_k».proof.Proof.Gen.ReferenceIdeal.Run
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnOut
public import proofs.«01_k».proof.Proof.Gen.FfnOut.Skeleton
public import proofs.«01_k».proof.Proof.Gen.FfnOut.Launch
public import proofs.«01_k».proof.Proof.Gen.FfnOut.Points
public import proofs.«01_k».proof.Proof.Gen.FfnOut.Frame
public import proofs.«01_k».proof.Proof.Gen.FfnOutIdeal
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import proofs.«01_k».proof.Proof.Gen.FfnOutIdeal.Value
public import proofs.«01_k».proof.Proof.Gen.FfnOutRefIdeal
public import proofs.«01_k».proof.Proof.Gen.FfnOutRefIdeal.Run
public import proofs.«01_k».proof.Proof.Gen.OddIn
public import proofs.«01_k».proof.Proof.Gen.OddIn.Skeleton
public import proofs.«01_k».proof.Proof.Gen.OddIn.Launch
public import proofs.«01_k».proof.Proof.Gen.OddIn.Points
public import proofs.«01_k».proof.Proof.Gen.OddIn.Frame
public import proofs.«01_k».proof.Proof.Gen.OddInIdeal
public import proofs.«01_k».proof.Proof.Gen.OddInIdeal.Skeleton
public import proofs.«01_k».proof.Proof.Gen.OddInIdeal.Launch
public import proofs.«01_k».proof.Proof.Gen.OddInIdeal.Points
public import proofs.«01_k».proof.Proof.Gen.OddInIdeal.Frame
public import proofs.«01_k».proof.Proof.Gen.OddInIdeal.Value
public import proofs.«01_k».proof.Proof.Gen.OddInRefIdeal
public import proofs.«01_k».proof.Proof.Gen.OddInRefIdeal.Run
public import proofs.«01_k».proof.Proof.Gen.OddOut
public import proofs.«01_k».proof.Proof.Gen.OddOut.Skeleton
public import proofs.«01_k».proof.Proof.Gen.OddOut.Launch
public import proofs.«01_k».proof.Proof.Gen.OddOut.Points
public import proofs.«01_k».proof.Proof.Gen.OddOut.Frame
public import proofs.«01_k».proof.Proof.Gen.OddOutIdeal
public import proofs.«01_k».proof.Proof.Gen.OddOutIdeal.Skeleton
public import proofs.«01_k».proof.Proof.Gen.OddOutIdeal.Launch
public import proofs.«01_k».proof.Proof.Gen.OddOutIdeal.Points
public import proofs.«01_k».proof.Proof.Gen.OddOutIdeal.Frame
public import proofs.«01_k».proof.Proof.Gen.OddOutIdeal.Value
public import proofs.«01_k».proof.Proof.Gen.OddOutRefIdeal
public import proofs.«01_k».proof.Proof.Gen.OddOutRefIdeal.Run
public import proofs.«01_k».proof.Proof.Gen.EvenIn
public import proofs.«01_k».proof.Proof.Gen.EvenIn.Skeleton
public import proofs.«01_k».proof.Proof.Gen.EvenIn.Launch
public import proofs.«01_k».proof.Proof.Gen.EvenIn.Points
public import proofs.«01_k».proof.Proof.Gen.EvenIn.Frame
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import proofs.«01_k».proof.Proof.Gen.EvenInIdeal.Value
public import proofs.«01_k».proof.Proof.Gen.EvenInRefIdeal
public import proofs.«01_k».proof.Proof.Gen.EvenInRefIdeal.Run
public import proofs.«01_k».proof.Proof.Gen.EvenOut
public import proofs.«01_k».proof.Proof.Gen.EvenOut.Skeleton
public import proofs.«01_k».proof.Proof.Gen.EvenOut.Launch
public import proofs.«01_k».proof.Proof.Gen.EvenOut.Points
public import proofs.«01_k».proof.Proof.Gen.EvenOut.Frame
public import proofs.«01_k».proof.Proof.Gen.EvenOutIdeal
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import proofs.«01_k».proof.Proof.Gen.EvenOutIdeal.Value
public import proofs.«01_k».proof.Proof.Gen.EvenOutRefIdeal
public import proofs.«01_k».proof.Proof.Gen.EvenOutRefIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerIdeal.Value
public import proofs.«01_k».proof.Proof.Gen.MixerRefIdeal
public import proofs.«01_k».proof.Proof.Gen.MixerRefIdeal.Run
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostIdeal.Value
public import proofs.«01_k».proof.Proof.Gen.PostRefIdeal
public import proofs.«01_k».proof.Proof.Gen.PostRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Kernel.Launch
public import proofs.«01_k».proof.Proof.KernelIdeal.Launch
public import proofs.«01_k».proof.Proof.Consts
public import proofs.«01_k».proof.Proof.Agree
public import proofs.«01_k».proof.Proof.Weight.FfnIn
public import proofs.«01_k».proof.Proof.Weight.FfnOut
public import proofs.«01_k».proof.Proof.Weight.OddIn
public import proofs.«01_k».proof.Proof.Weight.OddOut
public import proofs.«01_k».proof.Proof.Weight.EvenIn
public import proofs.«01_k».proof.Proof.Weight.EvenOut
public import proofs.«01_k».proof.Proof.Forward.Ffn
public import proofs.«01_k».proof.Proof.Forward.Mixer
public import proofs.«01_k».proof.Proof.Forward.Loss
public import proofs.«01_k».proof.Proof.Forward.Post
public import proofs.«01_k».proof.Proof.Forward.Merge
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.FfnIn.Gen.facts, Cert.FfnInIdeal.Gen.facts, Cert.FfnInRefIdeal.Gen.facts, Cert.FfnOut.Gen.facts, Cert.FfnOutIdeal.Gen.facts, Cert.FfnOutRefIdeal.Gen.facts, Cert.OddIn.Gen.facts, Cert.OddInIdeal.Gen.facts, Cert.OddInRefIdeal.Gen.facts, Cert.OddOut.Gen.facts, Cert.OddOutIdeal.Gen.facts, Cert.OddOutRefIdeal.Gen.facts, Cert.EvenIn.Gen.facts, Cert.EvenInIdeal.Gen.facts, Cert.EvenInRefIdeal.Gen.facts, Cert.EvenOut.Gen.facts, Cert.EvenOutIdeal.Gen.facts, Cert.EvenOutRefIdeal.Gen.facts, Cert.Ffn.Gen.facts, Cert.FfnIdeal.Gen.facts, Cert.FfnRefIdeal.Gen.facts, Cert.Mixer.Gen.facts, Cert.MixerIdeal.Gen.facts, Cert.MixerRefIdeal.Gen.facts, Cert.Loss.Gen.facts, Cert.LossIdeal.Gen.facts, Cert.LossRefIdeal.Gen.facts, Cert.Post.Gen.facts, Cert.PostIdeal.Gen.facts, Cert.PostRefIdeal.Gen.facts, Cert.Merge.Gen.facts, Cert.MergeIdeal.Gen.facts, Cert.MergeRefIdeal.Gen.facts, Cert.Pre_finite.Gen.facts,
  fun m g _ => Cert.Kernel.Ret.frame m g, fun m g _ => Cert.KernelIdeal.Ret.frame m g, fun m g _ => Cert.KernelIdeal.Ret.frame m g,
  fun m g _ => Cert.Agree.reference_frame m g, fun m g _ => Cert.Agree.reference_frame m g,
  fun m g _ => Cert.FfnIn.Gen.frame m g, fun m g _ => Cert.FfnInIdeal.Gen.frame m g, fun m g _ => Cert.FfnInRefIdeal.Weight.frame m g,
  fun m g _ => Cert.FfnOut.Gen.frame m g, fun m g _ => Cert.FfnOutIdeal.Gen.frame m g, fun m g _ => Cert.FfnOutRefIdeal.Weight.frame m g,
  fun m g _ => Cert.OddIn.Gen.frame m g, fun m g _ => Cert.OddInIdeal.Gen.frame m g, fun m g _ => Cert.OddInRefIdeal.Weight.frame m g,
  fun m g _ => Cert.OddOut.Gen.frame m g, fun m g _ => Cert.OddOutIdeal.Gen.frame m g, fun m g _ => Cert.OddOutRefIdeal.Weight.frame m g,
  fun m g _ => Cert.EvenIn.Gen.frame m g, fun m g _ => Cert.EvenInIdeal.Gen.frame m g, fun m g _ => Cert.EvenInRefIdeal.Weight.frame m g,
  fun m g _ => Cert.EvenOut.Gen.frame m g, fun m g _ => Cert.EvenOutIdeal.Gen.frame m g, fun m g _ => Cert.EvenOutRefIdeal.Weight.frame m g,
  fun m g _ => Cert.Ffn.Gen.frame m g, fun m g _ => Cert.FfnIdeal.Gen.frame m g, fun m g _ => Cert.FfnRefIdeal.Forward.frame m g,
  fun m g _ => Cert.Mixer.Gen.frame m g, fun m g _ => Cert.MixerIdeal.Gen.frame m g, fun m g _ => Cert.MixerRefIdeal.Forward.frame m g,
  fun m g _ => Cert.Loss.Gen.frame m g, fun m g _ => Cert.LossIdeal.Gen.frame m g, fun m g _ => Cert.LossRefIdeal.Forward.frame m g,
  fun m g _ => Cert.Post.Gen.frame m g, fun m g _ => Cert.PostIdeal.Gen.frame m g, fun m g _ => Cert.PostRefIdeal.Forward.frame m g,
  fun m g _ => Cert.Merge.Gen.frame m g, fun m g _ => Cert.MergeIdeal.Gen.frame m g, fun m g _ => Cert.MergeRefIdeal.Forward.frame m g,
  Cert.KernelIdeal.Ret.preserves, Cert.Agree.algebraic,
  trivial, Cert.Weight.ffn_in, trivial, Cert.Weight.ffn_out, trivial, Cert.Weight.odd_in, trivial, Cert.Weight.odd_out, trivial, Cert.Weight.even_in, trivial, Cert.Weight.even_out, trivial, Cert.Forward.ffn, trivial, Cert.Forward.mixer, trivial, Cert.Forward.head, trivial, Cert.Forward.post, trivial, Cert.Forward.merge⟩

end Cert.Proof

end
